-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_bwd_in_finite [hPre_bwd_in_finite : Cert.Pre_bwd_in_finite.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_bwd_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5)) (m ((c.tc : Thread Cert.BwdInIdeal.nD Cert.BwdInIdeal.τ).loc Cert.BwdInIdeal.main_arg6)) (m ((c.tc : Thread Cert.BwdInIdeal.nD Cert.BwdInIdeal.τ).loc Cert.BwdInIdeal.main_arg7))) = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_bwd_in_finite [hPre_bwd_in_finite : Cert.Pre_bwd_in_finite.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_bwd_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5)) (m ((c.tc : Thread Cert.BwdInRefIdeal.nD Cert.BwdInRefIdeal.τ).loc Cert.BwdInRefIdeal.main_arg6)) (m ((c.tc : Thread Cert.BwdInRefIdeal.nD Cert.BwdInRefIdeal.τ).loc Cert.BwdInRefIdeal.main_arg7))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))) = (fun _ => 1#1)

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6)
      ∧ r.2.mem ((c.tc : Thread Cert.BwdIn.nD Cert.BwdIn.τ).loc Cert.BwdIn.main_arg7) = m ((c.tc : Thread Cert.BwdIn.nD Cert.BwdIn.τ).loc Cert.BwdIn.main_arg7))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7))
      ∧ r.2.sem = fun _ => 0)

def quiescent_BwdInIdeal_pre_bwd_in_finite [hBwdInIdeal : Cert.BwdInIdeal.Facts] [hPre_bwd_in_finite : Cert.Pre_bwd_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_bwd_in_finite m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6)
      ∧ r.2.mem ((c.tc : Thread Cert.BwdInRefIdeal.nD Cert.BwdInRefIdeal.τ).loc Cert.BwdInRefIdeal.main_arg7) = m ((c.tc : Thread Cert.BwdInRefIdeal.nD Cert.BwdInRefIdeal.τ).loc Cert.BwdInRefIdeal.main_arg7))
      ∧ r.2.sem = fun _ => 0)

def quiescent_BwdInRefIdeal_pre_bwd_in_finite [hBwdInRefIdeal : Cert.BwdInRefIdeal.Facts] [hPre_bwd_in_finite : Cert.Pre_bwd_in_finite.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_bwd_in_finite m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6)
      ∧ r.2.mem ((c.tc : Thread Cert.BwdInRefIdeal.nD Cert.BwdInRefIdeal.τ).loc Cert.BwdInRefIdeal.main_arg7) = m ((c.tc : Thread Cert.BwdInRefIdeal.nD Cert.BwdInRefIdeal.τ).loc Cert.BwdInRefIdeal.main_arg7))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def preserves_BwdIn_BwdInIdeal : Prop :=
  True

def algebraic_BwdInIdeal_BwdInRefIdeal_pre_bwd_in_finite [hBwdInIdeal : Cert.BwdInIdeal.Facts] [hBwdInRefIdeal : Cert.BwdInRefIdeal.Facts] [hPre_bwd_in_finite : Cert.Pre_bwd_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_bwd_in_finite m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)
      ∧ m' ((c.tc : Thread Cert.BwdInRefIdeal.nD Cert.BwdInRefIdeal.τ).loc Cert.BwdInRefIdeal.main_arg6) = m ((c.tc : Thread Cert.BwdInIdeal.nD Cert.BwdInIdeal.τ).loc Cert.BwdInIdeal.main_arg6)
      ∧ m' ((c.tc : Thread Cert.BwdInRefIdeal.nD Cert.BwdInRefIdeal.τ).loc Cert.BwdInRefIdeal.main_arg7) = m ((c.tc : Thread Cert.BwdInIdeal.nD Cert.BwdInIdeal.τ).loc Cert.BwdInIdeal.main_arg7)) →
    ∃ (v0 : (c : Dev Cert.BwdInIdeal.nD) → Buf (Elt Ideal) ((c.tc : Thread Cert.BwdInIdeal.nD Cert.BwdInIdeal.τ).loc Cert.BwdInIdeal.main_v4_0)) (v1 : (c : Dev Cert.BwdInIdeal.nD) → Buf (Elt Ideal) ((c.tc : Thread Cert.BwdInIdeal.nD Cert.BwdInIdeal.τ).loc Cert.BwdInIdeal.main_v4_1)) (v2 : (c : Dev Cert.BwdInIdeal.nD) → Buf (Elt Ideal) ((c.tc : Thread Cert.BwdInIdeal.nD Cert.BwdInIdeal.τ).loc Cert.BwdInIdeal.main_v4_2)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v4_0) = v0 c
          ∧ r.2.mem ((c.tc : Thread Cert.BwdInIdeal.nD Cert.BwdInIdeal.τ).loc Cert.BwdInIdeal.main_v4_1) = v1 c
          ∧ r.2.mem ((c.tc : Thread Cert.BwdInIdeal.nD Cert.BwdInIdeal.τ).loc Cert.BwdInIdeal.main_v4_2) = v2 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
          ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v43) = v0 c
          ∧ r.2.mem ((c.tc : Thread Cert.BwdInRefIdeal.nD Cert.BwdInRefIdeal.τ).loc Cert.BwdInRefIdeal.main_v44) = v1 c
          ∧ r.2.mem ((c.tc : Thread Cert.BwdInRefIdeal.nD Cert.BwdInRefIdeal.τ).loc Cert.BwdInRefIdeal.main_v46) = v2 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5)
          ∧ r.2.mem ((c.tc : Thread Cert.BwdInRefIdeal.nD Cert.BwdInRefIdeal.τ).loc Cert.BwdInRefIdeal.main_arg6) = m' ((c.tc : Thread Cert.BwdInRefIdeal.nD Cert.BwdInRefIdeal.τ).loc Cert.BwdInRefIdeal.main_arg6)
          ∧ r.2.mem ((c.tc : Thread Cert.BwdInRefIdeal.nD Cert.BwdInRefIdeal.τ).loc Cert.BwdInRefIdeal.main_arg7) = m' ((c.tc : Thread Cert.BwdInRefIdeal.nD Cert.BwdInRefIdeal.τ).loc Cert.BwdInRefIdeal.main_arg7))

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)) →
    ∃ (v0 : (c : Dev Cert.MixBwdIdeal.nD) → Buf (Elt Ideal) ((c.tc : Thread Cert.MixBwdIdeal.nD Cert.MixBwdIdeal.τ).loc Cert.MixBwdIdeal.main_v65_4)) (v1 : (c : Dev Cert.MixBwdIdeal.nD) → Buf (Elt Ideal) ((c.tc : Thread Cert.MixBwdIdeal.nD Cert.MixBwdIdeal.τ).loc Cert.MixBwdIdeal.main_v65_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v65_4) = v0 c
          ∧ r.2.mem ((c.tc : Thread Cert.MixBwdIdeal.nD Cert.MixBwdIdeal.τ).loc Cert.MixBwdIdeal.main_v65_5) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v79) = v0 c
          ∧ r.2.mem ((c.tc : Thread Cert.MixRefIdeal.nD Cert.MixRefIdeal.τ).loc Cert.MixRefIdeal.main_v80) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)) →
    ∃ (v0 : (c : Dev Cert.MlpIdeal.nD) → Buf (Elt Ideal) ((c.tc : Thread Cert.MlpIdeal.nD Cert.MlpIdeal.τ).loc Cert.MlpIdeal.main_v9_0)) (v1 : (c : Dev Cert.MlpIdeal.nD) → Buf (Elt Ideal) ((c.tc : Thread Cert.MlpIdeal.nD Cert.MlpIdeal.τ).loc Cert.MlpIdeal.main_v9_1)) (v2 : (c : Dev Cert.MlpIdeal.nD) → Buf (Elt Ideal) ((c.tc : Thread Cert.MlpIdeal.nD Cert.MlpIdeal.τ).loc Cert.MlpIdeal.main_v9_2)) (v3 : (c : Dev Cert.MlpIdeal.nD) → Buf (Elt Ideal) ((c.tc : Thread Cert.MlpIdeal.nD Cert.MlpIdeal.τ).loc Cert.MlpIdeal.main_v9_3)) (v4 : (c : Dev Cert.MlpIdeal.nD) → Buf (Elt Ideal) ((c.tc : Thread Cert.MlpIdeal.nD Cert.MlpIdeal.τ).loc Cert.MlpIdeal.main_v9_4)) (v5 : (c : Dev Cert.MlpIdeal.nD) → Buf (Elt Ideal) ((c.tc : Thread Cert.MlpIdeal.nD Cert.MlpIdeal.τ).loc Cert.MlpIdeal.main_v9_5)) (v6 : (c : Dev Cert.MlpIdeal.nD) → Buf (Elt Ideal) ((c.tc : Thread Cert.MlpIdeal.nD Cert.MlpIdeal.τ).loc Cert.MlpIdeal.main_v9_6)) (v7 : (c : Dev Cert.MlpIdeal.nD) → Buf (Elt Ideal) ((c.tc : Thread Cert.MlpIdeal.nD Cert.MlpIdeal.τ).loc Cert.MlpIdeal.main_v9_7)) (v8 : (c : Dev Cert.MlpIdeal.nD) → Buf (Elt Ideal) ((c.tc : Thread Cert.MlpIdeal.nD Cert.MlpIdeal.τ).loc Cert.MlpIdeal.main_v9_8)) (v9 : (c : Dev Cert.MlpIdeal.nD) → Buf (Elt Ideal) ((c.tc : Thread Cert.MlpIdeal.nD Cert.MlpIdeal.τ).loc Cert.MlpIdeal.main_v9_9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9_0) = v0 c
          ∧ r.2.mem ((c.tc : Thread Cert.MlpIdeal.nD Cert.MlpIdeal.τ).loc Cert.MlpIdeal.main_v9_1) = v1 c
          ∧ r.2.mem ((c.tc : Thread Cert.MlpIdeal.nD Cert.MlpIdeal.τ).loc Cert.MlpIdeal.main_v9_2) = v2 c
          ∧ r.2.mem ((c.tc : Thread Cert.MlpIdeal.nD Cert.MlpIdeal.τ).loc Cert.MlpIdeal.main_v9_3) = v3 c
          ∧ r.2.mem ((c.tc : Thread Cert.MlpIdeal.nD Cert.MlpIdeal.τ).loc Cert.MlpIdeal.main_v9_4) = v4 c
          ∧ r.2.mem ((c.tc : Thread Cert.MlpIdeal.nD Cert.MlpIdeal.τ).loc Cert.MlpIdeal.main_v9_5) = v5 c
          ∧ r.2.mem ((c.tc : Thread Cert.MlpIdeal.nD Cert.MlpIdeal.τ).loc Cert.MlpIdeal.main_v9_6) = v6 c
          ∧ r.2.mem ((c.tc : Thread Cert.MlpIdeal.nD Cert.MlpIdeal.τ).loc Cert.MlpIdeal.main_v9_7) = v7 c
          ∧ r.2.mem ((c.tc : Thread Cert.MlpIdeal.nD Cert.MlpIdeal.τ).loc Cert.MlpIdeal.main_v9_8) = v8 c
          ∧ r.2.mem ((c.tc : Thread Cert.MlpIdeal.nD Cert.MlpIdeal.τ).loc Cert.MlpIdeal.main_v9_9) = v9 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v188) = v0 c
          ∧ r.2.mem ((c.tc : Thread Cert.MlpRefIdeal.nD Cert.MlpRefIdeal.τ).loc Cert.MlpRefIdeal.main_v189) = v1 c
          ∧ r.2.mem ((c.tc : Thread Cert.MlpRefIdeal.nD Cert.MlpRefIdeal.τ).loc Cert.MlpRefIdeal.main_v190) = v2 c
          ∧ r.2.mem ((c.tc : Thread Cert.MlpRefIdeal.nD Cert.MlpRefIdeal.τ).loc Cert.MlpRefIdeal.main_v191) = v3 c
          ∧ r.2.mem ((c.tc : Thread Cert.MlpRefIdeal.nD Cert.MlpRefIdeal.τ).loc Cert.MlpRefIdeal.main_v192) = v4 c
          ∧ r.2.mem ((c.tc : Thread Cert.MlpRefIdeal.nD Cert.MlpRefIdeal.τ).loc Cert.MlpRefIdeal.main_v137) = v5 c
          ∧ r.2.mem ((c.tc : Thread Cert.MlpRefIdeal.nD Cert.MlpRefIdeal.τ).loc Cert.MlpRefIdeal.main_v193) = v6 c
          ∧ r.2.mem ((c.tc : Thread Cert.MlpRefIdeal.nD Cert.MlpRefIdeal.τ).loc Cert.MlpRefIdeal.main_v180) = v7 c
          ∧ r.2.mem ((c.tc : Thread Cert.MlpRefIdeal.nD Cert.MlpRefIdeal.τ).loc Cert.MlpRefIdeal.main_v160) = v8 c
          ∧ r.2.mem ((c.tc : Thread Cert.MlpRefIdeal.nD Cert.MlpRefIdeal.τ).loc Cert.MlpRefIdeal.main_v194) = v9 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v4_0)) (v1 : (c : Dev Cert.FwdInIdeal.nD) → Buf (Elt Ideal) ((c.tc : Thread Cert.FwdInIdeal.nD Cert.FwdInIdeal.τ).loc Cert.FwdInIdeal.main_v4_1)) (v2 : (c : Dev Cert.FwdInIdeal.nD) → Buf (Elt Ideal) ((c.tc : Thread Cert.FwdInIdeal.nD Cert.FwdInIdeal.τ).loc Cert.FwdInIdeal.main_v4_2)) (v3 : (c : Dev Cert.FwdInIdeal.nD) → Buf (Elt Ideal) ((c.tc : Thread Cert.FwdInIdeal.nD Cert.FwdInIdeal.τ).loc Cert.FwdInIdeal.main_v4_3)) (v4 : (c : Dev Cert.FwdInIdeal.nD) → Buf (Elt Ideal) ((c.tc : Thread Cert.FwdInIdeal.nD Cert.FwdInIdeal.τ).loc Cert.FwdInIdeal.main_v4_4)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v4_0) = v0 c
          ∧ r.2.mem ((c.tc : Thread Cert.FwdInIdeal.nD Cert.FwdInIdeal.τ).loc Cert.FwdInIdeal.main_v4_1) = v1 c
          ∧ r.2.mem ((c.tc : Thread Cert.FwdInIdeal.nD Cert.FwdInIdeal.τ).loc Cert.FwdInIdeal.main_v4_2) = v2 c
          ∧ r.2.mem ((c.tc : Thread Cert.FwdInIdeal.nD Cert.FwdInIdeal.τ).loc Cert.FwdInIdeal.main_v4_3) = v3 c
          ∧ r.2.mem ((c.tc : Thread Cert.FwdInIdeal.nD Cert.FwdInIdeal.τ).loc Cert.FwdInIdeal.main_v4_4) = v4 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v18) = v0 c
          ∧ r.2.mem ((c.tc : Thread Cert.FwdInRefIdeal.nD Cert.FwdInRefIdeal.τ).loc Cert.FwdInRefIdeal.main_v14) = v1 c
          ∧ r.2.mem ((c.tc : Thread Cert.FwdInRefIdeal.nD Cert.FwdInRefIdeal.τ).loc Cert.FwdInRefIdeal.main_v21) = v2 c
          ∧ r.2.mem ((c.tc : Thread Cert.FwdInRefIdeal.nD Cert.FwdInRefIdeal.τ).loc Cert.FwdInRefIdeal.main_v22) = v3 c
          ∧ r.2.mem ((c.tc : Thread Cert.FwdInRefIdeal.nD Cert.FwdInRefIdeal.τ).loc Cert.FwdInRefIdeal.main_v23) = v4 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v7) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def Claim : Prop :=
  ∃ (hBwdIn : Cert.BwdIn.Facts) (hBwdInIdeal : Cert.BwdInIdeal.Facts) (hBwdInRefIdeal : Cert.BwdInRefIdeal.Facts) (hMixBwd : Cert.MixBwd.Facts) (hMixBwdIdeal : Cert.MixBwdIdeal.Facts) (hMixRefIdeal : Cert.MixRefIdeal.Facts) (hMlp : Cert.Mlp.Facts) (hMlpIdeal : Cert.MlpIdeal.Facts) (hMlpRefIdeal : Cert.MlpRefIdeal.Facts) (hFwdIn : Cert.FwdIn.Facts) (hFwdInIdeal : Cert.FwdInIdeal.Facts) (hFwdInRefIdeal : Cert.FwdInRefIdeal.Facts) (hWgrad : Cert.Wgrad.Facts) (hWgradIdeal : Cert.WgradIdeal.Facts) (hWgradRefIdeal : Cert.WgradRefIdeal.Facts) (hPre_bwd_in_finite : Cert.Pre_bwd_in_finite.Facts) (hPre_mlp_finite : Cert.Pre_mlp_finite.Facts),
    quiescent_BwdIn (hBwdIn := hBwdIn)
    ∧ quiescent_BwdInIdeal (hBwdInIdeal := hBwdInIdeal)
    ∧ quiescent_BwdInIdeal_pre_bwd_in_finite (hBwdInIdeal := hBwdInIdeal) (hPre_bwd_in_finite := hPre_bwd_in_finite)
    ∧ quiescent_BwdInRefIdeal (hBwdInRefIdeal := hBwdInRefIdeal)
    ∧ quiescent_BwdInRefIdeal_pre_bwd_in_finite (hBwdInRefIdeal := hBwdInRefIdeal) (hPre_bwd_in_finite := hPre_bwd_in_finite)
    ∧ quiescent_MixBwd (hMixBwd := hMixBwd)
    ∧ quiescent_MixBwdIdeal (hMixBwdIdeal := hMixBwdIdeal)
    ∧ quiescent_MixRefIdeal (hMixRefIdeal := hMixRefIdeal)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_Wgrad (hWgrad := hWgrad)
    ∧ quiescent_WgradIdeal (hWgradIdeal := hWgradIdeal)
    ∧ quiescent_WgradRefIdeal (hWgradRefIdeal := hWgradRefIdeal)
    ∧ preserves_BwdIn_BwdInIdeal
    ∧ algebraic_BwdInIdeal_BwdInRefIdeal_pre_bwd_in_finite (hBwdInIdeal := hBwdInIdeal) (hBwdInRefIdeal := hBwdInRefIdeal) (hPre_bwd_in_finite := hPre_bwd_in_finite)
    ∧ preserves_MixBwd_MixBwdIdeal
    ∧ algebraic_MixBwdIdeal_MixRefIdeal (hMixBwdIdeal := hMixBwdIdeal) (hMixRefIdeal := hMixRefIdeal)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_FwdIn_FwdInIdeal
    ∧ algebraic_FwdInIdeal_FwdInRefIdeal (hFwdInIdeal := hFwdInIdeal) (hFwdInRefIdeal := hFwdInRefIdeal)
    ∧ preserves_Wgrad_WgradIdeal
    ∧ algebraic_WgradIdeal_WgradRefIdeal (hWgradIdeal := hWgradIdeal) (hWgradRefIdeal := hWgradRefIdeal)
-- ==== Pre_bwd_in_finite.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_v31 : IVec S_ 1) (main_v33 : FVec F S4096x512 .f32) (main_v34 : FVec F S4096x512 .f32) : IVec S_ 1 :=
  let main_v35 : IVec S4096x512 1 := cmpf .olt main_v33 main_v34
  let main_c_11 : IVec S_ 1 := constantI S_ 1 1#1
  let main_v36 : IVec S_ 1 := (fun x v => Host.reduce IntOp.andi x v reducesTo_S4096x512_S_d0_1 h_S_) main_v35 main_c_11
  let main_v37 : IVec S_ 1 := andi main_v31 main_v36
  main_v37

def fn_part1 {F : FTy → Type} [FloatOps F] (main_arg4 : FVec F S4096x512 .bf16) (main_arg5 : FVec F S4096x512 .bf16) (main_arg6 : FVec F S4096x512 .bf16) (main_v13 : IVec S_ 1) (main_v15 : FVec F S4096x512 .f32) (main_v16 : FVec F S4096x512 .f32) : IVec S_ 1 :=
  let main_v17 : IVec S4096x512 1 := cmpf .olt main_v15 main_v16
  let main_c_5 : IVec S_ 1 := constantI S_ 1 1#1
  let main_v18 : IVec S_ 1 := (fun x v => Host.reduce IntOp.andi x v reducesTo_S4096x512_S_d0_1 h_S_) main_v17 main_c_5
  let main_v19 : IVec S_ 1 := andi main_v13 main_v18
  let main_v20 : FVec F S4096x512 .f32 := (extf .f32 · bitsLt_bf16_f32) main_arg4
  let main_v21 : FVec F S4096x512 .f32 := Host.absf main_v20
  let main_cst_6 : FVec F S_ .f32 := constant S_ .f32 0x7F800000#32
  let main_v22 : FVec F S4096x512 .f32 := broadcastInDim S4096x512 ![] bcast_S_S4096x512 main_cst_6
  let main_v23 : IVec S4096x512 1 := cmpf .olt main_v21 main_v22
  let main_c_7 : IVec S_ 1 := constantI S_ 1 1#1
  let main_v24 : IVec S_ 1 := (fun x v => Host.reduce IntOp.andi x v reducesTo_S4096x512_S_d0_1 h_S_) main_v23 main_c_7
  let main_v25 : IVec S_ 1 := andi main_v19 main_v24
  let main_v26 : FVec F S4096x512 .f32 := (extf .f32 · bitsLt_bf16_f32) main_arg5
  let main_v27 : FVec F S4096x512 .f32 := Host.absf main_v26
  let main_cst_8 : FVec F S_ .f32 := constant S_ .f32 0x7F800000#32
  let main_v28 : FVec F S4096x512 .f32 := broadcastInDim S4096x512 ![] bcast_S_S4096x512 main_cst_8
  let main_v29 : IVec S4096x512 1 := cmpf .olt main_v27 main_v28
  let main_c_9 : IVec S_ 1 := constantI S_ 1 1#1
  let main_v30 : IVec S_ 1 := (fun x v => Host.reduce IntOp.andi x v reducesTo_S4096x512_S_d0_1 h_S_) main_v29 main_c_9
  let main_v31 : IVec S_ 1 := andi main_v25 main_v30
  let main_v32 : FVec F S4096x512 .f32 := (extf .f32 · bitsLt_bf16_f32) main_arg6
  let main_v33 : FVec F S4096x512 .f32 := Host.absf main_v32
  let main_cst_10 : FVec F S_ .f32 := constant S_ .f32 0x7F800000#32
  let main_v34 : FVec F S4096x512 .f32 := broadcastInDim S4096x512 ![] bcast_S_S4096x512 main_cst_10
  fn_part2 (F := F) main_v31 main_v33 main_v34

def fn {F : FTy → Type} [FloatOps F] (main_arg0 : FVec F S4096x1024 .f32) (main_arg1 : FVec F S1024 .f32) (main_arg2 : FVec F S1024x2048 .f32) (main_arg3 : FVec F S4096x512 .bf16) (main_arg4 : FVec F S4096x512 .bf16) (main_arg5 : FVec F S4096x512 .bf16) (main_arg6 : FVec F S4096x512 .bf16) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S4096x512 .f32 := (extf .f32 · bitsLt_bf16_f32) main_arg3
  let main_v15 : FVec F S4096x512 .f32 := Host.absf main_v14
  let main_cst_4 : FVec F S_ .f32 := constant S_ .f32 0x7F800000#32
  let main_v16 : FVec F S4096x512 .f32 := broadcastInDim S4096x512 ![] bcast_S_S4096x512 main_cst_4
  fn_part1 (F := F) main_arg4 main_arg5 main_arg6 main_v13 main_v15 main_v16
-- ==== Pre_mlp_finite.lean ====
abbrev S4096x1024 : Shape := ⟨2, ![4096, 1024]⟩
abbrev S4096x512 : Shape := ⟨2, ![4096, 512]⟩
abbrev S512 : Shape := ⟨1, ![512]⟩
abbrev S1024 : Shape := ⟨1, ![1024]⟩
abbrev S1024x1024 : Shape := ⟨2, ![1024, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  main_v53

def fn_part2 {F : FTy → Type} [FloatOps F] (main_arg7 : FVec F S1024 .f32) (main_arg8 : FVec F S1024x1024 .f32) (main_arg9 : FVec F S1024x4096 .f32) (main_arg10 : FVec F S4096x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_v48 main_v49 main_v50

def fn_part1 {F : FTy → Type} [FloatOps F] (main_arg4 : FVec F S512 .f32) (main_arg5 : FVec F S512 .f32) (main_arg6 : FVec F S1024 .f32) (main_arg7 : FVec F S1024 .f32) (main_arg8 : FVec F S1024x1024 .f32) (main_arg9 : FVec F S1024x4096 .f32) (main_arg10 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x512 .f32) (main_arg2 : FVec F S4096x512 .f32) (main_arg3 : FVec F S4096x1024 .f32) (main_arg4 : FVec F S512 .f32) (main_arg5 : FVec F S512 .f32) (main_arg6 : FVec F S1024 .f32) (main_arg7 : FVec F S1024 .f32) (main_arg8 : FVec F S1024x1024 .f32) (main_arg9 : FVec F S1024x4096 .f32) (main_arg10 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_v13 main_v16
-- ==== BwdIn.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S1024x8x256 : Shape := ⟨3, ![1024, 8, 256]⟩
abbrev S8x1024x256 : Shape := ⟨3, ![8, 1024, 256]⟩
abbrev S1x1024 : Shape := ⟨2, ![1, 1024]⟩
abbrev S4096x2048 : Shape := ⟨2, ![4096, 2048]⟩
abbrev S8x1024 : Shape := ⟨2, ![8, 1024]⟩
abbrev S512x512 : Shape := ⟨2, ![512, 512]⟩
abbrev S512x1024 : Shape := ⟨2, ![512, 1024]⟩
abbrev S512x2048 : Shape := ⟨2, ![512, 2048]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x1024, .f32⟩
  | .hbm, ⟨8, _⟩ => ⟨S1024x8x256, .f32⟩
  | .hbm, ⟨9, _⟩ => ⟨S8x1024x256, .f32⟩
  | .hbm, ⟨10, _⟩ => ⟨S8x1024x256, .bf16⟩
  | .hbm, ⟨11, _⟩ => ⟨S1x1024, .f32⟩
  | .hbm, ⟨12, _⟩ => ⟨S4096x1024, .f32⟩
  | .hbm, ⟨13, _⟩ => ⟨S4096x2048, .bf16⟩
  | .hbm, ⟨14, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S8x1024x256, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x2048, .bf16⟩
  | .local _ .vmem, ⟨17, _⟩ => ⟨S512x2048, .bf16⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BwdInRefIdeal.lean ====
abbrev S4096x1024 : Shape := ⟨2, ![4096, 1024]⟩
abbrev S1024 : Shape := ⟨1, ![1024]⟩
abbrev S1024x2048 : Shape := ⟨2, ![1024, 2048]⟩
abbrev S4096x512 : Shape := ⟨2, ![4096, 512]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x2048, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x2048, .bf16⟩
  | .hbm, ⟨62, _⟩ => ⟨S1x1024, .f32⟩
  | .hbm, ⟨63, _⟩ => ⟨S_, .i32⟩
  | .hbm, ⟨64, _⟩ => ⟨S_, .f32⟩
  | .hbm, ⟨65, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c : Ref sig .tc := ⟨.hbm, 63, rfl⟩
abbrev main_call0_v0 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== MixBwd.lean ====
abbrev S4096x512 : Shape := ⟨2, ![4096, 512]⟩
abbrev S4x128x128 : Shape := ⟨3, ![4, 128, 128]⟩
abbrev S512 : Shape := ⟨1, ![512]⟩
abbrev S4096 : Shape := ⟨1, ![4096]⟩
abbrev S4096x128 : Shape := ⟨2, ![4096, 128]⟩
abbrev S_ : Shape := ⟨0, ![]⟩
abbrev S4098x128 : Shape := ⟨2, ![4098, 128]⟩
abbrev S4096x1 : Shape := ⟨2, ![4096, 1]⟩
abbrev S4100x128 : Shape := ⟨2, ![4100, 128]⟩
abbrev S4104x128 : Shape := ⟨2, ![4104, 128]⟩
abbrev S4112x128 : Shape := ⟨2, ![4112, 128]⟩
abbrev S4096x1x128 : Shape := ⟨3, ![4096, 1, 128]⟩
abbrev S4096x4x128 : Shape := ⟨3, ![4096, 4, 128]⟩
abbrev S1x512 : Shape := ⟨2, ![1, 512]⟩
abbrev S8x512 : Shape := ⟨2, ![8, 512]⟩
abbrev S1x128x128 : Shape := ⟨3, ![1, 128, 128]⟩
abbrev S1x128 : Shape := ⟨2, ![1, 128]⟩
abbrev S8x128 : Shape := ⟨2, ![8, 128]⟩
abbrev S2x32x128x1 : Shape := ⟨4, ![2, 32, 128, 1]⟩
abbrev S128x128 : Shape := ⟨2, ![128, 128]⟩
abbrev S256x256 : Shape := ⟨2, ![256, 256]⟩
abbrev S256x16 : Shape := ⟨2, ![256, 16]⟩
abbrev S256x128 : Shape := ⟨2, ![256, 128]⟩
abbrev S128 : Shape := ⟨1, ![128]⟩
abbrev S256x1 : Shape := ⟨2, ![256, 1]⟩
abbrev S16x128 : Shape := ⟨2, ![16, 128]⟩
abbrev S16x1 : Shape := ⟨2, ![16, 1]⟩
abbrev S16x256 : Shape := ⟨2, ![16, 256]⟩
abbrev S128x1 : Shape := ⟨2, ![128, 1]⟩
abbrev S128x256 : Shape := ⟨2, ![128, 256]⟩
abbrev S128x512 : Shape := ⟨2, ![128, 512]⟩
abbrev S512x128 : Shape := ⟨2, ![512, 128]⟩
abbrev S1x128x1 : Shape := ⟨3, ![1, 128, 1]⟩
abbrev S1 : Shape := ⟨1, ![1]⟩
abbrev S1x1x1 : Shape := ⟨3, ![1, 1, 1]⟩
abbrev S1x1x128x1 : Shape := ⟨4, ![1, 1, 128, 1]⟩
abbrev S128x768 : Shape := ⟨2, ![128, 768]⟩
abbrev S768x128 : Shape := ⟨2, ![768, 128]⟩

abbrev nBuf : Space → Nat
  | .hbm => 103
  | .vmem => 31
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4x128x128, .f32⟩
  | .hbm, ⟨7, _⟩ => ⟨S512, .f32⟩
  | .hbm, ⟨8, _⟩ => ⟨S4096, .i32⟩
  | .hbm, ⟨9, _⟩ => ⟨S4096x128, .f32⟩
  | .hbm, ⟨10, _⟩ => ⟨S_, .f32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4098x128, .f32⟩
  | .hbm, ⟨16, _⟩ => ⟨S4096x128, .f32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S4096x1, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S_, .f32⟩
  | .hbm, ⟨32, _⟩ => ⟨S4096x128, .f32⟩
  | .hbm, ⟨33, _⟩ => ⟨S_, .i32⟩
  | .hbm, ⟨34, _⟩ => ⟨S_, .f32⟩
  | .hbm, ⟨35, _⟩ => ⟨S4100x128, .f32⟩
  | .hbm, ⟨36, _⟩ => ⟨S4096x128, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .f32⟩
  | .hbm, ⟨44, _⟩ => ⟨S4096x1, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S_, .f32⟩
  | .hbm, ⟨52, _⟩ => ⟨S4096x128, .f32⟩
  | .hbm, ⟨53, _⟩ => ⟨S_, .i32⟩
  | .hbm, ⟨54, _⟩ => ⟨S_, .f32⟩
  | .hbm, ⟨55, _⟩ => ⟨S4104x128, .f32⟩
  | .hbm, ⟨56, _⟩ => ⟨S4096x128, .f32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .f32⟩
  | .hbm, ⟨64, _⟩ => ⟨S4096x1, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S4096x128, .f32⟩
  | .hbm, ⟨70, _⟩ => ⟨S_, .f32⟩
  | .hbm, ⟨71, _⟩ => ⟨S_, .f32⟩
  | .hbm, ⟨72, _⟩ => ⟨S4096x128, .f32⟩
  | .hbm, ⟨73, _⟩ => ⟨S_, .i32⟩
  | .hbm, ⟨74, _⟩ => ⟨S_, .f32⟩
  | .hbm, ⟨75, _⟩ => ⟨S4112x128, .f32⟩
  | .hbm, ⟨76, _⟩ => ⟨S4096x128, .f32⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S4096, .f32⟩
  | .hbm, ⟨84, _⟩ => ⟨S4096x1, .f32⟩
  | .hbm, ⟨85, _⟩ => ⟨S4096x128, .f32⟩
  | .hbm, ⟨86, _⟩ => ⟨S4096x128, .f32⟩
  | .hbm, ⟨87, _⟩ => ⟨S4096x128, .f32⟩
  | .hbm, ⟨88, _⟩ => ⟨S4096x128, .f32⟩
  | .hbm, ⟨89, _⟩ => ⟨S4096x1x128, .f32⟩
  | .hbm, ⟨90, _⟩ => ⟨S4096x1x128, .f32⟩
  | .hbm, ⟨91, _⟩ => ⟨S4096x1x128, .f32⟩
  | .hbm, ⟨92, _⟩ => ⟨S4096x1x128, .f32⟩
  | .hbm, ⟨93, _⟩ => ⟨S4096x4x128, .f32⟩
  | .hbm, ⟨94, _⟩ => ⟨S4096x512, .f32⟩
  | .hbm, ⟨95, _⟩ => ⟨S4096x512, .bf16⟩
  | .hbm, ⟨96, _⟩ => ⟨S1x512, .f32⟩
  | .hbm, ⟨97, _⟩ => ⟨S4096x512, .bf16⟩
  | .hbm, ⟨98, _⟩ => ⟨S4096x512, .bf16⟩
  | .hbm, ⟨99, _⟩ => ⟨S4096x512, .bf16⟩
  | .hbm, ⟨100, _⟩ => ⟨S4096x512, .bf16⟩
  | .hbm, ⟨101, _⟩ => ⟨S8x512, .f32⟩
  | .hbm, ⟨102, _⟩ => ⟨S4x128x128, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S4096x128, .bf16⟩
  | .local _ .vmem, ⟨23, _⟩ => ⟨S4096x128, .bf16⟩
  | .local _ .vmem, ⟨24, _⟩ => ⟨S8x128, .f32⟩
  | .local _ .vmem, ⟨25, _⟩ => ⟨S8x128, .f32⟩
  | .local _ .vmem, ⟨26, _⟩ => ⟨S1x128x128, .bf16⟩
  | .local _ .vmem, ⟨27, _⟩ => ⟨S1x128x128, .bf16⟩
  | .local _ .vmem, ⟨28, _⟩ => ⟨S4096x128, .f32⟩
  | .local _ .vmem, ⟨29, _⟩ => ⟨S4096x128, .f32⟩
  | .local _ .vmem, ⟨30, _⟩ => ⟨S2x32x128x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_call0_cst : Ref sig .tc := ⟨.hbm, 10, rfl⟩
abbrev main_call0_call0_v0 : Ref sig .tc := ⟨.hbm, 11, rfl⟩
abbrev main_v2 : Ref sig .tc := ⟨.hbm, 12, rfl⟩
abbrev main_c : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call2_call0_cst : Ref sig .tc := ⟨.hbm, 30, rfl⟩
abbrev main_call2_call0_v0 : Ref sig .tc := ⟨.hbm, 31, rfl⟩
abbrev main_v16 : Ref sig .tc := ⟨.hbm, 32, rfl⟩
abbrev main_c_2 : Ref sig .tc := ⟨.hbm, 33, rfl⟩
abbrev main_call3_v0 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call4_call0_cst : Ref sig .tc := ⟨.hbm, 50, rfl⟩
abbrev main_call4_call0_v0 : Ref sig .tc := ⟨.hbm, 51, rfl⟩
abbrev main_v30 : Ref sig .tc := ⟨.hbm, 52, rfl⟩
abbrev main_c_5 : Ref sig .tc := ⟨.hbm, 53, rfl⟩
abbrev main_call5_v0 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call6_call0_cst : Ref sig .tc := ⟨.hbm, 70, rfl⟩
abbrev main_call6_call0_v0 : Ref sig .tc := ⟨.hbm, 71, rfl⟩
abbrev main_v44 : Ref sig .tc := ⟨.hbm, 72, rfl⟩
abbrev main_c_8 : Ref sig .tc := ⟨.hbm, 73, rfl⟩
abbrev main_call7_v0 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65_0 : Ref sig .tc := ⟨.hbm, 97, rfl⟩
abbrev main_v65_1 : Ref sig .tc := ⟨.hbm, 98, rfl⟩
abbrev main_v65_2 : Ref sig .tc := ⟨.hbm, 99, rfl⟩
abbrev main_v65_3 : Ref sig .tc := ⟨.hbm, 100, rfl⟩
abbrev main_v65_4 : Ref sig .tc := ⟨.hbm, 101, rfl⟩
abbrev main_v65_5 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_9 : BitVec 32 := 0#32
  let c15_i32 : BitVec 32 := 15#32
  let v31 : BitVec 32 := Scalar.addi c0_i32_9 c15_i32
  let c1_i32 : BitVec 32 := 1#32
  ⟨c0_i32_9, v31, c1_i32⟩
def k0_mult1 (k0_t1 : Fin k0_t1_loop.trips) : BitVec 32 :=
  let c0_i32_9 : BitVec 32 := 0#32
  let c1_i32 : BitVec 32 := 1#32
  let arg18 : BitVec 32 := Scf.iv c0_i32_9 c1_i32 k0_t1
  let c256_i32_202 : BitVec 32 := 256#32
  let v520 : BitVec 32 := Scalar.muli arg18 c256_i32_202
  v520
def k0_off1 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c256_i32_202 : BitVec 32 := 256#32
  let v520 : BitVec 32 := Scalar.muli arg18 c256_i32_202
  let v521 : BitVec 32 := v520
  let v522 : Index := Scalar.indexCast v521
  let c0_203 : Index := 0#32
  ![v522.toNat, 0]
def k0_mult2 (k0_t1 : Fin k0_t1_loop.trips) : BitVec 32 :=
  let c0_i32_9 : BitVec 32 := 0#32
  let c1_i32 : BitVec 32 := 1#32
  let arg18 : BitVec 32 := Scf.iv c0_i32_9 c1_i32 k0_t1
  let c256_i32_202 : BitVec 32 := 256#32
  let v520 : BitVec 32 := Scalar.muli arg18 c256_i32_202
  let v521 : BitVec 32 := v520
  let c256_i32_211 : BitVec 32 := 256#32
  let v554 : BitVec 32 := Scalar.addi v521 c256_i32_211
  v554
def k0_off2 (k0_t1 : Fin k0_t1_loop.trips) : Fin 2 → Nat :=
  let c0_i32_9 : BitVec 32 := 0#32
  let c1_i32 : BitVec 32 := 1#32
  let arg18 : BitVec 32 := Scf.iv c0_i32_9 c1_i32 k0_t1
  let c256_i32_202 : BitVec 32 := 256#32
  let v520 : BitVec 32 := Scalar.muli arg18 c256_i32_202
  let v521 : BitVec 32 := v520
  let c256_i32_211 : BitVec 32 := 256#32
  let v554 : BitVec 32 := Scalar.addi v521 c256_i32_211
  let v555 : BitVec 32 := v554
  let v556 : Index := Scalar.indexCast v555
  let c0_212 : Index := 0#32
  ![v556.toNat, 0]
@[reducible] def k0_t2_loop : Scf.Loop 32 :=
  let c0_i32_191 : BitVec 32 := 0#32
  let c10_i32 : BitVec 32 := 10#32
  let v513 : BitVec 32 := Scalar.addi c0_i32_191 c10_i32
  let c1_i32_192 : BitVec 32 := 1#32
  ⟨c0_i32_191, v513, c1_i32_192⟩
def k0_mult3 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c128_i32 : BitVec 32 := 128#32
  let v525 : BitVec 32 := Scalar.muli v522 c128_i32
  v525
def k0_off3 (k0_t2 : Fin k0_t2_loop.trips) (c0_i32_203 : BitVec 32) : Fin 2 → Nat :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let v522 : BitVec 32 := Scalar.addi v521 c0_i32_203
  let c128_i32 : BitVec 32 := 128#32
  let v525 : BitVec 32 := Scalar.muli v522 c128_i32
  let v526 : BitVec 32 := v525
  let v527 : Index := Scalar.indexCast v526
  let c0_206 : Index := 0#32
  ![v527.toNat, 0]
def k0_mult4 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c0_i32_212 : BitVec 32 := 0#32
  let v543 : BitVec 32 := Scalar.subi v522 c0_i32_212
  let c128_i32_213 : BitVec 32 := 128#32
  let v544 : BitVec 32 := Scalar.muli v543 c128_i32_213
  v544
def k0_mult5 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c1_i32_214 : BitVec 32 := 1#32
  let v546 : BitVec 32 := Scalar.subi v522 c1_i32_214
  let c128_i32_215 : BitVec 32 := 128#32
  let v547 : BitVec 32 := Scalar.muli v546 c128_i32_215
  v547
def k0_mult6 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c2_i32_216 : BitVec 32 := 2#32
  let v549 : BitVec 32 := Scalar.subi v522 c2_i32_216
  let c128_i32_217 : BitVec 32 := 128#32
  let v550 : BitVec 32 := Scalar.muli v549 c128_i32_217
  v550
def k0_off4 (k0_t2 : Fin k0_t2_loop.trips) (c0_i32_203 : BitVec 32) (c0_i32_212 : BitVec 32) : Fin 2 → Nat :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let v522 : BitVec 32 := Scalar.addi v521 c0_i32_203
  let v543 : BitVec 32 := Scalar.subi v522 c0_i32_212
  let c128_i32_213 : BitVec 32 := 128#32
  let v544 : BitVec 32 := Scalar.muli v543 c128_i32_213
  let v545 : BitVec 32 := v544
  let v552 : Index := Scalar.indexCast v545
  let c0_218 : Index := 0#32
  ![v552.toNat, 0]
def k0_mult7 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c128_i32_230 : BitVec 32 := 128#32
  let v579 : BitVec 32 := Scalar.muli v523 c128_i32_230
  v579
def k0_mult8 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c0_i32_237 : BitVec 32 := 0#32
  let v597 : BitVec 32 := Scalar.subi v523 c0_i32_237
  let c128_i32_238 : BitVec 32 := 128#32
  let v598 : BitVec 32 := Scalar.muli v597 c128_i32_238
  v598
def k0_mult9 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c1_i32_239 : BitVec 32 := 1#32
  let v600 : BitVec 32 := Scalar.subi v523 c1_i32_239
  let c128_i32_240 : BitVec 32 := 128#32
  let v601 : BitVec 32 := Scalar.muli v600 c128_i32_240
  v601
def k0_mult10 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c2_i32_241 : BitVec 32 := 2#32
  let v603 : BitVec 32 := Scalar.subi v523 c2_i32_241
  let c128_i32_242 : BitVec 32 := 128#32
  let v604 : BitVec 32 := Scalar.muli v603 c128_i32_242
  v604
def k0_mult11 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c128_i32_255 : BitVec 32 := 128#32
  let v633 : BitVec 32 := Scalar.muli v524 c128_i32_255
  v633
def k0_mult12 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c0_i32_262 : BitVec 32 := 0#32
  let v651 : BitVec 32 := Scalar.subi v524 c0_i32_262
  let c128_i32_263 : BitVec 32 := 128#32
  let v652 : BitVec 32 := Scalar.muli v651 c128_i32_263
  v652
def k0_mult13 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c1_i32_264 : BitVec 32 := 1#32
  let v654 : BitVec 32 := Scalar.subi v524 c1_i32_264
  let c128_i32_265 : BitVec 32 := 128#32
  let v655 : BitVec 32 := Scalar.muli v654 c128_i32_265
  v655
def k0_mult14 (k0_t2 : Fin k0_t2_loop.trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c2_i32_266 : BitVec 32 := 2#32
  let v657 : BitVec 32 := Scalar.subi v524 c2_i32_266
  let c128_i32_267 : BitVec 32 := 128#32
  let v658 : BitVec 32 := Scalar.muli v657 c128_i32_267
  v658
def k0_off5 (arg19 : BitVec 32) : Fin 4 → Nat :=
  let c0_587 : Index := 0#32
  let c1_i32_586 : BitVec 32 := 1#32
  let v1824 : BitVec 32 := Scalar.subi arg19 c1_i32_586
  let v1825 : Index := Scalar.indexCast v1824
  let c0_588 : Index := 0#32
  let c0_589 : Index := 0#32
  ![0, v1825.toNat, 0, 0]

def k0_off6 (arg19 : BitVec 32) : Fin 4 → Nat :=
  let c1 : Index := 1#32
  let c1_i32_586 : BitVec 32 := 1#32
  let v1824 : BitVec 32 := Scalar.subi arg19 c1_i32_586
  let v1829 : Index := Scalar.indexCast v1824
  let c0_590 : Index := 0#32
  let c0_591 : Index := 0#32
  ![1, v1829.toNat, 0, 0]
def k0_mult15 (arg19 : BitVec 32) : BitVec 32 :=
  let c1_i32_586 : BitVec 32 := 1#32
  let v1824 : BitVec 32 := Scalar.subi arg19 c1_i32_586
  let c128_i32_592 : BitVec 32 := 128#32
  let v1833 : BitVec 32 := Scalar.muli v1824 c128_i32_592
  v1833
def k0_off7 (arg19 : BitVec 32) : Fin 2 → Nat :=
  let c1_i32_586 : BitVec 32 := 1#32
  let v1824 : BitVec 32 := Scalar.subi arg19 c1_i32_586
  let c128_i32_592 : BitVec 32 := 128#32
  let v1833 : BitVec 32 := Scalar.muli v1824 c128_i32_592
  let v1834 : BitVec 32 := v1833
  let v1835 : Index := Scalar.indexCast v1834
  let c0_593 : Index := 0#32
  ![v1835.toNat, 0]

def k0_chk1 (arg19 : BitVec 32) : Prop :=
  (∀ a, (k0_off5 arg19) a + S1x1x128x1.size a ≤ S2x32x128x1.size a) ∧
  (∀ a, (k0_off6 arg19) a + S1x1x128x1.size a ≤ S2x32x128x1.size a) ∧
  (128 ∣ (k0_mult15 arg19).toNat) ∧
  (∀ a, (k0_off7 arg19) a + S128x128.size a ≤ S4096x128.size a)
theorem k0_off5_inb : ∀ (arg19 : BitVec 32) (k0_hw1 : k0_chk1 arg19), ∀ a, (k0_off5 arg19) a + S1x1x128x1.size a ≤ S2x32x128x1.size a := fun arg19 k0_hw1 => k0_hw1.1
theorem k0_off6_inb : ∀ (arg19 : BitVec 32) (k0_hw1 : k0_chk1 arg19), ∀ a, (k0_off6 arg19) a + S1x1x128x1.size a ≤ S2x32x128x1.size a := fun arg19 k0_hw1 => k0_hw1.2.1
theorem k0_mult15_dvd : ∀ (arg19 : BitVec 32) (k0_hw1 : k0_chk1 arg19), 128 ∣ (k0_mult15 arg19).toNat := fun arg19 k0_hw1 => k0_hw1.2.2.1
theorem k0_off7_inb : ∀ (arg19 : BitVec 32) (k0_hw1 : k0_chk1 arg19), ∀ a, (k0_off7 arg19) a + S128x128.size a ≤ S4096x128.size a := fun arg19 k0_hw1 => k0_hw1.2.2.2

@[reducible] def k0_t3_loop (k0_t2 : Fin k0_t2_loop.trips) (v1139_0 : BitVec 32) : Scf.Loop 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c2_i32_431 : BitVec 32 := 2#32
  let v1138 : BitVec 32 := Scalar.subi v522 c2_i32_431
  let v1140 : BitVec 32 := Scalar.subi v1138 v1139_0
  let c1_i32_432 : BitVec 32 := 1#32
  let v1142 : BitVec 32 := Scalar.divsi v1140 c1_i32_432
  let v1143 : BitVec 32 := Scalar.muli v1142 c1_i32_432
  let v1144 : BitVec 32 := Scalar.addi v1139_0 v1143
  let c1_i32_433 : BitVec 32 := 1#32
  ⟨v1139_0, v1144, c1_i32_433⟩

def k0_mult16 (k0_t2 : Fin k0_t2_loop.trips) (v1139_0 : BitVec 32) (k0_t3 : Fin (k0_t3_loop k0_t2 v1139_0).trips) : BitVec 32 :=
  let c1_i32_433 : BitVec 32 := 1#32
  let arg19 : BitVec 32 := Scf.iv v1139_0 c1_i32_433 k0_t3
  let c128_i32_586 : BitVec 32 := 128#32
  let v1824 : BitVec 32 := Scalar.muli arg19 c128_i32_586
  v1824
def k0_off8 (k0_t2 : Fin k0_t2_loop.trips) (v1139_0 : BitVec 32) (k0_t3 : Fin (k0_t3_loop k0_t2 v1139_0).trips) : Fin 2 → Nat :=
  let c1_i32_433 : BitVec 32 := 1#32
  let arg19 : BitVec 32 := Scf.iv v1139_0 c1_i32_433 k0_t3
  let c128_i32_586 : BitVec 32 := 128#32
  let v1824 : BitVec 32 := Scalar.muli arg19 c128_i32_586
  let v1825 : BitVec 32 := v1824
  let v1826 : Index := Scalar.indexCast v1825
  let c0_587 : Index := 0#32
  ![v1826.toNat, 0]
def k0_off9 (k0_t2 : Fin k0_t2_loop.trips) (v1139_0 : BitVec 32) (k0_t3 : Fin (k0_t3_loop k0_t2 v1139_0).trips) : Fin 4 → Nat :=
  let c0_607 : Index := 0#32
  let c1_i32_433 : BitVec 32 := 1#32
  let arg19 : BitVec 32 := Scf.iv v1139_0 c1_i32_433 k0_t3
  let v1883 : Index := Scalar.indexCast arg19
  let c0_608 : Index := 0#32
  let c0_609 : Index := 0#32
  ![0, v1883.toNat, 0, 0]
def k0_off10 (k0_t2 : Fin k0_t2_loop.trips) (v1139_0 : BitVec 32) (k0_t3 : Fin (k0_t3_loop k0_t2 v1139_0).trips) : Fin 4 → Nat :=
  let c1 : Index := 1#32
  let c1_i32_433 : BitVec 32 := 1#32
  let arg19 : BitVec 32 := Scf.iv v1139_0 c1_i32_433 k0_t3
  let v1886 : Index := Scalar.indexCast arg19
  let c0_610 : Index := 0#32
  let c0_611 : Index := 0#32
  ![1, v1886.toNat, 0, 0]
@[reducible] def k0_t4_loop (k0_t2 : Fin k0_t2_loop.trips) (v1139_0 : BitVec 32) : Scf.Loop 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c2_i32_431 : BitVec 32 := 2#32
  let v1138 : BitVec 32 := Scalar.subi v522 c2_i32_431
  let v1140 : BitVec 32 := Scalar.subi v1138 v1139_0
  let c1_i32_432 : BitVec 32 := 1#32
  let v1142 : BitVec 32 := Scalar.divsi v1140 c1_i32_432
  let v1143 : BitVec 32 := Scalar.muli v1142 c1_i32_432
  let v1144 : BitVec 32 := Scalar.addi v1139_0 v1143
  let v1141 : BitVec 32 := Scalar.addi v1139_0 v1140
  let c1_i32_434 : BitVec 32 := 1#32
  ⟨v1144, v1141, c1_i32_434⟩
def k0_mult17 (k0_t2 : Fin k0_t2_loop.trips) (v1139_0 : BitVec 32) (k0_t4 : Fin (k0_t4_loop k0_t2 v1139_0).trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c2_i32_431 : BitVec 32 := 2#32
  let v1138 : BitVec 32 := Scalar.subi v522 c2_i32_431
  let v1140 : BitVec 32 := Scalar.subi v1138 v1139_0
  let c1_i32_432 : BitVec 32 := 1#32
  let v1142 : BitVec 32 := Scalar.divsi v1140 c1_i32_432
  let v1143 : BitVec 32 := Scalar.muli v1142 c1_i32_432
  let v1144 : BitVec 32 := Scalar.addi v1139_0 v1143
  let c1_i32_434 : BitVec 32 := 1#32
  let arg19 : BitVec 32 := Scf.iv v1144 c1_i32_434 k0_t4
  let c128_i32_586 : BitVec 32 := 128#32
  let v1824 : BitVec 32 := Scalar.muli arg19 c128_i32_586
  v1824
def k0_off11 (k0_t2 : Fin k0_t2_loop.trips) (v1139_0 : BitVec 32) (k0_t4 : Fin (k0_t4_loop k0_t2 v1139_0).trips) : Fin 2 → Nat :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c2_i32_431 : BitVec 32 := 2#32
  let v1138 : BitVec 32 := Scalar.subi v522 c2_i32_431
  let v1140 : BitVec 32 := Scalar.subi v1138 v1139_0
  let c1_i32_432 : BitVec 32 := 1#32
  let v1142 : BitVec 32 := Scalar.divsi v1140 c1_i32_432
  let v1143 : BitVec 32 := Scalar.muli v1142 c1_i32_432
  let v1144 : BitVec 32 := Scalar.addi v1139_0 v1143
  let c1_i32_434 : BitVec 32 := 1#32
  let arg19 : BitVec 32 := Scf.iv v1144 c1_i32_434 k0_t4
  let c128_i32_586 : BitVec 32 := 128#32
  let v1824 : BitVec 32 := Scalar.muli arg19 c128_i32_586
  let v1825 : BitVec 32 := v1824
  let v1826 : Index := Scalar.indexCast v1825
  let c0_587 : Index := 0#32
  ![v1826.toNat, 0]
def k0_off12 (k0_t2 : Fin k0_t2_loop.trips) (v1139_0 : BitVec 32) (k0_t4 : Fin (k0_t4_loop k0_t2 v1139_0).trips) : Fin 4 → Nat :=
  let c0_607 : Index := 0#32
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c2_i32_431 : BitVec 32 := 2#32
  let v1138 : BitVec 32 := Scalar.subi v522 c2_i32_431
  let v1140 : BitVec 32 := Scalar.subi v1138 v1139_0
  let c1_i32_432 : BitVec 32 := 1#32
  let v1142 : BitVec 32 := Scalar.divsi v1140 c1_i32_432
  let v1143 : BitVec 32 := Scalar.muli v1142 c1_i32_432
  let v1144 : BitVec 32 := Scalar.addi v1139_0 v1143
  let c1_i32_434 : BitVec 32 := 1#32
  let arg19 : BitVec 32 := Scf.iv v1144 c1_i32_434 k0_t4
  let v1883 : Index := Scalar.indexCast arg19
  let c0_608 : Index := 0#32
  let c0_609 : Index := 0#32
  ![0, v1883.toNat, 0, 0]
def k0_off13 (k0_t2 : Fin k0_t2_loop.trips) (v1139_0 : BitVec 32) (k0_t4 : Fin (k0_t4_loop k0_t2 v1139_0).trips) : Fin 4 → Nat :=
  let c1 : Index := 1#32
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c0_i32_203 : BitVec 32 := 0#32
  let v522 : BitVec 32 := Scalar.addi v521 c0_i32_203
  let c2_i32_431 : BitVec 32 := 2#32
  let v1138 : BitVec 32 := Scalar.subi v522 c2_i32_431
  let v1140 : BitVec 32 := Scalar.subi v1138 v1139_0
  let c1_i32_432 : BitVec 32 := 1#32
  let v1142 : BitVec 32 := Scalar.divsi v1140 c1_i32_432
  let v1143 : BitVec 32 := Scalar.muli v1142 c1_i32_432
  let v1144 : BitVec 32 := Scalar.addi v1139_0 v1143
  let c1_i32_434 : BitVec 32 := 1#32
  let arg19 : BitVec 32 := Scf.iv v1144 c1_i32_434 k0_t4
  let v1886 : Index := Scalar.indexCast arg19
  let c0_610 : Index := 0#32
  let c0_611 : Index := 0#32
  ![1, v1886.toNat, 0, 0]

def k0_chk2 (k0_t2 : Fin k0_t2_loop.trips) (v1139_0 : BitVec 32) : Prop :=
  ((k0_t3_loop k0_t2 v1139_0).OK) ∧
  (∀ k0_t3 : Fin (k0_t3_loop k0_t2 v1139_0).trips, 128 ∣ (k0_mult16 k0_t2 v1139_0 k0_t3).toNat) ∧
  (∀ k0_t3 : Fin (k0_t3_loop k0_t2 v1139_0).trips, ∀ a, (k0_off8 k0_t2 v1139_0 k0_t3) a + S128x128.size a ≤ S4096x128.size a) ∧
  (∀ k0_t3 : Fin (k0_t3_loop k0_t2 v1139_0).trips, ∀ a, (k0_off9 k0_t2 v1139_0 k0_t3) a + S1x1x128x1.size a ≤ S2x32x128x1.size a) ∧
  (∀ k0_t3 : Fin (k0_t3_loop k0_t2 v1139_0).trips, ∀ a, (k0_off10 k0_t2 v1139_0 k0_t3) a + S1x1x128x1.size a ≤ S2x32x128x1.size a) ∧
  ((k0_t4_loop k0_t2 v1139_0).OK) ∧
  (∀ k0_t4 : Fin (k0_t4_loop k0_t2 v1139_0).trips, 128 ∣ (k0_mult17 k0_t2 v1139_0 k0_t4).toNat) ∧
  (∀ k0_t4 : Fin (k0_t4_loop k0_t2 v1139_0).trips, ∀ a, (k0_off11 k0_t2 v1139_0 k0_t4) a + S128x128.size a ≤ S4096x128.size a) ∧
  (∀ k0_t4 : Fin (k0_t4_loop k0_t2 v1139_0).trips, ∀ a, (k0_off12 k0_t2 v1139_0 k0_t4) a + S1x1x128x1.size a ≤ S2x32x128x1.size a) ∧
  (∀ k0_t4 : Fin (k0_t4_loop k0_t2 v1139_0).trips, ∀ a, (k0_off13 k0_t2 v1139_0 k0_t4) a + S1x1x128x1.size a ≤ S2x32x128x1.size a)
theorem k0_t3_ok : ∀ (k0_t2 : Fin k0_t2_loop.trips) (v1139_0 : BitVec 32) (k0_hw2 : k0_chk2 k0_t2 v1139_0), (k0_t3_loop k0_t2 v1139_0).OK := fun k0_t2 v1139_0 k0_hw2 => k0_hw2.1
theorem k0_mult16_dvd : ∀ (k0_t2 : Fin k0_t2_loop.trips) (v1139_0 : BitVec 32) (k0_hw2 : k0_chk2 k0_t2 v1139_0) (k0_t3 : Fin (k0_t3_loop k0_t2 v1139_0).trips), 128 ∣ (k0_mult16 k0_t2 v1139_0 k0_t3).toNat := fun k0_t2 v1139_0 k0_hw2 k0_t3 => k0_hw2.2.1 k0_t3
theorem k0_off8_inb : ∀ (k0_t2 : Fin k0_t2_loop.trips) (v1139_0 : BitVec 32) (k0_hw2 : k0_chk2 k0_t2 v1139_0) (k0_t3 : Fin (k0_t3_loop k0_t2 v1139_0).trips), ∀ a, (k0_off8 k0_t2 v1139_0 k0_t3) a + S128x128.size a ≤ S4096x128.size a := fun k0_t2 v1139_0 k0_hw2 k0_t3 => k0_hw2.2.2.1 k0_t3
theorem k0_off9_inb : ∀ (k0_t2 : Fin k0_t2_loop.trips) (v1139_0 : BitVec 32) (k0_hw2 : k0_chk2 k0_t2 v1139_0) (k0_t3 : Fin (k0_t3_loop k0_t2 v1139_0).trips), ∀ a, (k0_off9 k0_t2 v1139_0 k0_t3) a + S1x1x128x1.size a ≤ S2x32x128x1.size a := fun k0_t2 v1139_0 k0_hw2 k0_t3 => k0_hw2.2.2.2.1 k0_t3
theorem k0_off10_inb : ∀ (k0_t2 : Fin k0_t2_loop.trips) (v1139_0 : BitVec 32) (k0_hw2 : k0_chk2 k0_t2 v1139_0) (k0_t3 : Fin (k0_t3_loop k0_t2 v1139_0).trips), ∀ a, (k0_off10 k0_t2 v1139_0 k0_t3) a + S1x1x128x1.size a ≤ S2x32x128x1.size a := fun k0_t2 v1139_0 k0_hw2 k0_t3 => k0_hw2.2.2.2.2.1 k0_t3
theorem k0_t4_ok : ∀ (k0_t2 : Fin k0_t2_loop.trips) (v1139_0 : BitVec 32) (k0_hw2 : k0_chk2 k0_t2 v1139_0), (k0_t4_loop k0_t2 v1139_0).OK := fun k0_t2 v1139_0 k0_hw2 => k0_hw2.2.2.2.2.2.1
theorem k0_mult17_dvd : ∀ (k0_t2 : Fin k0_t2_loop.trips) (v1139_0 : BitVec 32) (k0_hw2 : k0_chk2 k0_t2 v1139_0) (k0_t4 : Fin (k0_t4_loop k0_t2 v1139_0).trips), 128 ∣ (k0_mult17 k0_t2 v1139_0 k0_t4).toNat := fun k0_t2 v1139_0 k0_hw2 k0_t4 => k0_hw2.2.2.2.2.2.2.1 k0_t4
theorem k0_off11_inb : ∀ (k0_t2 : Fin k0_t2_loop.trips) (v1139_0 : BitVec 32) (k0_hw2 : k0_chk2 k0_t2 v1139_0) (k0_t4 : Fin (k0_t4_loop k0_t2 v1139_0).trips), ∀ a, (k0_off11 k0_t2 v1139_0 k0_t4) a + S128x128.size a ≤ S4096x128.size a := fun k0_t2 v1139_0 k0_hw2 k0_t4 => k0_hw2.2.2.2.2.2.2.2.1 k0_t4
theorem k0_off12_inb : ∀ (k0_t2 : Fin k0_t2_loop.trips) (v1139_0 : BitVec 32) (k0_hw2 : k0_chk2 k0_t2 v1139_0) (k0_t4 : Fin (k0_t4_loop k0_t2 v1139_0).trips), ∀ a, (k0_off12 k0_t2 v1139_0 k0_t4) a + S1x1x128x1.size a ≤ S2x32x128x1.size a := fun k0_t2 v1139_0 k0_hw2 k0_t4 => k0_hw2.2.2.2.2.2.2.2.2.1 k0_t4
theorem k0_off13_inb : ∀ (k0_t2 : Fin k0_t2_loop.trips) (v1139_0 : BitVec 32) (k0_hw2 : k0_chk2 k0_t2 v1139_0) (k0_t4 : Fin (k0_t4_loop k0_t2 v1139_0).trips), ∀ a, (k0_off13 k0_t2 v1139_0 k0_t4) a + S1x1x128x1.size a ≤ S2x32x128x1.size a := fun k0_t2 v1139_0 k0_hw2 k0_t4 => k0_hw2.2.2.2.2.2.2.2.2.2 k0_t4

def k0_off14 (arg19 : BitVec 32) : Fin 4 → Nat :=
  let c0_587 : Index := 0#32
  let c1_i32_586 : BitVec 32 := 1#32
  let v1824 : BitVec 32 := Scalar.subi arg19 c1_i32_586
  let v1825 : Index := Scalar.indexCast v1824
  let c0_588 : Index := 0#32
  let c0_589 : Index := 0#32
  ![0, v1825.toNat, 0, 0]

def k0_off15 (arg19 : BitVec 32) : Fin 4 → Nat :=
  let c1 : Index := 1#32
  let c1_i32_586 : BitVec 32 := 1#32
  let v1824 : BitVec 32 := Scalar.subi arg19 c1_i32_586
  let v1829 : Index := Scalar.indexCast v1824
  let c0_590 : Index := 0#32
  let c0_591 : Index := 0#32
  ![1, v1829.toNat, 0, 0]
def k0_mult18 (arg19 : BitVec 32) : BitVec 32 :=
  let c1_i32_586 : BitVec 32 := 1#32
  let v1824 : BitVec 32 := Scalar.subi arg19 c1_i32_586
  let c128_i32_592 : BitVec 32 := 128#32
  let v1833 : BitVec 32 := Scalar.muli v1824 c128_i32_592
  v1833
def k0_off16 (arg19 : BitVec 32) : Fin 2 → Nat :=
  let c1_i32_586 : BitVec 32 := 1#32
  let v1824 : BitVec 32 := Scalar.subi arg19 c1_i32_586
  let c128_i32_592 : BitVec 32 := 128#32
  let v1833 : BitVec 32 := Scalar.muli v1824 c128_i32_592
  let v1834 : BitVec 32 := v1833
  let v1835 : Index := Scalar.indexCast v1834
  let c0_593 : Index := 0#32
  ![v1835.toNat, 0]

def k0_chk3 (arg19 : BitVec 32) : Prop :=
  (∀ a, (k0_off14 arg19) a + S1x1x128x1.size a ≤ S2x32x128x1.size a) ∧
  (∀ a, (k0_off15 arg19) a + S1x1x128x1.size a ≤ S2x32x128x1.size a) ∧
  (128 ∣ (k0_mult18 arg19).toNat) ∧
  (∀ a, (k0_off16 arg19) a + S128x128.size a ≤ S4096x128.size a)
theorem k0_off14_inb : ∀ (arg19 : BitVec 32) (k0_hw3 : k0_chk3 arg19), ∀ a, (k0_off14 arg19) a + S1x1x128x1.size a ≤ S2x32x128x1.size a := fun arg19 k0_hw3 => k0_hw3.1
theorem k0_off15_inb : ∀ (arg19 : BitVec 32) (k0_hw3 : k0_chk3 arg19), ∀ a, (k0_off15 arg19) a + S1x1x128x1.size a ≤ S2x32x128x1.size a := fun arg19 k0_hw3 => k0_hw3.2.1
theorem k0_mult18_dvd : ∀ (arg19 : BitVec 32) (k0_hw3 : k0_chk3 arg19), 128 ∣ (k0_mult18 arg19).toNat := fun arg19 k0_hw3 => k0_hw3.2.2.1
theorem k0_off16_inb : ∀ (arg19 : BitVec 32) (k0_hw3 : k0_chk3 arg19), ∀ a, (k0_off16 arg19) a + S128x128.size a ≤ S4096x128.size a := fun arg19 k0_hw3 => k0_hw3.2.2.2

@[reducible] def k0_t5_loop (k0_t2 : Fin k0_t2_loop.trips) (v1155_0 : BitVec 32) : Scf.Loop 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c2_i32_436 : BitVec 32 := 2#32
  let v1154 : BitVec 32 := Scalar.subi v523 c2_i32_436
  let v1156 : BitVec 32 := Scalar.subi v1154 v1155_0
  let c1_i32_437 : BitVec 32 := 1#32
  let v1158 : BitVec 32 := Scalar.divsi v1156 c1_i32_437
  let v1159 : BitVec 32 := Scalar.muli v1158 c1_i32_437
  let v1160 : BitVec 32 := Scalar.addi v1155_0 v1159
  let c1_i32_438 : BitVec 32 := 1#32
  ⟨v1155_0, v1160, c1_i32_438⟩

def k0_mult19 (k0_t2 : Fin k0_t2_loop.trips) (v1155_0 : BitVec 32) (k0_t5 : Fin (k0_t5_loop k0_t2 v1155_0).trips) : BitVec 32 :=
  let c1_i32_438 : BitVec 32 := 1#32
  let arg19 : BitVec 32 := Scf.iv v1155_0 c1_i32_438 k0_t5
  let c128_i32_586 : BitVec 32 := 128#32
  let v1824 : BitVec 32 := Scalar.muli arg19 c128_i32_586
  v1824
def k0_off17 (k0_t2 : Fin k0_t2_loop.trips) (v1155_0 : BitVec 32) (k0_t5 : Fin (k0_t5_loop k0_t2 v1155_0).trips) : Fin 2 → Nat :=
  let c1_i32_438 : BitVec 32 := 1#32
  let arg19 : BitVec 32 := Scf.iv v1155_0 c1_i32_438 k0_t5
  let c128_i32_586 : BitVec 32 := 128#32
  let v1824 : BitVec 32 := Scalar.muli arg19 c128_i32_586
  let v1825 : BitVec 32 := v1824
  let v1826 : Index := Scalar.indexCast v1825
  let c0_587 : Index := 0#32
  ![v1826.toNat, 0]
def k0_off18 (k0_t2 : Fin k0_t2_loop.trips) (v1155_0 : BitVec 32) (k0_t5 : Fin (k0_t5_loop k0_t2 v1155_0).trips) : Fin 4 → Nat :=
  let c0_607 : Index := 0#32
  let c1_i32_438 : BitVec 32 := 1#32
  let arg19 : BitVec 32 := Scf.iv v1155_0 c1_i32_438 k0_t5
  let v1883 : Index := Scalar.indexCast arg19
  let c0_608 : Index := 0#32
  let c0_609 : Index := 0#32
  ![0, v1883.toNat, 0, 0]
def k0_off19 (k0_t2 : Fin k0_t2_loop.trips) (v1155_0 : BitVec 32) (k0_t5 : Fin (k0_t5_loop k0_t2 v1155_0).trips) : Fin 4 → Nat :=
  let c1 : Index := 1#32
  let c1_i32_438 : BitVec 32 := 1#32
  let arg19 : BitVec 32 := Scf.iv v1155_0 c1_i32_438 k0_t5
  let v1886 : Index := Scalar.indexCast arg19
  let c0_610 : Index := 0#32
  let c0_611 : Index := 0#32
  ![1, v1886.toNat, 0, 0]
@[reducible] def k0_t6_loop (k0_t2 : Fin k0_t2_loop.trips) (v1155_0 : BitVec 32) : Scf.Loop 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c2_i32_436 : BitVec 32 := 2#32
  let v1154 : BitVec 32 := Scalar.subi v523 c2_i32_436
  let v1156 : BitVec 32 := Scalar.subi v1154 v1155_0
  let c1_i32_437 : BitVec 32 := 1#32
  let v1158 : BitVec 32 := Scalar.divsi v1156 c1_i32_437
  let v1159 : BitVec 32 := Scalar.muli v1158 c1_i32_437
  let v1160 : BitVec 32 := Scalar.addi v1155_0 v1159
  let v1157 : BitVec 32 := Scalar.addi v1155_0 v1156
  let c1_i32_439 : BitVec 32 := 1#32
  ⟨v1160, v1157, c1_i32_439⟩
def k0_mult20 (k0_t2 : Fin k0_t2_loop.trips) (v1155_0 : BitVec 32) (k0_t6 : Fin (k0_t6_loop k0_t2 v1155_0).trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c2_i32_436 : BitVec 32 := 2#32
  let v1154 : BitVec 32 := Scalar.subi v523 c2_i32_436
  let v1156 : BitVec 32 := Scalar.subi v1154 v1155_0
  let c1_i32_437 : BitVec 32 := 1#32
  let v1158 : BitVec 32 := Scalar.divsi v1156 c1_i32_437
  let v1159 : BitVec 32 := Scalar.muli v1158 c1_i32_437
  let v1160 : BitVec 32 := Scalar.addi v1155_0 v1159
  let c1_i32_439 : BitVec 32 := 1#32
  let arg19 : BitVec 32 := Scf.iv v1160 c1_i32_439 k0_t6
  let c128_i32_586 : BitVec 32 := 128#32
  let v1824 : BitVec 32 := Scalar.muli arg19 c128_i32_586
  v1824
def k0_off20 (k0_t2 : Fin k0_t2_loop.trips) (v1155_0 : BitVec 32) (k0_t6 : Fin (k0_t6_loop k0_t2 v1155_0).trips) : Fin 2 → Nat :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c2_i32_436 : BitVec 32 := 2#32
  let v1154 : BitVec 32 := Scalar.subi v523 c2_i32_436
  let v1156 : BitVec 32 := Scalar.subi v1154 v1155_0
  let c1_i32_437 : BitVec 32 := 1#32
  let v1158 : BitVec 32 := Scalar.divsi v1156 c1_i32_437
  let v1159 : BitVec 32 := Scalar.muli v1158 c1_i32_437
  let v1160 : BitVec 32 := Scalar.addi v1155_0 v1159
  let c1_i32_439 : BitVec 32 := 1#32
  let arg19 : BitVec 32 := Scf.iv v1160 c1_i32_439 k0_t6
  let c128_i32_586 : BitVec 32 := 128#32
  let v1824 : BitVec 32 := Scalar.muli arg19 c128_i32_586
  let v1825 : BitVec 32 := v1824
  let v1826 : Index := Scalar.indexCast v1825
  let c0_587 : Index := 0#32
  ![v1826.toNat, 0]
def k0_off21 (k0_t2 : Fin k0_t2_loop.trips) (v1155_0 : BitVec 32) (k0_t6 : Fin (k0_t6_loop k0_t2 v1155_0).trips) : Fin 4 → Nat :=
  let c0_607 : Index := 0#32
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c2_i32_436 : BitVec 32 := 2#32
  let v1154 : BitVec 32 := Scalar.subi v523 c2_i32_436
  let v1156 : BitVec 32 := Scalar.subi v1154 v1155_0
  let c1_i32_437 : BitVec 32 := 1#32
  let v1158 : BitVec 32 := Scalar.divsi v1156 c1_i32_437
  let v1159 : BitVec 32 := Scalar.muli v1158 c1_i32_437
  let v1160 : BitVec 32 := Scalar.addi v1155_0 v1159
  let c1_i32_439 : BitVec 32 := 1#32
  let arg19 : BitVec 32 := Scf.iv v1160 c1_i32_439 k0_t6
  let v1883 : Index := Scalar.indexCast arg19
  let c0_608 : Index := 0#32
  let c0_609 : Index := 0#32
  ![0, v1883.toNat, 0, 0]
def k0_off22 (k0_t2 : Fin k0_t2_loop.trips) (v1155_0 : BitVec 32) (k0_t6 : Fin (k0_t6_loop k0_t2 v1155_0).trips) : Fin 4 → Nat :=
  let c1 : Index := 1#32
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c1_i32_204 : BitVec 32 := 1#32
  let v523 : BitVec 32 := Scalar.addi v521 c1_i32_204
  let c2_i32_436 : BitVec 32 := 2#32
  let v1154 : BitVec 32 := Scalar.subi v523 c2_i32_436
  let v1156 : BitVec 32 := Scalar.subi v1154 v1155_0
  let c1_i32_437 : BitVec 32 := 1#32
  let v1158 : BitVec 32 := Scalar.divsi v1156 c1_i32_437
  let v1159 : BitVec 32 := Scalar.muli v1158 c1_i32_437
  let v1160 : BitVec 32 := Scalar.addi v1155_0 v1159
  let c1_i32_439 : BitVec 32 := 1#32
  let arg19 : BitVec 32 := Scf.iv v1160 c1_i32_439 k0_t6
  let v1886 : Index := Scalar.indexCast arg19
  let c0_610 : Index := 0#32
  let c0_611 : Index := 0#32
  ![1, v1886.toNat, 0, 0]

def k0_chk4 (k0_t2 : Fin k0_t2_loop.trips) (v1155_0 : BitVec 32) : Prop :=
  ((k0_t5_loop k0_t2 v1155_0).OK) ∧
  (∀ k0_t5 : Fin (k0_t5_loop k0_t2 v1155_0).trips, 128 ∣ (k0_mult19 k0_t2 v1155_0 k0_t5).toNat) ∧
  (∀ k0_t5 : Fin (k0_t5_loop k0_t2 v1155_0).trips, ∀ a, (k0_off17 k0_t2 v1155_0 k0_t5) a + S128x128.size a ≤ S4096x128.size a) ∧
  (∀ k0_t5 : Fin (k0_t5_loop k0_t2 v1155_0).trips, ∀ a, (k0_off18 k0_t2 v1155_0 k0_t5) a + S1x1x128x1.size a ≤ S2x32x128x1.size a) ∧
  (∀ k0_t5 : Fin (k0_t5_loop k0_t2 v1155_0).trips, ∀ a, (k0_off19 k0_t2 v1155_0 k0_t5) a + S1x1x128x1.size a ≤ S2x32x128x1.size a) ∧
  ((k0_t6_loop k0_t2 v1155_0).OK) ∧
  (∀ k0_t6 : Fin (k0_t6_loop k0_t2 v1155_0).trips, 128 ∣ (k0_mult20 k0_t2 v1155_0 k0_t6).toNat) ∧
  (∀ k0_t6 : Fin (k0_t6_loop k0_t2 v1155_0).trips, ∀ a, (k0_off20 k0_t2 v1155_0 k0_t6) a + S128x128.size a ≤ S4096x128.size a) ∧
  (∀ k0_t6 : Fin (k0_t6_loop k0_t2 v1155_0).trips, ∀ a, (k0_off21 k0_t2 v1155_0 k0_t6) a + S1x1x128x1.size a ≤ S2x32x128x1.size a) ∧
  (∀ k0_t6 : Fin (k0_t6_loop k0_t2 v1155_0).trips, ∀ a, (k0_off22 k0_t2 v1155_0 k0_t6) a + S1x1x128x1.size a ≤ S2x32x128x1.size a)
theorem k0_t5_ok : ∀ (k0_t2 : Fin k0_t2_loop.trips) (v1155_0 : BitVec 32) (k0_hw4 : k0_chk4 k0_t2 v1155_0), (k0_t5_loop k0_t2 v1155_0).OK := fun k0_t2 v1155_0 k0_hw4 => k0_hw4.1
theorem k0_mult19_dvd : ∀ (k0_t2 : Fin k0_t2_loop.trips) (v1155_0 : BitVec 32) (k0_hw4 : k0_chk4 k0_t2 v1155_0) (k0_t5 : Fin (k0_t5_loop k0_t2 v1155_0).trips), 128 ∣ (k0_mult19 k0_t2 v1155_0 k0_t5).toNat := fun k0_t2 v1155_0 k0_hw4 k0_t5 => k0_hw4.2.1 k0_t5
theorem k0_off17_inb : ∀ (k0_t2 : Fin k0_t2_loop.trips) (v1155_0 : BitVec 32) (k0_hw4 : k0_chk4 k0_t2 v1155_0) (k0_t5 : Fin (k0_t5_loop k0_t2 v1155_0).trips), ∀ a, (k0_off17 k0_t2 v1155_0 k0_t5) a + S128x128.size a ≤ S4096x128.size a := fun k0_t2 v1155_0 k0_hw4 k0_t5 => k0_hw4.2.2.1 k0_t5
theorem k0_off18_inb : ∀ (k0_t2 : Fin k0_t2_loop.trips) (v1155_0 : BitVec 32) (k0_hw4 : k0_chk4 k0_t2 v1155_0) (k0_t5 : Fin (k0_t5_loop k0_t2 v1155_0).trips), ∀ a, (k0_off18 k0_t2 v1155_0 k0_t5) a + S1x1x128x1.size a ≤ S2x32x128x1.size a := fun k0_t2 v1155_0 k0_hw4 k0_t5 => k0_hw4.2.2.2.1 k0_t5
theorem k0_off19_inb : ∀ (k0_t2 : Fin k0_t2_loop.trips) (v1155_0 : BitVec 32) (k0_hw4 : k0_chk4 k0_t2 v1155_0) (k0_t5 : Fin (k0_t5_loop k0_t2 v1155_0).trips), ∀ a, (k0_off19 k0_t2 v1155_0 k0_t5) a + S1x1x128x1.size a ≤ S2x32x128x1.size a := fun k0_t2 v1155_0 k0_hw4 k0_t5 => k0_hw4.2.2.2.2.1 k0_t5
theorem k0_t6_ok : ∀ (k0_t2 : Fin k0_t2_loop.trips) (v1155_0 : BitVec 32) (k0_hw4 : k0_chk4 k0_t2 v1155_0), (k0_t6_loop k0_t2 v1155_0).OK := fun k0_t2 v1155_0 k0_hw4 => k0_hw4.2.2.2.2.2.1
theorem k0_mult20_dvd : ∀ (k0_t2 : Fin k0_t2_loop.trips) (v1155_0 : BitVec 32) (k0_hw4 : k0_chk4 k0_t2 v1155_0) (k0_t6 : Fin (k0_t6_loop k0_t2 v1155_0).trips), 128 ∣ (k0_mult20 k0_t2 v1155_0 k0_t6).toNat := fun k0_t2 v1155_0 k0_hw4 k0_t6 => k0_hw4.2.2.2.2.2.2.1 k0_t6
theorem k0_off20_inb : ∀ (k0_t2 : Fin k0_t2_loop.trips) (v1155_0 : BitVec 32) (k0_hw4 : k0_chk4 k0_t2 v1155_0) (k0_t6 : Fin (k0_t6_loop k0_t2 v1155_0).trips), ∀ a, (k0_off20 k0_t2 v1155_0 k0_t6) a + S128x128.size a ≤ S4096x128.size a := fun k0_t2 v1155_0 k0_hw4 k0_t6 => k0_hw4.2.2.2.2.2.2.2.1 k0_t6
theorem k0_off21_inb : ∀ (k0_t2 : Fin k0_t2_loop.trips) (v1155_0 : BitVec 32) (k0_hw4 : k0_chk4 k0_t2 v1155_0) (k0_t6 : Fin (k0_t6_loop k0_t2 v1155_0).trips), ∀ a, (k0_off21 k0_t2 v1155_0 k0_t6) a + S1x1x128x1.size a ≤ S2x32x128x1.size a := fun k0_t2 v1155_0 k0_hw4 k0_t6 => k0_hw4.2.2.2.2.2.2.2.2.1 k0_t6
theorem k0_off22_inb : ∀ (k0_t2 : Fin k0_t2_loop.trips) (v1155_0 : BitVec 32) (k0_hw4 : k0_chk4 k0_t2 v1155_0) (k0_t6 : Fin (k0_t6_loop k0_t2 v1155_0).trips), ∀ a, (k0_off22 k0_t2 v1155_0 k0_t6) a + S1x1x128x1.size a ≤ S2x32x128x1.size a := fun k0_t2 v1155_0 k0_hw4 k0_t6 => k0_hw4.2.2.2.2.2.2.2.2.2 k0_t6

def k0_off23 (arg19 : BitVec 32) : Fin 4 → Nat :=
  let c0_587 : Index := 0#32
  let c1_i32_586 : BitVec 32 := 1#32
  let v1824 : BitVec 32 := Scalar.subi arg19 c1_i32_586
  let v1825 : Index := Scalar.indexCast v1824
  let c0_588 : Index := 0#32
  let c0_589 : Index := 0#32
  ![0, v1825.toNat, 0, 0]

def k0_off24 (arg19 : BitVec 32) : Fin 4 → Nat :=
  let c1 : Index := 1#32
  let c1_i32_586 : BitVec 32 := 1#32
  let v1824 : BitVec 32 := Scalar.subi arg19 c1_i32_586
  let v1829 : Index := Scalar.indexCast v1824
  let c0_590 : Index := 0#32
  let c0_591 : Index := 0#32
  ![1, v1829.toNat, 0, 0]
def k0_mult21 (arg19 : BitVec 32) : BitVec 32 :=
  let c1_i32_586 : BitVec 32 := 1#32
  let v1824 : BitVec 32 := Scalar.subi arg19 c1_i32_586
  let c128_i32_592 : BitVec 32 := 128#32
  let v1833 : BitVec 32 := Scalar.muli v1824 c128_i32_592
  v1833
def k0_off25 (arg19 : BitVec 32) : Fin 2 → Nat :=
  let c1_i32_586 : BitVec 32 := 1#32
  let v1824 : BitVec 32 := Scalar.subi arg19 c1_i32_586
  let c128_i32_592 : BitVec 32 := 128#32
  let v1833 : BitVec 32 := Scalar.muli v1824 c128_i32_592
  let v1834 : BitVec 32 := v1833
  let v1835 : Index := Scalar.indexCast v1834
  let c0_593 : Index := 0#32
  ![v1835.toNat, 0]

def k0_chk5 (arg19 : BitVec 32) : Prop :=
  (∀ a, (k0_off23 arg19) a + S1x1x128x1.size a ≤ S2x32x128x1.size a) ∧
  (∀ a, (k0_off24 arg19) a + S1x1x128x1.size a ≤ S2x32x128x1.size a) ∧
  (128 ∣ (k0_mult21 arg19).toNat) ∧
  (∀ a, (k0_off25 arg19) a + S128x128.size a ≤ S4096x128.size a)
theorem k0_off23_inb : ∀ (arg19 : BitVec 32) (k0_hw5 : k0_chk5 arg19), ∀ a, (k0_off23 arg19) a + S1x1x128x1.size a ≤ S2x32x128x1.size a := fun arg19 k0_hw5 => k0_hw5.1
theorem k0_off24_inb : ∀ (arg19 : BitVec 32) (k0_hw5 : k0_chk5 arg19), ∀ a, (k0_off24 arg19) a + S1x1x128x1.size a ≤ S2x32x128x1.size a := fun arg19 k0_hw5 => k0_hw5.2.1
theorem k0_mult21_dvd : ∀ (arg19 : BitVec 32) (k0_hw5 : k0_chk5 arg19), 128 ∣ (k0_mult21 arg19).toNat := fun arg19 k0_hw5 => k0_hw5.2.2.1
theorem k0_off25_inb : ∀ (arg19 : BitVec 32) (k0_hw5 : k0_chk5 arg19), ∀ a, (k0_off25 arg19) a + S128x128.size a ≤ S4096x128.size a := fun arg19 k0_hw5 => k0_hw5.2.2.2

@[reducible] def k0_t7_loop (k0_t2 : Fin k0_t2_loop.trips) (v1171_0 : BitVec 32) : Scf.Loop 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c2_i32_441 : BitVec 32 := 2#32
  let v1170 : BitVec 32 := Scalar.subi v524 c2_i32_441
  let v1172 : BitVec 32 := Scalar.subi v1170 v1171_0
  let c1_i32_442 : BitVec 32 := 1#32
  let v1174 : BitVec 32 := Scalar.divsi v1172 c1_i32_442
  let v1175 : BitVec 32 := Scalar.muli v1174 c1_i32_442
  let v1176 : BitVec 32 := Scalar.addi v1171_0 v1175
  let c1_i32_443 : BitVec 32 := 1#32
  ⟨v1171_0, v1176, c1_i32_443⟩

def k0_mult22 (k0_t2 : Fin k0_t2_loop.trips) (v1171_0 : BitVec 32) (k0_t7 : Fin (k0_t7_loop k0_t2 v1171_0).trips) : BitVec 32 :=
  let c1_i32_443 : BitVec 32 := 1#32
  let arg19 : BitVec 32 := Scf.iv v1171_0 c1_i32_443 k0_t7
  let c128_i32_586 : BitVec 32 := 128#32
  let v1824 : BitVec 32 := Scalar.muli arg19 c128_i32_586
  v1824
def k0_off26 (k0_t2 : Fin k0_t2_loop.trips) (v1171_0 : BitVec 32) (k0_t7 : Fin (k0_t7_loop k0_t2 v1171_0).trips) : Fin 2 → Nat :=
  let c1_i32_443 : BitVec 32 := 1#32
  let arg19 : BitVec 32 := Scf.iv v1171_0 c1_i32_443 k0_t7
  let c128_i32_586 : BitVec 32 := 128#32
  let v1824 : BitVec 32 := Scalar.muli arg19 c128_i32_586
  let v1825 : BitVec 32 := v1824
  let v1826 : Index := Scalar.indexCast v1825
  let c0_587 : Index := 0#32
  ![v1826.toNat, 0]
def k0_off27 (k0_t2 : Fin k0_t2_loop.trips) (v1171_0 : BitVec 32) (k0_t7 : Fin (k0_t7_loop k0_t2 v1171_0).trips) : Fin 4 → Nat :=
  let c0_607 : Index := 0#32
  let c1_i32_443 : BitVec 32 := 1#32
  let arg19 : BitVec 32 := Scf.iv v1171_0 c1_i32_443 k0_t7
  let v1883 : Index := Scalar.indexCast arg19
  let c0_608 : Index := 0#32
  let c0_609 : Index := 0#32
  ![0, v1883.toNat, 0, 0]
def k0_off28 (k0_t2 : Fin k0_t2_loop.trips) (v1171_0 : BitVec 32) (k0_t7 : Fin (k0_t7_loop k0_t2 v1171_0).trips) : Fin 4 → Nat :=
  let c1 : Index := 1#32
  let c1_i32_443 : BitVec 32 := 1#32
  let arg19 : BitVec 32 := Scf.iv v1171_0 c1_i32_443 k0_t7
  let v1886 : Index := Scalar.indexCast arg19
  let c0_610 : Index := 0#32
  let c0_611 : Index := 0#32
  ![1, v1886.toNat, 0, 0]
@[reducible] def k0_t8_loop (k0_t2 : Fin k0_t2_loop.trips) (v1171_0 : BitVec 32) : Scf.Loop 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c2_i32_441 : BitVec 32 := 2#32
  let v1170 : BitVec 32 := Scalar.subi v524 c2_i32_441
  let v1172 : BitVec 32 := Scalar.subi v1170 v1171_0
  let c1_i32_442 : BitVec 32 := 1#32
  let v1174 : BitVec 32 := Scalar.divsi v1172 c1_i32_442
  let v1175 : BitVec 32 := Scalar.muli v1174 c1_i32_442
  let v1176 : BitVec 32 := Scalar.addi v1171_0 v1175
  let v1173 : BitVec 32 := Scalar.addi v1171_0 v1172
  let c1_i32_444 : BitVec 32 := 1#32
  ⟨v1176, v1173, c1_i32_444⟩
def k0_mult23 (k0_t2 : Fin k0_t2_loop.trips) (v1171_0 : BitVec 32) (k0_t8 : Fin (k0_t8_loop k0_t2 v1171_0).trips) : BitVec 32 :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c2_i32_441 : BitVec 32 := 2#32
  let v1170 : BitVec 32 := Scalar.subi v524 c2_i32_441
  let v1172 : BitVec 32 := Scalar.subi v1170 v1171_0
  let c1_i32_442 : BitVec 32 := 1#32
  let v1174 : BitVec 32 := Scalar.divsi v1172 c1_i32_442
  let v1175 : BitVec 32 := Scalar.muli v1174 c1_i32_442
  let v1176 : BitVec 32 := Scalar.addi v1171_0 v1175
  let c1_i32_444 : BitVec 32 := 1#32
  let arg19 : BitVec 32 := Scf.iv v1176 c1_i32_444 k0_t8
  let c128_i32_586 : BitVec 32 := 128#32
  let v1824 : BitVec 32 := Scalar.muli arg19 c128_i32_586
  v1824
def k0_off29 (k0_t2 : Fin k0_t2_loop.trips) (v1171_0 : BitVec 32) (k0_t8 : Fin (k0_t8_loop k0_t2 v1171_0).trips) : Fin 2 → Nat :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c2_i32_441 : BitVec 32 := 2#32
  let v1170 : BitVec 32 := Scalar.subi v524 c2_i32_441
  let v1172 : BitVec 32 := Scalar.subi v1170 v1171_0
  let c1_i32_442 : BitVec 32 := 1#32
  let v1174 : BitVec 32 := Scalar.divsi v1172 c1_i32_442
  let v1175 : BitVec 32 := Scalar.muli v1174 c1_i32_442
  let v1176 : BitVec 32 := Scalar.addi v1171_0 v1175
  let c1_i32_444 : BitVec 32 := 1#32
  let arg19 : BitVec 32 := Scf.iv v1176 c1_i32_444 k0_t8
  let c128_i32_586 : BitVec 32 := 128#32
  let v1824 : BitVec 32 := Scalar.muli arg19 c128_i32_586
  let v1825 : BitVec 32 := v1824
  let v1826 : Index := Scalar.indexCast v1825
  let c0_587 : Index := 0#32
  ![v1826.toNat, 0]
def k0_off30 (k0_t2 : Fin k0_t2_loop.trips) (v1171_0 : BitVec 32) (k0_t8 : Fin (k0_t8_loop k0_t2 v1171_0).trips) : Fin 4 → Nat :=
  let c0_607 : Index := 0#32
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c2_i32_441 : BitVec 32 := 2#32
  let v1170 : BitVec 32 := Scalar.subi v524 c2_i32_441
  let v1172 : BitVec 32 := Scalar.subi v1170 v1171_0
  let c1_i32_442 : BitVec 32 := 1#32
  let v1174 : BitVec 32 := Scalar.divsi v1172 c1_i32_442
  let v1175 : BitVec 32 := Scalar.muli v1174 c1_i32_442
  let v1176 : BitVec 32 := Scalar.addi v1171_0 v1175
  let c1_i32_444 : BitVec 32 := 1#32
  let arg19 : BitVec 32 := Scf.iv v1176 c1_i32_444 k0_t8
  let v1883 : Index := Scalar.indexCast arg19
  let c0_608 : Index := 0#32
  let c0_609 : Index := 0#32
  ![0, v1883.toNat, 0, 0]
def k0_off31 (k0_t2 : Fin k0_t2_loop.trips) (v1171_0 : BitVec 32) (k0_t8 : Fin (k0_t8_loop k0_t2 v1171_0).trips) : Fin 4 → Nat :=
  let c1 : Index := 1#32
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let c2_i32_205 : BitVec 32 := 2#32
  let v524 : BitVec 32 := Scalar.addi v521 c2_i32_205
  let c2_i32_441 : BitVec 32 := 2#32
  let v1170 : BitVec 32 := Scalar.subi v524 c2_i32_441
  let v1172 : BitVec 32 := Scalar.subi v1170 v1171_0
  let c1_i32_442 : BitVec 32 := 1#32
  let v1174 : BitVec 32 := Scalar.divsi v1172 c1_i32_442
  let v1175 : BitVec 32 := Scalar.muli v1174 c1_i32_442
  let v1176 : BitVec 32 := Scalar.addi v1171_0 v1175
  let c1_i32_444 : BitVec 32 := 1#32
  let arg19 : BitVec 32 := Scf.iv v1176 c1_i32_444 k0_t8
  let v1886 : Index := Scalar.indexCast arg19
  let c0_610 : Index := 0#32
  let c0_611 : Index := 0#32
  ![1, v1886.toNat, 0, 0]

def k0_chk6 (k0_t2 : Fin k0_t2_loop.trips) (v1171_0 : BitVec 32) : Prop :=
  ((k0_t7_loop k0_t2 v1171_0).OK) ∧
  (∀ k0_t7 : Fin (k0_t7_loop k0_t2 v1171_0).trips, 128 ∣ (k0_mult22 k0_t2 v1171_0 k0_t7).toNat) ∧
  (∀ k0_t7 : Fin (k0_t7_loop k0_t2 v1171_0).trips, ∀ a, (k0_off26 k0_t2 v1171_0 k0_t7) a + S128x128.size a ≤ S4096x128.size a) ∧
  (∀ k0_t7 : Fin (k0_t7_loop k0_t2 v1171_0).trips, ∀ a, (k0_off27 k0_t2 v1171_0 k0_t7) a + S1x1x128x1.size a ≤ S2x32x128x1.size a) ∧
  (∀ k0_t7 : Fin (k0_t7_loop k0_t2 v1171_0).trips, ∀ a, (k0_off28 k0_t2 v1171_0 k0_t7) a + S1x1x128x1.size a ≤ S2x32x128x1.size a) ∧
  ((k0_t8_loop k0_t2 v1171_0).OK) ∧
  (∀ k0_t8 : Fin (k0_t8_loop k0_t2 v1171_0).trips, 128 ∣ (k0_mult23 k0_t2 v1171_0 k0_t8).toNat) ∧
  (∀ k0_t8 : Fin (k0_t8_loop k0_t2 v1171_0).trips, ∀ a, (k0_off29 k0_t2 v1171_0 k0_t8) a + S128x128.size a ≤ S4096x128.size a) ∧
  (∀ k0_t8 : Fin (k0_t8_loop k0_t2 v1171_0).trips, ∀ a, (k0_off30 k0_t2 v1171_0 k0_t8) a + S1x1x128x1.size a ≤ S2x32x128x1.size a) ∧
  (∀ k0_t8 : Fin (k0_t8_loop k0_t2 v1171_0).trips, ∀ a, (k0_off31 k0_t2 v1171_0 k0_t8) a + S1x1x128x1.size a ≤ S2x32x128x1.size a)
theorem k0_t7_ok : ∀ (k0_t2 : Fin k0_t2_loop.trips) (v1171_0 : BitVec 32) (k0_hw6 : k0_chk6 k0_t2 v1171_0), (k0_t7_loop k0_t2 v1171_0).OK := fun k0_t2 v1171_0 k0_hw6 => k0_hw6.1
theorem k0_mult22_dvd : ∀ (k0_t2 : Fin k0_t2_loop.trips) (v1171_0 : BitVec 32) (k0_hw6 : k0_chk6 k0_t2 v1171_0) (k0_t7 : Fin (k0_t7_loop k0_t2 v1171_0).trips), 128 ∣ (k0_mult22 k0_t2 v1171_0 k0_t7).toNat := fun k0_t2 v1171_0 k0_hw6 k0_t7 => k0_hw6.2.1 k0_t7
theorem k0_off26_inb : ∀ (k0_t2 : Fin k0_t2_loop.trips) (v1171_0 : BitVec 32) (k0_hw6 : k0_chk6 k0_t2 v1171_0) (k0_t7 : Fin (k0_t7_loop k0_t2 v1171_0).trips), ∀ a, (k0_off26 k0_t2 v1171_0 k0_t7) a + S128x128.size a ≤ S4096x128.size a := fun k0_t2 v1171_0 k0_hw6 k0_t7 => k0_hw6.2.2.1 k0_t7
theorem k0_off27_inb : ∀ (k0_t2 : Fin k0_t2_loop.trips) (v1171_0 : BitVec 32) (k0_hw6 : k0_chk6 k0_t2 v1171_0) (k0_t7 : Fin (k0_t7_loop k0_t2 v1171_0).trips), ∀ a, (k0_off27 k0_t2 v1171_0 k0_t7) a + S1x1x128x1.size a ≤ S2x32x128x1.size a := fun k0_t2 v1171_0 k0_hw6 k0_t7 => k0_hw6.2.2.2.1 k0_t7
theorem k0_off28_inb : ∀ (k0_t2 : Fin k0_t2_loop.trips) (v1171_0 : BitVec 32) (k0_hw6 : k0_chk6 k0_t2 v1171_0) (k0_t7 : Fin (k0_t7_loop k0_t2 v1171_0).trips), ∀ a, (k0_off28 k0_t2 v1171_0 k0_t7) a + S1x1x128x1.size a ≤ S2x32x128x1.size a := fun k0_t2 v1171_0 k0_hw6 k0_t7 => k0_hw6.2.2.2.2.1 k0_t7
theorem k0_t8_ok : ∀ (k0_t2 : Fin k0_t2_loop.trips) (v1171_0 : BitVec 32) (k0_hw6 : k0_chk6 k0_t2 v1171_0), (k0_t8_loop k0_t2 v1171_0).OK := fun k0_t2 v1171_0 k0_hw6 => k0_hw6.2.2.2.2.2.1
theorem k0_mult23_dvd : ∀ (k0_t2 : Fin k0_t2_loop.trips) (v1171_0 : BitVec 32) (k0_hw6 : k0_chk6 k0_t2 v1171_0) (k0_t8 : Fin (k0_t8_loop k0_t2 v1171_0).trips), 128 ∣ (k0_mult23 k0_t2 v1171_0 k0_t8).toNat := fun k0_t2 v1171_0 k0_hw6 k0_t8 => k0_hw6.2.2.2.2.2.2.1 k0_t8
theorem k0_off29_inb : ∀ (k0_t2 : Fin k0_t2_loop.trips) (v1171_0 : BitVec 32) (k0_hw6 : k0_chk6 k0_t2 v1171_0) (k0_t8 : Fin (k0_t8_loop k0_t2 v1171_0).trips), ∀ a, (k0_off29 k0_t2 v1171_0 k0_t8) a + S128x128.size a ≤ S4096x128.size a := fun k0_t2 v1171_0 k0_hw6 k0_t8 => k0_hw6.2.2.2.2.2.2.2.1 k0_t8
theorem k0_off30_inb : ∀ (k0_t2 : Fin k0_t2_loop.trips) (v1171_0 : BitVec 32) (k0_hw6 : k0_chk6 k0_t2 v1171_0) (k0_t8 : Fin (k0_t8_loop k0_t2 v1171_0).trips), ∀ a, (k0_off30 k0_t2 v1171_0 k0_t8) a + S1x1x128x1.size a ≤ S2x32x128x1.size a := fun k0_t2 v1171_0 k0_hw6 k0_t8 => k0_hw6.2.2.2.2.2.2.2.2.1 k0_t8
theorem k0_off31_inb : ∀ (k0_t2 : Fin k0_t2_loop.trips) (v1171_0 : BitVec 32) (k0_hw6 : k0_chk6 k0_t2 v1171_0) (k0_t8 : Fin (k0_t8_loop k0_t2 v1171_0).trips), ∀ a, (k0_off31 k0_t2 v1171_0 k0_t8) a + S1x1x128x1.size a ≤ S2x32x128x1.size a := fun k0_t2 v1171_0 k0_hw6 k0_t8 => k0_hw6.2.2.2.2.2.2.2.2.2 k0_t8

def k0_off32 (k0_t2 : Fin k0_t2_loop.trips) (c0_i32_203 : BitVec 32) (c0_i32_212 : BitVec 32) : Fin 2 → Nat :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let v522 : BitVec 32 := Scalar.addi v521 c0_i32_203
  let v543 : BitVec 32 := Scalar.subi v522 c0_i32_212
  let c128_i32_213 : BitVec 32 := 128#32
  let v544 : BitVec 32 := Scalar.muli v543 c128_i32_213
  let v545 : BitVec 32 := v544
  let v1629 : Index := Scalar.indexCast v545
  let c0_526 : Index := 0#32
  ![v1629.toNat, 0]
def k0_off33 (k0_t2 : Fin k0_t2_loop.trips) (c0_i32_203 : BitVec 32) : Fin 2 → Nat :=
  let c2_i32_202 : BitVec 32 := 2#32
  let c3_i32 : BitVec 32 := 3#32
  let c0_i32_191 : BitVec 32 := 0#32
  let c1_i32_192 : BitVec 32 := 1#32
  let arg18 : BitVec 32 := Scf.iv c0_i32_191 c1_i32_192 k0_t2
  let v520 : BitVec 32 := Scalar.muli c3_i32 arg18
  let v521 : BitVec 32 := Scalar.addi c2_i32_202 v520
  let v522 : BitVec 32 := Scalar.addi v521 c0_i32_203
  let c128_i32 : BitVec 32 := 128#32
  let v525 : BitVec 32 := Scalar.muli v522 c128_i32
  let v526 : BitVec 32 := v525
  let v1812 : Index := Scalar.indexCast v526
  let c0_581 : Index := 0#32
  ![v1812.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S4096x512 : Shape := ⟨2, ![4096, 512]⟩
abbrev S4x128x128 : Shape := ⟨3, ![4, 128, 128]⟩
abbrev S512 : Shape := ⟨1, ![512]⟩
abbrev S4096 : Shape := ⟨1, ![4096]⟩
abbrev S4096x128 : Shape := ⟨2, ![4096, 128]⟩
abbrev S_ : Shape := ⟨0, ![]⟩
abbrev S4098x128 : Shape := ⟨2, ![4098, 128]⟩
abbrev S4096x1 : Shape := ⟨2, ![4096, 1]⟩
abbrev S4100x128 : Shape := ⟨2, ![4100, 128]⟩
abbrev S4104x128 : Shape := ⟨2, ![4104, 128]⟩
abbrev S4112x128 : Shape := ⟨2, ![4112, 128]⟩
abbrev S4096x1x128 : Shape := ⟨3, ![4096, 1, 128]⟩
abbrev S4096x4x128 : Shape := ⟨3, ![4096, 4, 128]⟩
abbrev S4x128x4096 : Shape := ⟨3, ![4, 128, 4096]⟩
abbrev S1x512 : Shape := ⟨2, ![1, 512]⟩
abbrev S8x512 : Shape := ⟨2, ![8, 512]⟩

abbrev nBuf : Space → Nat
  | .hbm => 117
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4x128x128, .f32⟩
  | .hbm, ⟨7, _⟩ => ⟨S512, .f32⟩
  | .hbm, ⟨8, _⟩ => ⟨S4096, .i32⟩
  | .hbm, ⟨9, _⟩ => ⟨S4096x128, .f32⟩
  | .hbm, ⟨10, _⟩ => ⟨S_, .f32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4098x128, .f32⟩
  | .hbm, ⟨16, _⟩ => ⟨S4096x128, .f32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S4096x1, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S_, .f32⟩
  | .hbm, ⟨32, _⟩ => ⟨S4096x128, .f32⟩
  | .hbm, ⟨33, _⟩ => ⟨S_, .i32⟩
  | .hbm, ⟨34, _⟩ => ⟨S_, .f32⟩
  | .hbm, ⟨35, _⟩ => ⟨S4100x128, .f32⟩
  | .hbm, ⟨36, _⟩ => ⟨S4096x128, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .f32⟩
  | .hbm, ⟨44, _⟩ => ⟨S4096x1, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S_, .f32⟩
  | .hbm, ⟨52, _⟩ => ⟨S4096x128, .f32⟩
  | .hbm, ⟨53, _⟩ => ⟨S_, .i32⟩
  | .hbm, ⟨54, _⟩ => ⟨S_, .f32⟩
  | .hbm, ⟨55, _⟩ => ⟨S4104x128, .f32⟩
  | .hbm, ⟨56, _⟩ => ⟨S4096x128, .f32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .f32⟩
  | .hbm, ⟨64, _⟩ => ⟨S4096x1, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S4096x128, .f32⟩
  | .hbm, ⟨70, _⟩ => ⟨S_, .f32⟩
  | .hbm, ⟨71, _⟩ => ⟨S_, .f32⟩
  | .hbm, ⟨72, _⟩ => ⟨S4096x128, .f32⟩
  | .hbm, ⟨73, _⟩ => ⟨S_, .i32⟩
  | .hbm, ⟨74, _⟩ => ⟨S_, .f32⟩
  | .hbm, ⟨75, _⟩ => ⟨S4112x128, .f32⟩
  | .hbm, ⟨76, _⟩ => ⟨S4096x128, .f32⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S4096, .f32⟩
  | .hbm, ⟨84, _⟩ => ⟨S4096x1, .f32⟩
  | .hbm, ⟨85, _⟩ => ⟨S4096x128, .f32⟩
  | .hbm, ⟨86, _⟩ => ⟨S4096x128, .f32⟩
  | .hbm, ⟨87, _⟩ => ⟨S4096x128, .f32⟩
  | .hbm, ⟨88, _⟩ => ⟨S4096x128, .f32⟩
  | .hbm, ⟨89, _⟩ => ⟨S4096x1x128, .f32⟩
  | .hbm, ⟨90, _⟩ => ⟨S4096x1x128, .f32⟩
  | .hbm, ⟨91, _⟩ => ⟨S4096x1x128, .f32⟩
  | .hbm, ⟨92, _⟩ => ⟨S4096x1x128, .f32⟩
  | .hbm, ⟨93, _⟩ => ⟨S4096x4x128, .f32⟩
  | .hbm, ⟨94, _⟩ => ⟨S4x128x4096, .f32⟩
  | .hbm, ⟨95, _⟩ => ⟨S4096x4x128, .f32⟩
  | .hbm, ⟨96, _⟩ => ⟨S4096x512, .f32⟩
  | .hbm, ⟨97, _⟩ => ⟨S1x512, .f32⟩
  | .hbm, ⟨98, _⟩ => ⟨S4096x512, .f32⟩
  | .hbm, ⟨99, _⟩ => ⟨S4096x512, .f32⟩
  | .hbm, ⟨100, _⟩ => ⟨S4096x512, .f32⟩
  | .hbm, ⟨101, _⟩ => ⟨S_, .f32⟩
  | .hbm, ⟨102, _⟩ => ⟨S512, .f32⟩
  | .hbm, ⟨103, _⟩ => ⟨S1x512, .f32⟩
  | .hbm, ⟨104, _⟩ => ⟨S4096x512, .f32⟩
  | .hbm, ⟨105, _⟩ => ⟨S4096x512, .f32⟩
  | .hbm, ⟨106, _⟩ => ⟨S_, .f32⟩
  | .hbm, ⟨107, _⟩ => ⟨S512, .f32⟩
  | .hbm, ⟨108, _⟩ => ⟨S4096x4x128, .f32⟩
  | .hbm, ⟨109, _⟩ => ⟨S4x128x4096, .f32⟩
  | .hbm, ⟨110, _⟩ => ⟨S4x128x128, .f32⟩
  | .hbm, ⟨111, _⟩ => ⟨S4x128x128, .f32⟩
  | .hbm, ⟨112, _⟩ => ⟨S1x512, .f32⟩
  | .hbm, ⟨113, _⟩ => ⟨S_, .i32⟩
  | .hbm, ⟨114, _⟩ => ⟨S_, .f32⟩
  | .hbm, ⟨115, _⟩ => ⟨S8x512, .f32⟩
  | .hbm, ⟨116, _⟩ => ⟨S4x128x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_call0_cst : Ref sig .tc := ⟨.hbm, 10, rfl⟩
abbrev main_call0_call0_v0 : Ref sig .tc := ⟨.hbm, 11, rfl⟩
abbrev main_v2 : Ref sig .tc := ⟨.hbm, 12, rfl⟩
abbrev main_c : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call2_call0_cst : Ref sig .tc := ⟨.hbm, 30, rfl⟩
abbrev main_call2_call0_v0 : Ref sig .tc := ⟨.hbm, 31, rfl⟩
abbrev main_v16 : Ref sig .tc := ⟨.hbm, 32, rfl⟩
abbrev main_c_2 : Ref sig .tc := ⟨.hbm, 33, rfl⟩
abbrev main_call3_v0 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call4_call0_cst : Ref sig .tc := ⟨.hbm, 50, rfl⟩
abbrev main_call4_call0_v0 : Ref sig .tc := ⟨.hbm, 51, rfl⟩
abbrev main_v30 : Ref sig .tc := ⟨.hbm, 52, rfl⟩
abbrev main_c_5 : Ref sig .tc := ⟨.hbm, 53, rfl⟩
abbrev main_call5_v0 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call6_call0_cst : Ref sig .tc := ⟨.hbm, 70, rfl⟩
abbrev main_call6_call0_v0 : Ref sig .tc := ⟨.hbm, 71, rfl⟩
abbrev main_v44 : Ref sig .tc := ⟨.hbm, 72, rfl⟩
abbrev main_c_8 : Ref sig .tc := ⟨.hbm, 73, rfl⟩
abbrev main_call7_v0 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_12 : Ref sig .tc := ⟨.hbm, 113, rfl⟩
abbrev main_call8_v0 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Mlp.lean ====
abbrev S4096x1024 : Shape := ⟨2, ![4096, 1024]⟩
abbrev S4096x512 : Shape := ⟨2, ![4096, 512]⟩
abbrev S512 : Shape := ⟨1, ![512]⟩
abbrev S1024 : Shape := ⟨1, ![1024]⟩
abbrev S1024x1024 : Shape := ⟨2, ![1024, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x512 : Shape := ⟨2, ![1, 512]⟩
abbrev S1x1024 : Shape := ⟨2, ![1, 1024]⟩
abbrev S4096x4096 : Shape := ⟨2, ![4096, 4096]⟩
abbrev S8x1024 : Shape := ⟨2, ![8, 1024]⟩
abbrev S256x1024 : Shape := ⟨2, ![256, 1024]⟩
abbrev S256x512 : Shape := ⟨2, ![256, 512]⟩
abbrev S256x4096 : Shape := ⟨2, ![256, 4096]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S512x1024 : Shape := ⟨2, ![512, 1024]⟩
abbrev S1x1 : Shape := ⟨2, ![1, 1]⟩

abbrev nBuf : Space → Nat
  | .hbm => 30
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S512, .f32⟩
  | .hbm, ⟨5, _⟩ => ⟨S512, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S1024x8x512, .f32⟩
  | .hbm, ⟨12, _⟩ => ⟨S8x1024x512, .f32⟩
  | .hbm, ⟨13, _⟩ => ⟨S8x1024x512, .bf16⟩
  | .hbm, ⟨14, _⟩ => ⟨S1x512, .f32⟩
  | .hbm, ⟨15, _⟩ => ⟨S1x512, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x4096, .bf16⟩
  | .hbm, ⟨23, _⟩ => ⟨S4096x4096, .bf16⟩
  | .hbm, ⟨24, _⟩ => ⟨S4096x1024, .bf16⟩
  | .hbm, ⟨25, _⟩ => ⟨S4096x1024, .f32⟩
  | .hbm, ⟨26, _⟩ => ⟨S4096x1024, .bf16⟩
  | .hbm, ⟨27, _⟩ => ⟨S4096x512, .f32⟩
  | .hbm, ⟨28, _⟩ => ⟨S4096x512, .f32⟩
  | .hbm, ⟨29, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S8x1024, .f32⟩
  | .local _ .vmem, ⟨31, _⟩ => ⟨S1024x1024, .bf16⟩
  | .local _ .vmem, ⟨32, _⟩ => ⟨S8x1024x512, .bf16⟩
  | .local _ .vmem, ⟨33, _⟩ => ⟨S4096x1024, .bf16⟩
  | .local _ .vmem, ⟨34, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlpRefIdeal.lean ====
abbrev S4096x1024 : Shape := ⟨2, ![4096, 1024]⟩
abbrev S4096x512 : Shape := ⟨2, ![4096, 512]⟩
abbrev S512 : Shape := ⟨1, ![512]⟩
abbrev S1024 : Shape := ⟨1, ![1024]⟩
abbrev S1024x1024 : Shape := ⟨2, ![1024, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩
abbrev S4096x4096 : Shape := ⟨2, ![4096, 4096]⟩
abbrev S4x1024 : Shape := ⟨2, ![4, 1024]⟩
abbrev S8x1024 : Shape := ⟨2, ![8, 1024]⟩

abbrev nBuf : Space → Nat
  | .hbm => 258
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x1024, .f32⟩
  | 4 => ⟨S512, .f32⟩
  | 5 => ⟨S512, .f32⟩
  | 6 => ⟨S1024, .f32⟩
  | 7 => ⟨S1024, .f32⟩
  | 8 => ⟨S1024x1024, .f32⟩
  | 9 => ⟨S1024x4096, .f32⟩
  | 10 => ⟨S4096x1024, .f32⟩
  | 11 => ⟨S4096x512, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x512, .f32⟩
  | 27 => ⟨S4096x512, .f32⟩
  | 28 => ⟨S1x512, .f32⟩
  | 29 => ⟨S4096x512, .f32⟩
  | 30 => ⟨S4096x512, .f32⟩
  | 31 => ⟨S4096x512, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x512, .f32⟩
  | 47 => ⟨S4096x512, .f32⟩
  | 48 => ⟨S1x512, .f32⟩
  | 49 => ⟨S4096x512, .f32⟩
  | 50 => ⟨S4096x512, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1024, .f32⟩
  | 70 => ⟨S4096x1024, .f32⟩
  | 71 => ⟨S1x1024, .f32⟩
  | 72 => ⟨S4096x1024, .f32⟩
  | 73 => ⟨S4096x1024, .f32⟩
  | 74 => ⟨S4096x4096, .f32⟩
  | 75 => ⟨S_, .f32⟩
  | 76 => ⟨S4096x4096, .f32⟩
  | 77 => ⟨S4096x4096, .f32⟩
  | 78 => ⟨S_, .f32⟩
  | 79 => ⟨S4096x4096, .f32⟩
  | 80 => ⟨S4096x4096, .i1⟩
  | 81 => ⟨S_, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S4096x1024, .f32⟩
  | 88 => ⟨S4096x1024, .f32⟩
  | 89 => ⟨S4096x1024, .f32⟩
  | 90 => ⟨S_, .f32⟩
  | 91 => ⟨S4096, .f32⟩
  | 92 => ⟨S4096x1, .f32⟩
  | 93 => ⟨S_, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x1, .f32⟩
  | 100 => ⟨S4096x1, .f32⟩
  | 101 => ⟨S_, .f32⟩
  | 102 => ⟨S4096x1, .f32⟩
  | 103 => ⟨S4096x1, .f32⟩
  | 104 => ⟨S4096x1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S_, .f32⟩
  | 115 => ⟨S4096, .f32⟩
  | 116 => ⟨S_, .f32⟩
  | 117 => ⟨S4096, .f32⟩
  | 118 => ⟨S4096, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S4096, .f32⟩
  | 127 => ⟨S_, .f32⟩
  | _ => ⟨S4096x1024, .f32⟩

abbrev hbmTy0_1 (i : Nat) : BufTy := match i % 128 with
  | 0 => ⟨S4096, .f32⟩
  | 1 => ⟨S4096, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S_, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S4096x1024, .f32⟩
  | 40 => ⟨S4096x1024, .f32⟩
  | 41 => ⟨S_, .f32⟩
  | 42 => ⟨S1024, .f32⟩
  | 43 => ⟨S4096x1024, .f32⟩
  | 44 => ⟨S_, .f32⟩
  | 45 => ⟨S4096, .f32⟩
  | 46 => ⟨S4096x1, .f32⟩
  | 47 => ⟨S4096x1024, .f32⟩
  | 48 => ⟨S4096x1024, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x512, .f32⟩
  | 63 => ⟨S4096x512, .f32⟩
  | 64 => ⟨S4096x512, .f32⟩
  | 65 => ⟨S_, .f32⟩
  | 66 => ⟨S512, .f32⟩
  | 67 => ⟨S1x512, .f32⟩
  | 68 => ⟨S4096x512, .f32⟩
  | 69 => ⟨S4096x512, .f32⟩
  | 70 => ⟨S_, .f32⟩
  | 71 => ⟨S512, .f32⟩
  | 72 => ⟨S4096x512, .f32⟩
  | 73 => ⟨S_, .f32⟩
  | 74 => ⟨S4096, .f32⟩
  | 75 => ⟨S4096x1, .f32⟩
  | 76 => ⟨S4096x512, .f32⟩
  | 77 => ⟨S4096x512, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S_, .f32⟩
  | 91 => ⟨S512, .f32⟩
  | 92 => ⟨S1x512, .f32⟩
  | 93 => ⟨S4096x512, .f32⟩
  | 94 => ⟨S4096x512, .f32⟩
  | 95 => ⟨S_, .f32⟩
  | 96 => ⟨S512, .f32⟩
  | 97 => ⟨S4096x512, .f32⟩
  | 98 => ⟨S_, .f32⟩
  | 99 => ⟨S4096, .f32⟩
  | 100 => ⟨S4096x1, .f32⟩
  | 101 => ⟨S4096x512, .f32⟩
  | 102 => ⟨S4096x512, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x512, .f32⟩
  | 110 => ⟨S4096x512, .f32⟩
  | 111 => ⟨S4096x512, .f32⟩
  | 112 => ⟨S4096x512, .f32⟩
  | 113 => ⟨S4096x512, .f32⟩
  | 114 => ⟨S1024, .f32⟩
  | 115 => ⟨S1024, .f32⟩
  | 116 => ⟨S1x1024, .f32⟩
  | 117 => ⟨S1x1024, .f32⟩
  | 118 => ⟨S1x1024, .f32⟩
  | 119 => ⟨S1x1024, .f32⟩
  | 120 => ⟨S4x1024, .f32⟩
  | 121 => ⟨S4096x1024, .bf16⟩
  | 122 => ⟨S4096x1024, .bf16⟩
  | 123 => ⟨S4096x4096, .bf16⟩
  | 124 => ⟨S4096x4096, .bf16⟩
  | 125 => ⟨S4096x1024, .bf16⟩
  | 126 => ⟨S4096x1024, .bf16⟩
  | 127 => ⟨S_, .i32⟩
  | _ => ⟨S4096x1024, .f32⟩

abbrev hbmTy0_2 (i : Nat) : BufTy := match i % 128 with
  | 0 => ⟨S_, .f32⟩
  | 1 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_cst : Ref sig .tc := ⟨.hbm, 75, rfl⟩
abbrev main_call0_v0 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_cst_22 : Ref sig .tc := ⟨.hbm, 121, rfl⟩
abbrev main_v85 : Ref sig .tc := ⟨.hbm, 122, rfl⟩
abbrev main_cst_23 : Ref sig .tc := ⟨.hbm, 123, rfl⟩
abbrev main_cst_24 : Ref sig .tc := ⟨.hbm, 124, rfl⟩
abbrev main_v86 : Ref sig .tc := ⟨.hbm, 125, rfl⟩
abbrev main_v87 : Ref sig .tc := ⟨.hbm, 126, rfl⟩
abbrev main_cst_25 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_26 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_27 : Ref sig .tc := ⟨.hbm, 138, rfl⟩
abbrev main_v97 : Ref sig .tc := ⟨.hbm, 139, rfl⟩
abbrev main_v98 : Ref sig .tc := ⟨.hbm, 140, rfl⟩
abbrev main_cst_28 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_29 : Ref sig .tc := ⟨.hbm, 147, rfl⟩
abbrev main_v104 : Ref sig .tc := ⟨.hbm, 148, rfl⟩
abbrev main_v105 : Ref sig .tc := ⟨.hbm, 149, rfl⟩
abbrev main_cst_30 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_31 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_32 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_33 : Ref sig .tc := ⟨.hbm, 169, rfl⟩
abbrev main_v122 : Ref sig .tc := ⟨.hbm, 170, rfl⟩
abbrev main_v123 : Ref sig .tc := ⟨.hbm, 171, rfl⟩
abbrev main_cst_34 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_35 : Ref sig .tc := ⟨.hbm, 178, rfl⟩
abbrev main_v129 : Ref sig .tc := ⟨.hbm, 179, rfl⟩
abbrev main_v130 : Ref sig .tc := ⟨.hbm, 180, rfl⟩
abbrev main_cst_36 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_37 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_38 : Ref sig .tc := ⟨.hbm, 198, rfl⟩
abbrev main_v146 : Ref sig .tc := ⟨.hbm, 199, rfl⟩
abbrev main_v147 : Ref sig .tc := ⟨.hbm, 200, rfl⟩
abbrev main_cst_39 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_40 : Ref sig .tc := ⟨.hbm, 207, rfl⟩
abbrev main_v153 : Ref sig .tc := ⟨.hbm, 208, rfl⟩
abbrev main_v154 : Ref sig .tc := ⟨.hbm, 209, rfl⟩
abbrev main_cst_41 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_42 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_43 : Ref sig .tc := ⟨.hbm, 223, rfl⟩
abbrev main_v166 : Ref sig .tc := ⟨.hbm, 224, rfl⟩
abbrev main_v167 : Ref sig .tc := ⟨.hbm, 225, rfl⟩
abbrev main_cst_44 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_45 : Ref sig .tc := ⟨.hbm, 232, rfl⟩
abbrev main_v173 : Ref sig .tc := ⟨.hbm, 233, rfl⟩
abbrev main_v174 : Ref sig .tc := ⟨.hbm, 234, rfl⟩
abbrev main_cst_46 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_c : Ref sig .tc := ⟨.hbm, 255, rfl⟩
abbrev main_call1_v0 : Ref sig .tc := ⟨.hbm, 256, rfl⟩
abbrev main_v194 : Ref sig .tc := ⟨.hbm, 257, rfl⟩

abbrev nD : Nat := 1
abbrev τ : Topo := Topo.v7x

variable {F : FTy → Type} [FloatOps F]
-- ==== FwdIn.lean ====
abbrev S4096x1024 : Shape := ⟨2, ![4096, 1024]⟩
abbrev S1024 : Shape := ⟨1, ![1024]⟩
abbrev S1024x2048 : Shape := ⟨2, ![1024, 2048]⟩
abbrev S1024x8x256 : Shape := ⟨3, ![1024, 8, 256]⟩
abbrev S8x1024x256 : Shape := ⟨3, ![8, 1024, 256]⟩
abbrev S1x1024 : Shape := ⟨2, ![1, 1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S1x1024, .f32⟩
  | .hbm, ⟨7, _⟩ => ⟨S4096x1024, .bf16⟩
  | .hbm, ⟨8, _⟩ => ⟨S4096x512, .f32⟩
  | .hbm, ⟨9, _⟩ => ⟨S4096x512, .bf16⟩
  | .hbm, ⟨10, _⟩ => ⟨S4096x512, .bf16⟩
  | .hbm, ⟨11, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdInRefIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x1024, .bf16⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .bf16⟩
  | .hbm, ⟨29, _⟩ => ⟨S4096x512, .bf16⟩
  | .hbm, ⟨30, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Wgrad.lean ====
abbrev S4096x4096 : Shape := ⟨2, ![4096, 4096]⟩
abbrev S4096x1024 : Shape := ⟨2, ![4096, 1024]⟩
abbrev S8x512x1024 : Shape := ⟨3, ![8, 512, 1024]⟩
abbrev S1024x2048 : Shape := ⟨2, ![1024, 2048]⟩
abbrev S1024x1024 : Shape := ⟨2, ![1024, 1024]⟩
abbrev S4x512x1024 : Shape := ⟨3, ![4, 512, 1024]⟩
abbrev S2048x1024 : Shape := ⟨2, ![2048, 1024]⟩
abbrev S512x1024 : Shape := ⟨2, ![512, 1024]⟩
abbrev S1x512x1024 : Shape := ⟨3, ![1, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x1024, .bf16⟩
  | .local _ .vmem, ⟨5, _⟩ => ⟨S4x512x1024, .bf16⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S8x512x1024, .f32⟩
  | .hbm, ⟨10, _⟩ => ⟨S8x512x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Reals.lean ====
module

public import Idealize.ShloMosaic.PureOps.Ideal
public import Idealize.ShloMosaic.PureOps.Ideal.Laws
public import Idealize.ShloMosaic.Lib.ValueIdx
public import Idealize.ShloMosaic.Lib.ReduceAll

@[expose] public section

noncomputable section

/-! # Finite extended reals

Arrays all of whose entries are finite are the coercions of real arrays; sums, products and the norm's reciprocal root
of such arrays are again coercions. Both sides of a value claim are brought to real arithmetic with these. -/

namespace Cert.Reals

open Idealize.ShloMosaic
open scoped BigOperators

/-- A sum of finite entries is the coercion of the real sum. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- An extended real below `⊤` in absolute value is a real. -/
theorem exists_real_of_abs_lt {a : EReal} (h : max a (-a) < ⊤) : ∃ r : ℝ, a = (r : EReal) := by
  induction a with
  | bot => simp at h
  | coe r => exact ⟨r, rfl⟩
  | top => simp at h

/-- The single precision word of +∞. -/
theorem inf_word : Ideal.ofBits .f32 0x7F800000#32 = ⊤ := by
  simp [Ideal.ofBits, Ideal.ieee]

/-- The comparison `|a| < ∞` that came out true says that `a` is a real. -/
theorem exists_real_of_cmp {a b : EReal} (hb : b = ⊤) (h : Ideal.cmp .olt (max a (-a)) b = 1#1) : ∃ r : ℝ, a = (r : EReal) := by
  refine exists_real_of_abs_lt ?_
  subst hb
  by_contra hn
  have : Ideal.cmp .olt (max a (-a)) ⊤ = 0#1 := by
    show BitVec.ofBool (decide (max a (-a) < ⊤)) = 0#1
    rw [decide_eq_false hn]; rfl
  rw [this] at h
  exact absurd h (by decide)

/-- The number of columns of the model, as the single precision constant the programs divide by. -/
theorem width_word : Ideal.ofBits .f32 0x44800000#32 = ((1024 : ℝ) : EReal) := by
  simp [Ideal.ofBits, Ideal.ieee]
  norm_num
  rw [← EReal.coe_mul]; congr 1; norm_num

/-- The number the programs add under the root. -/
def eps : ℝ := 8796093 / 8796093022208

theorem eps_pos : 0 < eps := by unfold eps; norm_num

theorem eps_word : Ideal.ofBits .f32 0x358637BD#32 = ((eps : ℝ) : EReal) := by
  simp [Ideal.ofBits, Ideal.ieee, eps]
  norm_num
  rw [← EReal.coe_mul]; congr 1; norm_num

/-- The factor the derivative of the reciprocal root brings. -/
theorem half_word : Ideal.ofBits .f32 0xBF000000#32 = ((-(1 / 2) : ℝ) : EReal) := by
  simp [Ideal.ofBits, Ideal.ieee]
  norm_num
  rw [← EReal.coe_mul]; congr 1; norm_num

/-- Division by a nonzero real. -/
theorem div_real (a b : ℝ) (hb : b ≠ 0) : Ideal.div (a : EReal) (b : EReal) = ((a / b : ℝ) : EReal) := by
  rw [Ideal.div_coe hb, ← EReal.coe_mul]
  congr 1
  field_simp

/-- The mean square of a row plus `eps`. -/
def meanSq (x : Fin 1024 → ℝ) : ℝ := (∑ k, x k * x k) / 1024 + eps

theorem meanSq_pos (x : Fin 1024 → ℝ) : 0 < meanSq x := by
  have h : 0 ≤ (∑ k, x k * x k) / 1024 := div_nonneg (Finset.sum_nonneg fun k _ => mul_self_nonneg _) (by norm_num)
  exact add_pos_of_nonneg_of_pos h eps_pos

/-- The reciprocal root mean square of a row. -/
def rinv (x : Fin 1024 → ℝ) : ℝ := (Real.sqrt (meanSq x))⁻¹

theorem rinv_sq (x : Fin 1024 → ℝ) : rinv x * rinv x = 1 / meanSq x := by
  unfold rinv
  rw [← mul_inv, Real.mul_self_sqrt (meanSq_pos x).le, one_div]

theorem rsqrt_real {v : ℝ} (hv : 0 < v) : Ideal.rsqrt (v : EReal) = (((Real.sqrt v)⁻¹ : ℝ) : EReal) := by
  rw [Ideal.rsqrt_coe, if_neg (not_lt.2 hv.le), if_neg hv.ne']

/-- The programs' reciprocal root of a finite row. -/
theorem rsqrt_row (x : Fin 1024 → ℝ) :
    Ideal.rsqrt (Ideal.div (∑ k, ((x k : ℝ) : EReal) * ((x k : ℝ) : EReal)) ((1024 : ℝ) : EReal) + ((eps : ℝ) : EReal))
      = ((rinv x : ℝ) : EReal) := by
  have h1 : (∑ k, ((x k : ℝ) : EReal) * ((x k : ℝ) : EReal)) = ((∑ k, x k * x k : ℝ) : EReal) := by
    rw [← coe_sum]; exact Finset.sum_congr rfl fun k _ => (EReal.coe_mul _ _).symm
  rw [h1, div_real _ _ (by norm_num), ← EReal.coe_add]
  exact rsqrt_real (meanSq_pos x)

/-- **The norm's derivative.** `t` is the derivative by the normalised row: the kernel's form (subtract the row's mean of
    `t · x̂` times `x̂`, then scale) is the sum of the three terms the chain rule gives. -/
theorem norm_deriv (x t : Fin 1024 → ℝ) (j : Fin 1024) :
    rinv x * (t j - x j * rinv x * ((∑ k, t k * (x k * rinv x)) / 1024))
      = t j * rinv x + x j * ((∑ k, x k * t k) * (-(1 / 2) * (rinv x / meanSq x)) / 1024)
        + (∑ k, x k * t k) * (-(1 / 2) * (rinv x / meanSq x)) / 1024 * x j := by
  have h1 : (∑ k, t k * (x k * rinv x)) = (∑ k, x k * t k) * rinv x := by
    rw [Finset.sum_mul]; exact Finset.sum_congr rfl fun k _ => by ring
  have h2 : rinv x / meanSq x = rinv x * (rinv x * rinv x) := by rw [rinv_sq]; ring
  rw [h1, h2]
  ring

end Cert.Reals

end
-- ==== Proof.BwdInPay.lean ====
module

public import proofs.«01_k».proof.Proof.Gen.BwdInIdeal.Value
public import proofs.«01_k».proof.Proof.Reals
public import Idealize.ShloMosaic.Lib.ValueIdx
public import Idealize.ShloMosaic.Lib.ValueLayout
public import Idealize.ShloMosaic.Lib.MatmulPlain

@[expose] public section

noncomputable section

/-! # One grid point of the input-projection backward

What each value the body stores is at an index, over the extended reals. -/

namespace Cert.BwdInIdeal.Pay

open Cert.BwdInIdeal Cert.BwdInIdeal.Gen Idealize.ShloMosaic Idealize.ShloMosaic.ValueIdx
open scoped BigOperators

/-- The product of a column half with a weight panel, at an index. -/
theorem dot_apply (l : FVec Ideal S512x256 .bf16) (w : Vec Ideal S1x1024x256 .bf16) (i : Fin 512) (j : Fin 1024) :
    matmul dot_S512x256_S1024x256_S512x1024_1_1_0_0_n_n none l
        (shapeCast S1024x256 w shapeCasts_S1x1024x256_S1024x256 : FVec Ideal S1024x256 .bf16) (constant S512x1024 .f32 0x00000000#32) (ix2 i j)
      = ∑ q : Fin 256, l (ix2 i q) * w (ix3 (0 : Fin 1) j q) := by
  simp only [matmul]
  refine (Ideal.matmul_transposedRhs_apply (M := 512) (K := 256) (N := 1024) none l _ _ i j).trans ?_
  rw [constant_apply, Ideal.ofBits_zero_f32, zero_add]
  exact Finset.sum_congr rfl fun q _ => by rw [shapeCast_1ab_ab_apply]

/-- Column `q` of half `0` and of half `1`. -/
def lo (q : Fin 256) : Fin 512 := ⟨q.val, by omega⟩
def hi (q : Fin 256) : Fin 512 := ⟨256 + q.val, by omega⟩

theorem half_lo {α : Type} (v : S512x512.Idx → α) (h : S512x512.Slices ![0, 0] S512x256) (i : Fin 512) (q : Fin 256) :
    extractStridedSlice S512x256 ![0, 0] v h (ix2 i q) = v (ix2 i (lo q)) :=
  slice2_axis1_apply 0 v h i q (lo q) (by simp [lo])

theorem half_hi {α : Type} (v : S512x512.Idx → α) (h : S512x512.Slices ![0, 256] S512x256) (i : Fin 512) (q : Fin 256) :
    extractStridedSlice S512x256 ![0, 256] v h (ix2 i q) = v (ix2 i (hi q)) :=
  slice2_axis1_apply 256 v h i q (hi q) (by simp [hi])

/-- The eight partial products, in the order the body adds them. -/
def dh (x0 x1 x2 x3 : Vec Ideal S512x512 .bf16) (w : Fin 8 → Vec Ideal S1x1024x256 .bf16) (i : Fin 512) (j : Fin 1024) : EReal :=
  (((((((∑ q, x0 (ix2 i (lo q)) * w 0 (ix3 (0 : Fin 1) j q)) + ∑ q, x0 (ix2 i (hi q)) * w 1 (ix3 (0 : Fin 1) j q))
    + ∑ q, x1 (ix2 i (lo q)) * w 2 (ix3 (0 : Fin 1) j q)) + ∑ q, x1 (ix2 i (hi q)) * w 3 (ix3 (0 : Fin 1) j q))
    + ∑ q, x2 (ix2 i (lo q)) * w 4 (ix3 (0 : Fin 1) j q)) + ∑ q, x2 (ix2 i (hi q)) * w 5 (ix3 (0 : Fin 1) j q))
    + ∑ q, x3 (ix2 i (lo q)) * w 6 (ix3 (0 : Fin 1) j q)) + ∑ q, x3 (ix2 i (hi q)) * w 7 (ix3 (0 : Fin 1) j q)

/-- The product the body forms, as one term of its eight panels. -/
def prod (x0 x1 x2 x3 : Vec Ideal S512x512 .bf16) (w : Fin 8 → Vec Ideal S1x1024x256 .bf16) : FVec Ideal S512x1024 .f32 :=
  k0_pay12 (k0_pay10 x1 x2 x3 (k0_pay5 x0 x1 (w 0) (w 1) (w 2)) (w 3) (w 4) (w 5) (w 6)) (k0_pay11 x3) (w 7)

theorem prod_apply (x0 x1 x2 x3 : Vec Ideal S512x512 .bf16) (w : Fin 8 → Vec Ideal S1x1024x256 .bf16) (i : Fin 512) (j : Fin 1024) :
    prod x0 x1 x2 x3 w (ix2 i j) = dh x0 x1 x2 x3 w i j := by
  unfold prod k0_pay12 k0_pay10 k0_pay5 k0_pay11 k0_pay9 k0_pay8 k0_pay7 k0_pay6 k0_pay4 k0_pay3 k0_pay2 dh
  dsimp only
  simp only [addf_apply, dot_apply, half_lo, half_hi, broadcast_apply]
  show Ideal.ofBits .f32 0x00000000#32 + _ + _ + _ + _ + _ + _ + _ + _ = _
  rw [Ideal.ofBits_zero_f32, zero_add]

/-- A column read across a row. -/
theorem col_apply {α : Type} (v : S512x1.Idx → α) (i : Fin 512) (j : Fin 1024) :
    broadcastTo S512x1024 v broadcasts_S512x1_S512x1024 (ix2 i j) = v (ix2 i (0 : Fin 1)) :=
  broadcastTo_apply v _ (ix2 i j) (ix2 i (0 : Fin 1)) fun a => by
    match a with
    | ⟨0, _⟩ => rfl
    | ⟨1, _⟩ => rfl

theorem asCol_apply {α : Type} (v : S512.Idx → α) (i : Fin 512) :
    shapeCast S512x1 v shapeCasts_S512_S512x1 (ix2 i (0 : Fin 1)) = v (ix1 i) :=
  shapeCast_apply v _ _ _ (by rw [Shape.rowMajor_val_two, Shape.rowMajor_val_one]; simp)

theorem rowSum_apply (v : FVec Ideal S512x1024 .f32) (i : Fin 512) :
    multiReduction .add [1] S512 v 0x00000000#32 reduces_S512x1024_S512 (.inl rfl) rfl (ix1 i) = ∑ k : Fin 1024, v (ix2 i k) := by
  refine (Ideal.multiReduction_add_single v _ reduces_S512x1024_S512 (.inl rfl) rfl (ix1 i)).trans ?_
  refine Finset.sum_congr rfl fun k _ => congrArg v ?_
  funext a
  match a with
  | ⟨0, _⟩ => rfl
  | ⟨1, _⟩ => rfl

theorem colSum_apply (v : FVec Ideal S512x1024 .f32) (j : Fin 1024) :
    multiReduction .add [0] S1024 v 0x00000000#32 reduces_S512x1024_S1024 (.inl rfl) rfl (ix1 j) = ∑ k : Fin 512, v (ix2 k j) := by
  refine (Ideal.multiReduction_add_single v _ reduces_S512x1024_S1024 (.inl rfl) rfl (ix1 j)).trans ?_
  refine Finset.sum_congr rfl fun k _ => congrArg v ?_
  funext a
  match a with
  | ⟨0, _⟩ => rfl
  | ⟨1, _⟩ => rfl

/-- The reciprocal root mean square of row `i` of the block. -/
def rowR (x : Vec Ideal S512x1024 .f32) (i : Fin 512) : EReal :=
  Ideal.rsqrt (Ideal.div (∑ k : Fin 1024, x (ix2 i k) * x (ix2 i k)) ((1024 : ℝ) : EReal) + ((Reals.eps : ℝ) : EReal))

theorem pay13_apply (x : Vec Ideal S512x1024 .f32) (i : Fin 512) : k0_pay13 x (ix2 i (0 : Fin 1)) = rowR x i := by
  unfold k0_pay13 rowR
  dsimp only
  show Ideal.rsqrt (Ideal.div (shapeCast S512x1 _ _ (ix2 i (0 : Fin 1))) (Ideal.ofBits .f32 0x44800000#32)
    + Ideal.ofBits .f32 0x358637BD#32) = _
  rw [asCol_apply, rowSum_apply, Reals.width_word, Reals.eps_word]
  rfl

theorem pay14_apply (x : Vec Ideal S512x1024 .f32) (i : Fin 512) (j : Fin 1024) :
    k0_pay14 x (ix2 i j) = x (ix2 i j) * rowR x i := by
  unfold k0_pay14
  rw [mulf_apply, col_apply, pay13_apply]

theorem pay15_apply (v49 : FVec Ideal S512x1024 .f32) (v50 : FVec Ideal S512x256 .bf16) (w7 : Vec Ideal S1x1024x256 .bf16)
    (x : Vec Ideal S512x1024 .f32) (g : Vec Ideal S1x1024 .f32) (h : Vec Ideal S512x1024 .f32) (i : Fin 512) (j : Fin 1024) :
    k0_pay15 v49 v50 w7 x g h (ix2 i j)
      = h (ix2 i j) + rowR x i * (k0_pay12 v49 v50 w7 (ix2 i j) * g (ix2 (0 : Fin 1) j)
        - x (ix2 i j) * rowR x i * Ideal.div (∑ k : Fin 1024, k0_pay12 v49 v50 w7 (ix2 i k) * g (ix2 (0 : Fin 1) k)
            * (x (ix2 i k) * rowR x i)) ((1024 : ℝ) : EReal)) := by
  unfold k0_pay15
  dsimp only
  simp only [addf_apply, mulf_apply, subf_apply, col_apply, pay13_apply, pay14_apply, shapeCast_self, broadcastTo_1b_ab_apply,
    divf_apply, asCol_apply, broadcast_apply]
  rw [rowSum_apply, ← Reals.width_word]
  simp only [mulf_apply, pay14_apply, broadcastTo_1b_ab_apply]
  rfl

theorem pay16_apply (v49 : FVec Ideal S512x1024 .f32) (v50 : FVec Ideal S512x256 .bf16) (w7 : Vec Ideal S1x1024x256 .bf16)
    (x : Vec Ideal S512x1024 .f32) (p : Vec Ideal S1x1024 .f32) (j : Fin 1024) :
    k0_pay16 v49 v50 w7 x p (ix2 (0 : Fin 1) j)
      = p (ix2 (0 : Fin 1) j) + ∑ i : Fin 512, k0_pay12 v49 v50 w7 (ix2 i j) * (x (ix2 i j) * rowR x i) := by
  unfold k0_pay16
  dsimp only
  rw [addf_apply, shapeCast_self, shapeCast_a_1a_apply, colSum_apply]
  simp only [mulf_apply, pay14_apply]

end Cert.BwdInIdeal.Pay

end
-- ==== Proof.BwdInRows.lean ====
module

public import proofs.«01_k».proof.Proof.BwdInPay
public import Idealize.ShloMosaic.Lib.ValueIdx
public import Idealize.ShloMosaic.Lib.Writes
public import Idealize.ShloMosaic.Lib.Tactic

@[expose] public section

noncomputable section

/-! # The blocks one grid point of the input-projection backward leaves

Each output block as a function of the input blocks, over the extended reals: at the first point (which zeroes the accumulated
block) and at the later ones. -/

namespace Cert.BwdInIdeal.Rows

open Cert.BwdInIdeal Cert.BwdInIdeal.Gen Cert.BwdInIdeal.Pay Idealize.ShloMosaic Idealize.ShloMosaic.ValueIdx Idealize.ShloMosaic.TcCoe Idealize.SL.Sem
open scoped BigOperators

theorem hz2 : (![0, 0] : Fin 2 → Nat) = fun _ => 0 := funext fun a => by fin_cases a <;> rfl

/-- Weight panel `p` of the prepared weight block. -/
def panel (x4 : Vec Ideal S8x1024x256 .bf16) (p : Fin 8) : Vec Ideal S1x1024x256 .bf16 := fun y => x4 (ix3 p (y 1) (y 2))

/-- A load of panel `p`. -/
theorem ld_panel (x4 : Vec Ideal S8x1024x256 .bf16) (p : Fin 8) (o : Fin 3 → Nat) (ho : o = ![p.val, 0, 0])
    (inb : ∀ a, o a + (![1, 1024, 256] : Fin 3 → Nat) a ≤ S8x1024x256.size a) :
    View.ld x4 (Rect.unit o ![1, 1024, 256] inb) = panel x4 p := by
  subst ho
  refine funext fun y => congrArg x4 (funext fun a => Fin.ext ?_)
  match a with
  | ⟨0, _⟩ =>
    show p.val + 1 * (y 0).val = p.val
    have : (y 0).val < 1 := (y 0).isLt
    omega
  | ⟨1, _⟩ => show 0 + 1 * (y 1).val = (y 1).val; omega
  | ⟨2, _⟩ => show 0 + 1 * (y 2).val = (y 2).val; omega

theorem ld_panel0 (x4 : Vec Ideal S8x1024x256 .bf16) (inb : ∀ a, (![0, 0, 0] : Fin 3 → Nat) a + (![1, 1024, 256] : Fin 3 → Nat) a ≤ S8x1024x256.size a) :
    View.ld x4 (Rect.unit ![0, 0, 0] ![1, 1024, 256] inb) = panel x4 0 := ld_panel x4 0 _ rfl inb
theorem ld_panel1 (x4 : Vec Ideal S8x1024x256 .bf16) (inb : ∀ a, (![1, 0, 0] : Fin 3 → Nat) a + (![1, 1024, 256] : Fin 3 → Nat) a ≤ S8x1024x256.size a) :
    View.ld x4 (Rect.unit ![1, 0, 0] ![1, 1024, 256] inb) = panel x4 1 := ld_panel x4 1 _ rfl inb
theorem ld_panel2 (x4 : Vec Ideal S8x1024x256 .bf16) (inb : ∀ a, (![2, 0, 0] : Fin 3 → Nat) a + (![1, 1024, 256] : Fin 3 → Nat) a ≤ S8x1024x256.size a) :
    View.ld x4 (Rect.unit ![2, 0, 0] ![1, 1024, 256] inb) = panel x4 2 := ld_panel x4 2 _ rfl inb
theorem ld_panel3 (x4 : Vec Ideal S8x1024x256 .bf16) (inb : ∀ a, (![3, 0, 0] : Fin 3 → Nat) a + (![1, 1024, 256] : Fin 3 → Nat) a ≤ S8x1024x256.size a) :
    View.ld x4 (Rect.unit ![3, 0, 0] ![1, 1024, 256] inb) = panel x4 3 := ld_panel x4 3 _ rfl inb
theorem ld_panel4 (x4 : Vec Ideal S8x1024x256 .bf16) (inb : ∀ a, (![4, 0, 0] : Fin 3 → Nat) a + (![1, 1024, 256] : Fin 3 → Nat) a ≤ S8x1024x256.size a) :
    View.ld x4 (Rect.unit ![4, 0, 0] ![1, 1024, 256] inb) = panel x4 4 := ld_panel x4 4 _ rfl inb
theorem ld_panel5 (x4 : Vec Ideal S8x1024x256 .bf16) (inb : ∀ a, (![5, 0, 0] : Fin 3 → Nat) a + (![1, 1024, 256] : Fin 3 → Nat) a ≤ S8x1024x256.size a) :
    View.ld x4 (Rect.unit ![5, 0, 0] ![1, 1024, 256] inb) = panel x4 5 := ld_panel x4 5 _ rfl inb
theorem ld_panel6 (x4 : Vec Ideal S8x1024x256 .bf16) (inb : ∀ a, (![6, 0, 0] : Fin 3 → Nat) a + (![1, 1024, 256] : Fin 3 → Nat) a ≤ S8x1024x256.size a) :
    View.ld x4 (Rect.unit ![6, 0, 0] ![1, 1024, 256] inb) = panel x4 6 := ld_panel x4 6 _ rfl inb
theorem ld_panel7 (x4 : Vec Ideal S8x1024x256 .bf16) (inb : ∀ a, (![7, 0, 0] : Fin 3 → Nat) a + (![1, 1024, 256] : Fin 3 → Nat) a ≤ S8x1024x256.size a) :
    View.ld x4 (Rect.unit ![7, 0, 0] ![1, 1024, 256] inb) = panel x4 7 := ld_panel x4 7 _ rfl inb

/-- The accumulated block's first row, read back just after it was zeroed. -/
theorem readCov_zero (v : View sig .tc .vmem S8x1024 .f32) (q : Fin 1024) :
    v.readCov (Val := Elt Ideal) [⟨Rect.unit (s := S8x1024) ![0, 0] ![8, 1024] inb_S8x1024_S8x1024_0_0, (k0_pay1 (F := Ideal))⟩]
      (Rect.unit (s := S8x1024) ![0, 0] ![1, 1024] inb_S8x1024_S1x1024_0_0).toLoadRect (ix2 (0 : Fin 1) q) = (0 : EReal) := by
  refine Eq.trans (b := k0_pay1 (F := Ideal) (ix2 (0 : Fin 8) q)) (View.read_writes_cons_hit_of_coords (Val := Elt Ideal) v v.junk
    (Rect.unit (s := S8x1024) ![0, 0] ![8, 1024] inb_S8x1024_S8x1024_0_0) (k0_pay1 (F := Ideal)) [] (ix2 (0 : Fin 8) q) _ (fun a => ?_))
    Ideal.ofBits_zero_f32
  match a with
  | ⟨0, _⟩ => rfl
  | ⟨1, _⟩ => show 0 + 1 * q.val = 0 + 1 * q.val; rfl

/-- One row block of the first result. -/
def dxBlk (x0 x1 x2 x3 : Vec Ideal S512x512 .bf16) (x4 : Vec Ideal S8x1024x256 .bf16) (x5 x6 : Vec Ideal S512x1024 .f32) (x7 : Vec Ideal S1x1024 .f32) (i : Fin 512) (j : Fin 1024) : EReal :=
  x6 (ix2 i j) + rowR x5 i * (dh x0 x1 x2 x3 (panel x4) i j * x7 (ix2 (0 : Fin 1) j)
    - x5 (ix2 i j) * rowR x5 i * Ideal.div (∑ k : Fin 1024, dh x0 x1 x2 x3 (panel x4) i k * x7 (ix2 (0 : Fin 1) k)
        * (x5 (ix2 i k) * rowR x5 i)) ((1024 : ℝ) : EReal))

/-- What one row block adds to the first row of the third result (the other rows get nothing). -/
def dgBlk (x0 x1 x2 x3 : Vec Ideal S512x512 .bf16) (x4 : Vec Ideal S8x1024x256 .bf16) (x5 : Vec Ideal S512x1024 .f32) (p : Fin 8) (j : Fin 1024) : EReal :=
  if p = 0 then ∑ i : Fin 512, dh x0 x1 x2 x3 (panel x4) i j * (x5 (ix2 i j) * rowR x5 i) else 0

/-- The four gradient blocks side by side. -/
def catBlk (x0 x1 x2 x3 : Vec Ideal S512x512 .bf16) (y : S512x2048.Idx) : EReal :=
  (![x0, x1, x2, x3] : Fin 4 → Vec Ideal S512x512 .bf16) ⟨(y 1).val / 512, by have := idx2_lt1 y; omega⟩
    (ix2 (y 0 : Fin 512) (⟨(y 1).val % 512, Nat.mod_lt _ (by norm_num)⟩ : Fin 512))

theorem pay15_prod (x0 x1 x2 x3 : Vec Ideal S512x512 .bf16) (x4 : Vec Ideal S8x1024x256 .bf16) (x5 x6 : Vec Ideal S512x1024 .f32) (x7 : Vec Ideal S1x1024 .f32) (i : Fin 512) (j : Fin 1024) :
    k0_pay15 (k0_pay10 x1 x2 x3 (k0_pay5 x0 x1 (panel x4 0) (panel x4 1) (panel x4 2)) (panel x4 3) (panel x4 4) (panel x4 5) (panel x4 6))
      (k0_pay11 x3) (panel x4 7) x5 x7 x6 (ix2 i j) = dxBlk x0 x1 x2 x3 x4 x5 x6 x7 i j := by
  rw [pay15_apply]
  show x6 (ix2 i j) + rowR x5 i * (prod x0 x1 x2 x3 (panel x4) (ix2 i j) * _ - _ * Ideal.div (∑ k, prod x0 x1 x2 x3 (panel x4) (ix2 i k) * _ * _) _) = _
  simp only [prod_apply]
  rfl

theorem pay16_prod (x0 x1 x2 x3 : Vec Ideal S512x512 .bf16) (x4 : Vec Ideal S8x1024x256 .bf16) (x5 : Vec Ideal S512x1024 .f32)
    (r : Vec Ideal S1x1024 .f32) (j : Fin 1024) :
    k0_pay16 (k0_pay10 x1 x2 x3 (k0_pay5 x0 x1 (panel x4 0) (panel x4 1) (panel x4 2)) (panel x4 3) (panel x4 4) (panel x4 5) (panel x4 6))
      (k0_pay11 x3) (panel x4 7) x5 r (ix2 (0 : Fin 1) j) = r (ix2 (0 : Fin 1) j) + dgBlk x0 x1 x2 x3 x4 x5 0 j := by
  rw [pay16_apply]
  show r (ix2 (0 : Fin 1) j) + ∑ i, prod x0 x1 x2 x3 (panel x4) (ix2 i j) * _ = _
  simp only [prod_apply]
  rfl

/-- A column half stored at its place is the part of the four blocks side by side that it covers. -/
theorem catBlk_piece (x0 x1 x2 x3 : Vec Ideal S512x512 .bf16) (n : Fin 4) (b : Nat) (hb : b = 0 ∨ b = 256)
    (hs : S512x512.Slices ![0, b] S512x256) (o : Fin 2 → Nat) (ho : o = ![0, 512 * n.val + b])
    (inb : ∀ a, o a + (![512, 256] : Fin 2 → Nat) a ≤ S512x2048.size a) (x : S512x256.Idx) :
    extractStridedSlice S512x256 ![0, b] ((![x0, x1, x2, x3] : Fin 4 → Vec Ideal S512x512 .bf16) n) hs x
      = catBlk x0 x1 x2 x3 ((Rect.unit (s := S512x2048) o ![512, 256] inb).emb x) := by
  subst ho
  have h1 : (x 1).val < 256 := (x 1).isLt
  have h0 : (x 0).val < 512 := (x 0).isLt
  have hn : n.val < 4 := n.isLt
  unfold catBlk
  have e1 : (((Rect.unit (s := S512x2048) ![0, 512 * n.val + b] ![512, 256] inb).emb x) 1).val = 512 * n.val + b + 1 * (x 1).val := rfl
  have e0 : (((Rect.unit (s := S512x2048) ![0, 512 * n.val + b] ![512, 256] inb).emb x) 0).val = 0 + 1 * (x 0).val := rfl
  have hq : (⟨(((Rect.unit (s := S512x2048) ![0, 512 * n.val + b] ![512, 256] inb).emb x) 1).val / 512, by rw [e1]; omega⟩ : Fin 4) = n :=
    Fin.ext (by show _ / 512 = n.val; rw [e1]; omega)
  rw [hq]
  refine extractStridedSlice_apply _ _ hs x _ fun a => ?_
  match a with
  | ⟨0, _⟩ => show (((Rect.unit (s := S512x2048) ![0, 512 * n.val + b] ![512, 256] inb).emb x) 0).val = 0 + (x 0).val; rw [e0]; omega
  | ⟨1, _⟩ =>
    show (((Rect.unit (s := S512x2048) ![0, 512 * n.val + b] ![512, 256] inb).emb x) 1).val % 512 = b + (x 1).val
    rw [e1]; omega

theorem out_A_8 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x512 .bf16) (h3 : a3.IsWhole)
    (a4 : Memref sig .tc .vmem S512x512 .bf16) (h4 : a4.IsWhole)
    (a5 : Memref sig .tc .vmem S8x1024x256 .bf16) (h5 : a5.IsWhole)
    (a6 : Memref sig .tc .vmem S512x1024 .f32) (h6 : a6.IsWhole)
    (a7 : Memref sig .tc .vmem S512x1024 .f32) (h7 : a7.IsWhole)
    (a8 : Memref sig .tc .vmem S1x1024 .f32) (h8 : a8.IsWhole)
    (a9 : Memref sig .tc .vmem S512x1024 .f32) (h9 : a9.IsWhole)
    (a10 : Memref sig .tc .vmem S512x2048 .bf16) (h10 : a10.IsWhole)
    (a11 : Memref sig .tc .vmem S8x1024 .f32) (h11 : a11.IsWhole) (hc : cond0_0 i)
    (x0 x1 x2 x3 : Vec Ideal S512x512 .bf16) (x4 : Vec Ideal S8x1024x256 .bf16) (x5 x6 : Vec Ideal S512x1024 .f32) (x7 : Vec Ideal S1x1024 .f32) (p : Fin 512) (q : Fin 1024) :
    out0_A_8 c i a1 h1 a2 h2 a3 h3 a4 h4 a5 h5 a6 h6 a7 h7 a8 h8 a9 h9 a10 h10 a11 h11 hc x0 x1 x2 x3 x4 x5 x6 x7  (ix2 p q) = dxBlk x0 x1 x2 x3 x4 x5 x6 x7 p q := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6 x7 )]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h11.read_unread, View.ld_unit_zero (S := S512x512) hz2, View.ld_unit_zero (S := S512x1024) hz2, View.ld_unit_zero (S := S1x1024) hz2, ld_panel0, ld_panel1, ld_panel2, ld_panel3, ld_panel4, ld_panel5, ld_panel6, ld_panel7]
  exact pay15_prod x0 x1 x2 x3 x4 x5 x6 x7 p q

theorem out_A_9 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x512 .bf16) (h3 : a3.IsWhole)
    (a4 : Memref sig .tc .vmem S512x512 .bf16) (h4 : a4.IsWhole)
    (a5 : Memref sig .tc .vmem S8x1024x256 .bf16) (h5 : a5.IsWhole)
    (a6 : Memref sig .tc .vmem S512x1024 .f32) (h6 : a6.IsWhole)
    (a7 : Memref sig .tc .vmem S512x1024 .f32) (h7 : a7.IsWhole)
    (a8 : Memref sig .tc .vmem S1x1024 .f32) (h8 : a8.IsWhole)
    (a9 : Memref sig .tc .vmem S512x1024 .f32) (h9 : a9.IsWhole)
    (a10 : Memref sig .tc .vmem S512x2048 .bf16) (h10 : a10.IsWhole)
    (a11 : Memref sig .tc .vmem S8x1024 .f32) (h11 : a11.IsWhole) (hc : cond0_0 i)
    (x0 x1 x2 x3 : Vec Ideal S512x512 .bf16) (x4 : Vec Ideal S8x1024x256 .bf16) (x5 x6 : Vec Ideal S512x1024 .f32) (x7 : Vec Ideal S1x1024 .f32) (y : S512x2048.Idx) :
    out0_A_9 c i a1 h1 a2 h2 a3 h3 a4 h4 a5 h5 a6 h6 a7 h7 a8 h8 a9 h9 a10 h10 a11 h11 hc x0 x1 x2 x3 x4 x5 x6 x7  y = catBlk x0 x1 x2 x3 y := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7 )]
  refine View.canon_apply_of_pieces (catBlk x0 x1 x2 x3) _ ?_ y (cover0_A_9 c i a1 h1 a2 h2 a3 h3 a4 h4 a5 h5 a6 h6 a7 h7 a8 h8 a9 h9 a10 h10 a11 h11 hc x0 x1 x2 x3 x4 x5 x6 x7  y)
  unfold kernelRun0_A
  dsimp only
  sl_unfold_words
  simp only [View.readAt_eq_ld, h1.read_unread, h2.read_unread, h3.read_unread, h4.read_unread, h5.read_unread, h6.read_unread, h7.read_unread, h8.read_unread, h11.read_unread, View.ld_unit_zero (S := S512x512) hz2, View.ld_unit_zero (S := S512x1024) hz2, View.ld_unit_zero (S := S1x1024) hz2, ld_panel0, ld_panel1, ld_panel2, ld_panel3, ld_panel4, ld_panel5, ld_panel6, ld_panel7]
  intro pc hpc x
  simp only [List.mem_cons, List.not_mem_nil, or_false] at hpc
  rcases hpc with rfl | rfl | rfl | rfl | rfl | rfl | rfl | rfl
  · exact catBlk_piece x0 x1 x2 x3 3 256 (.inr rfl) slices_S512x512_o0_256_S512x256 ![0, 1792] rfl inb_S512x2048_S512x256_0_1792 x
  · exact catBlk_piece x0 x1 x2 x3 3 0 (.inl rfl) slices_S512x512_o0_0_S512x256 ![0, 1536] rfl inb_S512x2048_S512x256_0_1536 x
  · exact catBlk_piece x0 x1 x2 x3 2 256 (.inr rfl) slices_S512x512_o0_256_S512x256 ![0, 1280] rfl inb_S512x2048_S512x256_0_1280 x
  · exact catBlk_piece x0 x1 x2 x3 2 0 (.inl rfl) slices_S512x512_o0_0_S512x256 ![0, 1024] rfl inb_S512x2048_S512x256_0_1024 x
  · exact catBlk_piece x0 x1 x2 x3 1 256 (.inr rfl) slices_S512x512_o0_256_S512x256 ![0, 768] rfl inb_S512x2048_S512x256_0_768 x
  · exact catBlk_piece x0 x1 x2 x3 1 0 (.inl rfl) slices_S512x512_o0_0_S512x256 ![0, 512] rfl inb_S512x2048_S512x256_0_512 x
  · exact catBlk_piece x0 x1 x2 x3 0 256 (.inr rfl) slices_S512x512_o0_256_S512x256 ![0, 256] rfl inb_S512x2048_S512x256_0_256 x
  · exact catBlk_piece x0 x1 x2 x3 0 0 (.inl rfl) slices_S512x512_o0_0_S512x256 ![0, 0] rfl inb_S512x2048_S512x256_0_0 x

theorem out_A_10 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x512 .bf16) (h3 : a3.IsWhole)
    (a4 : Memref sig .tc .vmem S512x512 .bf16) (h4 : a4.IsWhole)
    (a5 : Memref sig .tc .vmem S8x1024x256 .bf16) (h5 : a5.IsWhole)
    (a6 : Memref sig .tc .vmem S512x1024 .f32) (h6 : a6.IsWhole)
    (a7 : Memref sig .tc .vmem S512x1024 .f32) (h7 : a7.IsWhole)
    (a8 : Memref sig .tc .vmem S1x1024 .f32) (h8 : a8.IsWhole)
    (a9 : Memref sig .tc .vmem S512x1024 .f32) (h9 : a9.IsWhole)
    (a10 : Memref sig .tc .vmem S512x2048 .bf16) (h10 : a10.IsWhole)
    (a11 : Memref sig .tc .vmem S8x1024 .f32) (h11 : a11.IsWhole) (hc : cond0_0 i)
    (x0 x1 x2 x3 : Vec Ideal S512x512 .bf16) (x4 : Vec Ideal S8x1024x256 .bf16) (x5 x6 : Vec Ideal S512x1024 .f32) (x7 : Vec Ideal S1x1024 .f32) (p : Fin 8) (q : Fin 1024) :
    out0_A_10 c i a1 h1 a2 h2 a3 h3 a4 h4 a5 h5 a6 h6 a7 h7 a8 h8 a9 h9 a10 h10 a11 h11 hc x0 x1 x2 x3 x4 x5 x6 x7  (ix2 p q) = dgBlk x0 x1 x2 x3 x4 x5 p q := by
  unfold out0_A_10
  unfold kernelRun0_A
  dsimp only
  sl_unfold_words
  simp only [View.readAt_eq_ld, h1.read_unread, h2.read_unread, h3.read_unread, h4.read_unread, h5.read_unread, h6.read_unread, h7.read_unread, h8.read_unread, h11.read_unread, View.ld_unit_zero (S := S512x512) hz2, View.ld_unit_zero (S := S512x1024) hz2, View.ld_unit_zero (S := S1x1024) hz2, ld_panel0, ld_panel1, ld_panel2, ld_panel3, ld_panel4, ld_panel5, ld_panel6, ld_panel7]
  by_cases hp : p = 0
  · subst hp
    refine (View.read_writes_cons_hit_of_coords _ _ _ _ _ (ix2 (0 : Fin 1) q) (ix2 (0 : Fin 8) q) (fun a => by
      match a with
      | ⟨0, _⟩ => rfl
      | ⟨1, _⟩ => show q.val = 0 + 1 * q.val; omega)).trans ?_
    refine (pay16_prod x0 x1 x2 x3 x4 x5 _ q).trans ?_
    rw [readCov_zero, zero_add]
  · unfold dgBlk
    rw [if_neg hp]
    refine (View.read_writes_cons_miss_of_axis _ _ _ _ (ix2 p q) (0 : Fin 2) 0 1 rfl rfl rfl (.inr (by
      show 0 + 1 ≤ p.val
      have : p.val ≠ 0 := fun h => hp (Fin.ext h)
      omega))).trans ?_
    refine (View.read_writes_cons_hit_of_coords _ _ _ _ _ (ix2 p q) (ix2 p q) (fun a => by
      match a with
      | ⟨0, _⟩ => show p.val = 0 + 1 * p.val; omega
      | ⟨1, _⟩ => show q.val = 0 + 1 * q.val; omega)).trans ?_
    exact Ideal.ofBits_zero_f32

theorem out_B_8 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x512 .bf16) (h3 : a3.IsWhole)
    (a4 : Memref sig .tc .vmem S512x512 .bf16) (h4 : a4.IsWhole)
    (a5 : Memref sig .tc .vmem S8x1024x256 .bf16) (h5 : a5.IsWhole)
    (a6 : Memref sig .tc .vmem S512x1024 .f32) (h6 : a6.IsWhole)
    (a7 : Memref sig .tc .vmem S512x1024 .f32) (h7 : a7.IsWhole)
    (a8 : Memref sig .tc .vmem S1x1024 .f32) (h8 : a8.IsWhole)
    (a9 : Memref sig .tc .vmem S512x1024 .f32) (h9 : a9.IsWhole)
    (a10 : Memref sig .tc .vmem S512x2048 .bf16) (h10 : a10.IsWhole)
    (a11 : Memref sig .tc .vmem S8x1024 .f32) (h11 : a11.IsWhole) (hc : ¬cond0_0 i)
    (x0 x1 x2 x3 : Vec Ideal S512x512 .bf16) (x4 : Vec Ideal S8x1024x256 .bf16) (x5 x6 : Vec Ideal S512x1024 .f32) (x7 : Vec Ideal S1x1024 .f32) (xo : Vec Ideal S8x1024 .f32) (p : Fin 512) (q : Fin 1024) :
    out0_B_8 c i a1 h1 a2 h2 a3 h3 a4 h4 a5 h5 a6 h6 a7 h7 a8 h8 a9 h9 a10 h10 a11 h11 hc x0 x1 x2 x3 x4 x5 x6 x7 xo (ix2 p q) = dxBlk x0 x1 x2 x3 x4 x5 x6 x7 p q := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 x7 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h11.read_unread, View.ld_unit_zero (S := S512x512) hz2, View.ld_unit_zero (S := S512x1024) hz2, View.ld_unit_zero (S := S1x1024) hz2, ld_panel0, ld_panel1, ld_panel2, ld_panel3, ld_panel4, ld_panel5, ld_panel6, ld_panel7]
  exact pay15_prod x0 x1 x2 x3 x4 x5 x6 x7 p q

theorem out_B_9 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x512 .bf16) (h3 : a3.IsWhole)
    (a4 : Memref sig .tc .vmem S512x512 .bf16) (h4 : a4.IsWhole)
    (a5 : Memref sig .tc .vmem S8x1024x256 .bf16) (h5 : a5.IsWhole)
    (a6 : Memref sig .tc .vmem S512x1024 .f32) (h6 : a6.IsWhole)
    (a7 : Memref sig .tc .vmem S512x1024 .f32) (h7 : a7.IsWhole)
    (a8 : Memref sig .tc .vmem S1x1024 .f32) (h8 : a8.IsWhole)
    (a9 : Memref sig .tc .vmem S512x1024 .f32) (h9 : a9.IsWhole)
    (a10 : Memref sig .tc .vmem S512x2048 .bf16) (h10 : a10.IsWhole)
    (a11 : Memref sig .tc .vmem S8x1024 .f32) (h11 : a11.IsWhole) (hc : ¬cond0_0 i)
    (x0 x1 x2 x3 : Vec Ideal S512x512 .bf16) (x4 : Vec Ideal S8x1024x256 .bf16) (x5 x6 : Vec Ideal S512x1024 .f32) (x7 : Vec Ideal S1x1024 .f32) (xo : Vec Ideal S8x1024 .f32) (y : S512x2048.Idx) :
    out0_B_9 c i a1 h1 a2 h2 a3 h3 a4 h4 a5 h5 a6 h6 a7 h7 a8 h8 a9 h9 a10 h10 a11 h11 hc x0 x1 x2 x3 x4 x5 x6 x7 xo y = catBlk x0 x1 x2 x3 y := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 xo)]
  refine View.canon_apply_of_pieces (catBlk x0 x1 x2 x3) _ ?_ y (cover0_B_9 c i a1 h1 a2 h2 a3 h3 a4 h4 a5 h5 a6 h6 a7 h7 a8 h8 a9 h9 a10 h10 a11 h11 hc x0 x1 x2 x3 x4 x5 x6 x7 xo y)
  unfold kernelRun0_B
  dsimp only
  sl_unfold_words
  simp only [View.readAt_eq_ld, h1.read_unread, h2.read_unread, h3.read_unread, h4.read_unread, h5.read_unread, h6.read_unread, h7.read_unread, h8.read_unread, h11.read_unread, View.ld_unit_zero (S := S512x512) hz2, View.ld_unit_zero (S := S512x1024) hz2, View.ld_unit_zero (S := S1x1024) hz2, ld_panel0, ld_panel1, ld_panel2, ld_panel3, ld_panel4, ld_panel5, ld_panel6, ld_panel7]
  intro pc hpc x
  simp only [List.mem_cons, List.not_mem_nil, or_false] at hpc
  rcases hpc with rfl | rfl | rfl | rfl | rfl | rfl | rfl | rfl
  · exact catBlk_piece x0 x1 x2 x3 3 256 (.inr rfl) slices_S512x512_o0_256_S512x256 ![0, 1792] rfl inb_S512x2048_S512x256_0_1792 x
  · exact catBlk_piece x0 x1 x2 x3 3 0 (.inl rfl) slices_S512x512_o0_0_S512x256 ![0, 1536] rfl inb_S512x2048_S512x256_0_1536 x
  · exact catBlk_piece x0 x1 x2 x3 2 256 (.inr rfl) slices_S512x512_o0_256_S512x256 ![0, 1280] rfl inb_S512x2048_S512x256_0_1280 x
  · exact catBlk_piece x0 x1 x2 x3 2 0 (.inl rfl) slices_S512x512_o0_0_S512x256 ![0, 1024] rfl inb_S512x2048_S512x256_0_1024 x
  · exact catBlk_piece x0 x1 x2 x3 1 256 (.inr rfl) slices_S512x512_o0_256_S512x256 ![0, 768] rfl inb_S512x2048_S512x256_0_768 x
  · exact catBlk_piece x0 x1 x2 x3 1 0 (.inl rfl) slices_S512x512_o0_0_S512x256 ![0, 512] rfl inb_S512x2048_S512x256_0_512 x
  · exact catBlk_piece x0 x1 x2 x3 0 256 (.inr rfl) slices_S512x512_o0_256_S512x256 ![0, 256] rfl inb_S512x2048_S512x256_0_256 x
  · exact catBlk_piece x0 x1 x2 x3 0 0 (.inl rfl) slices_S512x512_o0_0_S512x256 ![0, 0] rfl inb_S512x2048_S512x256_0_0 x

theorem out_B_10 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x512 .bf16) (h3 : a3.IsWhole)
    (a4 : Memref sig .tc .vmem S512x512 .bf16) (h4 : a4.IsWhole)
    (a5 : Memref sig .tc .vmem S8x1024x256 .bf16) (h5 : a5.IsWhole)
    (a6 : Memref sig .tc .vmem S512x1024 .f32) (h6 : a6.IsWhole)
    (a7 : Memref sig .tc .vmem S512x1024 .f32) (h7 : a7.IsWhole)
    (a8 : Memref sig .tc .vmem S1x1024 .f32) (h8 : a8.IsWhole)
    (a9 : Memref sig .tc .vmem S512x1024 .f32) (h9 : a9.IsWhole)
    (a10 : Memref sig .tc .vmem S512x2048 .bf16) (h10 : a10.IsWhole)
    (a11 : Memref sig .tc .vmem S8x1024 .f32) (h11 : a11.IsWhole) (hc : ¬cond0_0 i)
    (x0 x1 x2 x3 : Vec Ideal S512x512 .bf16) (x4 : Vec Ideal S8x1024x256 .bf16) (x5 x6 : Vec Ideal S512x1024 .f32) (x7 : Vec Ideal S1x1024 .f32) (xo : Vec Ideal S8x1024 .f32) (p : Fin 8) (q : Fin 1024) :
    out0_B_10 c i a1 h1 a2 h2 a3 h3 a4 h4 a5 h5 a6 h6 a7 h7 a8 h8 a9 h9 a10 h10 a11 h11 hc x0 x1 x2 x3 x4 x5 x6 x7 xo (ix2 p q) = xo (ix2 p q) + dgBlk x0 x1 x2 x3 x4 x5 p q := by
  unfold out0_B_10
  unfold kernelRun0_B
  dsimp only
  sl_unfold_words
  simp only [View.readAt_eq_ld, h1.read_unread, h2.read_unread, h3.read_unread, h4.read_unread, h5.read_unread, h6.read_unread, h7.read_unread, h8.read_unread, h11.read_unread, View.ld_unit_zero (S := S512x512) hz2, View.ld_unit_zero (S := S512x1024) hz2, View.ld_unit_zero (S := S1x1024) hz2, ld_panel0, ld_panel1, ld_panel2, ld_panel3, ld_panel4, ld_panel5, ld_panel6, ld_panel7]
  by_cases hp : p = 0
  · subst hp
    refine (View.read_writes_cons_hit_of_coords _ _ _ _ _ (ix2 (0 : Fin 1) q) (ix2 (0 : Fin 8) q) (fun a => by
      match a with
      | ⟨0, _⟩ => rfl
      | ⟨1, _⟩ => show q.val = 0 + 1 * q.val; omega)).trans ?_
    refine (pay16_prod x0 x1 x2 x3 x4 x5 _ q).trans ?_
    refine congrArg (· + _) (congrArg xo (funext fun a => Fin.ext ?_))
    match a with
    | ⟨0, _⟩ => rfl
    | ⟨1, _⟩ => show 0 + 1 * q.val = q.val; omega
  · unfold dgBlk
    rw [if_neg hp, add_zero]
    refine (View.read_writes_cons_miss_of_axis _ _ _ _ (ix2 p q) (0 : Fin 2) 0 1 rfl rfl rfl (.inr (by
      show 0 + 1 ≤ p.val
      have : p.val ≠ 0 := fun h => hp (Fin.ext h)
      omega))).trans ?_
    rw [View.writes_nil, h11.read_unread]

end Cert.BwdInIdeal.Rows

end
-- ==== Proof.BwdInWhole.lean ====
module

public import proofs.«01_k».proof.Proof.BwdInRows
public import Idealize.ShloMosaic.Lib.Pipeline.Value
public import Idealize.ShloMosaic.Lib.StableHlo

@[expose] public section

noncomputable section

/-! # The input-projection backward, whole arrays

The three result arrays as functions of the argument arrays, over the extended reals: the row blocks put together, the weight as
it is before it is cut into panels, and the accumulated row as one sum over all rows. -/

namespace Cert.BwdInIdeal.Whole

open Cert.BwdInIdeal Cert.BwdInIdeal.Gen Cert.BwdInIdeal.Value Cert.BwdInIdeal.Pay Cert.BwdInIdeal.Rows
open Idealize.ShloMosaic Idealize.ShloMosaic.ValueIdx Idealize.ShloMosaic.TcCoe Idealize.SL.Sem
open scoped BigOperators

variable (m : (ℓ : Loc nD τ sig) → Buf (Elt Ideal) ℓ) (ρ : Dev nD → PrngReg)

/-- Row `i` of row block `t`. -/
def row (t : Fin 8) (i : Fin 512) : Fin 4096 := ⟨512 * t.val + i.val, by omega⟩
/-- Column `q` of panel `p`. -/
def colOf (p : Fin 8) (q : Fin 256) : Fin 2048 := ⟨256 * p.val + q.val, by omega⟩
/-- A grid point as a row block's number. -/
def pt (t : Fin cfg0.N) : Fin 8 := ⟨t.val, t.isLt⟩

/-! ## The functions of the whole arrays -/

/-- The four gradients side by side. -/
def cat (d : Fin 4 → S4096x512.Idx → EReal) (s : Fin 4096) (k : Fin 2048) : EReal :=
  d ⟨k.val / 512, by omega⟩ (ix2 s (⟨k.val % 512, Nat.mod_lt _ (by norm_num)⟩ : Fin 512))

/-- The gradient of the normalised rows. -/
def dhW (d : Fin 4 → S4096x512.Idx → EReal) (w : S1024x2048.Idx → EReal) (s : Fin 4096) (j : Fin 1024) : EReal :=
  ∑ k : Fin 2048, cat d s k * w (ix2 j k)

/-- The reciprocal root mean square of row `s`. -/
def rW (x : S4096x1024.Idx → EReal) (s : Fin 4096) : EReal :=
  Ideal.rsqrt (Ideal.div (∑ k : Fin 1024, x (ix2 s k) * x (ix2 s k)) ((1024 : ℝ) : EReal) + ((Reals.eps : ℝ) : EReal))

/-- The first result. -/
def dxW (x : S4096x1024.Idx → EReal) (g : S1024.Idx → EReal) (w : S1024x2048.Idx → EReal) (d : Fin 4 → S4096x512.Idx → EReal)
    (h : S4096x1024.Idx → EReal) (s : Fin 4096) (j : Fin 1024) : EReal :=
  h (ix2 s j) + rW x s * (dhW d w s j * g (ix1 j)
    - x (ix2 s j) * rW x s * Ideal.div (∑ k : Fin 1024, dhW d w s k * g (ix1 k) * (x (ix2 s k) * rW x s)) ((1024 : ℝ) : EReal))

/-- The first row of the third result. -/
def dgW (x : S4096x1024.Idx → EReal) (w : S1024x2048.Idx → EReal) (d : Fin 4 → S4096x512.Idx → EReal) (j : Fin 1024) : EReal :=
  ∑ s : Fin 4096, dhW d w s j * (x (ix2 s j) * rW x s)

/-! ## Sums over parts -/

theorem sum_parts {n p q : ℕ} (hn : n = p * q) (e : Fin p → Fin q → Fin n) (he : ∀ a b, (e a b).val = q * a.val + b.val) (f : Fin n → EReal) :
    ∑ k : Fin n, f k = ∑ a : Fin p, ∑ b : Fin q, f (e a b) := by
  subst hn
  rw [← Fintype.sum_prod_type', ← Equiv.sum_comp finProdFinEquiv]
  refine Finset.sum_congr rfl fun ab _ => congrArg f (Fin.ext ?_)
  rw [he]
  simp [finProdFinEquiv, Nat.add_comm]

/-! ## The blocks the windows stage -/

/-- Where an index of row block `t` lies in the array: the block's offsets on the two axes give its place. -/
theorem place {n k : Nat} (t : Fin 8) (i : Fin 512) (j : Fin n) (z : (⟨2, ![4096, n]⟩ : Shape).Idx) (a b : Nat)
    (ha : a = t.val) (hb : b = 0) (h0 : (z 0).val = a * 512 + 1 * i.val) (h1 : (z 1).val = b * k + 1 * j.val) : z = ix2 (row t i) j := by
  subst ha hb
  refine funext fun x => Fin.ext ?_
  match x with
  | ⟨0, _⟩ => show (z 0).val = 512 * t.val + i.val; rw [h0]; omega
  | ⟨1, _⟩ => show (z 1).val = j.val; rw [h1]; omega

theorem index0 : ∀ t : Fin grid0.N, win0_0.index t 0 = t.val ∧ win0_0.index t 1 = 0 := by decide +kernel

theorem iblk0_apply (c : Dev nD) (t : Fin cfg0.N) (i : Fin 512) (j : Fin 512) :
    (iblk m c 0 t : Vec Ideal S512x512 _) (ix2 i j) = (m ((c : Thread nD τ).loc main_arg3) : S4096x512.Idx → EReal) (ix2 (row (pt t) i) j) := by
  unfold iblk
  rw [View.read_apply]
  exact (congrFun (V_main_arg3 m c) _).trans (congrArg (m ((c : Thread nD τ).loc main_arg3)) (place (pt t) i j _ _ _ (index0 t).1 (index0 t).2 rfl rfl))

theorem index1 : ∀ t : Fin grid0.N, win0_1.index t 0 = t.val ∧ win0_1.index t 1 = 0 := by decide +kernel

theorem iblk1_apply (c : Dev nD) (t : Fin cfg0.N) (i : Fin 512) (j : Fin 512) :
    (iblk m c 1 t : Vec Ideal S512x512 _) (ix2 i j) = (m ((c : Thread nD τ).loc main_arg4) : S4096x512.Idx → EReal) (ix2 (row (pt t) i) j) := by
  unfold iblk
  rw [View.read_apply]
  exact (congrFun (V_main_arg4 m c) _).trans (congrArg (m ((c : Thread nD τ).loc main_arg4)) (place (pt t) i j _ _ _ (index1 t).1 (index1 t).2 rfl rfl))

theorem index2 : ∀ t : Fin grid0.N, win0_2.index t 0 = t.val ∧ win0_2.index t 1 = 0 := by decide +kernel

theorem iblk2_apply (c : Dev nD) (t : Fin cfg0.N) (i : Fin 512) (j : Fin 512) :
    (iblk m c 2 t : Vec Ideal S512x512 _) (ix2 i j) = (m ((c : Thread nD τ).loc main_arg5) : S4096x512.Idx → EReal) (ix2 (row (pt t) i) j) := by
  unfold iblk
  rw [View.read_apply]
  exact (congrFun (V_main_arg5 m c) _).trans (congrArg (m ((c : Thread nD τ).loc main_arg5)) (place (pt t) i j _ _ _ (index2 t).1 (index2 t).2 rfl rfl))

theorem index3 : ∀ t : Fin grid0.N, win0_3.index t 0 = t.val ∧ win0_3.index t 1 = 0 := by decide +kernel

theorem iblk3_apply (c : Dev nD) (t : Fin cfg0.N) (i : Fin 512) (j : Fin 512) :
    (iblk m c 3 t : Vec Ideal S512x512 _) (ix2 i j) = (m ((c : Thread nD τ).loc main_arg6) : S4096x512.Idx → EReal) (ix2 (row (pt t) i) j) := by
  unfold iblk
  rw [View.read_apply]
  exact (congrFun (V_main_arg6 m c) _).trans (congrArg (m ((c : Thread nD τ).loc main_arg6)) (place (pt t) i j _ _ _ (index3 t).1 (index3 t).2 rfl rfl))

theorem index5 : ∀ t : Fin grid0.N, win0_5.index t 0 = t.val ∧ win0_5.index t 1 = 0 := by decide +kernel

theorem iblk5_apply (c : Dev nD) (t : Fin cfg0.N) (i : Fin 512) (j : Fin 1024) :
    (iblk m c 5 t : Vec Ideal S512x1024 _) (ix2 i j) = (m ((c : Thread nD τ).loc main_arg0) : S4096x1024.Idx → EReal) (ix2 (row (pt t) i) j) := by
  unfold iblk
  rw [View.read_apply]
  exact (congrFun (V_main_arg0 m c) _).trans (congrArg (m ((c : Thread nD τ).loc main_arg0)) (place (pt t) i j _ _ _ (index5 t).1 (index5 t).2 rfl rfl))

theorem index6 : ∀ t : Fin grid0.N, win0_6.index t 0 = t.val ∧ win0_6.index t 1 = 0 := by decide +kernel

theorem iblk6_apply (c : Dev nD) (t : Fin cfg0.N) (i : Fin 512) (j : Fin 1024) :
    (iblk m c 6 t : Vec Ideal S512x1024 _) (ix2 i j) = (m ((c : Thread nD τ).loc main_arg7) : S4096x1024.Idx → EReal) (ix2 (row (pt t) i) j) := by
  unfold iblk
  rw [View.read_apply]
  exact (congrFun (V_main_arg7 m c) _).trans (congrArg (m ((c : Thread nD τ).loc main_arg7)) (place (pt t) i j _ _ _ (index6 t).1 (index6 t).2 rfl rfl))

/-- A weight cut into panels: panel `p` holds columns `256 p …`. -/
theorem panels_apply (w : Vec Ideal S1024x2048 .f32) (h : S1024x2048.ShapeCasts S1024x8x256) (ht : S1024x8x256.Transposes [1, 0, 2] S8x1024x256)
    (hb : FTy.bits .bf16 < FTy.bits .f32) (p : Fin 8) (j : Fin 1024) (q : Fin 256) :
    (truncf (F := Ideal) .bf16 (transpose S8x1024x256 [1, 0, 2] (shapeCast S1024x8x256 w h) ht) hb : Vec Ideal S8x1024x256 .bf16) (ix3 p j q)
      = w (ix2 j (colOf p q)) := by
  rw [truncf_apply]
  refine (transpose_apply [1, 0, 2] _ _ (ix3 p j q) (ix3 j p q) (fun a => by
    match a with
    | ⟨0, _⟩ => rfl
    | ⟨1, _⟩ => rfl
    | ⟨2, _⟩ => rfl)).trans ?_
  refine shapeCast_apply _ _ _ (ix2 j (colOf p q)) ?_
  rw [Shape.rowMajor_val_three, Shape.rowMajor_val_two]
  show j.val * 2048 + (256 * p.val + q.val) = (j.val * 8 + p.val) * 256 + q.val
  omega

/-- The prepared weight. -/
theorem V_panels (c : Dev nD) (p : Fin 8) (j : Fin 1024) (q : Fin 256) :
    (V m c main_v2 : S8x1024x256.Idx → EReal) (ix3 p j q) = (m ((c : Thread nD τ).loc main_arg2) : S1024x2048.Idx → EReal) (ix2 j (colOf p q)) := by
  refine Eq.trans (congrFun ?_ _) (panels_apply _ shapeCasts_S1024x2048_S1024x8x256 transposes_S1024x8x256_S8x1024x256_1_0_2 bitsLt_bf16_f32 p j q)
  show StableHlo.after hostOps0 _ (Proc.devRef .tc main_v2) = _
  after_results
  rfl

theorem V_gain (c : Dev nD) (j : Fin 1024) :
    (V m c main_v3 : S1x1024.Idx → EReal) (ix2 (0 : Fin 1) j) = (m ((c : Thread nD τ).loc main_arg1) : S1024.Idx → EReal) (ix1 j) := by
  have hV : V m c main_v3 = (shapeCast S1x1024 (m ((c : Thread nD τ).loc main_arg1) : Vec Ideal S1024 .f32) shapeCasts_S1024_S1x1024
      : Vec Ideal S1x1024 .f32) := by
    show StableHlo.after hostOps0 _ (Proc.devRef .tc main_v3) = _
    after_results
    rfl
  rw [hV]
  exact shapeCast_a_1a_apply _ _ _ _

theorem index4 : ∀ t : Fin grid0.N, win0_4.index t 0 = 0 ∧ win0_4.index t 1 = 0 ∧ win0_4.index t 2 = 0 := by decide +kernel
theorem index7 : ∀ t : Fin grid0.N, win0_7.index t 0 = 0 ∧ win0_7.index t 1 = 0 := by decide +kernel

theorem iblk4_apply (c : Dev nD) (t : Fin cfg0.N) (p : Fin 8) (j : Fin 1024) (q : Fin 256) :
    (iblk m c 4 t : Vec Ideal S8x1024x256 _) (ix3 p j q)
      = (m ((c : Thread nD τ).loc main_arg2) : S1024x2048.Idx → EReal) (ix2 j (colOf p q)) := by
  rw [← V_panels m c p j q]
  unfold iblk
  rw [View.read_apply]
  refine congrArg (V m c main_v2) (funext fun a => Fin.ext ?_)
  match a with
  | ⟨0, _⟩ => show win0_4.index t 0 * 8 + 1 * p.val = p.val; rw [(index4 t).1]; omega
  | ⟨1, _⟩ => show win0_4.index t 1 * 1024 + 1 * j.val = j.val; rw [(index4 t).2.1]; omega
  | ⟨2, _⟩ => show win0_4.index t 2 * 256 + 1 * q.val = q.val; rw [(index4 t).2.2]; omega

theorem iblk7_apply (c : Dev nD) (t : Fin cfg0.N) (j : Fin 1024) :
    (iblk m c 7 t : Vec Ideal S1x1024 _) (ix2 (0 : Fin 1) j) = (m ((c : Thread nD τ).loc main_arg1) : S1024.Idx → EReal) (ix1 j) := by
  rw [← V_gain m c j]
  unfold iblk
  rw [View.read_apply]
  refine congrArg (V m c main_v3) (funext fun a => Fin.ext ?_)
  match a with
  | ⟨0, _⟩ => show win0_7.index t 0 * 1 + 1 * 0 = 0; rw [(index7 t).1]
  | ⟨1, _⟩ => show win0_7.index t 1 * 1024 + 1 * j.val = j.val; rw [(index7 t).2]; omega

/-! ## The blocks of the results -/

/-- The argument arrays, named. -/
abbrev aX (c : Dev nD) : S4096x1024.Idx → EReal := m ((c : Thread nD τ).loc main_arg0)
abbrev aG (c : Dev nD) : S1024.Idx → EReal := m ((c : Thread nD τ).loc main_arg1)
abbrev aW (c : Dev nD) : S1024x2048.Idx → EReal := m ((c : Thread nD τ).loc main_arg2)
abbrev aD (c : Dev nD) : Fin 4 → S4096x512.Idx → EReal :=
  ![m ((c : Thread nD τ).loc main_arg3), m ((c : Thread nD τ).loc main_arg4), m ((c : Thread nD τ).loc main_arg5), m ((c : Thread nD τ).loc main_arg6)]
abbrev aH (c : Dev nD) : S4096x1024.Idx → EReal := m ((c : Thread nD τ).loc main_arg7)

theorem rowR_eq (c : Dev nD) (t : Fin cfg0.N) (i : Fin 512) : rowR (iblk m c 5 t) i = rW (aX m c) (row (pt t) i) := by
  unfold rowR rW
  simp only [iblk5_apply]

theorem dh_eq (c : Dev nD) (t : Fin cfg0.N) (i : Fin 512) (j : Fin 1024) :
    dh (iblk m c 0 t) (iblk m c 1 t) (iblk m c 2 t) (iblk m c 3 t) (panel (iblk m c 4 t)) i j = dhW (aD m c) (aW m c) (row (pt t) i) j := by
  unfold dhW
  rw [sum_parts (p := 8) (q := 256) rfl colOf (fun _ _ => rfl), Fin.sum_univ_eight]
  unfold dh
  have hp : ∀ p : Fin 8, ∀ q : Fin 256, panel (iblk m c 4 t) p (ix3 (0 : Fin 1) j q) = aW m c (ix2 j (colOf p q)) := fun p q => iblk4_apply m c t p j q
  have hc : ∀ (n : Fin 4) (b : Nat) (p : Fin 8) (q : Fin 256) (k : Fin 512), k.val = b + q.val → 512 * n.val + b = 256 * p.val →
      cat (aD m c) (row (pt t) i) (colOf p q) = aD m c n (ix2 (row (pt t) i) k) := by
    intro n b p q k hk hb
    have hv : (colOf p q).val = 512 * n.val + k.val := by show 256 * p.val + q.val = _; omega
    unfold cat
    have h1 : (⟨(colOf p q).val / 512, by omega⟩ : Fin 4) = n := Fin.ext (by show (colOf p q).val / 512 = n.val; omega)
    have h2 : (⟨(colOf p q).val % 512, Nat.mod_lt _ (by norm_num)⟩ : Fin 512) = k := Fin.ext (by show (colOf p q).val % 512 = k.val; omega)
    rw [h1, h2]
  simp only [hp, iblk0_apply, iblk1_apply, iblk2_apply, iblk3_apply]
  have h0 : ∀ q, cat (aD m c) (row (pt t) i) (colOf 0 q) = aD m c 0 (ix2 (row (pt t) i) (lo q)) := fun q => hc 0 0 0 q (lo q) (by simp [lo]) rfl
  have h1 : ∀ q, cat (aD m c) (row (pt t) i) (colOf 1 q) = aD m c 0 (ix2 (row (pt t) i) (hi q)) := fun q => hc 0 256 1 q (hi q) (by simp [hi]) rfl
  have h2 : ∀ q, cat (aD m c) (row (pt t) i) (colOf 2 q) = aD m c 1 (ix2 (row (pt t) i) (lo q)) := fun q => hc 1 0 2 q (lo q) (by simp [lo]) rfl
  have h3 : ∀ q, cat (aD m c) (row (pt t) i) (colOf 3 q) = aD m c 1 (ix2 (row (pt t) i) (hi q)) := fun q => hc 1 256 3 q (hi q) (by simp [hi]) rfl
  have h4 : ∀ q, cat (aD m c) (row (pt t) i) (colOf 4 q) = aD m c 2 (ix2 (row (pt t) i) (lo q)) := fun q => hc 2 0 4 q (lo q) (by simp [lo]) rfl
  have h5 : ∀ q, cat (aD m c) (row (pt t) i) (colOf 5 q) = aD m c 2 (ix2 (row (pt t) i) (hi q)) := fun q => hc 2 256 5 q (hi q) (by simp [hi]) rfl
  have h6 : ∀ q, cat (aD m c) (row (pt t) i) (colOf 6 q) = aD m c 3 (ix2 (row (pt t) i) (lo q)) := fun q => hc 3 0 6 q (lo q) (by simp [lo]) rfl
  have h7 : ∀ q, cat (aD m c) (row (pt t) i) (colOf 7 q) = aD m c 3 (ix2 (row (pt t) i) (hi q)) := fun q => hc 3 256 7 q (hi q) (by simp [hi]) rfl
  simp only [h0, h1, h2, h3, h4, h5, h6, h7]
  rfl

theorem dxBlk_eq (c : Dev nD) (t : Fin cfg0.N) (i : Fin 512) (j : Fin 1024) :
    dxBlk (iblk m c 0 t) (iblk m c 1 t) (iblk m c 2 t) (iblk m c 3 t) (iblk m c 4 t) (iblk m c 5 t) (iblk m c 6 t) (iblk m c 7 t) i j
      = dxW (aX m c) (aG m c) (aW m c) (aD m c) (aH m c) (row (pt t) i) j := by
  unfold dxBlk dxW
  simp only [dh_eq, rowR_eq, iblk5_apply, iblk6_apply, iblk7_apply]

theorem dgBlk_eq (c : Dev nD) (t : Fin cfg0.N) (p : Fin 8) (j : Fin 1024) :
    dgBlk (iblk m c 0 t) (iblk m c 1 t) (iblk m c 2 t) (iblk m c 3 t) (iblk m c 4 t) (iblk m c 5 t) p j
      = if p = 0 then ∑ i : Fin 512, dhW (aD m c) (aW m c) (row (pt t) i) j * (aX m c (ix2 (row (pt t) i) j) * rW (aX m c) (row (pt t) i)) else 0 := by
  unfold dgBlk
  simp only [dh_eq, rowR_eq, iblk5_apply]

theorem catBlk_eq (c : Dev nD) (t : Fin cfg0.N) (i : Fin 512) (k : Fin 2048) :
    catBlk (iblk m c 0 t) (iblk m c 1 t) (iblk m c 2 t) (iblk m c 3 t) (ix2 i k) = cat (aD m c) (row (pt t) i) k := by
  unfold catBlk cat
  have hk : k.val / 512 = 0 ∨ k.val / 512 = 1 ∨ k.val / 512 = 2 ∨ k.val / 512 = 3 := by omega
  have key : ∀ n : Fin 4, (![iblk m c 0 t, iblk m c 1 t, iblk m c 2 t, iblk m c 3 t] : Fin 4 → Vec Ideal S512x512 .bf16) n
      (ix2 i (⟨k.val % 512, Nat.mod_lt _ (by norm_num)⟩ : Fin 512)) = aD m c n (ix2 (row (pt t) i) (⟨k.val % 512, Nat.mod_lt _ (by norm_num)⟩ : Fin 512)) := by
    intro n
    match n with
    | ⟨0, _⟩ => exact iblk0_apply m c t i _
    | ⟨1, _⟩ => exact iblk1_apply m c t i _
    | ⟨2, _⟩ => exact iblk2_apply m c t i _
    | ⟨3, _⟩ => exact iblk3_apply m c t i _
  exact key _

/-- Result 0 as a whole array. -/
def res8 (c : Dev nD) : Buf (Elt Ideal) ((c : Thread nD τ).loc main_v4_0) := fun (y : S4096x1024.Idx) => dxW (aX m c) (aG m c) (aW m c) (aD m c) (aH m c) (y 0) (y 1)

theorem index8 : ∀ t : Fin grid0.N, win0_8.index t 0 = t.val ∧ win0_8.index t 1 = 0 := by decide +kernel

theorem flushed8_eq (c : Dev nD) (t : Fin cfg0.N) :
    (dats m 0 c).flushed 8 t = ((cfg0.win 8).blk t).view.read (Elt Ideal) (res8 m c) := by
  funext y
  obtain ⟨i, j, rfl⟩ : ∃ (i : Fin 512) (j : Fin 1024), y = ix2 i j := ⟨y 0, y 1, eq_ix2 y⟩
  have hR : ((cfg0.win 8).blk t).view.read (Elt Ideal) (res8 m c) (ix2 i j) = dxW (aX m c) (aG m c) (aW m c) (aD m c) (aH m c) (row (pt t) i) j := by
    rw [View.read_apply]
    have e0 : (((cfg0.win 8).blk t).view.emb (ix2 i j)) 0 = row (pt t) i := Fin.ext (by
      show win0_8.index t 0 * 512 + 1 * i.val = 512 * t.val + i.val; rw [(index8 t).1]; omega)
    have e1 : (((cfg0.win 8).blk t).view.emb (ix2 i j)) 1 = j := Fin.ext (by
      show win0_8.index t 1 * 1024 + 1 * j.val = j.val; rw [(index8 t).2]; omega)
    show dxW (aX m c) (aG m c) (aW m c) (aD m c) (aH m c) ((((cfg0.win 8).blk t).view.emb (ix2 i j)) 0) ((((cfg0.win 8).blk t).view.emb (ix2 i j)) 1) = _
    rw [e0, e1]
  rw [hR, ← dxBlk_eq m c t i j]
  by_cases h0 : t.val % 8 = 0
  · rw [flushed8_A m c t h0]
    exact out_A_8 ..
  · rw [flushed8_B m c t h0]
    exact out_B_8 ..

theorem cover8 (t : Fin cfg0.N) (i : S4096x1024.Idx) (ht : t.val = (i 0 : Nat) / 512) : i ∈ ((cfg0.win 8).blk t).view.set := by
  show i ∈ ((View.whole main_v4_0).slice (win0_8.rect t)).set
  rw [View.set_slice_whole, Rect.mem_set_unit]
  have h0 : (i 0 : Nat) < 4096 := (i 0).isLt
  have h1 : (i 1 : Nat) < 1024 := (i 1).isLt
  intro a
  match a with
  | ⟨0, _⟩ =>
    show win0_8.index t 0 * 512 ≤ (i 0 : Nat) ∧ (i 0 : Nat) < win0_8.index t 0 * 512 + 512
    rw [(index8 t).1]; omega
  | ⟨1, _⟩ =>
    show win0_8.index t 1 * 1024 ≤ (i 1 : Nat) ∧ (i 1 : Nat) < win0_8.index t 1 * 1024 + 1024
    rw [(index8 t).2]; omega

theorem final8 (c : Dev nD) : (dats m 0 c).arrAt 8 cfg0.N = res8 m c :=
  (dats m 0 c).arrAt_eq_of_cover 8 (res8 m c) (fun t _ => flushed8_eq m c t) fun (i : S4096x1024.Idx) => by
    have h0 : (i 0 : Nat) < 4096 := (i 0).isLt
    exact ⟨(⟨(i 0 : Nat) / 512, by show (i 0 : Nat) / 512 < 8; omega⟩ : Fin cfg0.N), flush0_8 _, cover8 _ i rfl⟩

/-- Result 1 as a whole array. -/
def res9 (c : Dev nD) : Buf (Elt Ideal) ((c : Thread nD τ).loc main_v4_1) := fun (y : S4096x2048.Idx) => cat (aD m c) (y 0) (y 1)

theorem index9 : ∀ t : Fin grid0.N, win0_9.index t 0 = t.val ∧ win0_9.index t 1 = 0 := by decide +kernel

theorem flushed9_eq (c : Dev nD) (t : Fin cfg0.N) :
    (dats m 0 c).flushed 9 t = ((cfg0.win 9).blk t).view.read (Elt Ideal) (res9 m c) := by
  funext y
  obtain ⟨i, j, rfl⟩ : ∃ (i : Fin 512) (j : Fin 2048), y = ix2 i j := ⟨y 0, y 1, eq_ix2 y⟩
  have hR : ((cfg0.win 9).blk t).view.read (Elt Ideal) (res9 m c) (ix2 i j) = cat (aD m c) (row (pt t) i) j := by
    rw [View.read_apply]
    have e0 : (((cfg0.win 9).blk t).view.emb (ix2 i j)) 0 = row (pt t) i := Fin.ext (by
      show win0_9.index t 0 * 512 + 1 * i.val = 512 * t.val + i.val; rw [(index9 t).1]; omega)
    have e1 : (((cfg0.win 9).blk t).view.emb (ix2 i j)) 1 = j := Fin.ext (by
      show win0_9.index t 1 * 2048 + 1 * j.val = j.val; rw [(index9 t).2]; omega)
    show cat (aD m c) ((((cfg0.win 9).blk t).view.emb (ix2 i j)) 0) ((((cfg0.win 9).blk t).view.emb (ix2 i j)) 1) = _
    rw [e0, e1]
  rw [hR, ← catBlk_eq m c t i j]
  by_cases h0 : t.val % 8 = 0
  · rw [flushed9_A m c t h0]
    exact out_A_9 ..
  · rw [flushed9_B m c t h0]
    exact out_B_9 ..

theorem cover9 (t : Fin cfg0.N) (i : S4096x2048.Idx) (ht : t.val = (i 0 : Nat) / 512) : i ∈ ((cfg0.win 9).blk t).view.set := by
  show i ∈ ((View.whole main_v4_1).slice (win0_9.rect t)).set
  rw [View.set_slice_whole, Rect.mem_set_unit]
  have h0 : (i 0 : Nat) < 4096 := (i 0).isLt
  have h1 : (i 1 : Nat) < 2048 := (i 1).isLt
  intro a
  match a with
  | ⟨0, _⟩ =>
    show win0_9.index t 0 * 512 ≤ (i 0 : Nat) ∧ (i 0 : Nat) < win0_9.index t 0 * 512 + 512
    rw [(index9 t).1]; omega
  | ⟨1, _⟩ =>
    show win0_9.index t 1 * 2048 ≤ (i 1 : Nat) ∧ (i 1 : Nat) < win0_9.index t 1 * 2048 + 2048
    rw [(index9 t).2]; omega

theorem final9 (c : Dev nD) : (dats m 0 c).arrAt 9 cfg0.N = res9 m c :=
  (dats m 0 c).arrAt_eq_of_cover 9 (res9 m c) (fun t _ => flushed9_eq m c t) fun (i : S4096x2048.Idx) => by
    have h0 : (i 0 : Nat) < 4096 := (i 0).isLt
    exact ⟨(⟨(i 0 : Nat) / 512, by show (i 0 : Nat) / 512 < 8; omega⟩ : Fin cfg0.N), flush0_9 _, cover9 _ i rfl⟩

/-- What row block `n` adds to the accumulated block. -/
def addTo (c : Dev nD) (p : Fin 8) (j : Fin 1024) (n : ℕ) : EReal :=
  if h : n < cfg0.N then dgBlk (iblk m c 0 ⟨n, h⟩) (iblk m c 1 ⟨n, h⟩) (iblk m c 2 ⟨n, h⟩) (iblk m c 3 ⟨n, h⟩) (iblk m c 4 ⟨n, h⟩) (iblk m c 5 ⟨n, h⟩) p j else 0

/-- The first point leaves its own block; -/
theorem outs_A (c : Dev nD) (p : Fin 8) (j : Fin 1024) (t : Fin cfg0.N) (h0 : t.val % 8 = 0) :
    (outsAt0 m c t.val t.isLt).2.2 (ix2 p j)
      = dgBlk (iblk m c 0 t) (iblk m c 1 t) (iblk m c 2 t) (iblk m c 3 t) (iblk m c 4 t) (iblk m c 5 t) p j := by
  rw [outsAt0_A m c t h0]
  dsimp only
  exact out_A_10 ..

/-- a later one adds its own to what the point before it left. -/
theorem outs_B (c : Dev nD) (p : Fin 8) (j : Fin 1024) (t : Fin cfg0.N) (h0 : ¬t.val % 8 = 0) :
    (outsAt0 m c t.val t.isLt).2.2 (ix2 p j)
      = (outsAt0 m c (t.val - 1) (by omega)).2.2 (ix2 p j)
        + dgBlk (iblk m c 0 t) (iblk m c 1 t) (iblk m c 2 t) (iblk m c 3 t) (iblk m c 4 t) (iblk m c 5 t) p j := by
  rw [outsAt0_B m c t h0]
  dsimp only
  exact out_B_10 ..

/-- The accumulated block after point `n`. -/
theorem outs_eq (c : Dev nD) (p : Fin 8) (j : Fin 1024) : ∀ (n : ℕ) (h : n < cfg0.N),
    (outsAt0 m c n h).2.2 (ix2 p j) = ∑ k ∈ Finset.range (n + 1), addTo m c p j k
  | 0, h => by
    rw [Finset.sum_range_one, addTo, dif_pos h]
    exact outs_A m c p j ⟨0, h⟩ rfl
  | n + 1, h => by
    have hN : cfg0.N = 8 := N_0
    have hB : ¬(⟨n + 1, h⟩ : Fin cfg0.N).val % 8 = 0 := by dsimp only; omega
    rw [Finset.sum_range_succ, ← outs_eq c p j n (Nat.lt_of_succ_lt h), addTo, dif_pos h]
    exact outs_B m c p j ⟨n + 1, h⟩ hB

/-- The third result as a whole array: the sum over all rows in row 0, zeros below. -/
def dgRows (x : S4096x1024.Idx → EReal) (w : S1024x2048.Idx → EReal) (d : Fin 4 → S4096x512.Idx → EReal) (p : Fin 8) (j : Fin 1024) : EReal :=
  if p = 0 then dgW x w d j else 0

def res10 (c : Dev nD) : Buf (Elt Ideal) ((c : Thread nD τ).loc main_v4_2) := fun (y : S8x1024.Idx) =>
  dgRows (aX m c) (aW m c) (aD m c) (y 0) (y 1)

theorem sum_addTo (c : Dev nD) (p : Fin 8) (j : Fin 1024) :
    ∑ k ∈ Finset.range 8, addTo m c p j k = dgRows (aX m c) (aW m c) (aD m c) p j := by
  rw [← Fin.sum_univ_eq_sum_range (fun k => addTo m c p j k) 8]
  unfold dgRows
  have h : ∀ t : Fin 8, addTo m c p j t.val = if p = 0 then ∑ i : Fin 512, dhW (aD m c) (aW m c) (row t i) j * (aX m c (ix2 (row t i) j) * rW (aX m c) (row t i)) else 0 := by
    intro t
    rw [addTo, dif_pos (show t.val < cfg0.N from t.isLt)]
    exact dgBlk_eq m c ⟨t.val, t.isLt⟩ p j
  simp only [h]
  by_cases hp : p = 0
  · simp only [hp, if_true]
    unfold dgW
    rw [sum_parts (p := 8) (q := 512) rfl row (fun _ _ => rfl)]
  · simp only [hp, if_false, Finset.sum_const_zero]

theorem index10 : ∀ t : Fin grid0.N, win0_10.index t 0 = 0 ∧ win0_10.index t 1 = 0 := by decide +kernel

theorem flushed10_eq (c : Dev nD) (t : Fin cfg0.N) (hf : (cfg0.win 10).flush t = true) :
    (dats m 0 c).flushed 10 t = ((cfg0.win 10).blk t).view.read (Elt Ideal) (res10 m c) := by
  have hN : cfg0.N = 8 := N_0
  have h7 : t.val = 7 := by have := (flush0_10 t).mp hf; have := t.isLt; omega
  funext y
  obtain ⟨p, j, rfl⟩ : ∃ (p : Fin 8) (j : Fin 1024), y = ix2 p j := ⟨y 0, y 1, eq_ix2 y⟩
  have hR : ((cfg0.win 10).blk t).view.read (Elt Ideal) (res10 m c) (ix2 p j) = res10 m c (ix2 p j) := by
    rw [View.read_apply]
    refine congrArg (res10 m c) (funext fun a => Fin.ext ?_)
    match a with
    | ⟨0, _⟩ => show win0_10.index t 0 * 8 + 1 * p.val = p.val; rw [(index10 t).1]; omega
    | ⟨1, _⟩ => show win0_10.index t 1 * 1024 + 1 * j.val = j.val; rw [(index10 t).2]; omega
  rw [hR, flushed10]
  show (outsAt0 m c t.val t.isLt).2.2 (ix2 p j) = _
  rw [outs_eq, h7]
  exact sum_addTo m c p j

theorem cover10 (t : Fin cfg0.N) (i : S8x1024.Idx) : i ∈ ((cfg0.win 10).blk t).view.set := by
  show i ∈ ((View.whole main_v4_2).slice (win0_10.rect t)).set
  rw [View.set_slice_whole, Rect.mem_set_unit]
  have h0 : (i 0 : Nat) < 8 := (i 0).isLt
  have h1 : (i 1 : Nat) < 1024 := (i 1).isLt
  intro a
  match a with
  | ⟨0, _⟩ =>
    show win0_10.index t 0 * 8 ≤ (i 0 : Nat) ∧ (i 0 : Nat) < win0_10.index t 0 * 8 + 8
    rw [(index10 t).1]; omega
  | ⟨1, _⟩ =>
    show win0_10.index t 1 * 1024 ≤ (i 1 : Nat) ∧ (i 1 : Nat) < win0_10.index t 1 * 1024 + 1024
    rw [(index10 t).2]; omega

theorem final10 (c : Dev nD) : (dats m 0 c).arrAt 10 cfg0.N = res10 m c :=
  (dats m 0 c).arrAt_eq_of_cover 10 (res10 m c) (flushed10_eq m c) fun (i : S8x1024.Idx) =>
    ⟨(⟨7, by show 7 < 8; omega⟩ : Fin cfg0.N), (flush0_10 _).mpr rfl, cover10 _ i⟩

/-- The run, read: the three result arrays. -/
theorem run : θ_run defs (onTc (τ := τ) (main (F := Ideal))) ⟨m, fun _ => 0, ρ⟩ fun r => ∀ c : Dev nD,
      r.2.mem ((c : Thread nD τ).loc main_v4_0) = res8 m c
      ∧ r.2.mem ((c : Thread nD τ).loc main_v4_1) = res9 m c
      ∧ r.2.mem ((c : Thread nD τ).loc main_v4_2) = res10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2.1.trans (final10 m c),
    (h c).2.2.2⟩) (run_blocks m ρ)

end Cert.BwdInIdeal.Whole

end
-- ==== Proof.BwdInRef.lean ====
module

public import proofs.«01_k».proof.Proof.Gen.BwdInRefIdeal.Read
public import proofs.«01_k».proof.Proof.BwdInWhole
public import Idealize.ShloMosaic.Lib.KernelVsHost

@[expose] public section

noncomputable section

/-! # The input projection's vector-Jacobian product, read

The reference's stages at an index, on arrays of finite entries, against the functions of the whole arrays the kernel leaves. -/

namespace Cert.BwdInRefIdeal.AtReals

open Cert.BwdInRefIdeal Cert.BwdInRefIdeal.Gen Cert.BwdInRefIdeal.Read Cert.BwdInIdeal.Whole
open Idealize.ShloMosaic Idealize.ShloMosaic.ValueIdx
open scoped BigOperators

theorem zero_word : Ideal.ofBits .f32 0x00000000#32 = 0 := by simp [Ideal.ofBits, Ideal.ieee]

variable (x0 : S4096x1024.Idx → EReal) (x1 : S1024.Idx → EReal) (x2 : S1024x2048.Idx → EReal)
  (x3 x4 x5 x6 : S4096x512.Idx → EReal) (x7 : S4096x1024.Idx → EReal)

/-- The four operands, in order. -/
abbrev parts : List ((s : Shape) × (s.Idx → EReal)) :=
  [⟨S4096x512, val_main_v0 (F := Ideal) x3⟩, ⟨S4096x512, val_main_v1 (F := Ideal) x4⟩,
    ⟨S4096x512, val_main_v2 (F := Ideal) x5⟩, ⟨S4096x512, val_main_v3 (F := Ideal) x6⟩]

/-- An element of the joined array, in its operand. -/
theorem joined_piece (s : Fin 4096) (k : Fin 2048) (n : Fin 4) (e : k.val / 512 = n.val) (r : Fin 512) (hr : r.val = k.val % 512)
    (v : S4096x512.Idx → EReal) (hn : n.val < (parts x3 x4 x5 x6).length) (hv : (parts x3 x4 x5 x6)[n.val]'hn = ⟨S4096x512, v⟩) :
    val_main_v4 (F := Ideal) x3 x4 x5 x6 (ix2 s k) = v (ix2 s r) := by
  unfold val_main_v4
  refine concatenate_apply_piece (t := S4096x2048) 1 (parts x3 x4 x5 x6) _ _ n.val hn S4096x512 v hv rfl (n.val * 512) ?_ _ ?_ ?_
  · fin_cases n <;> rfl
  · intro b hb
    match b with
    | ⟨0, _⟩ => rfl
    | ⟨1, _⟩ => exact absurd rfl hb
  · show n.val * 512 + r.val = k.val
    omega

/-- The joined gradients. -/
theorem joined (s : Fin 4096) (k : Fin 2048) : val_main_v4 (F := Ideal) x3 x4 x5 x6 (ix2 s k) = cat ![x3, x4, x5, x6] s k := by
  have hk := k.isLt
  unfold cat
  have key : ∀ n : Fin 4, k.val / 512 = n.val → val_main_v4 (F := Ideal) x3 x4 x5 x6 (ix2 s k)
      = (![x3, x4, x5, x6] : Fin 4 → S4096x512.Idx → EReal) n (ix2 s (⟨k.val % 512, Nat.mod_lt _ (by norm_num)⟩ : Fin 512)) := by
    intro n e
    fin_cases n
    · exact joined_piece x3 x4 x5 x6 s k 0 e _ rfl _ (by show _ < 4; decide) rfl
    · exact joined_piece x3 x4 x5 x6 s k 1 e _ rfl _ (by show _ < 4; decide) rfl
    · exact joined_piece x3 x4 x5 x6 s k 2 e _ rfl _ (by show _ < 4; decide) rfl
    · exact joined_piece x3 x4 x5 x6 s k 3 e _ rfl _ (by show _ < 4; decide) rfl
  exact key ⟨k.val / 512, by omega⟩ rfl

theorem ix_row (s : Fin 4096) (k : Fin 1024) : idx_main_v6 (ix1 s) k = ix2 s k := funext fun a => by fin_cases a <;> rfl

/-- The mean square plus the constant. -/
theorem meanSq_at (s : Fin 4096) (i : S4096x1.Idx) (hi : (i 0).val = s.val) : val_main_v11 (F := Ideal) x0 i
    = Ideal.div (∑ k : Fin 1024, x0 (ix2 s k) * x0 (ix2 s k)) ((1024 : ℝ) : EReal) + ((Reals.eps : ℝ) : EReal) := by
  have e7 : idx_main_v7 i = ix1 s := funext fun a => Fin.ext (by fin_cases a; exact hi)
  rw [val_main_v11_apply, val_main_v9_apply, val_main_v7_apply, val_main_v6_apply, val_main_v8_apply, val_main_v10_apply, e7]
  show Ideal.div (Ideal.ofBits .f32 0x00000000#32 + _) (Ideal.ofBits .f32 0x44800000#32) + Ideal.ofBits .f32 0x358637BD#32 = _
  rw [zero_word, zero_add, Reals.width_word, Reals.eps_word]
  refine congrArg (fun z => Ideal.div z _ + _) (Finset.sum_congr rfl fun k _ => ?_)
  rw [ix_row, val_main_v5_apply]; rfl

theorem rsqrt_at (s : Fin 4096) (i : S4096x1.Idx) (hi : (i 0).val = s.val) : val_main_v12 (F := Ideal) x0 i = rW x0 s := by
  rw [val_main_v12_apply, meanSq_at x0 s i hi]; rfl

/-- The gradient of the normalised rows. -/
theorem dh_at (s : Fin 4096) (j : Fin 1024) :
    val_main_v22 (F := Ideal) x2 x3 x4 x5 x6 (ix2 s j) = dhW ![x3, x4, x5, x6] x2 s j := by
  rw [val_main_v22_apply]
  unfold dhW
  refine Finset.sum_congr rfl fun k _ => ?_
  have el : lidx_main_v22 (ix2 s j) k = ix2 s k := funext fun a => by fin_cases a <;> rfl
  have er : ridx_main_v22 (ix2 s j) k = ix2 j k := funext fun a => by fin_cases a <;> rfl
  rw [el, er, joined]

/-- The gain's gradient. -/
theorem dg_at (i : S1024.Idx) (j : Fin 1024) (hi : (i 0).val = j.val) :
    val_main_v28 (F := Ideal) x0 x2 x3 x4 x5 x6 i = dgW x0 x2 ![x3, x4, x5, x6] j := by
  rw [val_main_v28_apply]
  show Ideal.ofBits .f32 0x00000000#32 + _ = _
  rw [zero_word, zero_add, Fin.sum_univ_one, val_main_v25_apply]
  have e : idx_main_v25 (idx_main_v28 i 0) = ix1 j := funext fun a => Fin.ext (by
    fin_cases a
    show 0 * 1024 + (i 0).val = j.val
    omega)
  rw [e, val_main_v24_apply]
  show Ideal.ofBits .f32 0x00000000#32 + _ = _
  rw [zero_word, zero_add]
  unfold dgW
  refine Finset.sum_congr rfl fun s _ => ?_
  have e2 : idx_main_v24 (ix1 j) s = ix2 s j := funext fun a => by fin_cases a <;> rfl
  rw [e2, val_main_v23_apply, val_main_v17_apply, val_main_v16_apply, dh_at, rsqrt_at x0 s _ rfl]
  exact mul_comm _ _

/-- The padded rows. -/
theorem dgRows_at (p : Fin 8) (j : Fin 1024) :
    val_main_v46 (F := Ideal) x0 x2 x3 x4 x5 x6 (ix2 p j) = dgRows x0 x2 ![x3, x4, x5, x6] p j := by
  unfold val_main_v46 dgRows
  by_cases hp : p = 0
  · subst hp
    rw [if_pos rfl, pad_apply_of_inside _ _ _ _ _ _ _ (ix2 (0 : Fin 8) j) (ix2 (0 : Fin 1) j : S1x1024.Idx) (by
      intro a; fin_cases a
      · rfl
      · show j.val = 0 + j.val * (0 + 1); omega), val_main_v45_apply, dg_at x0 x2 x3 x4 x5 x6 _ j rfl]
  · rw [if_neg hp, pad_apply_of_not_inside _ _ _ _ _ _ _ (ix2 p j) (0 : Fin 2) (by
      intro h
      have h2 : (p.val - 0) / (0 + 1) < 1 := h.2.2
      exact hp (Fin.ext (by show p.val = 0; omega)))]
    show (((((0#32 : BitVec 32).toInt : ℤ) : ℝ)) : EReal) = 0
    simp

section Finite

variable {x0 x1 x2 x3 x4 x5 x6}
variable {X : S4096x1024.Idx → ℝ} {G : S1024.Idx → ℝ} {W : S1024x2048.Idx → ℝ} {D : Fin 4 → S4096x512.Idx → ℝ}

theorem rW_real (hx : ∀ i, x0 i = ((X i : ℝ) : EReal)) (s : Fin 4096) :
    rW x0 s = ((Reals.rinv fun k => X (ix2 s k) : ℝ) : EReal) := by
  rw [← Reals.rsqrt_row]
  unfold rW
  simp only [hx]

/-- The gradient of the normalised rows, over the reals. -/
def dhR (D : Fin 4 → S4096x512.Idx → ℝ) (W : S1024x2048.Idx → ℝ) (s : Fin 4096) (j : Fin 1024) : ℝ :=
  ∑ k : Fin 2048, D ⟨k.val / 512, by omega⟩ (ix2 s (⟨k.val % 512, Nat.mod_lt _ (by norm_num)⟩ : Fin 512)) * W (ix2 j k)

theorem dhW_real {d : Fin 4 → S4096x512.Idx → EReal} (hd : ∀ n i, d n i = ((D n i : ℝ) : EReal))
    (hw : ∀ i, x2 i = ((W i : ℝ) : EReal)) (s : Fin 4096) (j : Fin 1024) : dhW d x2 s j = ((dhR D W s j : ℝ) : EReal) := by
  unfold dhW dhR cat
  rw [← Reals.coe_sum]
  refine Finset.sum_congr rfl fun k _ => ?_
  rw [hd, hw, EReal.coe_mul]

/-- The gradient of the rows: the derivative jax writes is the kernel's combination. -/
theorem dx_at (hx : ∀ i, x0 i = ((X i : ℝ) : EReal)) (hg : ∀ i, x1 i = ((G i : ℝ) : EReal))
    (hw : ∀ i, x2 i = ((W i : ℝ) : EReal)) (hd : ∀ n i, (![x3, x4, x5, x6] : Fin 4 → S4096x512.Idx → EReal) n i = ((D n i : ℝ) : EReal))
    (s : Fin 4096) (j : Fin 1024) :
    val_main_v43 (F := Ideal) x0 x1 x2 x3 x4 x5 x6 x7 (ix2 s j) = dxW x0 x1 x2 ![x3, x4, x5, x6] x7 s j := by
  set x : Fin 1024 → ℝ := fun k => X (ix2 s k) with hxr
  set t : Fin 1024 → ℝ := fun k => dhR D W s k * G (ix1 k) with ht
  have hS : ∑ k : Fin 1024, val_main_v29 (F := Ideal) x0 x1 x2 x3 x4 x5 x6 (idx_main_v30 (ix1 s) k) = ((∑ k, x k * t k : ℝ) : EReal) := by
    rw [← Reals.coe_sum]
    refine Finset.sum_congr rfl fun k _ => ?_
    have e : idx_main_v30 (ix1 s) k = ix2 s k := funext fun a => by fin_cases a <;> rfl
    have e26 : idx_main_v18 (idx_main_v26 (ix2 s k)) = ix1 k := funext fun a => by fin_cases a; rfl
    rw [e, val_main_v29_apply, val_main_v27_apply, val_main_v26_apply, val_main_v18_apply, dh_at, e26, dhW_real hd hw, hg, hx]
    show _ * (_ * _) = _
    rw [EReal.coe_mul, ht, EReal.coe_mul]
  have hr : ∀ i : S4096x1.Idx, (i 0).val = s.val → val_main_v12 (F := Ideal) x0 i = ((Reals.rinv x : ℝ) : EReal) := fun i hi => by
    rw [rsqrt_at x0 s i hi, rW_real hx]
  have hm : ∀ i : S4096x1.Idx, (i 0).val = s.val → val_main_v11 (F := Ideal) x0 i = ((Reals.meanSq x : ℝ) : EReal) := fun i hi => by
    rw [meanSq_at x0 s i hi]
    have : (∑ k : Fin 1024, x0 (ix2 s k) * x0 (ix2 s k)) = ((∑ k, x k * x k : ℝ) : EReal) := by
      rw [← Reals.coe_sum]
      refine Finset.sum_congr rfl fun k _ => ?_
      rw [hx, EReal.coe_mul]
    rw [this, Reals.div_real _ _ (by norm_num), ← EReal.coe_add]; rfl
  have h36 : ∀ i : S4096x1.Idx, (i 0).val = s.val → val_main_v36 (F := Ideal) x0 x1 x2 x3 x4 x5 x6 i
      = (((∑ k, x k * t k) * (-(1 / 2) * (Reals.rinv x / Reals.meanSq x)) / 1024 : ℝ) : EReal) := fun i hi => by
    have e31 : idx_main_v31 i = ix1 s := funext fun a => Fin.ext (by
      fin_cases a
      have h1 : (i 1).val < 1 := (i 1).isLt
      show (i 0).val * 1 + (i 1).val = s.val
      omega)
    rw [val_main_v36_apply, val_main_v34_apply, val_main_v31_apply, val_main_v15_apply, val_main_v13_apply, val_main_v14_apply,
      val_main_v35_apply, e31, val_main_v30_apply, hS, hr i hi, hm i hi]
    show Ideal.div ((Ideal.ofBits .f32 0x00000000#32 + _) * (Ideal.ofBits .f32 0xBF000000#32 * Ideal.div _ _)) (Ideal.ofBits .f32 0x44800000#32) = _
    rw [zero_word, zero_add, Reals.half_word, Reals.width_word, Reals.div_real _ _ (Reals.meanSq_pos x).ne', ← EReal.coe_mul,
      ← EReal.coe_mul, Reals.div_real _ _ (by norm_num)]
  have h38 : val_main_v38 (F := Ideal) x0 x1 x2 x3 x4 x5 x6 (ix2 s j)
      = (((∑ k, x k * t k) * (-(1 / 2) * (Reals.rinv x / Reals.meanSq x)) / 1024 : ℝ) : EReal) := by
    rw [val_main_v38_apply, val_main_v37_apply]
    show Ideal.ofBits .f32 0x00000000#32 + _ = _
    rw [zero_word, zero_add, Fin.sum_univ_one, h36 _ rfl]
  have e26 : idx_main_v18 (idx_main_v26 (ix2 s j)) = ix1 j := funext fun a => by fin_cases a; rfl
  rw [val_main_v43_apply, val_main_v42_apply, val_main_v40_apply, val_main_v41_apply, val_main_v33_apply, val_main_v39_apply, h38,
    val_main_v32_apply, hr _ rfl, val_main_v27_apply, val_main_v26_apply, val_main_v18_apply, dh_at, e26, dhW_real hd hw, hg, hx]
  unfold dxW
  show x7 (ix2 s j) + _ = x7 (ix2 s j) + _
  congr 1
  have hsum : (∑ k : Fin 1024, dhW ![x3, x4, x5, x6] x2 s k * x1 (ix1 k) * (x0 (ix2 s k) * rW x0 s))
      = ((∑ k, t k * (x k * Reals.rinv x) : ℝ) : EReal) := by
    rw [← Reals.coe_sum]
    refine Finset.sum_congr rfl fun k _ => ?_
    rw [dhW_real hd hw, hg, hx, rW_real hx, ← EReal.coe_mul, ← EReal.coe_mul, ← EReal.coe_mul]
  rw [hsum, rW_real hx, dhW_real hd hw, hg, hx, Reals.div_real _ _ (by norm_num)]
  show ((dhR D W s j : ℝ) : EReal) * ((G (ix1 j) : ℝ) : EReal) * _ + ((x j : ℝ) : EReal) * _ + _ * ((x j : ℝ) : EReal)
    = _ * (((dhR D W s j : ℝ) : EReal) * ((G (ix1 j) : ℝ) : EReal) - ((x j : ℝ) : EReal) * _ * _)
  rw [← EReal.coe_mul, ← EReal.coe_mul, ← EReal.coe_mul, ← EReal.coe_mul, ← EReal.coe_mul, ← EReal.coe_mul, ← EReal.coe_add,
    ← EReal.coe_add, ← EReal.coe_sub, ← EReal.coe_mul]
  exact congrArg _ (Reals.norm_deriv x t j).symm

end Finite

end Cert.BwdInRefIdeal.AtReals

end
-- ==== Proof.BwdInValue.lean ====
module

public import proofs.«01_k».proof.Defs
public import proofs.«01_k».proof.Proof.Gen.BwdIn
public import proofs.«01_k».proof.Proof.Gen.BwdIn.Frame
public import proofs.«01_k».proof.Proof.Gen.BwdInIdeal.Frame
public import proofs.«01_k».proof.Proof.BwdInRef
public import Idealize.ShloMosaic.Lib.ReduceAll

@[expose] public section

noncomputable section

/-! # The claims about the input projection's backward -/

namespace Cert.BwdInValue

open Idealize.ShloMosaic Idealize.ShloMosaic.ValueIdx Idealize.SL.Sem
open Cert.BwdInIdeal.Whole

theorem preFacts : Cert.Pre_bwd_in_finite.Facts := by
  constructor <;> decide

instance : Subsingleton Cert.Pre_bwd_in_finite.S_.Idx := ⟨fun a b => funext fun x => x.elim0⟩

/-- An array whose finiteness test came out true has real entries. -/
theorem real_of_test {s : Shape} {axes : List (Fin s.rank)} (x b : s.Idx → EReal) (hb : ∀ i, b i = Ideal.ofBits .f32 0x7F800000#32)
    (init : Cert.Pre_bwd_in_finite.S_.Idx → BitVec 1) (h : s.ReducesTo axes Cert.Pre_bwd_in_finite.S_) (hu : 0 < Cert.Pre_bwd_in_finite.S_.numel)
    (j : Cert.Pre_bwd_in_finite.S_.Idx)
    (e : Host.reduce IntOp.andi (fun i => Ideal.cmp .olt (max (x i) (-(x i))) (b i)) init h hu j = 1#1) :
    ∀ i, ∃ r : ℝ, x i = (r : EReal) := fun i =>
  Reals.exists_real_of_cmp ((hb i).trans Reals.inf_word) (Host.reduce_andi_all _ init h hu j e i)

theorem reals_of_pre [Cert.Pre_bwd_in_finite.Facts] (x0 : Cert.Pre_bwd_in_finite.S4096x1024.Idx → EReal)
    (x1 : Cert.Pre_bwd_in_finite.S1024.Idx → EReal) (x2 : Cert.Pre_bwd_in_finite.S1024x2048.Idx → EReal)
    (x3 x4 x5 x6 : Cert.Pre_bwd_in_finite.S4096x512.Idx → EReal) (x7 : Cert.Pre_bwd_in_finite.S4096x1024.Idx → EReal)
    (h : Cert.Pre_bwd_in_finite.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ ∀ n i, ∃ r : ℝ, (![x3, x4, x5, x6] : Fin 4 → Cert.Pre_bwd_in_finite.S4096x512.Idx → EReal) n i = (r : EReal) := by
  have e := congrFun h (fun x => x.elim0)
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  refine ⟨real_of_test x0 _ (fun _ => rfl) _ _ _ _ h0, real_of_test x1 _ (fun _ => rfl) _ _ _ _ h1,
    real_of_test x2 _ (fun _ => rfl) _ _ _ _ h2, fun n => ?_⟩
  match n with
  | 0 => exact real_of_test x3 _ (fun _ => rfl) _ _ _ _ h3
  | 1 => exact real_of_test x4 _ (fun _ => rfl) _ _ _ _ h4
  | 2 => exact real_of_test x5 _ (fun _ => rfl) _ _ _ _ h5
  | 3 => exact real_of_test x6 _ (fun _ => rfl) _ _ _ _ h6

theorem frame_ref : Cert.quiescent_BwdInRefIdeal := fun m ρ _ =>
  (θ_run Cert.BwdInRefIdeal.defs _ _).mono (fun r h => ⟨fun c => (h c).2.2.2,
      Idealize.ShloMosaic.sem_eq_zero_of_no_sems (by decide) r.2⟩)
    (Cert.BwdInRefIdeal.Value.run (F := Ideal) m ρ)

theorem algebraic : Cert.algebraic_BwdInIdeal_BwdInRefIdeal_pre_bwd_in_finite (hPre_bwd_in_finite := preFacts) := by
  letI := preFacts
  intro m ρ m' ρ' hpre hag
  refine ⟨res8 m, res9 m, res10 m, Cert.BwdInIdeal.Whole.run m ρ,
    (θ_run Cert.BwdInRefIdeal.defs _ _).mono (fun r h c => ⟨(h c).1.trans ?_, (h c).2.1.trans ?_, (h c).2.2.1.trans ?_, (h c).2.2.2⟩)
      (Cert.BwdInRefIdeal.Value.run (F := Ideal) m' ρ')⟩
  all_goals
    obtain ⟨a0, a1, a2, a3, a4, a5, a6, a7⟩ := hag c
  · obtain ⟨h0, h1, h2, h3⟩ := reals_of_pre _ _ _ _ _ _ _ _ (hpre c)
    choose X hX using h0
    choose G hG using h1
    choose W hW using h2
    choose D hD using h3
    refine (Cert.BwdInRefIdeal.Read.val_main_v43_eq m' c).trans ?_
    rw [a0, a1, a2, a3, a4, a5, a6, a7]
    funext i
    exact (congrArg _ (eq_ix2 i)).trans (Cert.BwdInRefIdeal.AtReals.dx_at _ hX hG hW hD (i 0) (i 1))
  · refine (Cert.BwdInRefIdeal.Read.val_main_v44_eq _ _ _ _).trans ?_
    rw [a3, a4, a5, a6]
    funext i
    exact (congrArg _ (eq_ix2 i)).trans (Cert.BwdInRefIdeal.AtReals.joined _ _ _ _ (i 0) (i 1))
  · refine (Cert.BwdInRefIdeal.Read.val_main_v46_eq _ _ _ _ _ _).trans ?_
    rw [a0, a2, a3, a4, a5, a6]
    funext i
    exact (congrArg _ (eq_ix2 i)).trans (Cert.BwdInRefIdeal.AtReals.dgRows_at _ _ _ _ _ _ (i 0) (i 1))

end Cert.BwdInValue

end
-- ==== Proof.AnyFrame.lean ====
/- Running a kernel body while holding its memory at contents nobody names. A body that is given a set of buffers may load
   from each of them and store into those it writes, and it gives the set back: no fact about the values is needed, so the
   proof has one line per operation whatever the operation computes. -/
module

public import Idealize.ShloMosaic.Lib.Tactic
public import Idealize.ShloMosaic.Lib.Exec
public import Idealize.ShloMosaic.Lib.Pipeline.Kit
public import Idealize.ShloMosaic.Lib.Pipeline.FrameBody

@[expose] public section

noncomputable section

namespace Cert.AnyFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `P` holds the resource `A` beside a rest. -/
structure Opens {M : Type} [URA M] (P A : sProp M) : Prop where
  out : ∃ R : sProp M, (P ⊢ iprop(A ∗ R)) ∧ (iprop(A ∗ R) ⊢ P)

theorem Opens.here {M : Type} [URA M] (A R : sProp M) : Opens iprop(A ∗ R) A := ⟨R, .rfl, .rfl⟩

theorem Opens.self {M : Type} [URA M] (A : sProp M) : Opens A A :=
  ⟨iprop(emp), by iintro H; isplitl [H]; · iexact H
                  · iempintro, by iintro ⟨H, -⟩; iexact H⟩

theorem Opens.later {M : Type} [URA M] {R A : sProp M} (B : sProp M) (h : Opens R A) : Opens iprop(B ∗ R) A := by
  obtain ⟨R', h1, h2⟩ := h.out
  refine ⟨iprop(B ∗ R'), ?_, ?_⟩
  · refine (sep_mono_right h1).trans ?_
    iintro ⟨HB, HA, HR⟩
    isplitl [HA]; · iexact HA
    isplitl [HB]; · iexact HB
    iexact HR
  · refine BI.Entails.trans ?_ (sep_mono_right h2)
    show (_ : sProp M) ⊢ _
    iintro ⟨HA, HB, HR⟩
    isplitl [HB]; · iexact HB
    isplitl [HA]; · iexact HA
    iexact HR

section

variable {nD : ℕ} {τ : Topo} {sig : RefSig} {Val : EltTy → Type} {U : Type} [URA U] {Λ : Labels}

variable {defs : Defs nD τ sig Val Λ} (𝒱 : Idealize.ShloMosaic.Variants) (c : Thread nD τ) (bd : Option 𝒱.V) (E : Set ℕ)
variable {s : Shape} {e : EltTy} {cs : CoreSpace} {α β : Type}

/-- What holds before a program that ends in `Q`. -/
abbrev W {α : Type} (p : Prog (TpuEff nD τ sig Val Λ c.2) α) (Q : α → sProp (MT nD τ sig Unit Val ℕ U ℕ)) : sProp (MT nD τ sig Unit Val ℕ U ℕ) :=
  wp frame (wpE (Ix := Unit) (Name := ℕ) (U := U) (Lvl := ℕ) defs 𝒱 c bd) E p Q

/-- A load from a memref held at known contents. -/
theorem load_known {P : sProp (MT nD τ sig Unit Val ℕ U ℕ)} {m : Memref sig c.2.kind cs s e} {X : s.Idx → Val e} (h : Opens P (owns c m fullShare X : sProp (MT nD τ sig Unit Val ℕ U ℕ)))
    {r : LoadRect s} {hl : m.view.LoadsAt r} {k : (r.shape.Idx → Val e) → Prog (TpuEff nD τ sig Val Λ c.2) α} {Q : α → sProp (MT nD τ sig Unit Val ℕ U ℕ)}
    (hk : ∀ v, P ⊢ W (defs := defs) (U := U) 𝒱 c bd E (k v) Q) :
    P ⊢ W (defs := defs) (U := U) 𝒱 c bd E (Prog.lift (.load m r hl) >>= k) Q := by
  show P ⊢ W (defs := defs) (U := U) 𝒱 c bd E (.op (.load m r hl) k) Q
  obtain ⟨R, h1, h2⟩ := h.out
  refine h1.trans ?_
  unfold owns
  iintro ⟨⟨%f, %hf, H⟩, HR⟩
  iapply (wp_load 𝒱 c bd E (View.setOn_subset_set _ _)) $$ H
  iintro H
  iapply (hk _)
  iapply h2
  isplitl [H]
  · unfold owns
    iexists f
    isplitr; · ipureintro; exact hf
    iexact H
  iexact HR

/-- A load from a memref held at some contents. -/
theorem load_any {P : sProp (MT nD τ sig Unit Val ℕ U ℕ)} {m : Memref sig c.2.kind cs s e} (h : Opens P (iprop(∃ d, owns c m fullShare d) : sProp (MT nD τ sig Unit Val ℕ U ℕ)))
    {r : LoadRect s} {hl : m.view.LoadsAt r} {k : (r.shape.Idx → Val e) → Prog (TpuEff nD τ sig Val Λ c.2) α} {Q : α → sProp (MT nD τ sig Unit Val ℕ U ℕ)}
    (hk : ∀ v, P ⊢ W (defs := defs) (U := U) 𝒱 c bd E (k v) Q) :
    P ⊢ W (defs := defs) (U := U) 𝒱 c bd E (Prog.lift (.load m r hl) >>= k) Q := by
  show P ⊢ W (defs := defs) (U := U) 𝒱 c bd E (.op (.load m r hl) k) Q
  obtain ⟨R, h1, h2⟩ := h.out
  refine h1.trans ?_
  unfold owns
  iintro ⟨⟨%d, %f, %hf, H⟩, HR⟩
  iapply (wp_load 𝒱 c bd E (View.setOn_subset_set _ _)) $$ H
  iintro H
  iapply (hk _)
  iapply h2
  isplitl [H]
  · unfold owns
    iexists d; iexists f
    isplitr; · ipureintro; exact hf
    iexact H
  iexact HR

/-- A store into a memref held at some contents. -/
theorem store_any {P : sProp (MT nD τ sig Unit Val ℕ U ℕ)} {m : Memref sig c.2.kind cs s e} (h : Opens P (iprop(∃ d, owns c m fullShare d) : sProp (MT nD τ sig Unit Val ℕ U ℕ)))
    {r : Rect s} {w : r.shape.Idx → Val e} {Mk : Finset r.shape.Idx} {hx : (m.access r).Stores Mk} {hm : Mk = Finset.univ ∨ ∀ a, r.stride a = 1}
    {k : PUnit → Prog (TpuEff nD τ sig Val Λ c.2) α} {Q : α → sProp (MT nD τ sig Unit Val ℕ U ℕ)}
    (hk : P ⊢ W (defs := defs) (U := U) 𝒱 c bd E (k ⟨⟩) Q) :
    P ⊢ W (defs := defs) (U := U) 𝒱 c bd E (Prog.lift (.store m r w Mk hx hm) >>= k) Q := by
  show P ⊢ W (defs := defs) (U := U) 𝒱 c bd E (.op (.store m r w Mk hx hm) k) Q
  obtain ⟨R, h1, h2⟩ := h.out
  refine h1.trans ?_
  unfold owns
  iintro ⟨⟨%d, %f, -, H⟩, HR⟩
  iapply (wp_store (r := r) (w := w) (Mk := Mk) (hx := hx) (hm := hm) (k := k) (Q := Q) (S := m.view.set) (f := f) 𝒱 c bd E
    ((View.setOn_subset_set _ _).trans (View.set_slice_subset _ _))) $$ H
  iintro H
  iapply hk
  iapply h2
  isplitl [H]
  · unfold owns
    iexists (m.view.read Val ((m.access r).write Val f w Mk)); iexists ((m.access r).write Val f w Mk)
    isplitr
    · ipureintro; rfl
    iexact H
  iexact HR

/-- A side condition the program assumes, which holds. -/
theorem assume_ok {P : sProp (MT nD τ sig Unit Val ℕ U ℕ)} {p : Prop} {d : Decidable p} {k : PLift p → Prog (TpuEff nD τ sig Val Λ c.2) α} {Q : α → sProp (MT nD τ sig Unit Val ℕ U ℕ)} (h : p)
    (hk : P ⊢ W (defs := defs) (U := U) 𝒱 c bd E (k ⟨h⟩) Q) :
    P ⊢ W (defs := defs) (U := U) 𝒱 c bd E (Prog.lift (.assume p d) >>= k) Q :=
  show P ⊢ W (defs := defs) (U := U) 𝒱 c bd E (.op (.assume p d) k) Q from hk.trans (wp_assume 𝒱 c bd E h)

/-- The end of a program. -/
theorem ret_ok {P : sProp (MT nD τ sig Unit Val ℕ U ℕ)} {a : α} {Q : α → sProp (MT nD τ sig Unit Val ℕ U ℕ)} (h : P ⊢ Q a) : P ⊢ W (defs := defs) (U := U) 𝒱 c bd E (pure a) Q :=
  h.trans (le_wp_ret frame _ E a Q)

theorem with_pure {P : sProp (MT nD τ sig Unit Val ℕ U ℕ)} {φ : Prop} (h : φ) : P ⊢ iprop(⌜φ⌝ ∗ P) := by
  iintro H
  isplitr
  · ipureintro; exact h
  iexact H

/-- The end of a program whose result has a property. -/
theorem ret_pure {P : sProp (MT nD τ sig Unit Val ℕ U ℕ)} {a : α} {φ : α → Prop} (h : φ a) :
    P ⊢ W (defs := defs) (U := U) 𝒱 c bd E (pure a) (fun a => iprop(⌜φ a⌝ ∗ P)) :=
  ret_ok 𝒱 c bd E (with_pure h)

/-- A program, then another. -/
theorem bind_ok {P : sProp (MT nD τ sig Unit Val ℕ U ℕ)} {p : Prog (TpuEff nD τ sig Val Λ c.2) β} {k : β → Prog (TpuEff nD τ sig Val Λ c.2) α} {Q : α → sProp (MT nD τ sig Unit Val ℕ U ℕ)}
    (hp : P ⊢ W (defs := defs) (U := U) 𝒱 c bd E p (fun _ => P)) (hk : ∀ a, P ⊢ W (defs := defs) (U := U) 𝒱 c bd E (k a) Q) :
    P ⊢ W (defs := defs) (U := U) 𝒱 c bd E (p >>= k) Q := by
  unfold W; rw [wp_bind]
  exact hp.trans (wp_mono frame _ E hk)

/-- A program whose result has a property, then another. -/
theorem bind_pure {P : sProp (MT nD τ sig Unit Val ℕ U ℕ)} {φ : β → Prop} {p : Prog (TpuEff nD τ sig Val Λ c.2) β} {k : β → Prog (TpuEff nD τ sig Val Λ c.2) α} {Q : α → sProp (MT nD τ sig Unit Val ℕ U ℕ)}
    (hp : P ⊢ W (defs := defs) (U := U) 𝒱 c bd E p (fun a => iprop(⌜φ a⌝ ∗ P)))
    (hk : ∀ a, φ a → P ⊢ W (defs := defs) (U := U) 𝒱 c bd E (k a) Q) :
    P ⊢ W (defs := defs) (U := U) 𝒱 c bd E (p >>= k) Q := by
  unfold W; rw [wp_bind]
  refine hp.trans (wp_mono frame _ E fun a => ?_)
  iintro ⟨%h, H⟩
  iapply (hk a h)
  iexact H

/-- A counted loop whose trips keep `P`, then a program. -/
theorem for_ok {P : sProp (MT nD τ sig Unit Val ℕ U ℕ)} {w : ℕ} {σ : Type} {lb ub st : BitVec w} {hok : Scf.OK lb ub st} {init : σ}
    {body : Fin (Scf.trips lb ub st) → σ → Prog (TpuEff nD τ sig Val Λ c.2) σ} {k : σ → Prog (TpuEff nD τ sig Val Λ c.2) α} {Q : α → sProp (MT nD τ sig Unit Val ℕ U ℕ)}
    (hb : ∀ t a, P ⊢ W (defs := defs) (U := U) 𝒱 c bd E (body t a) (fun _ => P))
    (hk : ∀ a, P ⊢ W (defs := defs) (U := U) 𝒱 c bd E (k a) Q) :
    P ⊢ W (defs := defs) (U := U) 𝒱 c bd E (Scf.for lb ub st hok init body >>= k) Q := by
  have h := Scf.wp_for_bind frame _ E lb ub st hok init body (fun _ _ => P) hb (kk := k) (Q := Q)
  iintro H
  iapply h $$ H
  iintro %a H
  iapply (hk a)
  iexact H

/-- A load from a memref held at known contents, at the value loaded. -/
theorem load_val {P : sProp (MT nD τ sig Unit Val ℕ U ℕ)} {m : Memref sig c.2.kind cs s e} {X : s.Idx → Val e} (h : Opens P (owns c m fullShare X : sProp (MT nD τ sig Unit Val ℕ U ℕ)))
    {r : Rect s} {hl : m.view.LoadsAt r.toLoadRect} {k : (r.shape.Idx → Val e) → Prog (TpuEff nD τ sig Val Λ c.2) α} {Q : α → sProp (MT nD τ sig Unit Val ℕ U ℕ)}
    (hk : P ⊢ W (defs := defs) (U := U) 𝒱 c bd E (k (View.ld X r)) Q) :
    P ⊢ W (defs := defs) (U := U) 𝒱 c bd E (Prog.lift (.load m r.toLoadRect hl) >>= k) Q := by
  show P ⊢ W (defs := defs) (U := U) 𝒱 c bd E (.op (.load m r.toLoadRect hl) k) Q
  obtain ⟨R, h1, h2⟩ := h.out
  refine h1.trans ?_
  unfold owns
  iintro ⟨⟨%f, %hf, H⟩, HR⟩
  subst hf
  iapply (wp_load 𝒱 c bd E (View.setOn_subset_set _ _)) $$ H
  iintro H
  iapply hk
  iapply h2
  isplitl [H]
  · unfold owns
    iexists f
    isplitr; · ipureintro; rfl
    iexact H
  iexact HR

open Classical in
/-- Contents after a store of `w` through the rectangle `r`. -/
def upd {e : EltTy} (X : s.Idx → Val e) (r : Rect s) (w : r.shape.Idx → Val e) : s.Idx → Val e :=
  fun y => if h : ∃ x, r.emb x = y then w h.choose else X y

theorem upd_emb {e : EltTy} (X : s.Idx → Val e) (r : Rect s) (w : r.shape.Idx → Val e) (x : r.shape.Idx) : upd X r w (r.emb x) = w x := by
  have h : ∃ x', r.emb x' = r.emb x := ⟨x, rfl⟩
  unfold upd; rw [dif_pos h, r.emb.injective h.choose_spec]

theorem upd_off {e : EltTy} (X : s.Idx → Val e) (r : Rect s) (w : r.shape.Idx → Val e) {y : s.Idx} (h : ¬ ∃ x, r.emb x = y) : upd X r w y = X y := by
  unfold upd; rw [dif_neg h]

theorem whole_upd {e : EltTy} {X : s.Idx → Val e} {off : Fin s.rank → ℕ} {inb : ∀ a, off a + s.size a ≤ s.size a} {w : s.Idx → Val e} :
    upd X (Rect.unit (s := s) off s.size inb) w = w := by
  funext y
  have h : (Rect.unit (s := s) off s.size inb).emb y = y := funext fun a => Fin.ext (by
    have := inb a
    show off a + 1 * (y a).val = (y a).val
    omega)
  conv_lhs => rw [← h]
  exact upd_emb _ _ _ _

theorem swap {A B C : sProp (MT nD τ sig Unit Val ℕ U ℕ)} : iprop(A ∗ B ∗ C) ⊢ iprop(B ∗ A ∗ C) := by
  iintro ⟨HA, HB, HC⟩
  isplitl [HB]; · iexact HB
  isplitl [HA]; · iexact HA
  iexact HC

/-- A store into a memref held at known contents. -/
theorem store_val {P : sProp (MT nD τ sig Unit Val ℕ U ℕ)} {m : Memref sig c.2.kind cs s e} {X : s.Idx → Val e}
    {r : Rect s} {w : r.shape.Idx → Val e} {hx : (m.access r).Stores Finset.univ} {hm : Finset.univ = Finset.univ ∨ ∀ a, r.stride a = 1}
    {k : PUnit → Prog (TpuEff nD τ sig Val Λ c.2) α} {Q : α → sProp (MT nD τ sig Unit Val ℕ U ℕ)}
    (hk : iprop(owns c m fullShare (upd X r w) ∗ P) ⊢ W (defs := defs) (U := U) 𝒱 c bd E (k ⟨⟩) Q) :
    iprop(owns c m fullShare X ∗ P) ⊢ W (defs := defs) (U := U) 𝒱 c bd E (Prog.lift (.store m r w Finset.univ hx hm) >>= k) Q := by
  show _ ⊢ W (defs := defs) (U := U) 𝒱 c bd E (.op (.store m r w Finset.univ hx hm) k) Q
  unfold owns
  iintro ⟨⟨%f, %hf, H⟩, HR⟩
  subst hf
  iapply (wp_store (r := r) (w := w) (Mk := Finset.univ) (hx := hx) (hm := hm) (k := k) (Q := Q) (S := m.view.set) (f := f) 𝒱 c bd E
    ((View.setOn_subset_set _ _).trans (View.set_slice_subset _ _))) $$ H
  iintro H
  iapply hk
  isplitl [H]
  · unfold owns
    iexists ((m.access r).write Val f w Finset.univ)
    isplitr
    · ipureintro
      funext y
      by_cases hy : ∃ x, r.emb x = y
      · obtain ⟨x, rfl⟩ := hy
        rw [upd_emb]; exact m.view.read_slice_write_emb r f w (Finset.mem_univ x)
      · rw [upd_off _ _ _ hy]
        exact m.view.read_slice_write_of_not_mem r f w _ fun hm => hy (by
          obtain ⟨x, -, hx⟩ := Finset.mem_map.mp hm; exact ⟨x, hx⟩)
    iexact H
  iexact HR

/-- A counted loop whose trips keep `P` and carry a value of known properties, then a program. -/
theorem for_val {P : sProp (MT nD τ sig Unit Val ℕ U ℕ)} {w : ℕ} {σ : Type} {lb ub st : BitVec w} {hok : Scf.OK lb ub st} {init : σ}
    (φ : ℕ → σ → Prop) (h0 : φ 0 init)
    {body : Fin (Scf.trips lb ub st) → σ → Prog (TpuEff nD τ sig Val Λ c.2) σ} {k : σ → Prog (TpuEff nD τ sig Val Λ c.2) α} {Q : α → sProp (MT nD τ sig Unit Val ℕ U ℕ)}
    (hb : ∀ t a, φ t.val a → P ⊢ W (defs := defs) (U := U) 𝒱 c bd E (body t a) (fun a => iprop(⌜φ (t.val + 1) a⌝ ∗ P)))
    (hk : ∀ a, φ (Scf.trips lb ub st) a → P ⊢ W (defs := defs) (U := U) 𝒱 c bd E (k a) Q) :
    P ⊢ W (defs := defs) (U := U) 𝒱 c bd E (Scf.for lb ub st hok init body >>= k) Q := by
  have h := Scf.wp_for_bind frame _ E lb ub st hok init body (fun n a => iprop(⌜φ n a⌝ ∗ P)) (fun t a => by
    iintro ⟨%ha, H⟩
    iapply (hb t a ha)
    iexact H) (kk := k) (Q := Q)
  iintro H
  have h1 : P ⊢ iprop(⌜φ 0 init⌝ ∗ P) := with_pure h0
  iapply h $$ [H]
  · iapply h1; iexact H
  iintro %a ⟨%ha, H⟩
  iapply (hk a ha)
  iexact H

/-- What a loop on a condition asks and gives: the memory `P`, handed back with a result that has the property `φ`. -/
def keeps (P : sProp (MT nD τ sig Unit Val ℕ U ℕ)) (φ : β → Prop) : sWPT (MT nD τ sig Unit Val ℕ U ℕ) β := do
  sWPT.consume P
  let r ← sWPT.arbitrary
  sWPT.assume (φ r)
  sWPT.produce P
  pure r

theorem keeps_apply (P : sProp (MT nD τ sig Unit Val ℕ U ℕ)) (φ : β → Prop) (K : β → sProp (MT nD τ sig Unit Val ℕ U ℕ)) :
    keeps P φ K = iprop(P ∗ ∀ r : β, ⌜φ r⌝ -∗ (P -∗ K r)) := rfl

/-- A program that hands the memory back with a result of the property `φ` is what `keeps` asks. -/
theorem keeps_le {P : sProp (MT nD τ sig Unit Val ℕ U ℕ)} {φ : β → Prop} {p : Prog (TpuEff nD τ sig Val Λ c.2) β}
    (h : P ⊢ W (defs := defs) (U := U) 𝒱 c bd E p (fun a => iprop(⌜φ a⌝ ∗ P))) :
    keeps P φ ≤ wp frame (wpE (Ix := Unit) (Name := ℕ) (U := U) (Lvl := ℕ) defs 𝒱 c bd) E p := by
  intro K
  rw [keeps_apply]
  show (_ : sProp (MT nD τ sig Unit Val ℕ U ℕ)) ⊢ _
  refine (sep_mono_left h).trans ((wp_frame_r frame _ E).trans (wp_mono frame _ E fun a => ?_))
  iintro ⟨⟨%ha, HP⟩, HK⟩
  iapply HK $$ %a %ha
  iexact HP

/-- A call whose body, entered at a variant below, hands the memory back with a result of the property `φ`, then a program. -/
theorem call_ok {P : sProp (MT nD τ sig Unit Val ℕ U ℕ)} {ℓ : Λ.Label} {a : Λ.Args ℓ} {k : Λ.Result ℓ → Prog (TpuEff nD τ sig Val Λ c.2) α} {Q : α → sProp (MT nD τ sig Unit Val ℕ U ℕ)}
    (φ : Λ.Result ℓ → Prop) (v : 𝒱.V) (hv : ∀ u ∈ bd, 𝒱.lt v u)
    (hS : P ⊢ W (defs := defs) (U := U) 𝒱 c (some v) E (defs c.2 ℓ a) (fun a => iprop(⌜φ a⌝ ∗ P)))
    (hk : ∀ r, φ r → P ⊢ W (defs := defs) (U := U) 𝒱 c bd E (k r) Q) :
    P ⊢ W (defs := defs) (U := U) 𝒱 c bd E (Prog.lift (.call ℓ a) >>= k) Q := by
  show P ⊢ W (defs := defs) (U := U) 𝒱 c bd E (.op (.call ℓ a) k) Q
  refine BI.Entails.trans ?_ (wp_call_spec 𝒱 c bd E (keeps P φ) v hv (keeps_le 𝒱 c (some v) E hS))
  show (_ : sProp (MT nD τ sig Unit Val ℕ U ℕ)) ⊢ _
  rw [keeps_apply]
  iintro H
  isplitl [H]; · iexact H
  iintro %r %hr H
  iapply (hk r hr)
  iexact H

/-- The same call ending a program. -/
theorem call_last {P : sProp (MT nD τ sig Unit Val ℕ U ℕ)} {ℓ : Λ.Label} {a : Λ.Args ℓ} {Q : Λ.Result ℓ → sProp (MT nD τ sig Unit Val ℕ U ℕ)}
    (φ : Λ.Result ℓ → Prop) (v : 𝒱.V) (hv : ∀ u ∈ bd, 𝒱.lt v u)
    (hS : P ⊢ W (defs := defs) (U := U) 𝒱 c (some v) E (defs c.2 ℓ a) (fun a => iprop(⌜φ a⌝ ∗ P)))
    (hk : ∀ r, φ r → P ⊢ Q r) :
    P ⊢ W (defs := defs) (U := U) 𝒱 c bd E (Prog.lift (.call ℓ a)) Q :=
  show P ⊢ W (defs := defs) (U := U) 𝒱 c bd E (Prog.lift (.call ℓ a) >>= pure) Q from
    call_ok 𝒱 c bd E φ v hv hS fun r hr => ret_ok 𝒱 c bd E (hk r hr)

end

end Cert.AnyFrame

end
-- ==== Proof.MixBody.lean ====
/- The kernel's body, run while its windows' buffers and its scratch are held: the inputs at known contents, everything
   else at contents nobody names. One line for each load, store and call of each part of the body. -/
module

public import proofs.«01_k».proof.Proof.AnyFrame
public import proofs.«01_k».proof.Proof.Gen.MixBwdIdeal.Skeleton

@[expose] public section

set_option maxRecDepth 65536
set_option maxHeartbeats 4000000

noncomputable section

namespace Cert.MixBwdIdeal.Frame

open Idealize.ShloMosaic Idealize.ShloMosaic.TcCoe Idealize.ShloMosaic.Tactic Cert.AnyFrame Cert.MixBwdIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {i : grid0.Coords}
variable {arg1 : Memref sig .tc .vmem S4096x128 .bf16}
variable {harg1 : arg1.IsWhole}
variable {arg2 : Memref sig .tc .vmem S4096x128 .bf16}
variable {harg2 : arg2.IsWhole}
variable {arg3 : Memref sig .tc .vmem S4096x128 .bf16}
variable {harg3 : arg3.IsWhole}
variable {arg4 : Memref sig .tc .vmem S4096x128 .f32}
variable {harg4 : arg4.IsWhole}
variable {arg5 : Memref sig .tc .vmem S4096x128 .f32}
variable {harg5 : arg5.IsWhole}
variable {arg6 : Memref sig .tc .vmem S4096x128 .bf16}
variable {harg6 : arg6.IsWhole}
variable {arg7 : Memref sig .tc .vmem S1x128x128 .f32}
variable {harg7 : arg7.IsWhole}
variable {arg8 : Memref sig .tc .vmem S1x128 .f32}
variable {harg8 : arg8.IsWhole}
variable {arg9 : Memref sig .tc .vmem S4096x128 .bf16}
variable {harg9 : arg9.IsWhole}
variable {arg10 : Memref sig .tc .vmem S4096x128 .bf16}
variable {harg10 : arg10.IsWhole}
variable {arg11 : Memref sig .tc .vmem S4096x128 .bf16}
variable {harg11 : arg11.IsWhole}
variable {arg12 : Memref sig .tc .vmem S4096x128 .bf16}
variable {harg12 : arg12.IsWhole}
variable {arg13 : Memref sig .tc .vmem S8x128 .f32}
variable {harg13 : arg13.IsWhole}
variable {arg14 : Memref sig .tc .vmem S1x128x128 .bf16}
variable {harg14 : arg14.IsWhole}
variable {arg15 : Memref sig .tc .vmem S4096x128 .f32}
variable {harg15 : arg15.IsWhole}
variable {arg16 : Memref sig .tc .vmem S4096x128 .f32}
variable {harg16 : arg16.IsWhole}
variable {arg17 : Memref sig .tc .vmem S2x32x128x1 .f32}
variable {harg17 : arg17.IsWhole}
variable {bd : Option ℕ} {x1 : Vec F S4096x128 .bf16} {x2 : Vec F S4096x128 .bf16} {x3 : Vec F S4096x128 .bf16} {x4 : Vec F S4096x128 .f32} {x5 : Vec F S4096x128 .f32} {x6 : Vec F S4096x128 .bf16} {x7 : Vec F S1x128x128 .f32} {x8 : Vec F S1x128 .f32}

section words

theorem word1 {w : BitVec 32} (h0 : 1 ≤ w.toNat) (h : w.toNat ≤ 31) : k0_chk1 w := by
  have e : w = BitVec.ofNat 32 w.toNat := by simp
  have d : ∀ v : Fin 32, 1 ≤ v.val → k0_chk1 (BitVec.ofNat 32 v.val) := by unfold k0_chk1; decide +kernel
  rw [e]; exact d ⟨w.toNat, by omega⟩ h0

theorem word3 {w : BitVec 32} (h0 : 1 ≤ w.toNat) (h : w.toNat ≤ 31) : k0_chk3 w := by
  have e : w = BitVec.ofNat 32 w.toNat := by simp
  have d : ∀ v : Fin 32, 1 ≤ v.val → k0_chk3 (BitVec.ofNat 32 v.val) := by unfold k0_chk3; decide +kernel
  rw [e]; exact d ⟨w.toNat, by omega⟩ h0

theorem word5 {w : BitVec 32} (h0 : 1 ≤ w.toNat) (h : w.toNat ≤ 31) : k0_chk5 w := by
  have e : w = BitVec.ofNat 32 w.toNat := by simp
  have d : ∀ v : Fin 32, 1 ≤ v.val → k0_chk5 (BitVec.ofNat 32 v.val) := by unfold k0_chk5; decide +kernel
  rw [e]; exact d ⟨w.toNat, by omega⟩ h0

theorem word2 {t : Fin k0_t2_loop.trips} {w : BitVec 32} (h : w.toNat ≤ 3 * t.val) : k0_chk2 t w := by
  have e : w = BitVec.ofNat 32 w.toNat := by simp
  have d : ∀ t : Fin k0_t2_loop.trips, ∀ v : Fin (3 * t.val + 1), k0_chk2 t (BitVec.ofNat 32 v.val) := by unfold k0_chk2; decide +kernel
  rw [e]; exact d t ⟨w.toNat, by omega⟩

theorem word4 {t : Fin k0_t2_loop.trips} {w : BitVec 32} (h : w.toNat ≤ 3 * t.val + 1) : k0_chk4 t w := by
  have e : w = BitVec.ofNat 32 w.toNat := by simp
  have d : ∀ t : Fin k0_t2_loop.trips, ∀ v : Fin (3 * t.val + 2), k0_chk4 t (BitVec.ofNat 32 v.val) := by unfold k0_chk4; decide +kernel
  rw [e]; exact d t ⟨w.toNat, by omega⟩

theorem word6 {t : Fin k0_t2_loop.trips} {w : BitVec 32} (h : w.toNat ≤ 3 * t.val + 2) : k0_chk6 t w := by
  have e : w = BitVec.ofNat 32 w.toNat := by simp
  have d : ∀ t : Fin k0_t2_loop.trips, ∀ v : Fin (3 * t.val + 3), k0_chk6 t (BitVec.ofNat 32 v.val) := by unfold k0_chk6; decide +kernel
  rw [e]; exact d t ⟨w.toNat, by omega⟩

theorem words (t : Fin k0_t2_loop.trips) :
    (Scalar.addi (Scalar.addi 2#32 (Scalar.muli 3#32 (Scf.iv 0#32 1#32 t))) 0#32).toNat = 3 * t.val + 2
    ∧ (Scalar.addi (Scalar.addi 2#32 (Scalar.muli 3#32 (Scf.iv 0#32 1#32 t))) 1#32).toNat = 3 * t.val + 3
    ∧ (Scalar.addi (Scalar.addi 2#32 (Scalar.muli 3#32 (Scf.iv 0#32 1#32 t))) 2#32).toNat = 3 * t.val + 4 := by
  revert t; decide +kernel

theorem sub_two {v : BitVec 32} {n : ℕ} (h : v.toNat = n + 2) : (Scalar.subi v 2#32).toNat = n := by
  show (v - 2#32).toNat = n
  rw [BitVec.toNat_sub]
  have := v.isLt
  simp only [BitVec.toNat_ofNat]
  omega

theorem sub_one {v : BitVec 32} (h : 1 ≤ v.toNat) : (Scalar.subi v 1#32).toNat = v.toNat - 1 := by
  show (v - 1#32).toNat = _
  rw [BitVec.toNat_sub]
  have := v.isLt
  simp only [BitVec.toNat_ofNat]
  omega

/-- A loop that goes on has a positive counter. -/

theorem goes_on {v : BitVec 32} {b : BitVec 1} (h : Scalar.andi (Scalar.cmpi .sgt v 0#32) b = 1#1) : 1 ≤ v.toNat := by
  by_contra h0
  have e : v = 0#32 := BitVec.eq_of_toNat_eq (by simp; omega)
  subst e
  revert h; revert b; decide

theorem trips2 (t : Fin k0_t2_loop.trips) : t.val < 10 := by
  revert t; decide

end words

/-- `P` holds the memory of one call of the body: the inputs at known contents, the scratch and the attention's results at any. -/
structure Holds (P : sProp (MT nD τ sig Unit (Elt F) ℕ (UR sig nD τ) ℕ)) (c : Dev nD) (arg1 : Memref sig .tc .vmem S4096x128 .bf16) (arg2 : Memref sig .tc .vmem S4096x128 .bf16) (arg3 : Memref sig .tc .vmem S4096x128 .bf16) (arg4 : Memref sig .tc .vmem S4096x128 .f32) (arg5 : Memref sig .tc .vmem S4096x128 .f32) (arg6 : Memref sig .tc .vmem S4096x128 .bf16) (arg7 : Memref sig .tc .vmem S1x128x128 .f32) (arg8 : Memref sig .tc .vmem S1x128 .f32) (arg9 : Memref sig .tc .vmem S4096x128 .bf16) (arg10 : Memref sig .tc .vmem S4096x128 .bf16) (arg11 : Memref sig .tc .vmem S4096x128 .bf16) (arg12 : Memref sig .tc .vmem S4096x128 .bf16) (arg13 : Memref sig .tc .vmem S8x128 .f32) (arg14 : Memref sig .tc .vmem S1x128x128 .bf16) (arg15 : Memref sig .tc .vmem S4096x128 .f32) (arg16 : Memref sig .tc .vmem S4096x128 .f32) (arg17 : Memref sig .tc .vmem S2x32x128x1 .f32) (x1 : Vec F S4096x128 .bf16) (x2 : Vec F S4096x128 .bf16) (x3 : Vec F S4096x128 .bf16) (x4 : Vec F S4096x128 .f32) (x5 : Vec F S4096x128 .f32) (x6 : Vec F S4096x128 .bf16) (x7 : Vec F S1x128x128 .f32) (x8 : Vec F S1x128 .f32) : Prop where
  o1 : Opens P (owns (c : Thread nD τ) arg1 fullShare x1 : sProp (MT nD τ sig Unit (Elt F) ℕ (UR sig nD τ) ℕ))
  o2 : Opens P (owns (c : Thread nD τ) arg2 fullShare x2 : sProp (MT nD τ sig Unit (Elt F) ℕ (UR sig nD τ) ℕ))
  o3 : Opens P (owns (c : Thread nD τ) arg3 fullShare x3 : sProp (MT nD τ sig Unit (Elt F) ℕ (UR sig nD τ) ℕ))
  o4 : Opens P (owns (c : Thread nD τ) arg4 fullShare x4 : sProp (MT nD τ sig Unit (Elt F) ℕ (UR sig nD τ) ℕ))
  o5 : Opens P (owns (c : Thread nD τ) arg5 fullShare x5 : sProp (MT nD τ sig Unit (Elt F) ℕ (UR sig nD τ) ℕ))
  o6 : Opens P (owns (c : Thread nD τ) arg6 fullShare x6 : sProp (MT nD τ sig Unit (Elt F) ℕ (UR sig nD τ) ℕ))
  o7 : Opens P (owns (c : Thread nD τ) arg7 fullShare x7 : sProp (MT nD τ sig Unit (Elt F) ℕ (UR sig nD τ) ℕ))
  o8 : Opens P (owns (c : Thread nD τ) arg8 fullShare x8 : sProp (MT nD τ sig Unit (Elt F) ℕ (UR sig nD τ) ℕ))
  o9 : Opens P (iprop(∃ d, owns (c : Thread nD τ) arg9 fullShare d) : sProp (MT nD τ sig Unit (Elt F) ℕ (UR sig nD τ) ℕ))
  o10 : Opens P (iprop(∃ d, owns (c : Thread nD τ) arg10 fullShare d) : sProp (MT nD τ sig Unit (Elt F) ℕ (UR sig nD τ) ℕ))
  o11 : Opens P (iprop(∃ d, owns (c : Thread nD τ) arg11 fullShare d) : sProp (MT nD τ sig Unit (Elt F) ℕ (UR sig nD τ) ℕ))
  o12 : Opens P (iprop(∃ d, owns (c : Thread nD τ) arg12 fullShare d) : sProp (MT nD τ sig Unit (Elt F) ℕ (UR sig nD τ) ℕ))
  o15 : Opens P (iprop(∃ d, owns (c : Thread nD τ) arg15 fullShare d) : sProp (MT nD τ sig Unit (Elt F) ℕ (UR sig nD τ) ℕ))
  o16 : Opens P (iprop(∃ d, owns (c : Thread nD τ) arg16 fullShare d) : sProp (MT nD τ sig Unit (Elt F) ℕ (UR sig nD τ) ℕ))
  o17 : Opens P (iprop(∃ d, owns (c : Thread nD τ) arg17 fullShare d) : sProp (MT nD τ sig Unit (Elt F) ℕ (UR sig nD τ) ℕ))

/-- `P` is handed back by the program `p`. -/
abbrev Keeps {α : Type} (P : sProp (MT nD τ sig Unit (Elt F) ℕ (UR sig nD τ) ℕ)) (c : Dev nD) (bd : Option ℕ) (p : Prog (TpuEff nD τ sig (Elt F) (Λ₀ F) .tc) α) : Prop :=
  P ⊢ W (c := (c : Thread nD τ)) (defs := defs₀ (F := F)) (U := UR sig nD τ) Variants.nat bd Set.univ p (fun _ => P)

variable {P : sProp (MT nD τ sig Unit (Elt F) ℕ (UR sig nD τ) ℕ)} (hP : Holds P c arg1 arg2 arg3 arg4 arg5 arg6 arg7 arg8 arg9 arg10 arg11 arg12 arg13 arg14 arg15 arg16 arg17 x1 x2 x3 x4 x5 x6 x7 x8)
include hP

/-- The rows of a chunk of the pooling. -/
def chunkRows {e : EltTy} (X : Vec F S4096x128 e) (t : Fin k0_t1_loop.trips) : Vec F S256x128 e := View.ld X (Rect.unit (s := S4096x128) (k0_off1 t) S256x128.size (k0_off1_inb t))

/-- The last chunk's rows. -/
def lastRows {e : EltTy} (X : Vec F S4096x128 e) : Vec F S256x128 e := View.ld X (Rect.unit (s := S4096x128) ![3840, 0] S256x128.size inb_S4096x128_S256x128_3840_0)

def poolW (x7 : Vec F S1x128x128 .f32) : FVec F S128x128 .bf16 := k0_pay476 (View.ld x7 (Rect.unit (s := S1x128x128) ![0, 0, 0] S1x128x128.size inb_S1x128x128_S1x128x128_0_0_0))
def poolS (x8 : Vec F S1x128 .f32) : Vec F S1x128 .f32 := View.ld x8 (Rect.unit (s := S1x128) ![0, 0] S1x128.size inb_S1x128_S1x128_0_0)

/-- The two sums the loop over the chunks carries, after `n` of them. -/
def poolAcc (x5 : Vec F S4096x128 .f32) (x6 : Vec F S4096x128 .bf16) (x7 : Vec F S1x128x128 .f32) (x8 : Vec F S1x128 .f32) : ℕ → FVec F S1x128 .f32 × FVec F S128x128 .f32
  | 0 => (k0_pay479 (F := F), k0_pay480 (F := F))
  | n + 1 => if h : n < k0_t1_loop.trips then
      (k0_pay16 (poolW x7) (poolAcc x5 x6 x7 x8 n).1 (chunkRows x5 ⟨n, h⟩) (chunkRows x6 ⟨n, h⟩),
        k0_pay17 (k0_pay477 (poolS x8)) (poolAcc x5 x6 x7 x8 n).2 (chunkRows x5 ⟨n, h⟩) (chunkRows x6 ⟨n, h⟩))
    else poolAcc x5 x6 x7 x8 n

/-- What the pooling leaves in the scale's gradient: its row, above zeros. -/
def poolScale (x5 : Vec F S4096x128 .f32) (x6 : Vec F S4096x128 .bf16) (x7 : Vec F S1x128x128 .f32) (x8 : Vec F S1x128 .f32) : Vec F S8x128 .f32 :=
  upd (k0_pay487 (F := F)) (Rect.unit (s := S8x128) ![0, 0] S1x128.size inb_S8x128_S1x128_0_0)
    (k0_pay485 (poolW x7) (poolAcc x5 x6 x7 x8 k0_t1_loop.trips).1 (lastRows x5) (k0_pay482 (lastRows x6)))

/-- What it leaves in the pooling weight's gradient. -/
def poolWeight (x5 : Vec F S4096x128 .f32) (x6 : Vec F S4096x128 .bf16) (x7 : Vec F S1x128x128 .f32) (x8 : Vec F S1x128 .f32) : Vec F S1x128x128 .bf16 :=
  k0_pay488 (poolAcc x5 x6 x7 x8 k0_t1_loop.trips).2 (lastRows x5) (k0_pay482 (lastRows x6)) (k0_pay483 (poolS x8))

theorem part1 {v0 v3 v5 v17 c0_i32_9 c1_i32 k0_t1 arg19 arg20} :
    P ⊢ W (defs := defs₀ (F := F)) (U := UR sig nD τ) Variants.nat c bd Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 v5 v17 c0_i32_9 c1_i32 k0_t1 arg19 arg20)
      (fun a => iprop(⌜a.2.1 = k0_pay16 v3 arg19 (chunkRows x5 k0_t1) (chunkRows x6 k0_t1) ∧ a.2.2.1 = k0_pay17 v5 arg20 (chunkRows x5 k0_t1) (chunkRows x6 k0_t1)⌝ ∗ P)) := by
  rw [k0_part1_eq_skeleton]; unfold k0_part1_skel
  refine load_val _ _ _ _ hP.o5 ?_
  refine load_val _ _ _ _ hP.o6 ?_
  refine load_known _ _ _ _ hP.o5 fun _ => ?_
  exact ret_pure _ _ _ _ ⟨rfl, rfl⟩

theorem t1 {v0 v1 v4 t} {a} :
    P ⊢ W (defs := defs₀ (F := F)) (U := UR sig nD τ) Variants.nat c bd Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v4 t a)
      (fun b => iprop(⌜b = (k0_pay16 (k0_pay476 v1) a.1 (chunkRows x5 t) (chunkRows x6 t), k0_pay17 (k0_pay477 v4) a.2 (chunkRows x5 t) (chunkRows x6 t))⌝ ∗ P)) := by
  unfold k0_t1_body
  rcases a with ⟨_, _⟩
  refine bind_pure _ _ _ _ (part1 hP) ?_; rintro ⟨_, _, _, _, _, _, _⟩ ⟨h1, h2⟩
  refine load_any _ _ _ _ hP.o12 fun _ => ?_
  refine store_any _ _ _ _ hP.o12 ?_
  exact ret_pure _ _ _ _ (Prod.ext h1 h2)

theorem part49 :
    P ⊢ W (defs := defs₀ (F := F)) (U := UR sig nD τ) Variants.nat c bd Set.univ (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun a => iprop(⌜a.2.1 = poolW x7 ∧ a.2.2.2.1 = (poolAcc x5 x6 x7 x8 k0_t1_loop.trips).1 ∧ a.2.2.2.2.1 = (poolAcc x5 x6 x7 x8 k0_t1_loop.trips).2
        ∧ a.2.2.2.2.2.1 = lastRows x5 ∧ a.2.2.2.2.2.2.1 = k0_pay482 (lastRows x6) ∧ a.2.2.2.2.2.2.2 = k0_pay483 (poolS x8)⌝ ∗ P)) := by
  rw [k0_part49_eq_skeleton]; unfold k0_part49_skel
  refine load_val _ _ _ _ hP.o7 ?_
  refine load_val _ _ _ _ hP.o8 ?_
  refine for_val _ _ _ _ (fun n a => a = poolAcc x5 x6 x7 x8 n) rfl (fun t a ha => ?_) ?_
  · refine (t1 hP).trans (wp_mono frame _ _ fun b => ?_)
    iintro ⟨%hb, H⟩
    isplitr
    · ipureintro; rw [hb, ha, poolAcc, dif_pos t.isLt]; rfl
    iexact H
  rintro ⟨_, _⟩ ha
  refine load_val _ _ _ _ hP.o5 ?_
  refine load_val _ _ _ _ hP.o6 ?_
  exact ret_pure _ _ _ _ ⟨rfl, congrArg Prod.fst ha, congrArg Prod.snd ha, rfl, rfl, rfl⟩

theorem part2 {v85 v87 k0_t2 v531 v533 v1138_0 k0_hw2 c1_i32_433 k0_t3} :
    Keeps P c bd (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v531 v533 v1138_0 k0_hw2 c1_i32_433 k0_t3) := by
  rw [k0_part2_eq_skeleton]; unfold k0_part2_skel
  refine load_known _ _ _ _ hP.o2 fun _ => ?_
  refine load_known _ _ _ _ hP.o3 fun _ => ?_
  exact ret_ok _ _ _ _ .rfl

theorem part3 {v100 v101 k0_t2 v536 v539 v1138_0 k0_hw2 k0_t3 arg19 v1833 v1835 v1850 v1855 v1864 v1865} :
    Keeps P c bd (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v100 v101 k0_t2 v536 v539 v1138_0 k0_hw2 k0_t3 arg19 v1833 v1835 v1850 v1855 v1864 v1865) := by
  rw [k0_part3_eq_skeleton]; unfold k0_part3_skel
  refine load_any _ _ _ _ hP.o17 fun _ => ?_
  refine load_any _ _ _ _ hP.o17 fun _ => ?_
  exact ret_ok _ _ _ _ .rfl

theorem part4 {v101 k0_t2 v540 v541 v1138_0 k0_hw2 k0_t3 arg20 arg21 arg22 v1824 v1831 v1850 v1872 v1893 v1897 v1898 v1899 v1905 v1910 cst_615} :
    Keeps P c bd (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 k0_t2 v540 v541 v1138_0 k0_hw2 k0_t3 arg20 arg21 arg22 v1824 v1831 v1850 v1872 v1893 v1897 v1898 v1899 v1905 v1910 cst_615) := by
  rw [k0_part4_eq_skeleton]; unfold k0_part4_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  exact ret_ok _ _ _ _ .rfl

theorem part5 {v85 v87 k0_t2 v531 v533 v1138_0 k0_hw2 v1143 c1_i32_434 k0_t4} :
    Keeps P c bd (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v531 v533 v1138_0 k0_hw2 v1143 c1_i32_434 k0_t4) := by
  rw [k0_part5_eq_skeleton]; unfold k0_part5_skel
  refine load_known _ _ _ _ hP.o2 fun _ => ?_
  refine load_known _ _ _ _ hP.o3 fun _ => ?_
  exact ret_ok _ _ _ _ .rfl

theorem part6 {v100 v101 k0_t2 v536 v539 v1138_0 k0_hw2 k0_t4 arg19 v1833 v1835 v1850 v1855 v1864 v1865} :
    Keeps P c bd (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v100 v101 k0_t2 v536 v539 v1138_0 k0_hw2 k0_t4 arg19 v1833 v1835 v1850 v1855 v1864 v1865) := by
  rw [k0_part6_eq_skeleton]; unfold k0_part6_skel
  refine load_any _ _ _ _ hP.o17 fun _ => ?_
  refine load_any _ _ _ _ hP.o17 fun _ => ?_
  exact ret_ok _ _ _ _ .rfl

theorem part7 {v101 k0_t2 v540 v541 v1138_0 k0_hw2 k0_t4 arg20 arg21 arg22 v1824 v1831 v1850 v1872 v1893 v1897 v1898 v1899 v1905 v1910 cst_615} :
    Keeps P c bd (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 k0_t2 v540 v541 v1138_0 k0_hw2 k0_t4 arg20 arg21 arg22 v1824 v1831 v1850 v1872 v1893 v1897 v1898 v1899 v1905 v1910 cst_615) := by
  rw [k0_part7_eq_skeleton]; unfold k0_part7_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  exact ret_ok _ _ _ _ .rfl

theorem part8 {v85 v87 k0_t2 v585 v587 v1154_0 k0_hw4 c1_i32_438 k0_t5} :
    Keeps P c bd (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v585 v587 v1154_0 k0_hw4 c1_i32_438 k0_t5) := by
  rw [k0_part8_eq_skeleton]; unfold k0_part8_skel
  refine load_known _ _ _ _ hP.o2 fun _ => ?_
  refine load_known _ _ _ _ hP.o3 fun _ => ?_
  exact ret_ok _ _ _ _ .rfl

theorem part9 {v100 v101 k0_t2 v590 v593 v1154_0 k0_hw4 k0_t5 arg19 v1833 v1835 v1850 v1855 v1864 v1865} :
    Keeps P c bd (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v100 v101 k0_t2 v590 v593 v1154_0 k0_hw4 k0_t5 arg19 v1833 v1835 v1850 v1855 v1864 v1865) := by
  rw [k0_part9_eq_skeleton]; unfold k0_part9_skel
  refine load_any _ _ _ _ hP.o17 fun _ => ?_
  refine load_any _ _ _ _ hP.o17 fun _ => ?_
  exact ret_ok _ _ _ _ .rfl

theorem part10 {v101 k0_t2 v594 v595 v1154_0 k0_hw4 k0_t5 arg20 arg21 arg22 v1824 v1831 v1850 v1872 v1893 v1897 v1898 v1899 v1905 v1910 cst_615} :
    Keeps P c bd (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 k0_t2 v594 v595 v1154_0 k0_hw4 k0_t5 arg20 arg21 arg22 v1824 v1831 v1850 v1872 v1893 v1897 v1898 v1899 v1905 v1910 cst_615) := by
  rw [k0_part10_eq_skeleton]; unfold k0_part10_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  exact ret_ok _ _ _ _ .rfl

theorem part11 {v85 v87 k0_t2 v585 v587 v1154_0 k0_hw4 v1159 c1_i32_439 k0_t6} :
    Keeps P c bd (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v585 v587 v1154_0 k0_hw4 v1159 c1_i32_439 k0_t6) := by
  rw [k0_part11_eq_skeleton]; unfold k0_part11_skel
  refine load_known _ _ _ _ hP.o2 fun _ => ?_
  refine load_known _ _ _ _ hP.o3 fun _ => ?_
  exact ret_ok _ _ _ _ .rfl

theorem part12 {v100 v101 k0_t2 v590 v593 v1154_0 k0_hw4 k0_t6 arg19 v1833 v1835 v1850 v1855 v1864 v1865} :
    Keeps P c bd (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v100 v101 k0_t2 v590 v593 v1154_0 k0_hw4 k0_t6 arg19 v1833 v1835 v1850 v1855 v1864 v1865) := by
  rw [k0_part12_eq_skeleton]; unfold k0_part12_skel
  refine load_any _ _ _ _ hP.o17 fun _ => ?_
  refine load_any _ _ _ _ hP.o17 fun _ => ?_
  exact ret_ok _ _ _ _ .rfl

theorem part13 {v101 k0_t2 v594 v595 v1154_0 k0_hw4 k0_t6 arg20 arg21 arg22 v1824 v1831 v1850 v1872 v1893 v1897 v1898 v1899 v1905 v1910 cst_615} :
    Keeps P c bd (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 k0_t2 v594 v595 v1154_0 k0_hw4 k0_t6 arg20 arg21 arg22 v1824 v1831 v1850 v1872 v1893 v1897 v1898 v1899 v1905 v1910 cst_615) := by
  rw [k0_part13_eq_skeleton]; unfold k0_part13_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  exact ret_ok _ _ _ _ .rfl

theorem part14 {v85 v87 k0_t2 v639 v641 v1170_0 k0_hw6 c1_i32_443 k0_t7} :
    Keeps P c bd (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v639 v641 v1170_0 k0_hw6 c1_i32_443 k0_t7) := by
  rw [k0_part14_eq_skeleton]; unfold k0_part14_skel
  refine load_known _ _ _ _ hP.o2 fun _ => ?_
  refine load_known _ _ _ _ hP.o3 fun _ => ?_
  exact ret_ok _ _ _ _ .rfl

theorem part15 {v100 v101 k0_t2 v644 v647 v1170_0 k0_hw6 k0_t7 arg19 v1833 v1835 v1850 v1855 v1864 v1865} :
    Keeps P c bd (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v100 v101 k0_t2 v644 v647 v1170_0 k0_hw6 k0_t7 arg19 v1833 v1835 v1850 v1855 v1864 v1865) := by
  rw [k0_part15_eq_skeleton]; unfold k0_part15_skel
  refine load_any _ _ _ _ hP.o17 fun _ => ?_
  refine load_any _ _ _ _ hP.o17 fun _ => ?_
  exact ret_ok _ _ _ _ .rfl

theorem part16 {v101 k0_t2 v648 v649 v1170_0 k0_hw6 k0_t7 arg20 arg21 arg22 v1824 v1831 v1850 v1872 v1893 v1897 v1898 v1899 v1905 v1910 cst_615} :
    Keeps P c bd (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 k0_t2 v648 v649 v1170_0 k0_hw6 k0_t7 arg20 arg21 arg22 v1824 v1831 v1850 v1872 v1893 v1897 v1898 v1899 v1905 v1910 cst_615) := by
  rw [k0_part16_eq_skeleton]; unfold k0_part16_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  exact ret_ok _ _ _ _ .rfl

theorem part17 {v85 v87 k0_t2 v639 v641 v1170_0 k0_hw6 v1175 c1_i32_444 k0_t8} :
    Keeps P c bd (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v639 v641 v1170_0 k0_hw6 v1175 c1_i32_444 k0_t8) := by
  rw [k0_part17_eq_skeleton]; unfold k0_part17_skel
  refine load_known _ _ _ _ hP.o2 fun _ => ?_
  refine load_known _ _ _ _ hP.o3 fun _ => ?_
  exact ret_ok _ _ _ _ .rfl

theorem part18 {v100 v101 k0_t2 v644 v647 v1170_0 k0_hw6 k0_t8 arg19 v1833 v1835 v1850 v1855 v1864 v1865} :
    Keeps P c bd (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v100 v101 k0_t2 v644 v647 v1170_0 k0_hw6 k0_t8 arg19 v1833 v1835 v1850 v1855 v1864 v1865) := by
  rw [k0_part18_eq_skeleton]; unfold k0_part18_skel
  refine load_any _ _ _ _ hP.o17 fun _ => ?_
  refine load_any _ _ _ _ hP.o17 fun _ => ?_
  exact ret_ok _ _ _ _ .rfl

theorem part19 {v101 k0_t2 v648 v649 v1170_0 k0_hw6 k0_t8 arg20 arg21 arg22 v1824 v1831 v1850 v1872 v1893 v1897 v1898 v1899 v1905 v1910 cst_615} :
    Keeps P c bd (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 k0_t2 v648 v649 v1170_0 k0_hw6 k0_t8 arg20 arg21 arg22 v1824 v1831 v1850 v1872 v1893 v1897 v1898 v1899 v1905 v1910 cst_615) := by
  rw [k0_part19_eq_skeleton]; unfold k0_part19_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  exact ret_ok _ _ _ _ .rfl

theorem t3 {v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1138_0 k0_hw2 t} {a} :
    Keeps P c bd (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1138_0 k0_hw2 t a) := by
  unfold k0_t3_body
  rcases a with ⟨_, _, _⟩
  refine bind_ok _ _ _ _ (part2 hP) ?_; rintro ⟨_, _, _, _, _, _, _, _, _⟩
  refine bind_ok _ _ _ _ (part3 hP) ?_; rintro ⟨_, _, _, _, _, _, _, _⟩
  refine bind_ok _ _ _ _ (part4 hP) ?_; rintro ⟨_, _, _, _⟩
  refine store_any _ _ _ _ hP.o16 ?_
  exact ret_ok _ _ _ _ .rfl

theorem t4 {v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1138_0 k0_hw2 v1143 t} {a} :
    Keeps P c bd (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1138_0 k0_hw2 v1143 t a) := by
  unfold k0_t4_body
  rcases a with ⟨_, _, _⟩
  refine bind_ok _ _ _ _ (part5 hP) ?_; rintro ⟨_, _, _, _, _, _, _, _, _⟩
  refine bind_ok _ _ _ _ (part6 hP) ?_; rintro ⟨_, _, _, _, _, _, _, _⟩
  refine bind_ok _ _ _ _ (part7 hP) ?_; rintro ⟨_, _, _, _⟩
  refine store_any _ _ _ _ hP.o16 ?_
  exact ret_ok _ _ _ _ .rfl

theorem t5 {v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1154_0 k0_hw4 t} {a} :
    Keeps P c bd (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1154_0 k0_hw4 t a) := by
  unfold k0_t5_body
  rcases a with ⟨_, _, _⟩
  refine bind_ok _ _ _ _ (part8 hP) ?_; rintro ⟨_, _, _, _, _, _, _, _, _⟩
  refine bind_ok _ _ _ _ (part9 hP) ?_; rintro ⟨_, _, _, _, _, _, _, _⟩
  refine bind_ok _ _ _ _ (part10 hP) ?_; rintro ⟨_, _, _, _⟩
  refine store_any _ _ _ _ hP.o16 ?_
  exact ret_ok _ _ _ _ .rfl

theorem t6 {v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1154_0 k0_hw4 v1159 t} {a} :
    Keeps P c bd (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111 v1154_0 k0_hw4 v1159 t a) := by
  unfold k0_t6_body
  rcases a with ⟨_, _, _⟩
  refine bind_ok _ _ _ _ (part11 hP) ?_; rintro ⟨_, _, _, _, _, _, _, _, _⟩
  refine bind_ok _ _ _ _ (part12 hP) ?_; rintro ⟨_, _, _, _, _, _, _, _⟩
  refine bind_ok _ _ _ _ (part13 hP) ?_; rintro ⟨_, _, _, _⟩
  refine store_any _ _ _ _ hP.o16 ?_
  exact ret_ok _ _ _ _ .rfl

theorem t7 {v85 v87 v100 v101 v102 v103 k0_t2 v536 v539 v559 v568 v577 v590 v593 v613 v622 v631 v639 v641 v644 v647 v648 v649 v667 v676 v685 v720 v744 v766 v1112 v1113 v1114 v1130 v1168 v1170_0 k0_hw6 v1171 t} {a} :
    Keeps P c bd (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v102 v103 k0_t2 v536 v539 v559 v568 v577 v590 v593 v613 v622 v631 v639 v641 v644 v647 v648 v649 v667 v676 v685 v720 v744 v766 v1112 v1113 v1114 v1130 v1168 v1170_0 k0_hw6 v1171 t a) := by
  unfold k0_t7_body
  rcases a with ⟨_, _, _⟩
  refine bind_ok _ _ _ _ (part14 hP) ?_; rintro ⟨_, _, _, _, _, _, _, _, _⟩
  refine bind_ok _ _ _ _ (part15 hP) ?_; rintro ⟨_, _, _, _, _, _, _, _⟩
  refine bind_ok _ _ _ _ (part16 hP) ?_; rintro ⟨_, _, _, _⟩
  refine store_any _ _ _ _ hP.o16 ?_
  exact ret_ok _ _ _ _ .rfl

theorem t8 {v85 v87 v100 v101 v102 v103 k0_t2 v536 v539 v559 v568 v577 v590 v593 v613 v622 v631 v639 v641 v644 v647 v648 v649 v667 v676 v685 v720 v744 v766 v1112 v1113 v1114 v1130 v1168 v1170_0 k0_hw6 v1171 v1175 t} {a} :
    Keeps P c bd (k0_t8_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v102 v103 k0_t2 v536 v539 v559 v568 v577 v590 v593 v613 v622 v631 v639 v641 v644 v647 v648 v649 v667 v676 v685 v720 v744 v766 v1112 v1113 v1114 v1130 v1168 v1170_0 k0_hw6 v1171 v1175 t a) := by
  unfold k0_t8_body
  rcases a with ⟨_, _, _⟩
  refine bind_ok _ _ _ _ (part17 hP) ?_; rintro ⟨_, _, _, _, _, _, _, _, _⟩
  refine bind_ok _ _ _ _ (part18 hP) ?_; rintro ⟨_, _, _, _, _, _, _, _⟩
  refine bind_ok _ _ _ _ (part19 hP) ?_; rintro ⟨_, _, _, _⟩
  refine store_any _ _ _ _ hP.o16 ?_
  exact ret_ok _ _ _ _ .rfl

theorem part20 {v85 v87 c0_i32_191 c1_i32_192 k0_t2} (h0 : c0_i32_191 = 0#32) (h1 : c1_i32_192 = 1#32) :
    P ⊢ W (defs := defs₀ (F := F)) (U := UR sig nD τ) Variants.nat c bd Set.univ (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 c0_i32_191 c1_i32_192 k0_t2) (fun a => iprop(⌜a.1.toNat = 3 * k0_t2.val + 2 ∧ a.2.1.toNat = 3 * k0_t2.val + 3 ∧ a.2.2.1.toNat = 3 * k0_t2.val + 4⌝ ∗ P)) := by
  rw [k0_part20_eq_skeleton]; unfold k0_part20_skel; subst h0 h1
  refine load_known _ _ _ _ hP.o1 fun _ => ?_
  refine load_known _ _ _ _ hP.o4 fun _ => ?_
  refine load_known _ _ _ _ hP.o2 fun _ => ?_
  exact ret_pure _ _ _ _ (words k0_t2)

theorem part21 {v85 v87 k0_t2 v522 v544 v547 v550 v554 v556} :
    Keeps P c bd (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v522 v544 v547 v550 v554 v556) := by
  rw [k0_part21_eq_skeleton]; unfold k0_part21_skel
  refine load_known _ _ _ _ hP.o3 fun _ => ?_
  refine load_known _ _ _ _ hP.o2 fun _ => ?_
  refine load_known _ _ _ _ hP.o3 fun _ => ?_
  refine load_known _ _ _ _ hP.o2 fun _ => ?_
  refine load_known _ _ _ _ hP.o3 fun _ => ?_
  refine load_known _ _ _ _ hP.o1 fun _ => ?_
  refine load_known _ _ _ _ hP.o4 fun _ => ?_
  exact ret_ok _ _ _ _ .rfl

theorem part22 {v85 v87 k0_t2 v522 v523 v598} :
    Keeps P c bd (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v522 v523 v598) := by
  rw [k0_part22_eq_skeleton]; unfold k0_part22_skel
  refine load_known _ _ _ _ hP.o2 fun _ => ?_
  refine load_known _ _ _ _ hP.o3 fun _ => ?_
  refine load_known _ _ _ _ hP.o2 fun _ => ?_
  refine load_known _ _ _ _ hP.o3 fun _ => ?_
  refine load_known _ _ _ _ hP.o2 fun _ => ?_
  refine load_known _ _ _ _ hP.o3 fun _ => ?_
  refine load_known _ _ _ _ hP.o1 fun _ => ?_
  refine load_known _ _ _ _ hP.o4 fun _ => ?_
  exact ret_ok _ _ _ _ .rfl

theorem part23 {v85 v87 k0_t2 v523 v635 v637 v638} :
    Keeps P c bd (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v523 v635 v637 v638) := by
  rw [k0_part23_eq_skeleton]; unfold k0_part23_skel
  refine load_known _ _ _ _ hP.o2 fun _ => ?_
  refine load_known _ _ _ _ hP.o3 fun _ => ?_
  refine load_known _ _ _ _ hP.o2 fun _ => ?_
  refine load_known _ _ _ _ hP.o3 fun _ => ?_
  refine load_known _ _ _ _ hP.o2 fun _ => ?_
  exact ret_ok _ _ _ _ .rfl

theorem part24 {v85 v87 k0_t2 v531 v533 v552 v561 v570 v585 v587 v606 v615 v624 v639 v641 v658 v660 v669 v678 v679} :
    Keeps P c bd (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 k0_t2 v531 v533 v552 v561 v570 v585 v587 v606 v615 v624 v639 v641 v658 v660 v669 v678 v679) := by
  rw [k0_part24_eq_skeleton]; unfold k0_part24_skel
  refine load_known _ _ _ _ hP.o3 fun _ => ?_
  exact ret_ok _ _ _ _ .rfl

theorem part25 {v102 v686 v687 v688 v710 v715} :
    Keeps P c bd (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v686 v687 v688 v710 v715) := by
  rw [k0_part25_eq_skeleton]; unfold k0_part25_skel
  exact ret_ok _ _ _ _ .rfl

theorem part26 {v688 v689 v690 v758 v760 v761} :
    Keeps P c bd (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v688 v689 v690 v758 v760 v761) := by
  rw [k0_part26_eq_skeleton]; unfold k0_part26_skel
  exact ret_ok _ _ _ _ .rfl

theorem part27 {v102 v690 v691 v692 v802 v807 v808} :
    Keeps P c bd (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v690 v691 v692 v802 v807 v808) := by
  rw [k0_part27_eq_skeleton]; unfold k0_part27_skel
  exact ret_ok _ _ _ _ .rfl

theorem part28 {v102 v693 v694 v846 v853 v855} :
    Keeps P c bd (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v693 v694 v846 v853 v855) := by
  rw [k0_part28_eq_skeleton]; unfold k0_part28_skel
  exact ret_ok _ _ _ _ .rfl

theorem part29 {v695 v696 v899} :
    Keeps P c bd (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v695 v696 v899) := by
  rw [k0_part29_eq_skeleton]; unfold k0_part29_skel
  exact ret_ok _ _ _ _ .rfl

theorem part30 {v102 v697 v698 v943 v947 v950} :
    Keeps P c bd (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v697 v698 v943 v947 v950) := by
  rw [k0_part30_eq_skeleton]; unfold k0_part30_skel
  exact ret_ok _ _ _ _ .rfl

theorem part31 {v102 v699 v700 v989} :
    Keeps P c bd (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v699 v700 v989) := by
  rw [k0_part31_eq_skeleton]; unfold k0_part31_skel
  exact ret_ok _ _ _ _ .rfl

theorem part32 {v701 v702 v703 v1035} :
    Keeps P c bd (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v701 v702 v703 v1035) := by
  rw [k0_part32_eq_skeleton]; unfold k0_part32_skel
  exact ret_ok _ _ _ _ .rfl

theorem part33 {v100 v703 v725 v749 v771 v793 v815 v837 v861 v885 v907 v929 v951 v973 v997 v1021 v1043 v1065 v1087 v1090 cst_406} :
    Keeps P c bd (k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v100 v703 v725 v749 v771 v793 v815 v837 v861 v885 v907 v929 v951 v973 v997 v1021 v1043 v1065 v1087 v1090 cst_406) := by
  rw [k0_part33_eq_skeleton]; unfold k0_part33_skel
  exact ret_ok _ _ _ _ .rfl

theorem part61 {k0_t2 v531 v533 arg19 arg20 arg21} (h0 : 1 ≤ arg19.toNat) (h1 : arg19.toNat ≤ 31) :
    P ⊢ W (defs := defs₀ (F := F)) (U := UR sig nD τ) Variants.nat c bd Set.univ (k0_part61 i k0_t2 arg17 harg17 arg2 harg2 v531 v533 arg19 arg20 arg21) (fun a => iprop(⌜a.1.toNat = arg19.toNat - 1⌝ ∗ P)) := by
  rw [k0_part61_eq_skeleton]; unfold k0_part61_skel
  refine assume_ok _ _ _ _ (word1 h0 h1) ?_
  refine load_any _ _ _ _ hP.o17 fun _ => ?_
  refine store_any _ _ _ _ hP.o17 ?_
  refine load_any _ _ _ _ hP.o17 fun _ => ?_
  refine store_any _ _ _ _ hP.o17 ?_
  refine load_known _ _ _ _ hP.o2 fun _ => ?_
  exact ret_pure _ _ _ _ (sub_one h0)

theorem while1 (n : ℕ) : ∀ {k0_t2 v531 v533 arg19 arg20 arg21}, arg19.toNat ≤ n → arg19.toNat ≤ 31 →
    P ⊢ W (defs := defs₀ (F := F)) (U := UR sig nD τ) Variants.nat c (some n) Set.univ (cc0_while1 i k0_t2 arg17 harg17 arg2 harg2 v531 v533 arg19 arg20 arg21) (fun a => iprop(⌜a.1.toNat ≤ arg19.toNat⌝ ∗ P)) := by
  induction n with
  | zero =>
    intro _ _ _ arg19 _ _ hn h31
    rw [cc0_while1_eq_skeleton]; unfold cc0_while1_skel
    extract_lets
    split_ifs with hc
    · exact absurd (goes_on hc) (by omega)
    · exact ret_pure _ _ _ _ (le_refl _)
  | succ n ih =>
    intro _ _ _ arg19 _ _ hn h31
    rw [cc0_while1_eq_skeleton]; unfold cc0_while1_skel
    extract_lets
    split_ifs with hc
    · have h1 := goes_on hc
      refine bind_pure _ _ _ _ (part61 hP h1 h31) ?_; rintro ⟨w, _, _, _⟩ hw
      have hw : w.toNat = arg19.toNat - 1 := hw
      refine call_last _ _ _ _ (fun a => a.1.toNat ≤ w.toNat) n (fun u hu => by cases hu; exact Nat.lt_succ_self n) (ih (by omega) (by omega)) fun r hr => ?_
      exact with_pure (le_trans hr (by omega))
    · exact ret_pure _ _ _ _ (le_refl _)

theorem part62 {k0_t2 v1138_0 k0_hw2 v585 v587 arg19 arg20 arg21} (h0 : 1 ≤ arg19.toNat) (h1 : arg19.toNat ≤ 31) :
    P ⊢ W (defs := defs₀ (F := F)) (U := UR sig nD τ) Variants.nat c bd Set.univ (k0_part62 i k0_t2 v1138_0 k0_hw2 arg17 harg17 arg2 harg2 v585 v587 arg19 arg20 arg21) (fun a => iprop(⌜a.1.toNat = arg19.toNat - 1⌝ ∗ P)) := by
  rw [k0_part62_eq_skeleton]; unfold k0_part62_skel
  refine assume_ok _ _ _ _ (word3 h0 h1) ?_
  refine load_any _ _ _ _ hP.o17 fun _ => ?_
  refine store_any _ _ _ _ hP.o17 ?_
  refine load_any _ _ _ _ hP.o17 fun _ => ?_
  refine store_any _ _ _ _ hP.o17 ?_
  refine load_known _ _ _ _ hP.o2 fun _ => ?_
  exact ret_pure _ _ _ _ (sub_one h0)

theorem while2 (n : ℕ) : ∀ {k0_t2 v1138_0 k0_hw2 v585 v587 arg19 arg20 arg21}, arg19.toNat ≤ n → arg19.toNat ≤ 31 →
    P ⊢ W (defs := defs₀ (F := F)) (U := UR sig nD τ) Variants.nat c (some n) Set.univ (cc0_while2 i k0_t2 v1138_0 k0_hw2 arg17 harg17 arg2 harg2 v585 v587 arg19 arg20 arg21) (fun a => iprop(⌜a.1.toNat ≤ arg19.toNat⌝ ∗ P)) := by
  induction n with
  | zero =>
    intro _ _ _ _ _ arg19 _ _ hn h31
    rw [cc0_while2_eq_skeleton]; unfold cc0_while2_skel
    extract_lets
    split_ifs with hc
    · exact absurd (goes_on hc) (by omega)
    · exact ret_pure _ _ _ _ (le_refl _)
  | succ n ih =>
    intro _ _ _ _ _ arg19 _ _ hn h31
    rw [cc0_while2_eq_skeleton]; unfold cc0_while2_skel
    extract_lets
    split_ifs with hc
    · have h1 := goes_on hc
      refine bind_pure _ _ _ _ (part62 hP h1 h31) ?_; rintro ⟨w, _, _, _⟩ hw
      have hw : w.toNat = arg19.toNat - 1 := hw
      refine call_last _ _ _ _ (fun a => a.1.toNat ≤ w.toNat) n (fun u hu => by cases hu; exact Nat.lt_succ_self n) (ih (by omega) (by omega)) fun r hr => ?_
      exact with_pure (le_trans hr (by omega))
    · exact ret_pure _ _ _ _ (le_refl _)

theorem part63 {k0_t2 v1138_0 k0_hw2 v1154_0 k0_hw4 v639 v641 arg19 arg20 arg21} (h0 : 1 ≤ arg19.toNat) (h1 : arg19.toNat ≤ 31) :
    P ⊢ W (defs := defs₀ (F := F)) (U := UR sig nD τ) Variants.nat c bd Set.univ (k0_part63 i k0_t2 v1138_0 k0_hw2 v1154_0 k0_hw4 arg17 harg17 arg2 harg2 v639 v641 arg19 arg20 arg21) (fun a => iprop(⌜a.1.toNat = arg19.toNat - 1⌝ ∗ P)) := by
  rw [k0_part63_eq_skeleton]; unfold k0_part63_skel
  refine assume_ok _ _ _ _ (word5 h0 h1) ?_
  refine load_any _ _ _ _ hP.o17 fun _ => ?_
  refine store_any _ _ _ _ hP.o17 ?_
  refine load_any _ _ _ _ hP.o17 fun _ => ?_
  refine store_any _ _ _ _ hP.o17 ?_
  refine load_known _ _ _ _ hP.o2 fun _ => ?_
  exact ret_pure _ _ _ _ (sub_one h0)

theorem while3 (n : ℕ) : ∀ {k0_t2 v1138_0 k0_hw2 v1154_0 k0_hw4 v639 v641 arg19 arg20 arg21}, arg19.toNat ≤ n → arg19.toNat ≤ 31 →
    P ⊢ W (defs := defs₀ (F := F)) (U := UR sig nD τ) Variants.nat c (some n) Set.univ (cc0_while3 i k0_t2 v1138_0 k0_hw2 v1154_0 k0_hw4 arg17 harg17 arg2 harg2 v639 v641 arg19 arg20 arg21) (fun a => iprop(⌜a.1.toNat ≤ arg19.toNat⌝ ∗ P)) := by
  induction n with
  | zero =>
    intro _ _ _ _ _ _ _ arg19 _ _ hn h31
    rw [cc0_while3_eq_skeleton]; unfold cc0_while3_skel
    extract_lets
    split_ifs with hc
    · exact absurd (goes_on hc) (by omega)
    · exact ret_pure _ _ _ _ (le_refl _)
  | succ n ih =>
    intro _ _ _ _ _ _ _ arg19 _ _ hn h31
    rw [cc0_while3_eq_skeleton]; unfold cc0_while3_skel
    extract_lets
    split_ifs with hc
    · have h1 := goes_on hc
      refine bind_pure _ _ _ _ (part63 hP h1 h31) ?_; rintro ⟨w, _, _, _⟩ hw
      have hw : w.toNat = arg19.toNat - 1 := hw
      refine call_last _ _ _ _ (fun a => a.1.toNat ≤ w.toNat) n (fun u hu => by cases hu; exact Nat.lt_succ_self n) (ih (by omega) (by omega)) fun r hr => ?_
      exact with_pure (le_trans hr (by omega))
    · exact ret_pure _ _ _ _ (le_refl _)

theorem part34 {v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111} (h1 : v521.toNat = 3 * k0_t2.val + 2) (h2 : v522.toNat = 3 * k0_t2.val + 3) (h3 : v523.toNat = 3 * k0_t2.val + 4) :
    Keeps P c none (k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v103 k0_t2 v521 v522 v523 v531 v533 v536 v539 v540 v541 v585 v587 v590 v593 v594 v595 v639 v641 v727 v751 v773 v795 v817 v839 v863 v887 v909 v931 v953 v975 v999 v1023 v1045 v1067 v1089 v1109 v1111) := by
  rw [k0_part34_eq_skeleton]; unfold k0_part34_skel
  have ht := trips2 k0_t2
  refine call_ok _ _ _ _ (fun a => a.1.toNat ≤ 3 * k0_t2.val) 31 (fun u hu => by cases hu) ?_ ?_
  · have e := sub_two (n := 3 * k0_t2.val) h1
    refine (while1 (F := F) hP 31 (by rw [e]; omega) (by rw [e]; omega)).trans (wp_mono _ _ _ fun a => ?_)
    rw [e]
  rintro ⟨_, _, _⟩ hw; refine assume_ok _ _ _ _ (word2 hw) ?_
  refine for_ok _ _ _ _ (fun t a => t3 hP) ?_; rintro ⟨_, _, _⟩
  refine for_ok _ _ _ _ (fun t a => t4 hP) ?_; rintro ⟨_, _, _⟩
  refine call_ok _ _ _ _ (fun a => a.1.toNat ≤ 3 * k0_t2.val + 1) 31 (fun u hu => by cases hu) ?_ ?_
  · have e := sub_two (n := 3 * k0_t2.val + 1) h2
    refine (while2 (F := F) hP 31 (by rw [e]; omega) (by rw [e]; omega)).trans (wp_mono _ _ _ fun a => ?_)
    rw [e]
  rintro ⟨_, _, _⟩ hw; refine assume_ok _ _ _ _ (word4 hw) ?_
  refine for_ok _ _ _ _ (fun t a => t5 hP) ?_; rintro ⟨_, _, _⟩
  refine for_ok _ _ _ _ (fun t a => t6 hP) ?_; rintro ⟨_, _, _⟩
  refine call_ok _ _ _ _ (fun a => a.1.toNat ≤ 3 * k0_t2.val + 2) 31 (fun u hu => by cases hu) ?_ ?_
  · have e := sub_two (n := 3 * k0_t2.val + 2) h3
    refine (while3 (F := F) hP 31 (by rw [e]; omega) (by rw [e]; omega)).trans (wp_mono _ _ _ fun a => ?_)
    rw [e]
  rintro ⟨_, _, _⟩ hw; refine assume_ok _ _ _ _ (word6 hw) ?_
  exact ret_ok _ _ _ _ .rfl

theorem part35 {v85 v87 v100 v101 v102 v103 k0_t2 v536 v539 v559 v568 v577 v590 v593 v613 v622 v631 v639 v641 v644 v647 v648 v649 v667 v676 v685 v720 v744 v766 v1112 v1113 v1114 v1130 v1168 v1170_0 k0_hw6 v1171} :
    Keeps P c bd (k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v102 v103 k0_t2 v536 v539 v559 v568 v577 v590 v593 v613 v622 v631 v639 v641 v644 v647 v648 v649 v667 v676 v685 v720 v744 v766 v1112 v1113 v1114 v1130 v1168 v1170_0 k0_hw6 v1171) := by
  rw [k0_part35_eq_skeleton]; unfold k0_part35_skel
  refine for_ok _ _ _ _ (fun t a => t7 hP) ?_; rintro ⟨_, _, _⟩
  refine for_ok _ _ _ _ (fun t a => t8 hP) ?_; rintro ⟨_, _, _⟩
  exact ret_ok _ _ _ _ .rfl

theorem part36 {v102 v103 v788 v810 v832 v856 v880 v902 v924 v946 v968 v992 v1115 v1116 v1117 v1118 v1119 v1120 v1121 v1122 v1123 v1124 v1131 v1132 v1133 v1146 v1147 v1148 v1149 v1178 v1179 v1180 v1181 v1182 v1183 v1184 v1185 v1186 v1187 v1188 v1189 v1201 v1207 v1208 v1209} :
    Keeps P c bd (k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v103 v788 v810 v832 v856 v880 v902 v924 v946 v968 v992 v1115 v1116 v1117 v1118 v1119 v1120 v1121 v1122 v1123 v1124 v1131 v1132 v1133 v1146 v1147 v1148 v1149 v1178 v1179 v1180 v1181 v1182 v1183 v1184 v1185 v1186 v1187 v1188 v1189 v1201 v1207 v1208 v1209) := by
  rw [k0_part36_eq_skeleton]; unfold k0_part36_skel
  exact ret_ok _ _ _ _ .rfl

theorem part37 {v101 v102 v103 v1016 v1038 v1060 v1082 v1104 v1125 v1126 v1127 v1128 v1129 v1162 v1163 v1164 v1165 v1190 v1191 v1192 v1193 v1194 v1195 v1224 v1225 v1226 v1227 v1267} :
    Keeps P c bd (k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 v102 v103 v1016 v1038 v1060 v1082 v1104 v1125 v1126 v1127 v1128 v1129 v1162 v1163 v1164 v1165 v1190 v1191 v1192 v1193 v1194 v1195 v1224 v1225 v1226 v1227 v1267) := by
  rw [k0_part37_eq_skeleton]; unfold k0_part37_skel
  exact ret_ok _ _ _ _ .rfl

theorem part38 {v101 v1228 v1229 v1258 v1259 v1260 v1261 v1262 v1263 v1292} :
    Keeps P c bd (k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 v1228 v1229 v1258 v1259 v1260 v1261 v1262 v1263 v1292) := by
  rw [k0_part38_eq_skeleton]; unfold k0_part38_skel
  exact ret_ok _ _ _ _ .rfl

theorem part39 {v101 v810 v832 v1145_0 v1145_1 v1228 v1229 v1293 v1294 v1295 v1296 v1297 v1327 v1333 v1370 v1373} :
    Keeps P c bd (k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 v810 v832 v1145_0 v1145_1 v1228 v1229 v1293 v1294 v1295 v1296 v1297 v1327 v1333 v1370 v1373) := by
  rw [k0_part39_eq_skeleton]; unfold k0_part39_skel
  exact ret_ok _ _ _ _ .rfl

theorem part40 {v102 v720 v744 v766 v788 v1145_1 v1224 v1225 v1226 v1227 v1229 v1303 v1309 v1315 v1321 v1417 v1421 v1424} :
    Keeps P c bd (k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v720 v744 v766 v788 v1145_1 v1224 v1225 v1226 v1227 v1229 v1303 v1309 v1315 v1321 v1417 v1421 v1424) := by
  rw [k0_part40_eq_skeleton]; unfold k0_part40_skel
  exact ret_ok _ _ _ _ .rfl

theorem part41 {v856 v902 v924 v946 v968 v1161_0 v1161_1 v1260 v1261 v1262 v1263 v1351 v1357 v1363 v1369} :
    Keeps P c bd (k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v856 v902 v924 v946 v968 v1161_0 v1161_1 v1260 v1261 v1262 v1263 v1351 v1357 v1363 v1369) := by
  rw [k0_part41_eq_skeleton]; unfold k0_part41_skel
  exact ret_ok _ _ _ _ .rfl

theorem part42 {v102 v880 v1038 v1082 v1104 v1177_0 v1177_1 v1258 v1259 v1294 v1296 v1297 v1339 v1345 v1387 v1399 v1405 v1511 v1523 v1524 v1526} :
    Keeps P c bd (k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v880 v1038 v1082 v1104 v1177_0 v1177_1 v1258 v1259 v1294 v1296 v1297 v1339 v1345 v1387 v1399 v1405 v1511 v1523 v1524 v1526) := by
  rw [k0_part42_eq_skeleton]; unfold k0_part42_skel
  exact ret_ok _ _ _ _ .rfl

theorem part43 {v102 v544 v557 v566 v575 v611 v620 v629 v665 v674 v683 v992 v1016 v1060 v1145_2 v1161_2 v1177_2 v1292 v1293 v1294 v1295 v1375 v1381 v1393 v1414 v1426 v1438 v1450 v1464 v1475 v1484 v1496 v1508 v1520 v1534 v1545 v1554 v1557 v1566 v1569 v1578} :
    Keeps P c bd (k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v544 v557 v566 v575 v611 v620 v629 v665 v674 v683 v992 v1016 v1060 v1145_2 v1161_2 v1177_2 v1292 v1293 v1294 v1295 v1375 v1381 v1393 v1414 v1426 v1438 v1450 v1464 v1475 v1484 v1496 v1508 v1520 v1534 v1545 v1554 v1557 v1566 v1569 v1578) := by
  rw [k0_part43_eq_skeleton]; unfold k0_part43_skel
  exact ret_ok _ _ _ _ .rfl

theorem part44 {k0_t2 v540 v541 v544 v547 v550 v1201 v1207 v1211 v1215 v1414 v1426 v1438 v1450 v1464 v1475} :
    Keeps P c bd (k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v540 v541 v544 v547 v550 v1201 v1207 v1211 v1215 v1414 v1426 v1438 v1450 v1464 v1475) := by
  rw [k0_part44_eq_skeleton]; unfold k0_part44_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  exact ret_ok _ _ _ _ .rfl

theorem part45 {k0_t2 v540 v541 v550 v594 v595 v598 v601 v1219 v1223 v1235 v1241 v1508 v1520 v1534 v1545 v1669 v1670 cst_539} :
    Keeps P c bd (k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v540 v541 v550 v594 v595 v598 v601 v1219 v1223 v1235 v1241 v1508 v1520 v1534 v1545 v1669 v1670 cst_539) := by
  rw [k0_part45_eq_skeleton]; unfold k0_part45_skel
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  exact ret_ok _ _ _ _ .rfl

theorem part46 {k0_t2 v594 v595 v601 v604 v648 v652 v1245 v1249 v1253 v1257 v1484 v1496 v1604 v1615 v1712} :
    Keeps P c bd (k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v594 v595 v601 v604 v648 v652 v1245 v1249 v1253 v1257 v1484 v1496 v1604 v1615 v1712) := by
  rw [k0_part46_eq_skeleton]; unfold k0_part46_skel
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  refine load_any _ _ _ _ hP.o15 fun _ => ?_
  refine store_any _ _ _ _ hP.o15 ?_
  exact ret_ok _ _ _ _ .rfl

theorem part47 {k0_t2 v648 v649 v652 v655 v658 v1269 v1275 v1279 v1283 v1287 v1554 v1566 v1578 v1590} :
    Keeps P c bd (k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t2 v648 v649 v652 v655 v658 v1269 v1275 v1279 v1283 v1287 v1554 v1566 v1578 v1590) := by
  rw [k0_part47_eq_skeleton]; unfold k0_part47_skel
  refine load_any _ _ _ _ hP.o16 fun _ => ?_
  refine load_any _ _ _ _ hP.o16 fun _ => ?_
  refine store_any _ _ _ _ hP.o16 ?_
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  refine load_any _ _ _ _ hP.o15 fun _ => ?_
  refine store_any _ _ _ _ hP.o15 ?_
  refine load_any _ _ _ _ hP.o16 fun _ => ?_
  exact ret_ok _ _ _ _ .rfl

theorem part48 {v85 v87 v100 v101 v102 v103 c0_i32_191 c1_i32_192 k0_t2} (h0 : c0_i32_191 = 0#32) (h1 : c1_i32_192 = 1#32) :
    Keeps P c none (k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v102 v103 c0_i32_191 c1_i32_192 k0_t2) := by
  rw [k0_part48_eq_skeleton]; unfold k0_part48_skel
  refine bind_pure _ _ _ _ (part20 hP h0 h1) ?_; rintro ⟨_, _, _, _, _, _, _, _, _, _, _, _, _, _, _, _⟩ ⟨e1, e2, e3⟩
  refine bind_ok _ _ _ _ (part21 hP) ?_; rintro ⟨_, _, _, _, _, _, _, _, _, _, _, _, _, _, _, _⟩
  refine bind_ok _ _ _ _ (part22 hP) ?_; rintro ⟨_, _, _, _, _, _, _, _, _, _, _, _, _, _, _⟩
  refine bind_ok _ _ _ _ (part23 hP) ?_; rintro ⟨_, _, _, _, _, _, _, _, _, _, _, _, _, _, _, _, _⟩
  refine bind_ok _ _ _ _ (part24 hP) ?_; rintro ⟨_, _, _, _, _, _, _, _, _, _, _, _, _, _, _, _, _, _, _, _, _, _⟩
  refine bind_ok _ _ _ _ (part25 hP) ?_; rintro ⟨_, _, _, _, _, _, _, _, _⟩
  refine bind_ok _ _ _ _ (part26 hP) ?_; rintro ⟨_, _, _, _, _, _, _, _, _⟩
  refine bind_ok _ _ _ _ (part27 hP) ?_; rintro ⟨_, _, _, _, _, _, _, _, _⟩
  refine bind_ok _ _ _ _ (part28 hP) ?_; rintro ⟨_, _, _, _, _, _, _, _⟩
  refine bind_ok _ _ _ _ (part29 hP) ?_; rintro ⟨_, _, _, _, _, _, _, _, _⟩
  refine bind_ok _ _ _ _ (part30 hP) ?_; rintro ⟨_, _, _, _, _, _, _, _⟩
  refine bind_ok _ _ _ _ (part31 hP) ?_; rintro ⟨_, _, _, _, _, _, _⟩
  refine bind_ok _ _ _ _ (part32 hP) ?_; rintro ⟨_, _, _, _, _, _, _, _, _⟩
  refine bind_ok _ _ _ _ (part33 hP) ?_; rintro ⟨_, _, _, _, _, _, _, _, _, _, _, _, _, _, _, _, _, _, _, _⟩
  refine bind_ok _ _ _ _ (part34 hP e1 e2 e3) ?_; rintro ⟨_, _, _, _, _, _, _, _, _, _, _, _, _, _, _, _, _, _, _, _, _, _, _⟩
  refine bind_ok _ _ _ _ (part35 hP) ?_; rintro ⟨_, _, _, _, _, _, _, _, _, _, _, _, _, _, _, _, _, _, _, _, _, _, _, _, _⟩
  refine bind_ok _ _ _ _ (part36 hP) ?_; rintro ⟨_, _, _, _, _, _, _, _, _, _, _, _, _, _, _, _, _, _, _, _, _, _, _⟩
  refine bind_ok _ _ _ _ (part37 hP) ?_; rintro ⟨_, _, _, _, _, _, _, _, _, _, _, _, _, _, _, _⟩
  refine bind_ok _ _ _ _ (part38 hP) ?_; rintro ⟨_, _, _, _, _, _, _, _, _, _⟩
  refine bind_ok _ _ _ _ (part39 hP) ?_; rintro ⟨_, _, _, _, _, _, _, _, _, _⟩
  refine bind_ok _ _ _ _ (part40 hP) ?_; rintro ⟨_, _, _, _, _⟩
  refine bind_ok _ _ _ _ (part41 hP) ?_; rintro ⟨_, _, _, _, _, _, _, _⟩
  refine bind_ok _ _ _ _ (part42 hP) ?_; rintro ⟨_, _, _, _, _, _, _⟩
  refine bind_ok _ _ _ _ (part43 hP) ?_; rintro ⟨_, _, _, _, _, _⟩
  refine bind_ok _ _ _ _ (part44 hP) ?_; rintro ⟨_, _, _⟩
  refine bind_ok _ _ _ _ (part45 hP) ?_; rintro _
  refine bind_ok _ _ _ _ (part46 hP) ?_; rintro _
  refine bind_ok _ _ _ _ (part47 hP) ?_; rintro ⟨_, _⟩
  refine load_any _ _ _ _ hP.o16 fun _ => ?_
  refine store_any _ _ _ _ hP.o16 ?_
  refine load_any _ _ _ _ hP.o9 fun _ => ?_
  refine store_any _ _ _ _ hP.o9 ?_
  refine load_any _ _ _ _ hP.o9 fun _ => ?_
  refine store_any _ _ _ _ hP.o9 ?_
  exact ret_ok _ _ _ _ .rfl

theorem t2 {v85 v87 v100 v101 v102 v103 t} {a} :
    Keeps P c none (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v85 v87 v100 v101 v102 v103 t a) := by
  unfold k0_t2_body
  refine bind_ok _ _ _ _ (part48 hP rfl rfl) ?_; rintro _
  refine load_any _ _ _ _ hP.o9 fun _ => ?_
  refine store_any _ _ _ _ hP.o9 ?_
  exact ret_ok _ _ _ _ .rfl

omit hP in
/-- A resource held beside does not matter. -/
theorem Holds.beside (hP : Holds P c arg1 arg2 arg3 arg4 arg5 arg6 arg7 arg8 arg9 arg10 arg11 arg12 arg13 arg14 arg15 arg16 arg17 x1 x2 x3 x4 x5 x6 x7 x8) (B : sProp (MT nD τ sig Unit (Elt F) ℕ (UR sig nD τ) ℕ)) :
    Holds iprop(B ∗ P) c arg1 arg2 arg3 arg4 arg5 arg6 arg7 arg8 arg9 arg10 arg11 arg12 arg13 arg14 arg15 arg16 arg17 x1 x2 x3 x4 x5 x6 x7 x8 :=
  ⟨.later B hP.o1, .later B hP.o2, .later B hP.o3, .later B hP.o4, .later B hP.o5, .later B hP.o6, .later B hP.o7, .later B hP.o8, .later B hP.o9, .later B hP.o10, .later B hP.o11, .later B hP.o12, .later B hP.o15, .later B hP.o16, .later B hP.o17⟩

theorem part50 {v0 v3 v17 v32_0 v32_1 v33 v35 v36} {d d'} :
    iprop(owns (c : Thread nD τ) arg13 fullShare d ∗ owns (c : Thread nD τ) arg14 fullShare d' ∗ P)
      ⊢ W (defs := defs₀ (F := F)) (U := UR sig nD τ) Variants.nat c bd Set.univ (k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 v17 v32_0 v32_1 v33 v35 v36)
      (fun _ => iprop(owns (c : Thread nD τ) arg13 fullShare (upd (k0_pay487 (F := F)) (Rect.unit (s := S8x128) ![0, 0] S1x128.size inb_S8x128_S1x128_0_0) (k0_pay485 v3 v32_0 v33 v35))
        ∗ owns (c : Thread nD τ) arg14 fullShare (k0_pay488 v32_1 v33 v35 v36) ∗ P)) := by
  rw [k0_part50_eq_skeleton]; unfold k0_part50_skel
  have h2 := (hP.beside (owns (c : Thread nD τ) arg14 fullShare d')).beside (owns (c : Thread nD τ) arg13 fullShare d)
  refine load_any _ _ _ _ h2.o12 fun _ => ?_
  refine store_any _ _ _ _ h2.o12 ?_
  refine load_known _ _ _ _ (Opens.here _ _) fun _ => ?_
  refine store_val _ _ _ _ ?_
  refine load_known _ _ _ _ (Opens.here _ _) fun _ => ?_
  refine store_val _ _ _ _ ?_
  refine load_known _ _ _ _ (Opens.later _ (Opens.here _ _)) fun _ => ?_
  rw [whole_upd]
  refine swap.trans ?_
  refine store_val _ _ _ _ ?_
  refine ret_ok _ _ _ _ ?_
  rw [whole_upd]
  exact swap

theorem part51 :
    Keeps P c bd (k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [k0_part51_eq_skeleton]; unfold k0_part51_skel
  refine load_any _ _ _ _ hP.o15 fun _ => ?_
  refine store_any _ _ _ _ hP.o15 ?_
  refine load_any _ _ _ _ hP.o16 fun _ => ?_
  refine store_any _ _ _ _ hP.o16 ?_
  refine load_known _ _ _ _ hP.o1 fun _ => ?_
  refine load_known _ _ _ _ hP.o4 fun _ => ?_
  exact ret_ok _ _ _ _ .rfl

theorem part52 {v86 v88 v103 v106 v108 v110 v113} :
    Keeps P c bd (k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v86 v88 v103 v106 v108 v110 v113) := by
  rw [k0_part52_eq_skeleton]; unfold k0_part52_skel
  refine load_known _ _ _ _ hP.o2 fun _ => ?_
  refine load_known _ _ _ _ hP.o3 fun _ => ?_
  exact ret_ok _ _ _ _ .rfl

theorem part53 {v101 v102 v103 v104 v113 v116 v125 v127 v144 v149 v156} :
    Keeps P c bd (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 v102 v103 v104 v113 v116 v125 v127 v144 v149 v156) := by
  rw [k0_part53_eq_skeleton]; unfold k0_part53_skel
  exact ret_ok _ _ _ _ .rfl

theorem part54 {v103 v104 v117 v118 v124 v166 v174 v182 v188 v189 v190 v196 v202 v203} :
    Keeps P c bd (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v103 v104 v117 v118 v124 v166 v174 v182 v188 v189 v190 v196 v202 v203) := by
  rw [k0_part54_eq_skeleton]; unfold k0_part54_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  exact ret_ok _ _ _ _ .rfl

theorem part55 {v86 v88 v245} :
    Keeps P c bd (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v86 v88 v245) := by
  rw [k0_part55_eq_skeleton]; unfold k0_part55_skel
  refine load_any _ _ _ _ hP.o9 fun _ => ?_
  refine store_any _ _ _ _ hP.o9 ?_
  refine load_known _ _ _ _ hP.o1 fun _ => ?_
  refine load_known _ _ _ _ hP.o4 fun _ => ?_
  refine load_known _ _ _ _ hP.o2 fun _ => ?_
  refine load_known _ _ _ _ hP.o3 fun _ => ?_
  refine load_known _ _ _ _ hP.o2 fun _ => ?_
  refine load_known _ _ _ _ hP.o3 fun _ => ?_
  exact ret_ok _ _ _ _ .rfl

theorem part56 {v103 v253 v269 v276 v277 cst_119} :
    Keeps P c bd (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v103 v253 v269 v276 v277 cst_119) := by
  rw [k0_part56_eq_skeleton]; unfold k0_part56_skel
  exact ret_ok _ _ _ _ .rfl

theorem part57 {v101 v278 v279 v301 v317 v325} :
    Keeps P c bd (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 v278 v279 v301 v317 v325) := by
  rw [k0_part57_eq_skeleton]; unfold k0_part57_skel
  exact ret_ok _ _ _ _ .rfl

theorem part58 {v101 v102 v103 v104 v256 v259 v268 v275 v296 v303 v320 v327 v342 v362 v367 v368 v369 v370 cst_147} :
    Keeps P c bd (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v101 v102 v103 v104 v256 v259 v268 v275 v296 v303 v320 v327 v342 v362 v367 v368 v369 v370 cst_147) := by
  rw [k0_part58_eq_skeleton]; unfold k0_part58_skel
  exact ret_ok _ _ _ _ .rfl

theorem part59 {v102 v103 v104 v296 v320 v342 v362 v399 v400 v401 v402 v408 v414 v420} :
    Keeps P c bd (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v103 v104 v296 v320 v342 v362 v399 v400 v401 v402 v408 v414 v420) := by
  rw [k0_part59_eq_skeleton]; unfold k0_part59_skel
  exact ret_ok _ _ _ _ .rfl

theorem part60 {v260 v261 v267 v274 v374 v384 v390 v394 v398 v435 v447 v461 v471} :
    Keeps P c bd (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v260 v261 v267 v274 v374 v384 v390 v394 v398 v435 v447 v461 v471) := by
  rw [k0_part60_eq_skeleton]; unfold k0_part60_skel
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  refine store_any _ _ _ _ hP.o16 ?_
  refine load_any _ _ _ _ hP.o15 fun _ => ?_
  refine load_any _ _ _ _ hP.o15 fun _ => ?_
  refine store_any _ _ _ _ hP.o15 ?_
  refine load_any _ _ _ _ hP.o16 fun _ => ?_
  refine load_any _ _ _ _ hP.o16 fun _ => ?_
  exact ret_ok _ _ _ _ .rfl

/-- The memory of one call of the body, but for the pooling's two results. -/
def Mem (c : Dev nD) (arg1 : Memref sig .tc .vmem S4096x128 .bf16) (arg2 : Memref sig .tc .vmem S4096x128 .bf16) (arg3 : Memref sig .tc .vmem S4096x128 .bf16) (arg4 : Memref sig .tc .vmem S4096x128 .f32) (arg5 : Memref sig .tc .vmem S4096x128 .f32) (arg6 : Memref sig .tc .vmem S4096x128 .bf16) (arg7 : Memref sig .tc .vmem S1x128x128 .f32) (arg8 : Memref sig .tc .vmem S1x128 .f32) (arg9 : Memref sig .tc .vmem S4096x128 .bf16) (arg10 : Memref sig .tc .vmem S4096x128 .bf16) (arg11 : Memref sig .tc .vmem S4096x128 .bf16) (arg12 : Memref sig .tc .vmem S4096x128 .bf16) (arg13 : Memref sig .tc .vmem S8x128 .f32) (arg14 : Memref sig .tc .vmem S1x128x128 .bf16) (arg15 : Memref sig .tc .vmem S4096x128 .f32) (arg16 : Memref sig .tc .vmem S4096x128 .f32) (arg17 : Memref sig .tc .vmem S2x32x128x1 .f32) (x1 : Vec F S4096x128 .bf16) (x2 : Vec F S4096x128 .bf16) (x3 : Vec F S4096x128 .bf16) (x4 : Vec F S4096x128 .f32) (x5 : Vec F S4096x128 .f32) (x6 : Vec F S4096x128 .bf16) (x7 : Vec F S1x128x128 .f32) (x8 : Vec F S1x128 .f32) : sProp (MT nD τ sig Unit (Elt F) ℕ (UR sig nD τ) ℕ) :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg15 fullShare d) ∗ (∃ d, owns (c : Thread nD τ) arg16 fullShare d) ∗ (∃ d, owns (c : Thread nD τ) arg17 fullShare d))

omit hP in
theorem Mem.holds {c : Dev nD} : Holds (F := F) (Mem c arg1 arg2 arg3 arg4 arg5 arg6 arg7 arg8 arg9 arg10 arg11 arg12 arg13 arg14 arg15 arg16 arg17 x1 x2 x3 x4 x5 x6 x7 x8) c arg1 arg2 arg3 arg4 arg5 arg6 arg7 arg8 arg9 arg10 arg11 arg12 arg13 arg14 arg15 arg16 arg17 x1 x2 x3 x4 x5 x6 x7 x8 := by
  constructor <;> unfold Mem <;> repeat (first | exact Opens.self _ | exact Opens.here _ _ | refine Opens.later _ ?_)

/-- The whole body: what the pooling leaves in its two results, everything else kept. -/

theorem body {d d'} :
    iprop(owns (c : Thread nD τ) arg13 fullShare d ∗ owns (c : Thread nD τ) arg14 fullShare d' ∗ P)
      ⊢ W (defs := defs₀ (F := F)) (U := UR sig nD τ) Variants.nat c none Set.univ (cc0_mixers_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(owns (c : Thread nD τ) arg13 fullShare (poolScale x5 x6 x7 x8) ∗ owns (c : Thread nD τ) arg14 fullShare (poolWeight x5 x6 x7 x8) ∗ P)) := by
  rw [cc0_mixers_bwd_eq_skeleton]; unfold cc0_mixers_bwd_skel
  refine bind_pure _ _ _ _ (part49 ((hP.beside _).beside _)) ?_; rintro ⟨_, v3, _, a, b, v33, v35, v36⟩ ⟨h1, h2, h3, h4, h5, h6⟩
  dsimp only at h1 h2 h3 h4 h5 h6
  subst h1 h2 h3 h4 h5 h6
  unfold W; rw [wp_bind]
  refine (part50 hP).trans (wp_mono frame _ _ fun _ => ?_)
  replace hP := (hP.beside (owns (c : Thread nD τ) arg14 fullShare (poolWeight x5 x6 x7 x8))).beside (owns (c : Thread nD τ) arg13 fullShare (poolScale x5 x6 x7 x8))
  refine bind_ok _ _ _ _ (part51 hP) ?_; rintro ⟨_, _, _, _, _, _, _, _, _, _⟩
  refine bind_ok _ _ _ _ (part52 hP) ?_; rintro ⟨_, _, _, _, _, _, _, _, _⟩
  refine bind_ok _ _ _ _ (part53 hP) ?_; rintro ⟨_, _, _, _, _, _, _, _, _⟩
  refine bind_ok _ _ _ _ (part54 hP) ?_; rintro _
  refine bind_ok _ _ _ _ (part55 hP) ?_; rintro ⟨_, _, _, _, _, _, _, _, _, _, _, _, _, _⟩
  refine bind_ok _ _ _ _ (part56 hP) ?_; rintro ⟨_, _, _, _, _, _, _⟩
  refine bind_ok _ _ _ _ (part57 hP) ?_; rintro ⟨_, _, _, _, _, _, _, _⟩
  refine bind_ok _ _ _ _ (part58 hP) ?_; rintro ⟨_, _, _, _, _, _, _, _, _, _, _, _⟩
  refine bind_ok _ _ _ _ (part59 hP) ?_; rintro ⟨_, _, _, _⟩
  refine bind_ok _ _ _ _ (part60 hP) ?_; rintro ⟨_, _⟩
  refine store_any _ _ _ _ hP.o16 ?_
  refine load_any _ _ _ _ hP.o9 fun _ => ?_
  refine store_any _ _ _ _ hP.o9 ?_
  refine for_ok _ _ _ _ (fun t a => t2 hP) ?_; rintro _
  refine load_any _ _ _ _ hP.o15 fun _ => ?_
  refine load_any _ _ _ _ hP.o10 fun _ => ?_
  refine store_any _ _ _ _ hP.o10 ?_
  refine load_any _ _ _ _ hP.o16 fun _ => ?_
  refine load_any _ _ _ _ hP.o11 fun _ => ?_
  refine store_any _ _ _ _ hP.o11 ?_
  exact ret_ok _ _ _ _ .rfl

end Cert.MixBwdIdeal.Frame

end
-- ==== Proof.MixFrame.lean ====
/- The frame of the mixers' backward kernel: @main up to the region, the body at each point of the grid from the run of
   MixBody.lean, and the launch. Of what the kernel leaves in its six results, only the pooling scale's and the pooling
   weight's gradients are named. -/
module

public import proofs.«01_k».proof.Proof.MixBody
public import proofs.«01_k».proof.Proof.Gen.MixBwdIdeal.Launch
public import proofs.«01_k».proof.Proof.Gen.MixBwdIdeal.Points
public import Idealize.ShloMosaic.Lib.Pipeline.FrameBody
public import Idealize.ShloMosaic.Lib.Ring
public import Idealize.ShloMosaic.Lib.Claim

@[expose] public section

set_option maxRecDepth 16384

noncomputable section

namespace Cert.MixBwdIdeal.Frame

open Idealize.ShloMosaic Idealize.ShloMosaic.TcCoe Idealize.ShloMosaic.Tactic Cert.MixBwdIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The host operations before the region, stretch by stretch: the pooled averages and the reshaped scale. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- The buffers of device `c` when the region is entered. -/
def V (c : Dev nD) (b : Ref sig .tc) : Buf (Elt F) ((c : Thread nD τ).loc b) := StableHlo.after opss.flatten (fun b => m (c, b)) b

theorem hmain : Pipeline.HMain (Ix := Unit) (Name := ℕ) (U := UR sig nD τ) (Lvl := ℕ) cfgs 0 defs₀ Variants.nat m (main (F := F)) (V m) :=
  Pipeline.hmain_prefixes cfgs 0 defs₀ Variants.nat m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩
    (by simp only [opss, List.Forall]; repeat' constructor) main_chain

/-- The host operations before the region write none of the arguments. -/
theorem args_kept : ∀ op ∈ (opss (F := F)).flatten, ∀ b ∈ [main_arg0, main_arg1, main_arg2, main_arg3, main_arg4, main_arg5, main_arg6, main_arg7], Proc.devRef (τ := τ) .tc b ∉ op.writes :=
  of_decide_eq_true rfl

theorem V_of (c : Dev nD) (b : Ref sig .tc) (h : b ∈ [main_arg0, main_arg1, main_arg2, main_arg3, main_arg4, main_arg5, main_arg6, main_arg7]) : V m c b = m ((c : Thread nD τ).loc b) :=
  StableHlo.after_of_forall_not_mem (b := Proc.devRef .tc b) _ _ fun op hop => args_kept op hop b h

attribute [local irreducible] V

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The windows of the results not named: the attention's and the pooling input's. -/
def forgets0 : Fin 14 → Bool := fun w => w.val == 8 || w.val == 9 || w.val == 10 || w.val == 11

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := (cfg0 (F := F))) ⟨8, h⟩ t
    | ⟨9, h⟩ => Pipeline.Dat.unnamed (cfg := (cfg0 (F := F))) ⟨9, h⟩ t
    | ⟨10, h⟩ => Pipeline.Dat.unnamed (cfg := (cfg0 (F := F))) ⟨10, h⟩ t
    | ⟨11, h⟩ => Pipeline.Dat.unnamed (cfg := (cfg0 (F := F))) ⟨11, h⟩ t
    | ⟨12, _⟩ => poolScale (iblk m c 4 t) (iblk m c 5 t) (iblk m c 6 t) (iblk m c 7 t)
    | ⟨13, _⟩ => poolWeight (iblk m c 4 t) (iblk m c 5 t) (iblk m c 6 t) (iblk m c 7 t)
    | ⟨_ + 14, h⟩ => absurd h (Nat.not_lt.2 (Nat.le_add_left _ _))
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = iblk m c 7 t := by dsimp only [dats]; rfl

theorem after0_12 (c : Dev nD) (t : Fin (cfg0 (F := F)).N) : (dats m 0 c).after 12 t = poolScale (iblk m c 4 t) (iblk m c 5 t) (iblk m c 6 t) (iblk m c 7 t) := by dsimp only [dats]; rfl
theorem after0_13 (c : Dev nD) (t : Fin (cfg0 (F := F)).N) : (dats m 0 c).after 13 t = poolWeight (iblk m c 4 t) (iblk m c 5 t) (iblk m c 6 t) (iblk m c 7 t) := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

theorem before0_6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

theorem before0_7 (c : Dev nD) (t : Fin (cfg0 (F := F)).N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-- What the body is given at point `t`, -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d))
    ∗ (∃ d, owns (c : Thread nD τ) (win0_6.stage ((cfg0 (F := F)).slots t 6)) fullShare ((dats m 0 c).before 6 t d))
    ∗ (∃ d, owns (c : Thread nD τ) (win0_7.stage ((cfg0 (F := F)).slots t 7)) fullShare ((dats m 0 c).before 7 t d))
    ∗ (∃ d, owns (c : Thread nD τ) (win0_8.stage ((cfg0 (F := F)).slots t 8)) fullShare d)
    ∗ (∃ d, owns (c : Thread nD τ) (win0_9.stage ((cfg0 (F := F)).slots t 9)) fullShare d)
    ∗ (∃ d, owns (c : Thread nD τ) (win0_10.stage ((cfg0 (F := F)).slots t 10)) fullShare d)
    ∗ (∃ d, owns (c : Thread nD τ) (win0_11.stage ((cfg0 (F := F)).slots t 11)) fullShare d)
    ∗ (∃ d, owns (c : Thread nD τ) (win0_12.stage ((cfg0 (F := F)).slots t 12)) fullShare ((dats m 0 c).before 12 t d))
    ∗ (∃ d, owns (c : Thread nD τ) (win0_13.stage ((cfg0 (F := F)).slots t 13)) fullShare ((dats m 0 c).before 13 t d)))

/-- and what it gives back. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t)
    ∗ owns (c : Thread nD τ) (win0_6.stage ((cfg0 (F := F)).slots t 6)) fullShare ((dats m 0 c).after 6 t)
    ∗ owns (c : Thread nD τ) (win0_7.stage ((cfg0 (F := F)).slots t 7)) fullShare ((dats m 0 c).after 7 t)
    ∗ (∃ d, owns (c : Thread nD τ) (win0_8.stage ((cfg0 (F := F)).slots t 8)) fullShare d)
    ∗ (∃ d, owns (c : Thread nD τ) (win0_9.stage ((cfg0 (F := F)).slots t 9)) fullShare d)
    ∗ (∃ d, owns (c : Thread nD τ) (win0_10.stage ((cfg0 (F := F)).slots t 10)) fullShare d)
    ∗ (∃ d, owns (c : Thread nD τ) (win0_11.stage ((cfg0 (F := F)).slots t 11)) fullShare d)
    ∗ owns (c : Thread nD τ) (win0_12.stage ((cfg0 (F := F)).slots t 12)) fullShare ((dats m 0 c).after 12 t)
    ∗ owns (c : Thread nD τ) (win0_13.stage ((cfg0 (F := F)).slots t 13)) fullShare ((dats m 0 c).after 13 t))

/-- The scratch and the generator's register, opened. -/
theorem scratch_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  rw [show (Pipeline.ΦA spec0 c : sProp (MT nD τ sig Unit (Elt F) ℕ (UR sig nD τ) ℕ)) = iprop(Pipeline.scopedRest spec0 c ∗ (∃ r, prngReg c r)) from rfl, scopedRest0_eq]
  simp only [owns_whole]; try rfl

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = Pipeline.ΦA spec0 c from rfl, show (dats m 0 c).Φ t.succ = Pipeline.ΦA spec0 c from rfl, scratch_eq,
    after0_0, after0_1, after0_2, after0_3, after0_4, after0_5, after0_6, after0_7, after0_12, after0_13]
  unfold Dat.owesAt Pipeline.owesWithin
  rw [show (dats m 0 c).owed t.castSucc = 0 from rfl, show (dats m 0 c).owed t.succ = 0 from rfl]
  have hb := fun d d' => body (F := F) (d := d) (d' := d') (hP := Mem.holds) (c := c) (i := grid0.coords t)
    (arg1 := (win0_0.stage ((cfg0 (F := F)).slots t 0))) (harg1 := hstage0_0 (((cfg0 (F := F)).slots t 0).cast nbuf0_0)) (arg2 := (win0_1.stage ((cfg0 (F := F)).slots t 1))) (harg2 := hstage0_1 (((cfg0 (F := F)).slots t 1).cast nbuf0_1)) (arg3 := (win0_2.stage ((cfg0 (F := F)).slots t 2))) (harg3 := hstage0_2 (((cfg0 (F := F)).slots t 2).cast nbuf0_2)) (arg4 := (win0_3.stage ((cfg0 (F := F)).slots t 3))) (harg4 := hstage0_3 (((cfg0 (F := F)).slots t 3).cast nbuf0_3)) (arg5 := (win0_4.stage ((cfg0 (F := F)).slots t 4))) (harg5 := hstage0_4 (((cfg0 (F := F)).slots t 4).cast nbuf0_4)) (arg6 := (win0_5.stage ((cfg0 (F := F)).slots t 5))) (harg6 := hstage0_5 (((cfg0 (F := F)).slots t 5).cast nbuf0_5)) (arg7 := (win0_6.stage ((cfg0 (F := F)).slots t 6))) (harg7 := hstage0_6 (((cfg0 (F := F)).slots t 6).cast nbuf0_6)) (arg8 := (win0_7.stage ((cfg0 (F := F)).slots t 7))) (harg8 := hstage0_7 (((cfg0 (F := F)).slots t 7).cast nbuf0_7)) (arg9 := (win0_8.stage ((cfg0 (F := F)).slots t 8))) (harg9 := hstage0_8 (((cfg0 (F := F)).slots t 8).cast nbuf0_8)) (arg10 := (win0_9.stage ((cfg0 (F := F)).slots t 9))) (harg10 := hstage0_9 (((cfg0 (F := F)).slots t 9).cast nbuf0_9)) (arg11 := (win0_10.stage ((cfg0 (F := F)).slots t 10))) (harg11 := hstage0_10 (((cfg0 (F := F)).slots t 10).cast nbuf0_10)) (arg12 := (win0_11.stage ((cfg0 (F := F)).slots t 11))) (harg12 := hstage0_11 (((cfg0 (F := F)).slots t 11).cast nbuf0_11)) (arg13 := (win0_12.stage ((cfg0 (F := F)).slots t 12))) (harg13 := hstage0_12 (((cfg0 (F := F)).slots t 12).cast nbuf0_12)) (arg14 := (win0_13.stage ((cfg0 (F := F)).slots t 13))) (harg14 := hstage0_13 (((cfg0 (F := F)).slots t 13).cast nbuf0_13))
    (arg15 := Memref.whole cc0_scratch0) (harg15 := Memref.isWhole_whole _) (arg16 := Memref.whole cc0_scratch1) (harg16 := Memref.isWhole_whole _) (arg17 := Memref.whole cc0_scratch2) (harg17 := Memref.isWhole_whole _) (x1 := iblk m c 0 t) (x2 := iblk m c 1 t) (x3 := iblk m c 2 t) (x4 := iblk m c 3 t) (x5 := iblk m c 4 t) (x6 := iblk m c 5 t) (x7 := iblk m c 6 t) (x8 := iblk m c 7 t)
  refine BI.Entails.trans ?_ ((sep_mono_left (Laws.exists_elim fun d => Laws.exists_elim fun d' => hb d d')).trans ((wp_frame_r frame _ Set.univ (R := iprop((∃ r, prngReg c r) ∗ (∃ W : Waits sig Unit, owes (c : Thread nD τ) 0 W)))).trans (wp_mono frame _ Set.univ fun _ => ?_)))
  · show (_ : sProp (MT nD τ sig Unit (Elt F) ℕ (UR sig nD τ) ℕ)) ⊢ _
    unfold Mem
    iintro ⟨⟨⟨HS0, HS1, HS2⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    isplitr [Hg HW]
    · iexists _; iexists _
      isplitl [H12]; · iexact H12
      isplitl [H13]; · iexact H13
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      iexact HS2
    isplitl [Hg]; · iexact Hg
    iexists W; iexact HW
  · show (_ : sProp (MT nD τ sig Unit (Elt F) ℕ (UR sig nD τ) ℕ)) ⊢ _
    unfold Mem
    iintro ⟨⟨H12, H13, H0, H1, H2, H3, H4, H5, H6, H7, H8, H9, H10, H11, HS0, HS1, HS2⟩, Hg, ⟨%W', HW'⟩⟩
    isplitl [HS0 HS1 HS2 Hg]
    · isplitl [HS0 HS1 HS2]
      · isplitl [HS0]; · iexact HS0
        isplitl [HS1]; · iexact HS1
        iexact HS2
      iexact Hg
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

set_option backward.isDefEq.respectTransparency.types false in
/-- The run: every input array as it was, and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.nat forgets0 m ρ main
    (hbody := fun c => (body_obligation m c).loose) (hshare := fun c => (dats m 0 c).share_full fun _ => rfl)
    (howed := fun _ _ => rfl) (V := V m) (hmain := hmain m) (hA := A_eq m) (hΦ := fun _ _ => rfl)

/-- What a run ends with keeps the arguments. -/
theorem kept {r : PUnit × MemSt nD τ sig (Elt F)} (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans ((A_eq m c 0).trans (V_of m c main_arg0 (by decide))),
    (Pipeline.RDat.FramePost.arr_in h c 1 rfl).trans ((A_eq m c 1).trans (V_of m c main_arg1 (by decide))),
    (Pipeline.RDat.FramePost.arr_in h c 2 rfl).trans ((A_eq m c 2).trans (V_of m c main_arg2 (by decide))),
    (Pipeline.RDat.FramePost.arr_in h c 3 rfl).trans ((A_eq m c 3).trans (V_of m c main_arg3 (by decide))),
    (Pipeline.RDat.FramePost.arr_in h c 4 rfl).trans ((A_eq m c 4).trans (V_of m c main_arg4 (by decide))),
    ((h c).2 main_arg5 (Pipeline.mem_restRefs_of (win := spec0) main_arg5 (by decide) (by decide))).trans (V_of m c main_arg5 (by decide)),
    (Pipeline.RDat.FramePost.arr_in h c 6 rfl).trans ((A_eq m c 6).trans (V_of m c main_arg6 (by decide))),
    ((h c).2 main_arg7 (Pipeline.mem_restRefs_of (win := spec0) main_arg7 (by decide) (by decide))).trans (V_of m c main_arg7 (by decide))⟩

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨kept m h.1, h.2⟩) (run_main m ρ)

end Cert.MixBwdIdeal.Frame

end
-- ==== Proof.MixKernelFrame.lean ====
/- The frame of the mixers' backward kernel again, for the printed program: see MixKernelBody.lean. -/
module

public import proofs.«01_k».proof.Proof.MixKernelBody
public import proofs.«01_k».proof.Proof.Gen.MixBwd.Launch
public import proofs.«01_k».proof.Proof.Gen.MixBwd.Points
public import Idealize.ShloMosaic.Lib.Pipeline.FrameBody
public import Idealize.ShloMosaic.Lib.Ring
public import Idealize.ShloMosaic.Lib.Claim

@[expose] public section

set_option maxRecDepth 16384

noncomputable section

namespace Cert.MixBwd.Frame

open Idealize.ShloMosaic Idealize.ShloMosaic.TcCoe Idealize.ShloMosaic.Tactic Cert.MixBwd.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The host operations before the region, stretch by stretch: the pooled averages and the reshaped scale. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- The buffers of device `c` when the region is entered. -/
def V (c : Dev nD) (b : Ref sig .tc) : Buf (Elt F) ((c : Thread nD τ).loc b) := StableHlo.after opss.flatten (fun b => m (c, b)) b

theorem hmain : Pipeline.HMain (Ix := Unit) (Name := ℕ) (U := UR sig nD τ) (Lvl := ℕ) cfgs 0 defs₀ Variants.nat m (main (F := F)) (V m) :=
  Pipeline.hmain_prefixes cfgs 0 defs₀ Variants.nat m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩
    (by simp only [opss, List.Forall]; repeat' constructor) main_chain

/-- The host operations before the region write none of the arguments. -/
theorem args_kept : ∀ op ∈ (opss (F := F)).flatten, ∀ b ∈ [main_arg0, main_arg1, main_arg2, main_arg3, main_arg4, main_arg5, main_arg6, main_arg7], Proc.devRef (τ := τ) .tc b ∉ op.writes :=
  of_decide_eq_true rfl

theorem V_of (c : Dev nD) (b : Ref sig .tc) (h : b ∈ [main_arg0, main_arg1, main_arg2, main_arg3, main_arg4, main_arg5, main_arg6, main_arg7]) : V m c b = m ((c : Thread nD τ).loc b) :=
  StableHlo.after_of_forall_not_mem (b := Proc.devRef .tc b) _ _ fun op hop => args_kept op hop b h

attribute [local irreducible] V

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The results' windows. -/
def forgets0 : Fin 14 → Bool := fun w => w.val == 8 || w.val == 9 || w.val == 10 || w.val == 11 || w.val == 12 || w.val == 13

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := (cfg0 (F := F))) ⟨8, h⟩ t
    | ⟨9, h⟩ => Pipeline.Dat.unnamed (cfg := (cfg0 (F := F))) ⟨9, h⟩ t
    | ⟨10, h⟩ => Pipeline.Dat.unnamed (cfg := (cfg0 (F := F))) ⟨10, h⟩ t
    | ⟨11, h⟩ => Pipeline.Dat.unnamed (cfg := (cfg0 (F := F))) ⟨11, h⟩ t
    | ⟨12, h⟩ => Pipeline.Dat.unnamed (cfg := (cfg0 (F := F))) ⟨12, h⟩ t
    | ⟨13, h⟩ => Pipeline.Dat.unnamed (cfg := (cfg0 (F := F))) ⟨13, h⟩ t
    | ⟨_ + 14, h⟩ => absurd h (Nat.not_lt.2 (Nat.le_add_left _ _))
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = iblk m c 7 t := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

theorem before0_6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

theorem before0_7 (c : Dev nD) (t : Fin (cfg0 (F := F)).N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-- What the body is given at point `t`, -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d))
    ∗ (∃ d, owns (c : Thread nD τ) (win0_6.stage ((cfg0 (F := F)).slots t 6)) fullShare ((dats m 0 c).before 6 t d))
    ∗ (∃ d, owns (c : Thread nD τ) (win0_7.stage ((cfg0 (F := F)).slots t 7)) fullShare ((dats m 0 c).before 7 t d))
    ∗ (∃ d, owns (c : Thread nD τ) (win0_8.stage ((cfg0 (F := F)).slots t 8)) fullShare d)
    ∗ (∃ d, owns (c : Thread nD τ) (win0_9.stage ((cfg0 (F := F)).slots t 9)) fullShare d)
    ∗ (∃ d, owns (c : Thread nD τ) (win0_10.stage ((cfg0 (F := F)).slots t 10)) fullShare d)
    ∗ (∃ d, owns (c : Thread nD τ) (win0_11.stage ((cfg0 (F := F)).slots t 11)) fullShare d)
    ∗ (∃ d, owns (c : Thread nD τ) (win0_12.stage ((cfg0 (F := F)).slots t 12)) fullShare d)
    ∗ (∃ d, owns (c : Thread nD τ) (win0_13.stage ((cfg0 (F := F)).slots t 13)) fullShare d))

/-- and what it gives back. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t)
    ∗ owns (c : Thread nD τ) (win0_6.stage ((cfg0 (F := F)).slots t 6)) fullShare ((dats m 0 c).after 6 t)
    ∗ owns (c : Thread nD τ) (win0_7.stage ((cfg0 (F := F)).slots t 7)) fullShare ((dats m 0 c).after 7 t)
    ∗ (∃ d, owns (c : Thread nD τ) (win0_8.stage ((cfg0 (F := F)).slots t 8)) fullShare d)
    ∗ (∃ d, owns (c : Thread nD τ) (win0_9.stage ((cfg0 (F := F)).slots t 9)) fullShare d)
    ∗ (∃ d, owns (c : Thread nD τ) (win0_10.stage ((cfg0 (F := F)).slots t 10)) fullShare d)
    ∗ (∃ d, owns (c : Thread nD τ) (win0_11.stage ((cfg0 (F := F)).slots t 11)) fullShare d)
    ∗ (∃ d, owns (c : Thread nD τ) (win0_12.stage ((cfg0 (F := F)).slots t 12)) fullShare d)
    ∗ (∃ d, owns (c : Thread nD τ) (win0_13.stage ((cfg0 (F := F)).slots t 13)) fullShare d))

/-- The scratch and the generator's register, opened. -/
theorem scratch_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  rw [show (Pipeline.ΦA spec0 c : sProp (MT nD τ sig Unit (Elt F) ℕ (UR sig nD τ) ℕ)) = iprop(Pipeline.scopedRest spec0 c ∗ (∃ r, prngReg c r)) from rfl, scopedRest0_eq]
  simp only [owns_whole]; try rfl

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = Pipeline.ΦA spec0 c from rfl, show (dats m 0 c).Φ t.succ = Pipeline.ΦA spec0 c from rfl, scratch_eq,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hb := body (F := F) (hP := Mem.holds) (c := c) (i := grid0.coords t)
    (arg1 := (win0_0.stage ((cfg0 (F := F)).slots t 0))) (harg1 := hstage0_0 (((cfg0 (F := F)).slots t 0).cast nbuf0_0)) (arg2 := (win0_1.stage ((cfg0 (F := F)).slots t 1))) (harg2 := hstage0_1 (((cfg0 (F := F)).slots t 1).cast nbuf0_1)) (arg3 := (win0_2.stage ((cfg0 (F := F)).slots t 2))) (harg3 := hstage0_2 (((cfg0 (F := F)).slots t 2).cast nbuf0_2)) (arg4 := (win0_3.stage ((cfg0 (F := F)).slots t 3))) (harg4 := hstage0_3 (((cfg0 (F := F)).slots t 3).cast nbuf0_3)) (arg5 := (win0_4.stage ((cfg0 (F := F)).slots t 4))) (harg5 := hstage0_4 (((cfg0 (F := F)).slots t 4).cast nbuf0_4)) (arg6 := (win0_5.stage ((cfg0 (F := F)).slots t 5))) (harg6 := hstage0_5 (((cfg0 (F := F)).slots t 5).cast nbuf0_5)) (arg7 := (win0_6.stage ((cfg0 (F := F)).slots t 6))) (harg7 := hstage0_6 (((cfg0 (F := F)).slots t 6).cast nbuf0_6)) (arg8 := (win0_7.stage ((cfg0 (F := F)).slots t 7))) (harg8 := hstage0_7 (((cfg0 (F := F)).slots t 7).cast nbuf0_7)) (arg9 := (win0_8.stage ((cfg0 (F := F)).slots t 8))) (harg9 := hstage0_8 (((cfg0 (F := F)).slots t 8).cast nbuf0_8)) (arg10 := (win0_9.stage ((cfg0 (F := F)).slots t 9))) (harg10 := hstage0_9 (((cfg0 (F := F)).slots t 9).cast nbuf0_9)) (arg11 := (win0_10.stage ((cfg0 (F := F)).slots t 10))) (harg11 := hstage0_10 (((cfg0 (F := F)).slots t 10).cast nbuf0_10)) (arg12 := (win0_11.stage ((cfg0 (F := F)).slots t 11))) (harg12 := hstage0_11 (((cfg0 (F := F)).slots t 11).cast nbuf0_11)) (arg13 := (win0_12.stage ((cfg0 (F := F)).slots t 12))) (harg13 := hstage0_12 (((cfg0 (F := F)).slots t 12).cast nbuf0_12)) (arg14 := (win0_13.stage ((cfg0 (F := F)).slots t 13))) (harg14 := hstage0_13 (((cfg0 (F := F)).slots t 13).cast nbuf0_13))
    (arg15 := Memref.whole cc0_scratch0) (harg15 := Memref.isWhole_whole _) (arg16 := Memref.whole cc0_scratch1) (harg16 := Memref.isWhole_whole _) (arg17 := Memref.whole cc0_scratch2) (harg17 := Memref.isWhole_whole _) (x1 := iblk m c 0 t) (x2 := iblk m c 1 t) (x3 := iblk m c 2 t) (x4 := iblk m c 3 t) (x5 := iblk m c 4 t) (x6 := iblk m c 5 t) (x7 := iblk m c 6 t) (x8 := iblk m c 7 t)
  refine BI.Entails.trans ?_ ((sep_mono_left hb).trans ((wp_frame_r frame _ Set.univ (R := iprop((∃ r, prngReg c r) ∗ (∃ W : Waits sig Unit, owes (c : Thread nD τ) 0 W)))).trans (wp_mono frame _ Set.univ fun _ => ?_)))
  · show (_ : sProp (MT nD τ sig Unit (Elt F) ℕ (UR sig nD τ) ℕ)) ⊢ _
    unfold Mem
    iintro ⟨⟨⟨HS0, HS1, HS2⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    isplitr [Hg HW]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      iexact HS2
    isplitl [Hg]; · iexact Hg
    iexists W; iexact HW
  · show (_ : sProp (MT nD τ sig Unit (Elt F) ℕ (UR sig nD τ) ℕ)) ⊢ _
    unfold Mem
    iintro ⟨⟨H0, H1, H2, H3, H4, H5, H6, H7, H8, H9, H10, H11, H12, H13, HS0, HS1, HS2⟩, Hg, ⟨%W', HW'⟩⟩
    isplitl [HS0 HS1 HS2 Hg]
    · isplitl [HS0 HS1 HS2]
      · isplitl [HS0]; · iexact HS0
        isplitl [HS1]; · iexact HS1
        iexact HS2
      iexact Hg
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

set_option backward.isDefEq.respectTransparency.types false in
/-- The run: every input array as it was, and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.nat forgets0 m ρ main
    (hbody := fun c => (body_obligation m c).loose) (hshare := fun c => (dats m 0 c).share_full fun _ => rfl)
    (howed := fun _ _ => rfl) (V := V m) (hmain := hmain m) (hA := A_eq m) (hΦ := fun _ _ => rfl)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(Pipeline.RDat.FramePost.arr_in h.1 c 0 rfl).trans ((A_eq m c 0).trans (V_of m c main_arg0 (by decide))),
      (Pipeline.RDat.FramePost.arr_in h.1 c 1 rfl).trans ((A_eq m c 1).trans (V_of m c main_arg1 (by decide))),
      (Pipeline.RDat.FramePost.arr_in h.1 c 2 rfl).trans ((A_eq m c 2).trans (V_of m c main_arg2 (by decide))),
      (Pipeline.RDat.FramePost.arr_in h.1 c 3 rfl).trans ((A_eq m c 3).trans (V_of m c main_arg3 (by decide))),
      (Pipeline.RDat.FramePost.arr_in h.1 c 4 rfl).trans ((A_eq m c 4).trans (V_of m c main_arg4 (by decide))),
      ((h.1 c).2 main_arg5 (Pipeline.mem_restRefs_of (win := spec0) main_arg5 (by decide) (by decide))).trans (V_of m c main_arg5 (by decide)),
      (Pipeline.RDat.FramePost.arr_in h.1 c 6 rfl).trans ((A_eq m c 6).trans (V_of m c main_arg6 (by decide))),
      ((h.1 c).2 main_arg7 (Pipeline.mem_restRefs_of (win := spec0) main_arg7 (by decide) (by decide))).trans (V_of m c main_arg7 (by decide))⟩, h.2⟩) (run_main m ρ)

end Cert.MixBwd.Frame

end
-- ==== Proof.MixClaim.lean ====
/- The frames of the mixers' backward kernel. -/
module

public import proofs.«01_k».proof.Defs
public import proofs.«01_k».proof.Proof.MixFrame
public import proofs.«01_k».proof.Proof.MixKernelFrame

@[expose] public section

noncomputable section

namespace Cert.MixClaim

open Idealize.ShloMosaic

theorem frame_ideal : Cert.quiescent_MixBwdIdeal := fun m ρ _ => Cert.MixBwdIdeal.Frame.frame (F := Ideal) m ρ

theorem frame_kernel : Cert.quiescent_MixBwd := fun m ρ _ => Cert.MixBwd.Frame.frame (F := Bits) m ρ

end Cert.MixClaim

end
-- ==== Proof.MixPool.lean ====
module

public import proofs.«01_k».proof.Proof.MixBody
public import Idealize.ShloMosaic.Lib.ValueIdx
public import Idealize.ShloMosaic.Lib.ValueLayout
public import Idealize.ShloMosaic.Lib.MatmulPlain
public import Idealize.ShloMosaic.Lib.Pipeline.Value

@[expose] public section

set_option maxRecDepth 16384

noncomputable section

/-! # The pooling results of one block of columns

The mixers' backward kernel walks the 4096 rows in sixteen chunks of 256, and sums the pooling scale's and the pooling
weight's gradient chunk by chunk. Over the extended reals both are one sum over all the rows. -/

namespace Cert.MixBwdIdeal.Pool

open Cert.MixBwdIdeal Cert.MixBwdIdeal.Gen Cert.MixBwdIdeal.Frame Idealize.ShloMosaic Idealize.ShloMosaic.ValueIdx
open scoped BigOperators

/-! ## Products and column sums at an index -/

theorem plain_apply (l : FVec Ideal S256x128 .bf16) (w : FVec Ideal S128x128 .bf16) (i : Fin 256) (j : Fin 128) :
    matmul dot_S256x128_S128x128_S256x128_1_0_0_1_n_n none l w (constant S256x128 .f32 0x00000000#32) (ix2 i j)
      = ∑ c : Fin 128, l (ix2 i c) * w (ix2 c j) := by
  simp only [matmul]
  refine (Ideal.matmul_plain_apply (M := 256) (K := 128) (N := 128) none l w _ i j).trans ?_
  rw [constant_apply, Ideal.ofBits_zero_f32, zero_add]

theorem rows_apply (l r : FVec Ideal S256x128 .bf16) (i j : Fin 128) :
    matmul dot_S256x128_S256x128_S128x128_0_0_1_1_n_n none l r (constant S128x128 .f32 0x00000000#32) (ix2 i j)
      = ∑ k : Fin 256, l (ix2 k i) * r (ix2 k j) := by
  simp only [matmul]
  rw [Ideal.matmul_apply, constant_apply, Ideal.ofBits_zero_f32, zero_add,
    ← Equiv.sum_comp (contrEquiv1 dot_S256x128_S256x128_S128x128_0_0_1_1_n_n 256 rfl rfl).symm]
  refine Finset.sum_congr rfl fun k _ => ?_
  have hk := contrEquiv1_symm_val dot_S256x128_S256x128_S128x128_0_0_1_1_n_n 256 rfl rfl k
  refine congrArg₂ (· * ·) (congrArg l ?_) (congrArg r ?_)
  · funext a; apply Fin.ext
    match a with
    | ⟨0, _⟩ => exact hk
    | ⟨1, _⟩ => rfl
  · funext a; apply Fin.ext
    match a with
    | ⟨0, _⟩ => exact hk
    | ⟨1, _⟩ => rfl

theorem colSum_apply (v : FVec Ideal S256x128 .f32) (j : Fin 128) :
    multiReduction .add [0] S128 v 0x00000000#32 reduces_S256x128_S128 (.inl rfl) rfl (ix1 j) = ∑ k : Fin 256, v (ix2 k j) := by
  refine (Ideal.multiReduction_add_single v _ reduces_S256x128_S128 (.inl rfl) rfl (ix1 j)).trans ?_
  refine Finset.sum_congr rfl fun k _ => congrArg v ?_
  funext a
  match a with
  | ⟨0, _⟩ => rfl
  | ⟨1, _⟩ => rfl

/-! ## One chunk -/

theorem pay16_apply (w : FVec Ideal S128x128 .bf16) (a : FVec Ideal S1x128 .f32) (y : Vec Ideal S256x128 .f32) (p : Vec Ideal S256x128 .bf16) (j : Fin 128) :
    k0_pay16 w a y p (ix2 (0 : Fin 1) j) = a (ix2 (0 : Fin 1) j) + ∑ k : Fin 256, y (ix2 k j) * ∑ c : Fin 128, p (ix2 k c) * w (ix2 c j) := by
  unfold k0_pay16 k0_pay14
  dsimp only
  rw [addf_apply, shapeCast_a_1a_apply, colSum_apply]
  refine congrArg (a (ix2 (0 : Fin 1) j) + ·) (Finset.sum_congr rfl fun k _ => ?_)
  rw [mulf_apply, plain_apply, shapeCast_self]

theorem pay485_eq (w : FVec Ideal S128x128 .bf16) (a : FVec Ideal S1x128 .f32) (y : Vec Ideal S256x128 .f32) (p : Vec Ideal S256x128 .bf16) :
    k0_pay485 w a y (k0_pay482 p) = k0_pay16 w a y p := rfl

theorem pay17_apply (s : FVec Ideal S1x128 .f32) (a : FVec Ideal S128x128 .f32) (y : Vec Ideal S256x128 .f32) (p : Vec Ideal S256x128 .bf16) (i j : Fin 128) :
    k0_pay17 s a y p (ix2 i j) = a (ix2 i j) + ∑ k : Fin 256, p (ix2 k i) * (y (ix2 k j) * s (ix2 (0 : Fin 1) j)) := by
  unfold k0_pay17 k0_pay15 k0_pay14
  dsimp only
  rw [addf_apply, rows_apply]
  refine congrArg (a (ix2 i j) + ·) (Finset.sum_congr rfl fun k _ => ?_)
  rw [truncf_apply, mulf_apply, broadcastTo_1b_ab_apply, shapeCast_self]

theorem pay488_eq (s : Vec Ideal S1x128 .f32) (a : FVec Ideal S128x128 .f32) (y : Vec Ideal S256x128 .f32) (p : Vec Ideal S256x128 .bf16) (i j : Fin 128) :
    k0_pay488 a y (k0_pay482 p) (k0_pay483 s) (ix3 (0 : Fin 1) i j) = k0_pay17 (k0_pay477 s) a y p (ix2 i j) := by
  unfold k0_pay488
  rw [shapeCast_ab_1ab_apply]
  rfl

/-! ## The rows of a chunk -/

theorem trips : k0_t1_loop.trips = 15 := by decide +kernel

theorem off1 : ∀ t : Fin k0_t1_loop.trips, k0_off1 t 0 = 256 * t.val ∧ k0_off1 t 1 = 0 := by decide +kernel

theorem chunk_apply {e : EltTy} (X : Vec Ideal S4096x128 e) (t : Fin k0_t1_loop.trips) (k : Fin 256) (j : Fin 128) (h : 256 * t.val + k.val < 4096) :
    chunkRows X t (ix2 k j) = X (ix2 ⟨256 * t.val + k.val, h⟩ j) := by
  refine congrArg X (funext fun a => Fin.ext ?_)
  match a with
  | ⟨0, _⟩ => show k0_off1 t 0 + 1 * k.val = 256 * t.val + k.val; rw [(off1 t).1]; omega
  | ⟨1, _⟩ => show k0_off1 t 1 + 1 * j.val = j.val; rw [(off1 t).2]; omega

theorem last_apply {e : EltTy} (X : Vec Ideal S4096x128 e) (k : Fin 256) (j : Fin 128) (h : 256 * 15 + k.val < 4096) :
    lastRows X (ix2 k j) = X (ix2 ⟨256 * 15 + k.val, h⟩ j) := by
  refine congrArg X (funext fun a => Fin.ext ?_)
  match a with
  | ⟨0, _⟩ => show 3840 + 1 * k.val = 256 * 15 + k.val; omega
  | ⟨1, _⟩ => show 0 + 1 * j.val = j.val; omega

theorem poolW_apply (x7 : Vec Ideal S1x128x128 .f32) (c d : Fin 128) : poolW x7 (ix2 c d) = x7 (ix3 (0 : Fin 1) c d) := by
  unfold poolW k0_pay476
  dsimp only
  rw [truncf_apply, shapeCast_1ab_ab_apply]
  refine congrArg x7 (funext fun a => Fin.ext ?_)
  match a with
  | ⟨0, _⟩ => rfl
  | ⟨1, _⟩ => show 0 + 1 * c.val = c.val; omega
  | ⟨2, _⟩ => show 0 + 1 * d.val = d.val; omega

theorem poolS_apply (x8 : Vec Ideal S1x128 .f32) (d : Fin 128) : k0_pay477 (poolS x8) (ix2 (0 : Fin 1) d) = x8 (ix2 (0 : Fin 1) d) := by
  unfold poolS k0_pay477
  dsimp only
  rw [shapeCast_self]
  refine congrArg x8 (funext fun a => Fin.ext ?_)
  match a with
  | ⟨0, _⟩ => rfl
  | ⟨1, _⟩ => show 0 + 1 * d.val = d.val; omega

/-! ## All the chunks -/

/-- The sum of the first `n` rows. -/
def upto (f : Fin 4096 → EReal) (n : ℕ) : EReal := ∑ s ∈ Finset.range n, if h : s < 4096 then f ⟨s, h⟩ else 0

theorem upto_all (f : Fin 4096 → EReal) : upto f 4096 = ∑ s, f s := by
  unfold upto
  rw [← Fin.sum_univ_eq_sum_range]
  exact Finset.sum_congr rfl fun s _ => dif_pos s.isLt

theorem upto_chunk (f : Fin 4096 → EReal) (t : ℕ) (ht : t < 16) :
    upto f (256 * (t + 1)) = upto f (256 * t) + ∑ k : Fin 256, f ⟨256 * t + k.val, by omega⟩ := by
  unfold upto
  rw [Nat.mul_succ, Finset.sum_range_add, ← Fin.sum_univ_eq_sum_range (fun k => if h : 256 * t + k < 4096 then f ⟨256 * t + k, h⟩ else 0) 256]
  exact congrArg _ (Finset.sum_congr rfl fun k _ => dif_pos (by omega))

variable (x5 : Vec Ideal S4096x128 .f32) (x6 : Vec Ideal S4096x128 .bf16) (x7 : Vec Ideal S1x128x128 .f32) (x8 : Vec Ideal S1x128 .f32)

/-- What row `s` adds to the scale's gradient in column `d`. -/
def scaleRow (d : Fin 128) (s : Fin 4096) : EReal := x5 (ix2 s d) * ∑ c : Fin 128, x6 (ix2 s c) * x7 (ix3 (0 : Fin 1) c d)

/-- What row `s` adds to the weight's gradient at `(c, d)`. -/
def weightRow (c d : Fin 128) (s : Fin 4096) : EReal := x6 (ix2 s c) * (x5 (ix2 s d) * x8 (ix2 (0 : Fin 1) d))

theorem acc_scale (n : ℕ) (hn : n ≤ 15) (d : Fin 128) : (poolAcc x5 x6 x7 x8 n).1 (ix2 (0 : Fin 1) d) = upto (scaleRow x5 x6 x7 d) (256 * n) := by
  induction n with
  | zero =>
    show k0_pay479 (ix2 (0 : Fin 1) d) = 0
    exact Ideal.ofBits_zero_f32
  | succ n ih =>
    have h : n < k0_t1_loop.trips := by rw [trips]; omega
    rw [poolAcc, dif_pos h, upto_chunk _ n (by omega), ← ih (by omega)]
    refine (pay16_apply _ _ _ _ d).trans (congrArg _ (Finset.sum_congr rfl fun k _ => ?_))
    unfold scaleRow
    rw [chunk_apply x5 ⟨n, h⟩ k d (show 256 * n + k.val < 4096 by omega)]
    refine congrArg _ (Finset.sum_congr rfl fun c _ => ?_)
    rw [chunk_apply x6 ⟨n, h⟩ k c (show 256 * n + k.val < 4096 by omega), poolW_apply]

theorem acc_weight (n : ℕ) (hn : n ≤ 15) (c d : Fin 128) : (poolAcc x5 x6 x7 x8 n).2 (ix2 c d) = upto (weightRow x5 x6 x8 c d) (256 * n) := by
  induction n with
  | zero =>
    show k0_pay480 (ix2 c d) = 0
    exact Ideal.ofBits_zero_f32
  | succ n ih =>
    have h : n < k0_t1_loop.trips := by rw [trips]; omega
    rw [poolAcc, dif_pos h, upto_chunk _ n (by omega), ← ih (by omega)]
    refine (pay17_apply _ _ _ _ c d).trans (congrArg _ (Finset.sum_congr rfl fun k _ => ?_))
    unfold weightRow
    rw [chunk_apply x5 ⟨n, h⟩ k d (show 256 * n + k.val < 4096 by omega), chunk_apply x6 ⟨n, h⟩ k c (show 256 * n + k.val < 4096 by omega), poolS_apply]

/-- Row 0 of the scale's block holds the sums, -/
theorem scale_row (d : Fin 128) : poolScale x5 x6 x7 x8 (ix2 (0 : Fin 8) d) = ∑ s, scaleRow x5 x6 x7 d s := by
  have e : (Rect.unit (s := S8x128) ![0, 0] S1x128.size inb_S8x128_S1x128_0_0).emb (ix2 (0 : Fin 1) d) = ix2 (0 : Fin 8) d := funext fun a => Fin.ext (by
    match a with
    | ⟨0, _⟩ => rfl
    | ⟨1, _⟩ => show 0 + 1 * d.val = d.val; omega)
  unfold poolScale
  rw [← e, AnyFrame.upd_emb, pay485_eq, trips, ← upto_all]
  refine (pay16_apply _ _ _ _ d).trans ?_
  rw [acc_scale x5 x6 x7 x8 15 le_rfl d]
  refine Eq.trans (congrArg _ (Finset.sum_congr rfl fun k _ => ?_)) (upto_chunk (scaleRow x5 x6 x7 d) 15 (by omega)).symm
  unfold scaleRow
  rw [last_apply x5 k d (by omega)]
  refine congrArg _ (Finset.sum_congr rfl fun c _ => ?_)
  rw [last_apply x6 k c (by omega), poolW_apply]

/-- and the rows below it are zero. -/
theorem scale_rest (i : Fin 8) (hi : i.val ≠ 0) (d : Fin 128) : poolScale x5 x6 x7 x8 (ix2 i d) = 0 := by
  unfold poolScale
  rw [AnyFrame.upd_off]
  · exact Ideal.ofBits_zero_f32
  · rintro ⟨x, hx⟩
    have h0 : 0 + 1 * (x 0).val = i.val := congrArg (fun z : S8x128.Idx => (z 0).val) hx
    have : (x 0).val < 1 := (x 0).isLt
    omega

theorem weight_at (c d : Fin 128) : poolWeight x5 x6 x7 x8 (ix3 (0 : Fin 1) c d) = ∑ s, weightRow x5 x6 x8 c d s := by
  unfold poolWeight
  rw [pay488_eq, trips, ← upto_all]
  refine (pay17_apply _ _ _ _ c d).trans ?_
  rw [acc_weight x5 x6 x7 x8 15 le_rfl c d]
  refine Eq.trans (congrArg _ (Finset.sum_congr rfl fun k _ => ?_)) (upto_chunk (weightRow x5 x6 x8 c d) 15 (by omega)).symm
  unfold weightRow
  rw [last_apply x5 k d (by omega), last_apply x6 k c (by omega), poolS_apply]

end Cert.MixBwdIdeal.Pool
-- ==== Proof.MixStage.lean ====
module

public import proofs.«01_k».proof.Proof.MixFrame
public import proofs.«01_k».proof.Proof.Gen.MixRefIdeal.Read

@[expose] public section

set_option maxRecDepth 16384

noncomputable section

/-! # What the host computes before the mixers' backward kernel

The pooled rows, by the lines the reference computes them with, and the scale as one row. -/

namespace Cert.MixBwdIdeal.Stage

open Cert.MixBwdIdeal Cert.MixBwdIdeal.Gen Cert.MixBwdIdeal.Frame Idealize.ShloMosaic Idealize.ShloMosaic.TcCoe Idealize.ShloMosaic.Tactic

variable {F : FTy → Type} [FloatOps F] (m : (ℓ : Loc nD τ sig) → Buf (Elt F) ℓ)

set_option maxHeartbeats 4000000 in
theorem V_scale (c : Dev nD) : V m c main_v64 = shapeCast S1x512 (m ((c : Thread nD τ).loc main_arg7) : FVec F S512 .f32) shapeCasts_S512_S1x512 := by
  unfold V
  show StableHlo.after _ _ (Proc.devRef .tc main_v64) = _
  simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp <;> rfl

set_option maxHeartbeats 40000000 in
theorem V_pooled (c : Dev nD) : V m c main_v63 = truncf .bf16 (shapeCast S4096x512 (Cert.MixRefIdeal.Read.val_main_v61 (F := F) (m ((c : Thread nD τ).loc main_arg5)))
    shapeCasts_S4096x4x128_S4096x512 : FVec F S4096x512 .f32) bitsLt_bf16_f32 := by
  unfold V
  show StableHlo.after _ _ (Proc.devRef .tc main_v63) = _
  simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

end Cert.MixBwdIdeal.Stage
-- ==== Proof.MixRefRead.lean ====
module

public import proofs.«01_k».proof.Proof.Gen.MixRefIdeal.Read
public import Idealize.ShloMosaic.Lib.KernelVsHost

@[expose] public section

set_option maxRecDepth 16384

noncomputable section

/-! # What the pooling reference's two results are at an index

Over the extended reals, each as one sum over the rows, with the pooled rows left as they are. -/

namespace Cert.MixRefIdeal.Pool

open Cert.MixRefIdeal Cert.MixRefIdeal.Gen Cert.MixRefIdeal.Read Idealize.ShloMosaic Idealize.ShloMosaic.ValueIdx
open scoped BigOperators

/-- Column `d` of group `g`. -/
def col (g : Fin 4) (d : Fin 128) : Fin 512 := ⟨128 * g.val + d.val, by omega⟩

variable (x4 x5 : (⟨S4096x512, .f32⟩ : BufTy).Contents (Elt Ideal)) (x6 : (⟨S4x128x128, .f32⟩ : BufTy).Contents (Elt Ideal))
  (x7 : (⟨S512, .f32⟩ : BufTy).Contents (Elt Ideal))

/-- The pooled rows times the weight. -/
theorem mixed_apply (s : Fin 4096) (g : Fin 4) (d : Fin 128) :
    val_main_v64 (F := Ideal) x5 x6 (ix2 s (col g d)) = ∑ c : Fin 128, x6 (ix3 g c d) * val_main_v61 (F := Ideal) x5 (ix3 s g c) := by
  rw [val_main_v64_apply, val_main_v63_apply, val_main_v62_apply]
  have h0 : (s.val * 512 + (128 * g.val + d.val)) / 512 = s.val := by omega
  have h1 : (s.val * 512 + (128 * g.val + d.val)) / 128 % 4 = g.val := by omega
  have h2 : (s.val * 512 + (128 * g.val + d.val)) % 128 = d.val := by omega
  refine Finset.sum_congr rfl fun c _ => congrArg₂ (· * ·) (congrArg x6 (funext fun a => Fin.ext ?_)) (congrArg _ (funext fun a => Fin.ext ?_))
  · match a with
    | ⟨0, _⟩ => exact h1
    | ⟨1, _⟩ => rfl
    | ⟨2, _⟩ => exact h2
  · match a with
    | ⟨0, _⟩ => exact h0
    | ⟨1, _⟩ => exact h1
    | ⟨2, _⟩ => rfl

theorem sums_apply (g : Fin 4) (d : Fin 128) :
    val_main_v78 (F := Ideal) x4 x5 x6 (ix2 (0 : Fin 1) (col g d))
      = ∑ s : Fin 4096, (∑ c : Fin 128, x6 (ix3 g c d) * val_main_v61 (F := Ideal) x5 (ix3 s g c)) * x4 (ix2 s (col g d)) := by
  have z : FloatOps.ofBits (F := Ideal) .f32 0x00000000#32 = (0 : EReal) := Ideal.ofBits_zero_f32
  rw [val_main_v78_apply, val_main_v73_apply, val_main_cst_11_apply, z, zero_add, Fin.sum_univ_one, val_main_v70_apply, val_main_v69_apply,
    val_main_cst_apply, z, zero_add]
  refine Finset.sum_congr rfl fun s _ => ?_
  have e : idx_main_v69 (idx_main_v70 (idx_main_v73 (idx_main_v78 (ix2 (0 : Fin 1) (col g d))) 0)) s = ix2 s (col g d) := funext fun a => Fin.ext (by
    match a with
    | ⟨0, _⟩ => rfl
    | ⟨1, _⟩ => show 0 * 512 + (col g d).val = (col g d).val; omega)
  rw [e, val_main_v68_apply, mixed_apply]
  rfl

/-- Row 0 of the scale's gradient, -/
theorem scale_row (g : Fin 4) (d : Fin 128) :
    val_main_v79 (F := Ideal) x4 x5 x6 (ix2 (0 : Fin 8) (col g d))
      = ∑ s : Fin 4096, (∑ c : Fin 128, x6 (ix3 g c d) * val_main_v61 (F := Ideal) x5 (ix3 s g c)) * x4 (ix2 s (col g d)) := by
  rw [← sums_apply]
  unfold val_main_v79
  refine pad_apply_of_inside _ _ _ _ _ _ _ _ (ix2 (0 : Fin 1) (col g d)) fun a => ?_
  match a with
  | ⟨0, _⟩ => rfl
  | ⟨1, _⟩ => show (col g d).val = 0 + (col g d).val * (0 + 1); omega

/-- and the rows the padding adds. -/
theorem scale_rest (i : Fin 8) (hi : i.val ≠ 0) (q : Fin 512) : val_main_v79 (F := Ideal) x4 x5 x6 (ix2 i q) = 0 := by
  unfold val_main_v79
  refine (pad_apply_of_not_inside _ _ _ _ _ _ _ _ (0 : Fin 2) ?_).trans ?_
  · show ¬ (0 ≤ i.val ∧ (i.val - 0) % (0 + 1) = 0 ∧ (i.val - 0) / (0 + 1) < 1)
    omega
  · show ((((0#32 : BitVec 32).toInt : ℤ) : ℝ) : EReal) = 0
    simp

theorem weight_at (g : Fin 4) (c d : Fin 128) :
    val_main_v80 (F := Ideal) x4 x5 x7 (ix3 g c d)
      = ∑ s : Fin 4096, (x4 (ix2 s (col g d)) * x7 (ix1 (col g d))) * val_main_v61 (F := Ideal) x5 (ix3 s g c) := by
  rw [val_main_v80_apply, val_main_v77_apply]
  show val_main_v76 (F := Ideal) x4 x5 x7 _ = _
  rw [val_main_v76_apply]
  refine Finset.sum_congr rfl fun s _ => congrArg₂ (· * ·) ?_ (congrArg _ (funext fun a => Fin.ext ?_))
  · rw [val_main_v75_apply, val_main_v74_apply, val_main_v72_apply, val_main_v71_apply, val_main_v65_apply]
    refine congrArg₂ (· * ·) (congrArg x4 (funext fun a => Fin.ext ?_)) (congrArg x7 (funext fun a => Fin.ext ?_))
    · match a with
      | ⟨0, _⟩ => show ((s.val * 4 + g.val) * 128 + d.val) / 512 = s.val; omega
      | ⟨1, _⟩ => show ((s.val * 4 + g.val) * 128 + d.val) % 512 = 128 * g.val + d.val; omega
    · match a with
      | ⟨0, _⟩ => show ((s.val * 4 + g.val) * 128 + d.val) % 512 = 128 * g.val + d.val; omega
  · match a with
    | ⟨0, _⟩ => rfl
    | ⟨1, _⟩ => rfl
    | ⟨2, _⟩ => rfl

end Cert.MixRefIdeal.Pool
-- ==== Proof.MixValue.lean ====
module

public import proofs.«01_k».proof.Defs
public import proofs.«01_k».proof.Proof.MixPool
public import proofs.«01_k».proof.Proof.MixStage
public import proofs.«01_k».proof.Proof.MixRefRead

@[expose] public section

set_option maxRecDepth 16384

noncomputable section

/-! # The pooling gradients of the mixers' backward kernel

Each grid point handles one group of 128 columns. Its blocks are named as parts of the arguments and of the pooled rows,
the two result arrays are put together from the four groups, and each is the reference's array. -/

namespace Cert.MixBwdIdeal.Whole

open Cert.MixBwdIdeal Cert.MixBwdIdeal.Gen Cert.MixBwdIdeal.Frame Cert.MixBwdIdeal.Pool Cert.MixBwdIdeal.Stage
open Cert.MixRefIdeal.Pool (col)
open Cert.MixRefIdeal.Read (val_main_v61 val_main_v79 val_main_v80)
open Idealize.ShloMosaic Idealize.ShloMosaic.ValueIdx Idealize.ShloMosaic.TcCoe Idealize.SL.Sem
open Idealize.ShloMosaic.Pipeline (Dat Cfg Window)
open scoped BigOperators

variable (m : (ℓ : Loc nD τ sig) → Buf (Elt Ideal) ℓ) (ρ : Dev nD → PrngReg)

/-- The arguments the two gradients depend on. -/
def aD (c : Dev nD) : FVec Ideal S4096x512 .f32 := m ((c : Thread nD τ).loc main_arg4)
def aU (c : Dev nD) : FVec Ideal S4096x512 .f32 := m ((c : Thread nD τ).loc main_arg5)
def aW (c : Dev nD) : FVec Ideal S4x128x128 .f32 := m ((c : Thread nD τ).loc main_arg6)
def aS (c : Dev nD) : FVec Ideal S512 .f32 := m ((c : Thread nD τ).loc main_arg7)

/-- A grid point as the group of columns it handles. -/
def pt (t : Fin (cfg0 (F := Ideal)).N) : Fin 4 := ⟨t.val, t.isLt⟩

/-! ## Where the blocks lie -/

theorem index4 : ∀ t : Fin grid0.N, win0_4.index t 0 = 0 ∧ win0_4.index t 1 = t.val := by decide +kernel
theorem index5 : ∀ t : Fin grid0.N, win0_5.index t 0 = 0 ∧ win0_5.index t 1 = t.val := by decide +kernel
theorem index6 : ∀ t : Fin grid0.N, win0_6.index t 0 = t.val ∧ win0_6.index t 1 = 0 ∧ win0_6.index t 2 = 0 := by decide +kernel
theorem index7 : ∀ t : Fin grid0.N, win0_7.index t 0 = 0 ∧ win0_7.index t 1 = t.val := by decide +kernel
theorem index12 : ∀ t : Fin grid0.N, win0_12.index t 0 = 0 ∧ win0_12.index t 1 = t.val := by decide +kernel
theorem index13 : ∀ t : Fin grid0.N, win0_13.index t 0 = t.val ∧ win0_13.index t 1 = 0 ∧ win0_13.index t 2 = 0 := by decide +kernel

/-- Place `(i, d)` of the group's columns of an array. -/
theorem place {n k : Nat} (t : Fin 4) (i : Fin n) (d : Fin 128) (z : (⟨2, ![n, 512]⟩ : Shape).Idx) (a b : Nat)
    (ha : a = 0) (hb : b = t.val) (h0 : (z 0).val = a * k + 1 * i.val) (h1 : (z 1).val = b * 128 + 1 * d.val) : z = ix2 i (col t d) := by
  subst ha hb
  refine funext fun x => Fin.ext ?_
  match x with
  | ⟨0, _⟩ => show (z 0).val = i.val; rw [h0]; omega
  | ⟨1, _⟩ => show (z 1).val = 128 * t.val + d.val; rw [h1]; omega

/-- Place `(i, j)` of the group's slab of an array. -/
theorem slab (t : Fin 4) (i j : Fin 128) (z : (⟨3, ![4, 128, 128]⟩ : Shape).Idx) (a b c : Nat)
    (ha : a = t.val) (hb : b = 0) (hc : c = 0) (h0 : (z 0).val = a * 1 + 1 * 0) (h1 : (z 1).val = b * 128 + 1 * i.val)
    (h2 : (z 2).val = c * 128 + 1 * j.val) : z = ix3 t i j := by
  subst ha hb hc
  refine funext fun x => Fin.ext ?_
  match x with
  | ⟨0, _⟩ => show (z 0).val = t.val; rw [h0]; omega
  | ⟨1, _⟩ => show (z 1).val = i.val; rw [h1]; omega
  | ⟨2, _⟩ => show (z 2).val = j.val; rw [h2]; omega

/-! ## The blocks the kernel reads -/

theorem iblk4_apply (c : Dev nD) (t : Fin (cfg0 (F := Ideal)).N) (s : Fin 4096) (d : Fin 128) :
    (iblk m c 4 t : Vec Ideal S4096x128 .f32) (ix2 s d) = aD m c (ix2 s (col (pt t) d)) := by
  unfold iblk
  rw [View.read_apply]
  exact (congrFun (V_of m c main_arg4 (by decide)) _).trans (congrArg (aD m c) (place (k := 4096) (pt t) s d _ _ _ (index4 t).1 (index4 t).2 rfl rfl))

theorem iblk5_apply (c : Dev nD) (t : Fin (cfg0 (F := Ideal)).N) (s : Fin 4096) (d : Fin 128) :
    (iblk m c 5 t : Vec Ideal S4096x128 .bf16) (ix2 s d) = val_main_v61 (F := Ideal) (aU m c) (ix3 s (pt t) d) := by
  unfold iblk
  rw [View.read_apply]
  refine (congrFun (V_pooled m c) _).trans ?_
  rw [truncf_apply]
  refine shapeCast_apply _ _ _ (ix3 s (pt t) d) ?_
  refine Eq.trans ?_ (congrArg (fun z => (S4096x512.rowMajor z).val) (place (k := 4096) (pt t) s d _ _ _ (index5 t).1 (index5 t).2 rfl rfl)).symm
  rw [Shape.rowMajor_val_three, Shape.rowMajor_val_two]
  show (s.val * 4 + t.val) * 128 + d.val = s.val * 512 + (128 * t.val + d.val)
  omega

theorem iblk6_apply (c : Dev nD) (t : Fin (cfg0 (F := Ideal)).N) (i j : Fin 128) :
    (iblk m c 6 t : Vec Ideal S1x128x128 .f32) (ix3 (0 : Fin 1) i j) = aW m c (ix3 (pt t) i j) := by
  unfold iblk
  rw [View.read_apply]
  exact (congrFun (V_of m c main_arg6 (by decide)) _).trans (congrArg (aW m c) (slab (pt t) i j _ _ _ _ (index6 t).1 (index6 t).2.1 (index6 t).2.2 rfl rfl rfl))

theorem iblk7_apply (c : Dev nD) (t : Fin (cfg0 (F := Ideal)).N) (d : Fin 128) :
    (iblk m c 7 t : Vec Ideal S1x128 .f32) (ix2 (0 : Fin 1) d) = aS m c (ix1 (col (pt t) d)) := by
  unfold iblk
  rw [View.read_apply]
  refine (congrFun (V_scale m c) _).trans ?_
  refine (congrArg (shapeCast S1x512 (aS m c) shapeCasts_S512_S1x512) (place (k := 1) (pt t) (0 : Fin 1) d _ _ _ (index7 t).1 (index7 t).2 rfl rfl)).trans ?_
  rw [shapeCast_a_1a_apply]

/-! ## The blocks of the results -/

/-- The results as whole arrays: the reference's. -/
def res12 (c : Dev nD) : Buf (Elt Ideal) ((c : Thread nD τ).loc main_v65_4) := val_main_v79 (F := Ideal) (aD m c) (aU m c) (aW m c)
def res13 (c : Dev nD) : Buf (Elt Ideal) ((c : Thread nD τ).loc main_v65_5) := val_main_v80 (F := Ideal) (aD m c) (aU m c) (aS m c)

theorem block12 (c : Dev nD) (t : Fin (cfg0 (F := Ideal)).N) (i : Fin 8) (d : Fin 128) :
    poolScale (iblk m c 4 t) (iblk m c 5 t) (iblk m c 6 t) (iblk m c 7 t) (ix2 i d)
      = val_main_v79 (F := Ideal) (aD m c) (aU m c) (aW m c) (ix2 i (col (pt t) d)) := by
  by_cases hi : i.val = 0
  · obtain rfl : i = 0 := Fin.ext hi
    refine (scale_row _ _ _ _ d).trans (Eq.trans (Finset.sum_congr rfl fun s _ => ?_) (Cert.MixRefIdeal.Pool.scale_row _ _ _ (pt t) d).symm)
    unfold scaleRow
    rw [iblk4_apply, mul_comm]
    refine congrArg (· * aD m c (ix2 s (col (pt t) d))) (Finset.sum_congr rfl fun q _ => ?_)
    rw [iblk5_apply, iblk6_apply, mul_comm]
  · exact (scale_rest _ _ _ _ i hi d).trans (Cert.MixRefIdeal.Pool.scale_rest _ _ _ i hi _).symm

theorem block13 (c : Dev nD) (t : Fin (cfg0 (F := Ideal)).N) (i j : Fin 128) :
    poolWeight (iblk m c 4 t) (iblk m c 5 t) (iblk m c 6 t) (iblk m c 7 t) (ix3 (0 : Fin 1) i j)
      = val_main_v80 (F := Ideal) (aD m c) (aU m c) (aS m c) (ix3 (pt t) i j) := by
  refine (weight_at _ _ _ _ i j).trans (Eq.trans (Finset.sum_congr rfl fun s _ => ?_) (Cert.MixRefIdeal.Pool.weight_at _ _ _ (pt t) i j).symm)
  unfold weightRow
  rw [iblk4_apply, iblk5_apply, iblk7_apply, mul_comm]

/-! ## The result arrays -/

theorem emb12 (t : Fin (cfg0 (F := Ideal)).N) (i : Fin 8) (d : Fin 128) :
    (((cfg0 (F := Ideal)).win 12).blk t).view.emb (ix2 i d) = ix2 i (col (pt t) d) :=
  place (k := 8) (pt t) i d _ _ _ (index12 t).1 (index12 t).2 rfl rfl
theorem emb13 (t : Fin (cfg0 (F := Ideal)).N) (i j : Fin 128) :
    (((cfg0 (F := Ideal)).win 13).blk t).view.emb (ix3 (0 : Fin 1) i j) = ix3 (pt t) i j :=
  slab (pt t) i j _ _ _ _ (index13 t).1 (index13 t).2.1 (index13 t).2.2 rfl rfl rfl

/-- The group a column lies in, and its place there. -/
def gOf (q : Fin 512) : Fin (cfg0 (F := Ideal)).N := ⟨q.val / 128, by show q.val / 128 < 4; omega⟩
def dOf (q : Fin 512) : Fin 128 := ⟨q.val % 128, Nat.mod_lt _ (by norm_num)⟩
theorem col_of (q : Fin 512) : col (pt (gOf q)) (dOf q) = q := Fin.ext (by show 128 * (q.val / 128) + q.val % 128 = q.val; omega)

theorem final12 (c : Dev nD) : (dats m 0 c).arrAt 12 (cfg0 (F := Ideal)).N = res12 m c :=
  (dats m 0 c).arrAt_eq_of_cover 12 (res12 m c) (fun t _ => by
      funext y
      obtain ⟨i, d, rfl⟩ : ∃ (i : Fin 8) (d : Fin 128), y = ix2 i d := ⟨y 0, y 1, eq_ix2 y⟩
      rw [View.read_apply]
      refine (?_ : _ = poolScale (iblk m c 4 t) (iblk m c 5 t) (iblk m c 6 t) (iblk m c 7 t) (ix2 i d)).trans
        ((block12 m c t i d).trans (congrArg (res12 m c) (emb12 t i d)).symm)
      exact congrFun (after0_12 m c t) (ix2 i d))
    fun (y : S8x512.Idx) => ⟨gOf (y 1), flush0_12 _, ((emb12 _ (y 0) (dOf (y 1))).trans ((congrArg (ix2 (y 0)) (col_of (y 1))).trans (eq_ix2 y).symm)).subst
      (motive := fun w => w ∈ (((cfg0 (F := Ideal)).win 12).blk (gOf (y 1))).view.set) (View.emb_mem_set _ _)⟩

theorem final13 (c : Dev nD) : (dats m 0 c).arrAt 13 (cfg0 (F := Ideal)).N = res13 m c :=
  (dats m 0 c).arrAt_eq_of_cover 13 (res13 m c) (fun t _ => by
      funext y
      obtain ⟨z, i, j, rfl⟩ : ∃ (z : Fin 1) (i j : Fin 128), y = ix3 z i j := ⟨y 0, y 1, y 2, eq_ix3 y⟩
      obtain rfl : z = 0 := Subsingleton.elim _ _
      rw [View.read_apply]
      refine (?_ : _ = poolWeight (iblk m c 4 t) (iblk m c 5 t) (iblk m c 6 t) (iblk m c 7 t) (ix3 (0 : Fin 1) i j)).trans
        ((block13 m c t i j).trans (congrArg (res13 m c) (emb13 t i j)).symm)
      exact congrFun (after0_13 m c t) (ix3 (0 : Fin 1) i j))
    fun (y : S4x128x128.Idx) => ⟨⟨(y 0).val, (y 0).isLt⟩, flush0_13 _, ((emb13 ⟨(y 0).val, (y 0).isLt⟩ (y 1) (y 2)).trans (eq_ix3 y).symm).subst
      (motive := fun w => w ∈ (((cfg0 (F := Ideal)).win 13).blk ⟨(y 0).val, (y 0).isLt⟩).view.set) (View.emb_mem_set _ _)⟩

/-- The run, read: the two result arrays, and the arguments. -/
theorem run : θ_run defs (onTc (τ := τ) (main (F := Ideal))) ⟨m, fun _ => 0, ρ⟩ fun r => ∀ c : Dev nD,
      r.2.mem ((c : Thread nD τ).loc main_v65_4) = res12 m c
      ∧ r.2.mem ((c : Thread nD τ).loc main_v65_5) = res13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(((dats m 0 c).toRForget_arrAt_iff (fgt := forgets0) (w := 12) rfl _ _).mp ((h.1 c).1 12)).trans (final12 m c),
    (((dats m 0 c).toRForget_arrAt_iff (fgt := forgets0) (w := 13) rfl _ _).mp ((h.1 c).1 13)).trans (final13 m c), kept m h.1 c⟩) (run_main m ρ)

end Cert.MixBwdIdeal.Whole

namespace Cert.MixValue

open Cert.MixBwdIdeal.Whole Cert.MixRefIdeal.Read Idealize.ShloMosaic Idealize.SL.Sem

theorem frame_ref : Cert.quiescent_MixRefIdeal := fun m ρ _ =>
  (θ_run Cert.MixRefIdeal.defs _ _).mono (fun r h => ⟨fun c => (h c).2.2,
      Idealize.ShloMosaic.sem_eq_zero_of_no_sems (by decide) r.2⟩)
    (Cert.MixRefIdeal.Value.run (F := Ideal) m ρ)

/-- The two pooling gradients are the reference's. -/
theorem algebraic : Cert.algebraic_MixBwdIdeal_MixRefIdeal := by
  intro m ρ m' ρ' _ hag
  refine ⟨res12 m, res13 m, Cert.MixBwdIdeal.Whole.run m ρ,
    (θ_run Cert.MixRefIdeal.defs _ _).mono (fun r h c => ⟨(h c).1.trans ?_, (h c).2.1.trans ?_, (h c).2.2⟩)
      (Cert.MixRefIdeal.Value.run (F := Ideal) m' ρ')⟩
  all_goals
    obtain ⟨-, -, -, -, a4, a5, a6, a7⟩ := hag c
  · refine (val_main_v79_eq _ _).trans ?_
    rw [a4, a5, a6]
    rfl
  · refine (val_main_v80_eq _ _).trans ?_
    rw [a4, a5, a7]
    rfl

end Cert.MixValue

end
-- ==== Proof.MlpRun.lean ====
/- The run of the loss-and-layers kernel: what its outputs and its copied weights hold after each grid point, and the launch. -/
module

public import proofs.«01_k».proof.Proof.Gen.MlpIdeal.Frame.RunB
public import Idealize.ShloMosaic.Lib.Claim

@[expose] public section

set_option maxRecDepth 16384

noncomputable section

namespace Cert.MlpRun

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MlpIdeal

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run of the body at the first point, where the weights are copied in. -/
def RA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v7) (V m c main_v2) (V m c main_v8)

/-- The run of the body at a later point, over the running sums and the copied weights. -/
def RB (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xo17 xs0 xs1 xs2 (V m c main_v7) (V m c main_v2) (V m c main_v8)

theorem cover_A_8 (c : Dev nD) (t : Fin cfg0.N) (h0 : t.val % 16 = 0) (y : S256x1024.Idx) : ∃ pc ∈ (RA m c t h0).1, y ∈ pc.1.set :=
  View.cover_of_tiledL (RA m c t h0).1 S256x1024.size (by sl_kernel_rfl) y

theorem cover_A_9 (c : Dev nD) (t : Fin cfg0.N) (h0 : t.val % 16 = 0) (y : S256x1024.Idx) : ∃ pc ∈ (RA m c t h0).2.1, y ∈ pc.1.set :=
  View.cover_of_tiledL (RA m c t h0).2.1 S256x1024.size (by sl_kernel_rfl) y

theorem cover_A_10 (c : Dev nD) (t : Fin cfg0.N) (h0 : t.val % 16 = 0) (y : S256x4096.Idx) : ∃ pc ∈ (RA m c t h0).2.2.1, y ∈ pc.1.set :=
  View.cover_of_tiledL (RA m c t h0).2.2.1 S256x512.size (by sl_kernel_rfl) y

theorem cover_A_11 (c : Dev nD) (t : Fin cfg0.N) (h0 : t.val % 16 = 0) (y : S256x4096.Idx) : ∃ pc ∈ (RA m c t h0).2.2.2.1, y ∈ pc.1.set :=
  View.cover_of_tiledL (RA m c t h0).2.2.2.1 S256x512.size (by sl_kernel_rfl) y

theorem cover_A_12 (c : Dev nD) (t : Fin cfg0.N) (h0 : t.val % 16 = 0) (y : S256x1024.Idx) : ∃ pc ∈ (RA m c t h0).2.2.2.2.1, y ∈ pc.1.set :=
  View.cover_of_tiledL (RA m c t h0).2.2.2.2.1 S256x1024.size (by sl_kernel_rfl) y

theorem cover_A_13 (c : Dev nD) (t : Fin cfg0.N) (h0 : t.val % 16 = 0) (y : S256x1024.Idx) : ∃ pc ∈ (RA m c t h0).2.2.2.2.2.1, y ∈ pc.1.set :=
  View.cover_of_tiledL (RA m c t h0).2.2.2.2.2.1 S256x1024.size (by sl_kernel_rfl) y

theorem cover_A_14 (c : Dev nD) (t : Fin cfg0.N) (h0 : t.val % 16 = 0) (y : S256x1024.Idx) : ∃ pc ∈ (RA m c t h0).2.2.2.2.2.2.1, y ∈ pc.1.set :=
  View.cover_of_tiledL (RA m c t h0).2.2.2.2.2.2.1 S256x1024.size (by sl_kernel_rfl) y

theorem cover_A_15 (c : Dev nD) (t : Fin cfg0.N) (h0 : t.val % 16 = 0) (y : S256x512.Idx) : ∃ pc ∈ (RA m c t h0).2.2.2.2.2.2.2.1, y ∈ pc.1.set :=
  View.cover_of_tiledL (RA m c t h0).2.2.2.2.2.2.2.1 S256x512.size (by sl_kernel_rfl) y

theorem cover_A_16 (c : Dev nD) (t : Fin cfg0.N) (h0 : t.val % 16 = 0) (y : S256x512.Idx) : ∃ pc ∈ (RA m c t h0).2.2.2.2.2.2.2.2.1, y ∈ pc.1.set :=
  View.cover_of_tiledL (RA m c t h0).2.2.2.2.2.2.2.2.1 S256x512.size (by sl_kernel_rfl) y

theorem cover_A_17 (c : Dev nD) (t : Fin cfg0.N) (h0 : t.val % 16 = 0) (y : S8x1024.Idx) : ∃ pc ∈ (RA m c t h0).2.2.2.2.2.2.2.2.2.1, y ∈ pc.1.set :=
  View.cover_of_tiledBy (RA m c t h0).2.2.2.2.2.2.2.2.2.1 ![1, 1024] (by sl_kernel_rfl) y

theorem scover_A_0 (c : Dev nD) (t : Fin cfg0.N) (h0 : t.val % 16 = 0) (y : S1024x1024.Idx) : ∃ pc ∈ (RA m c t h0).2.2.2.2.2.2.2.2.2.2.1, y ∈ pc.1.set :=
  View.cover_of_tiledL (RA m c t h0).2.2.2.2.2.2.2.2.2.2.1 S1024x1024.size (by sl_kernel_rfl) y

theorem scover_A_1 (c : Dev nD) (t : Fin cfg0.N) (h0 : t.val % 16 = 0) (y : S8x1024x512.Idx) : ∃ pc ∈ (RA m c t h0).2.2.2.2.2.2.2.2.2.2.2.1, y ∈ pc.1.set :=
  View.cover_of_tiledL (RA m c t h0).2.2.2.2.2.2.2.2.2.2.2.1 S8x1024x512.size (by sl_kernel_rfl) y

theorem scover_A_2 (c : Dev nD) (t : Fin cfg0.N) (h0 : t.val % 16 = 0) (y : S4096x1024.Idx) : ∃ pc ∈ (RA m c t h0).2.2.2.2.2.2.2.2.2.2.2.2.1, y ∈ pc.1.set :=
  View.cover_of_tiledL (RA m c t h0).2.2.2.2.2.2.2.2.2.2.2.2.1 S4096x1024.size (by sl_kernel_rfl) y

theorem cover_B_8 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x1024.Idx) : ∃ pc ∈ (RB m c t h0 xo17 xs0 xs1 xs2).1, y ∈ pc.1.set :=
  View.cover_of_tiledL (RB m c t h0 xo17 xs0 xs1 xs2).1 S256x1024.size (by sl_kernel_rfl) y

theorem cover_B_9 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x1024.Idx) : ∃ pc ∈ (RB m c t h0 xo17 xs0 xs1 xs2).2.1, y ∈ pc.1.set :=
  View.cover_of_tiledL (RB m c t h0 xo17 xs0 xs1 xs2).2.1 S256x1024.size (by sl_kernel_rfl) y

theorem cover_B_10 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x4096.Idx) : ∃ pc ∈ (RB m c t h0 xo17 xs0 xs1 xs2).2.2.1, y ∈ pc.1.set :=
  View.cover_of_tiledL (RB m c t h0 xo17 xs0 xs1 xs2).2.2.1 S256x512.size (by sl_kernel_rfl) y

theorem cover_B_11 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x4096.Idx) : ∃ pc ∈ (RB m c t h0 xo17 xs0 xs1 xs2).2.2.2.1, y ∈ pc.1.set :=
  View.cover_of_tiledL (RB m c t h0 xo17 xs0 xs1 xs2).2.2.2.1 S256x512.size (by sl_kernel_rfl) y

theorem cover_B_12 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x1024.Idx) : ∃ pc ∈ (RB m c t h0 xo17 xs0 xs1 xs2).2.2.2.2.1, y ∈ pc.1.set :=
  View.cover_of_tiledL (RB m c t h0 xo17 xs0 xs1 xs2).2.2.2.2.1 S256x1024.size (by sl_kernel_rfl) y

theorem cover_B_13 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x1024.Idx) : ∃ pc ∈ (RB m c t h0 xo17 xs0 xs1 xs2).2.2.2.2.2.1, y ∈ pc.1.set :=
  View.cover_of_tiledL (RB m c t h0 xo17 xs0 xs1 xs2).2.2.2.2.2.1 S256x1024.size (by sl_kernel_rfl) y

theorem cover_B_14 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x1024.Idx) : ∃ pc ∈ (RB m c t h0 xo17 xs0 xs1 xs2).2.2.2.2.2.2.1, y ∈ pc.1.set :=
  View.cover_of_tiledL (RB m c t h0 xo17 xs0 xs1 xs2).2.2.2.2.2.2.1 S256x1024.size (by sl_kernel_rfl) y

theorem cover_B_15 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x512.Idx) : ∃ pc ∈ (RB m c t h0 xo17 xs0 xs1 xs2).2.2.2.2.2.2.2.1, y ∈ pc.1.set :=
  View.cover_of_tiledL (RB m c t h0 xo17 xs0 xs1 xs2).2.2.2.2.2.2.2.1 S256x512.size (by sl_kernel_rfl) y

theorem cover_B_16 (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) (y : S256x512.Idx) : ∃ pc ∈ (RB m c t h0 xo17 xs0 xs1 xs2).2.2.2.2.2.2.2.2.1, y ∈ pc.1.set :=
  View.cover_of_tiledL (RB m c t h0 xo17 xs0 xs1 xs2).2.2.2.2.2.2.2.2.1 S256x512.size (by sl_kernel_rfl) y

/-- What the body leaves at the first point: the ten outputs, then the three copied weights. -/
def stA (c : Dev nD) (t : Fin cfg0.N) (h0 : t.val % 16 = 0) : Vec F S256x1024 .bf16 × Vec F S256x1024 .bf16 × Vec F S256x4096 .bf16 × Vec F S256x4096 .bf16 × Vec F S256x1024 .bf16 × Vec F S256x1024 .f32 × Vec F S256x1024 .bf16 × Vec F S256x512 .f32 × Vec F S256x512 .f32 × Vec F S8x1024 .f32 × Vec F S1024x1024 .bf16 × Vec F S8x1024x512 .bf16 × Vec F S4096x1024 .bf16 :=
  (VO0_8.read (Elt F) (VO0_8.writes (Elt F) VO0_8.junk (RA m c t h0).1),
   VO0_9.read (Elt F) (VO0_9.writes (Elt F) VO0_9.junk (RA m c t h0).2.1),
   VO0_10.read (Elt F) (VO0_10.writes (Elt F) VO0_10.junk (RA m c t h0).2.2.1),
   VO0_11.read (Elt F) (VO0_11.writes (Elt F) VO0_11.junk (RA m c t h0).2.2.2.1),
   VO0_12.read (Elt F) (VO0_12.writes (Elt F) VO0_12.junk (RA m c t h0).2.2.2.2.1),
   VO0_13.read (Elt F) (VO0_13.writes (Elt F) VO0_13.junk (RA m c t h0).2.2.2.2.2.1),
   VO0_14.read (Elt F) (VO0_14.writes (Elt F) VO0_14.junk (RA m c t h0).2.2.2.2.2.2.1),
   VO0_15.read (Elt F) (VO0_15.writes (Elt F) VO0_15.junk (RA m c t h0).2.2.2.2.2.2.2.1),
   VO0_16.read (Elt F) (VO0_16.writes (Elt F) VO0_16.junk (RA m c t h0).2.2.2.2.2.2.2.2.1),
   VO0_17.read (Elt F) (VO0_17.writes (Elt F) VO0_17.junk (RA m c t h0).2.2.2.2.2.2.2.2.2.1),
   VS0_0.read (Elt F) (VS0_0.writes (Elt F) VS0_0.junk (RA m c t h0).2.2.2.2.2.2.2.2.2.2.1),
   VS0_1.read (Elt F) (VS0_1.writes (Elt F) VS0_1.junk (RA m c t h0).2.2.2.2.2.2.2.2.2.2.2.1),
   VS0_2.read (Elt F) (VS0_2.writes (Elt F) VS0_2.junk (RA m c t h0).2.2.2.2.2.2.2.2.2.2.2.2.1))

/-- What the body leaves at a later point: the ten outputs, then the three copied weights. -/
def stB (c : Dev nD) (t : Fin cfg0.N) (h0 : ¬t.val % 16 = 0) (xo17 : Vec F S8x1024 .f32) (xs0 : Vec F S1024x1024 .bf16) (xs1 : Vec F S8x1024x512 .bf16) (xs2 : Vec F S4096x1024 .bf16) : Vec F S256x1024 .bf16 × Vec F S256x1024 .bf16 × Vec F S256x4096 .bf16 × Vec F S256x4096 .bf16 × Vec F S256x1024 .bf16 × Vec F S256x1024 .f32 × Vec F S256x1024 .bf16 × Vec F S256x512 .f32 × Vec F S256x512 .f32 × Vec F S8x1024 .f32 × Vec F S1024x1024 .bf16 × Vec F S8x1024x512 .bf16 × Vec F S4096x1024 .bf16 :=
  (VO0_8.read (Elt F) (VO0_8.writes (Elt F) VO0_8.junk (RB m c t h0 xo17 xs0 xs1 xs2).1),
   VO0_9.read (Elt F) (VO0_9.writes (Elt F) VO0_9.junk (RB m c t h0 xo17 xs0 xs1 xs2).2.1),
   VO0_10.read (Elt F) (VO0_10.writes (Elt F) VO0_10.junk (RB m c t h0 xo17 xs0 xs1 xs2).2.2.1),
   VO0_11.read (Elt F) (VO0_11.writes (Elt F) VO0_11.junk (RB m c t h0 xo17 xs0 xs1 xs2).2.2.2.1),
   VO0_12.read (Elt F) (VO0_12.writes (Elt F) VO0_12.junk (RB m c t h0 xo17 xs0 xs1 xs2).2.2.2.2.1),
   VO0_13.read (Elt F) (VO0_13.writes (Elt F) VO0_13.junk (RB m c t h0 xo17 xs0 xs1 xs2).2.2.2.2.2.1),
   VO0_14.read (Elt F) (VO0_14.writes (Elt F) VO0_14.junk (RB m c t h0 xo17 xs0 xs1 xs2).2.2.2.2.2.2.1),
   VO0_15.read (Elt F) (VO0_15.writes (Elt F) VO0_15.junk (RB m c t h0 xo17 xs0 xs1 xs2).2.2.2.2.2.2.2.1),
   VO0_16.read (Elt F) (VO0_16.writes (Elt F) VO0_16.junk (RB m c t h0 xo17 xs0 xs1 xs2).2.2.2.2.2.2.2.2.1),
   (ms0_17 t).view.read (Elt F) ((ms0_17 t).view.writes (Elt F) ((hs0_17 t).unread xo17) (RB m c t h0 xo17 xs0 xs1 xs2).2.2.2.2.2.2.2.2.2.1),
   xs0,
   xs1,
   xs2)

/-- The outputs and the copied weights after each point. -/
def outsAt0 (c : Dev nD) : (n : ℕ) → n < cfg0.N → Vec F S256x1024 .bf16 × Vec F S256x1024 .bf16 × Vec F S256x4096 .bf16 × Vec F S256x4096 .bf16 × Vec F S256x1024 .bf16 × Vec F S256x1024 .f32 × Vec F S256x1024 .bf16 × Vec F S256x512 .f32 × Vec F S256x512 .f32 × Vec F S8x1024 .f32 × Vec F S1024x1024 .bf16 × Vec F S8x1024x512 .bf16 × Vec F S4096x1024 .bf16
  | 0, hn => stA m c ⟨0, hn⟩ (Nat.zero_mod _)
  | n + 1, hn =>
    if h0 : (n + 1) % 16 = 0 then stA m c ⟨n + 1, hn⟩ h0
    else
      let p := outsAt0 c n (Nat.lt_of_succ_lt hn)
      stB m c ⟨n + 1, hn⟩ h0 p.2.2.2.2.2.2.2.2.2.1 p.2.2.2.2.2.2.2.2.2.2.1 p.2.2.2.2.2.2.2.2.2.2.2.1 p.2.2.2.2.2.2.2.2.2.2.2.2

theorem outsAt0_A (c : Dev nD) (t : Fin cfg0.N) (h0 : t.val % 16 = 0) : outsAt0 m c t.val t.isLt = stA m c t h0 := by
  obtain ⟨n, hn⟩ := t
  cases n with
  | zero => exact rfl
  | succ n => exact (dif_pos h0).trans rfl

/-- The contents before the point that follows `t - 1`. -/
abbrev prev (c : Dev nD) (t : Fin cfg0.N) := outsAt0 m c (t.val - 1) (Nat.lt_of_le_of_lt (Nat.sub_le _ _) t.isLt)

theorem outsAt0_B (c : Dev nD) (t : Fin cfg0.N) (h0 : ¬t.val % 16 = 0) :
    outsAt0 m c t.val t.isLt = stB m c t h0 (prev m c t).2.2.2.2.2.2.2.2.2.1 (prev m c t).2.2.2.2.2.2.2.2.2.2.1 (prev m c t).2.2.2.2.2.2.2.2.2.2.2.1 (prev m c t).2.2.2.2.2.2.2.2.2.2.2.2 := by
  obtain ⟨n, hn⟩ := t
  cases n with
  | zero => exact (by exfalso; (try dsimp only at h0); exact absurd (Nat.zero_mod _) h0)
  | succ n => exact (dif_neg h0).trans rfl

/-- The region invariant before position `n`: at first the launch's (`ΦD`), afterwards the same with each carried scratch at what
    the point before left in it, the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2.1) ∗ owns (c : Thread nD τ) scM0_2 fullShare ((outsAt0 m c n hn).2.2.2.2.2.2.2.2.2.2.2.2) ∗ (∃ d, owns (c : Thread nD τ) scM0_3 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v7) ∗ hbPt0 c hbM0_1 (V m c main_v2) ∗ hbPt0 c hbM0_2 (V m c main_v8)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2.1) ∗ owns (c : Thread nD τ) scM0_2 fullShare ((outsAt0 m c n hn).2.2.2.2.2.2.2.2.2.2.2.2) ∗ (∃ d, owns (c : Thread nD τ) scM0_3 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v7) ∗ hbPt0 c hbM0_1 (V m c main_v2) ∗ hbPt0 c hbM0_2 (V m c main_v8))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.1) ∗ owns (c : Thread nD τ) scM0_1 fullShare ((outsAt0 m c (n - 1) (by omega)).2.2.2.2.2.2.2.2.2.2.2.1) ∗ owns (c : Thread nD τ) scM0_2 fullShare ((outsAt0 m c (n - 1) (by omega)).2.2.2.2.2.2.2.2.2.2.2.2) ∗ (∃ d, owns (c : Thread nD τ) scM0_3 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v7) ∗ hbPt0 c hbM0_1 (V m c main_v2) ∗ hbPt0 c hbM0_2 (V m c main_v8))) := by
  cases n with
  | zero => exact absurd rfl hz
  | succ n => rfl

/-! ## The pipeline's proof data -/

/-- The proof data of the one pipeline on core `c`: each input's buffer ends at its block, the outputs' at `outsAt0`; nothing
    is owed, and the shares are full. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, _⟩ => (outsAt0 m c t.val t.isLt).2.2.2.2.2.2.1
    | ⟨15, _⟩ => (outsAt0 m c t.val t.isLt).2.2.2.2.2.2.2.1
    | ⟨16, _⟩ => (outsAt0 m c t.val t.isLt).2.2.2.2.2.2.2.2.1
    | ⟨17, _⟩ => (outsAt0 m c t.val t.isLt).2.2.2.2.2.2.2.2.2.1
    | ⟨_ + 18, h⟩ => absurd h (Nat.not_lt.2 (Nat.le_add_left _ _))
  Φ t := PhiS m c t.val (Nat.le_of_lt_succ t.isLt)
  q _ := fullShare
  owed _ := 0

/-- The proof data's arrays are the region-entry contents, without unfolding `V`. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_14 (c : Dev nD) (t : Fin cfg0.N) : (dats m 0 c).after 14 t = (outsAt0 m c t.val t.isLt).2.2.2.2.2.2.1 := by dsimp only [dats]
theorem after0_15 (c : Dev nD) (t : Fin cfg0.N) : (dats m 0 c).after 15 t = (outsAt0 m c t.val t.isLt).2.2.2.2.2.2.2.1 := by dsimp only [dats]
theorem after0_16 (c : Dev nD) (t : Fin cfg0.N) : (dats m 0 c).after 16 t = (outsAt0 m c t.val t.isLt).2.2.2.2.2.2.2.2.1 := by dsimp only [dats]
theorem after0_17 (c : Dev nD) (t : Fin cfg0.N) : (dats m 0 c).after 17 t = (outsAt0 m c t.val t.isLt).2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 17's current staging buffer holds what the body left at the point before. -/
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
/-- The body at any point: the inputs' memrefs hold their blocks, the closed forms say which case the point is in, and that case's run
    applies. The carried scratch goes in at what the point before left and comes back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold stA; dsimp only
      iintro ⟨⟨⟨HS0, HS1, HS2, HS3⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((RA m c t h0).2.2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩, ⟨%es2, HS2⟩, ⟨%fT3, HS3⟩, Hq0, Hq1, Hq2, Hh0, Hh1, Hh2, ⟨%W', HW'⟩⟩
      isplitl [HS0 HS1 HS2 HS3 Hg Hq0 Hq1 Hq2 Hh0 Hh1 Hh2]
      · isplitl [HS0 HS1 HS2 HS3]
        · isplitl [HS0]
          · unfold owns; iexists _; isplitr
            swap; · iexact HS0
            ipureintro; exact View.read_writes_of_cover _ _ _ _ _ (scover_A_0 m c t h0)
          isplitl [HS1]
          · unfold owns; iexists _; isplitr
            swap; · iexact HS1
            ipureintro; exact View.read_writes_of_cover _ _ _ _ _ (scover_A_1 m c t h0)
          isplitl [HS2]
          · unfold owns; iexists _; isplitr
            swap; · iexact HS2
            ipureintro; exact View.read_writes_of_cover _ _ _ _ _ (scover_A_2 m c t h0)
          iexists _; unfold owns; iexists _; isplitr
          swap; · iexact HS3
          ipureintro; rfl
        isplitl [Hg]
        · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover_A_8 m c t h0)
      isplitl [H9]
      · unfold owns; iexists _; isplitr
        swap; · iexact H9
        ipureintro; exact View.read_writes_of_cover _ _ _ _ _ (cover_A_9 m c t h0)
      isplitl [H10]
      · unfold owns; iexists _; isplitr
        swap; · iexact H10
        ipureintro; exact View.read_writes_of_cover _ _ _ _ _ (cover_A_10 m c t h0)
      isplitl [H11]
      · unfold owns; iexists _; isplitr
        swap; · iexact H11
        ipureintro; exact View.read_writes_of_cover _ _ _ _ _ (cover_A_11 m c t h0)
      isplitl [H12]
      · unfold owns; iexists _; isplitr
        swap; · iexact H12
        ipureintro; exact View.read_writes_of_cover _ _ _ _ _ (cover_A_12 m c t h0)
      isplitl [H13]
      · unfold owns; iexists _; isplitr
        swap; · iexact H13
        ipureintro; exact View.read_writes_of_cover _ _ _ _ _ (cover_A_13 m c t h0)
      isplitl [H14]
      · unfold owns; iexists _; isplitr
        swap; · iexact H14
        ipureintro; exact View.read_writes_of_cover _ _ _ _ _ (cover_A_14 m c t h0)
      isplitl [H15]
      · unfold owns; iexists _; isplitr
        swap; · iexact H15
        ipureintro; exact View.read_writes_of_cover _ _ _ _ _ (cover_A_15 m c t h0)
      isplitl [H16]
      · unfold owns; iexists _; isplitr
        swap; · iexact H16
        ipureintro; exact View.read_writes_of_cover _ _ _ _ _ (cover_A_16 m c t h0)
      unfold owns; iexists _; isplitr
      swap; · iexact H17
      ipureintro; exact View.read_writes_of_cover _ _ _ _ _ (cover_A_17 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_17_B m c t h0]
      unfold stB; dsimp only
      iintro ⟨⟨⟨HS0, HS1, HS2, HS3⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((RB m c t h0 _ _ _ _).2.2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexact H17
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, H17, HS0, HS1, HS2, ⟨%fT3, HS3⟩, Hq0, Hq1, Hq2, Hh0, Hh1, Hh2, ⟨%W', HW'⟩⟩
      isplitl [HS0 HS1 HS2 HS3 Hg Hq0 Hq1 Hq2 Hh0 Hh1 Hh2]
      · isplitl [HS0 HS1 HS2 HS3]
        · isplitl [HS0]; · iexact HS0
          isplitl [HS1]; · iexact HS1
          isplitl [HS2]; · iexact HS2
          iexists _; unfold owns; iexists _; isplitr
          swap; · iexact HS3
          ipureintro; rfl
        isplitl [Hg]
        · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover_B_8 m c t h0 _ _ _ _)
      isplitl [H9]
      · unfold owns; iexists _; isplitr
        swap; · iexact H9
        ipureintro; exact View.read_writes_of_cover _ _ _ _ _ (cover_B_9 m c t h0 _ _ _ _)
      isplitl [H10]
      · unfold owns; iexists _; isplitr
        swap; · iexact H10
        ipureintro; exact View.read_writes_of_cover _ _ _ _ _ (cover_B_10 m c t h0 _ _ _ _)
      isplitl [H11]
      · unfold owns; iexists _; isplitr
        swap; · iexact H11
        ipureintro; exact View.read_writes_of_cover _ _ _ _ _ (cover_B_11 m c t h0 _ _ _ _)
      isplitl [H12]
      · unfold owns; iexists _; isplitr
        swap; · iexact H12
        ipureintro; exact View.read_writes_of_cover _ _ _ _ _ (cover_B_12 m c t h0 _ _ _ _)
      isplitl [H13]
      · unfold owns; iexists _; isplitr
        swap; · iexact H13
        ipureintro; exact View.read_writes_of_cover _ _ _ _ _ (cover_B_13 m c t h0 _ _ _ _)
      isplitl [H14]
      · unfold owns; iexists _; isplitr
        swap; · iexact H14
        ipureintro; exact View.read_writes_of_cover _ _ _ _ _ (cover_B_14 m c t h0 _ _ _ _)
      isplitl [H15]
      · unfold owns; iexists _; isplitr
        swap; · iexact H15
        ipureintro; exact View.read_writes_of_cover _ _ _ _ _ (cover_B_15 m c t h0 _ _ _ _)
      isplitl [H16]
      · unfold owns; iexists _; isplitr
        swap; · iexact H16
        ipureintro; exact View.read_writes_of_cover _ _ _ _ _ (cover_B_16 m c t h0 _ _ _ _)
      unfold owns; iexists _; isplitr
      swap; · iexact H17
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2⟩, ⟨Hh0, Hh1, Hh2⟩⟩
  isplitl [HS0 HS1 HS2 HS3]
  · isplitl [HS0]
    · iexists _; iexact HS0
    isplitl [HS1]
    · iexists _; iexact HS1
    isplitl [HS2]
    · iexists _; iexact HS2
    iexact HS3
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every weakly fair execution of @main from zero counters terminates, with every array of the pipeline at what its proof data
    computes and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.MlpRun

end
-- ==== Proof.MlpKernelRun.lean ====
/- The frame of the loss-and-layers kernel, from the run of its idealization: the two programs are the same text. -/
module

public import proofs.«01_k».proof.Proof.MlpRun
public import proofs.«01_k».proof.Proof.Gen.Mlp

@[expose] public section

noncomputable section

namespace Cert.MlpKernelRun

open Cert.Mlp Idealize.ShloMosaic Idealize.SL.Sem

variable {F : FTy → Type} [FloatOps F]

/-- The kernel and its idealization are one program. -/
theorem same_main : main (F := F) = Cert.MlpIdeal.main (F := F) := by sl_kernel_rfl

theorem same_defs : defs (F := F) = Cert.MlpIdeal.defs (F := F) := by sl_kernel_rfl

variable (m : (ℓ : Loc nD τ sig) → Buf (Elt F) ℓ) (ρ : Dev nD → PrngReg)

/-- The frame of the kernel, which is its idealization's. -/
theorem frame : θ_run Cert.Mlp.defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  rw [same_main, same_defs]
  exact Cert.MlpRun.frame m ρ

end Cert.MlpKernelRun

end
-- ==== Proof.MlpSpec.lean ====
module

public import proofs.«01_k».proof.Proof.Reals

@[expose] public section

noncomputable section

/-! # The block's backward over the reals, one row at a time

A row of the batch goes through the output projection, the MLP and the loss on its own; these are the values and the
gradients of one row as real functions of the row and the weights. -/

namespace Cert.MlpSpec

open scoped BigOperators

/-- The weights. -/
structure Wts where
  gp : Fin 512 → ℝ
  ga : Fin 512 → ℝ
  g2 : Fin 1024 → ℝ
  gf : Fin 1024 → ℝ
  wo : Fin 1024 → Fin 1024 → ℝ
  wu : Fin 1024 → Fin 4096 → ℝ
  wd : Fin 4096 → Fin 1024 → ℝ

/-- One row of the batch: the block's input, the two mixers' outputs and the target. -/
structure Row where
  x : Fin 1024 → ℝ
  yp : Fin 512 → ℝ
  ya : Fin 512 → ℝ
  t : Fin 1024 → ℝ

/-- The mean square of a row plus `eps`. -/
def ms {n : ℕ} (x : Fin n → ℝ) : ℝ := (∑ k, x k * x k) / (n : ℝ) + Reals.eps

theorem ms_pos {n : ℕ} (x : Fin n → ℝ) : 0 < ms x :=
  add_pos_of_nonneg_of_pos (div_nonneg (Finset.sum_nonneg fun _ _ => mul_self_nonneg _) (Nat.cast_nonneg n)) Reals.eps_pos

/-- The reciprocal root mean square. -/
def ri {n : ℕ} (x : Fin n → ℝ) : ℝ := (Real.sqrt (ms x))⁻¹

theorem ri_sq {n : ℕ} (x : Fin n → ℝ) : ri x * ri x = 1 / ms x := by
  unfold ri
  rw [← mul_inv, Real.mul_self_sqrt (ms_pos x).le, one_div]

/-- The normalised row. -/
def nh {n : ℕ} (x : Fin n → ℝ) (j : Fin n) : ℝ := x j * ri x

/-- The row's gradient, `t` the gradient by the normalised row. -/
def nb {n : ℕ} (x t : Fin n → ℝ) (j : Fin n) : ℝ := ri x * (t j - nh x j * ((∑ k, t k * nh x k) / (n : ℝ)))

/-- The norm's derivative as the chain rule writes it. -/
theorem nb_chain {n : ℕ} (x t : Fin n → ℝ) (j : Fin n) :
    t j * ri x + x j * ((∑ k, x k * t k) * (-(1 / 2) * (ri x / ms x)) / (n : ℝ))
        + (∑ k, x k * t k) * (-(1 / 2) * (ri x / ms x)) / (n : ℝ) * x j = nb x t j := by
  unfold nb nh
  have h1 : (∑ k, t k * (x k * ri x)) = (∑ k, x k * t k) * ri x := by
    rw [Finset.sum_mul]; exact Finset.sum_congr rfl fun k _ => by ring
  have h2 : ri x / ms x = ri x * (ri x * ri x) := by rw [ri_sq]; ring
  rw [h1, h2]
  ring

/-- Two half rows joined, and the halves of a row. -/
def join (a b : Fin 512 → ℝ) (j : Fin 1024) : ℝ := if h : j.val < 512 then a ⟨j.val, h⟩ else b ⟨j.val - 512, by omega⟩
def lo (j : Fin 512) : Fin 1024 := ⟨j.val, by omega⟩
def hi (j : Fin 512) : Fin 1024 := ⟨512 + j.val, by omega⟩

/-- Column `q` of chunk `j` of the 4096. -/
def ch (j : Fin 8) (q : Fin 512) : Fin 4096 := ⟨512 * j.val + q.val, by omega⟩

theorem sum_ch (f : Fin 4096 → ℝ) : ∑ c, f c
    = (∑ q, f (ch 0 q)) + (∑ q, f (ch 1 q)) + (∑ q, f (ch 2 q)) + (∑ q, f (ch 3 q)) + (∑ q, f (ch 4 q)) + (∑ q, f (ch 5 q))
      + (∑ q, f (ch 6 q)) + (∑ q, f (ch 7 q)) := by
  have e : ∑ c, f c = ∑ p : Fin 8 × Fin 512, f (ch p.1 p.2) := by
    refine (Fintype.sum_equiv (finProdFinEquiv (m := 8) (n := 512)) _ f fun p => congrArg f (Fin.ext ?_)).symm
    show 512 * p.1.val + p.2.val = p.2.val + 512 * p.1.val
    omega
  rw [e, Fintype.sum_prod_type, Fin.sum_univ_eight]

section
variable (W : Wts) (r : Row)

def mixed (j : Fin 1024) : ℝ := join (fun k => nh r.yp k * W.gp k) (fun k => nh r.ya k * W.ga k) j
def h1 (j : Fin 1024) : ℝ := r.x j + ∑ k, mixed W r k * W.wo k j
def hn2 (j : Fin 1024) : ℝ := nh (h1 W r) j * W.g2 j
def up (c : Fin 4096) : ℝ := ∑ k, hn2 W r k * W.wu k c
def act (c : Fin 4096) : ℝ := max (up W r c) 0 * max (up W r c) 0
def h2 (j : Fin 1024) : ℝ := h1 W r j + ∑ c, act W r c * W.wd c j
def diff (j : Fin 1024) : ℝ := nh (h2 W r) j * W.gf j - r.t j
def loss : ℝ := 1 / 2 * ((∑ k, diff W r k * diff W r k) / ((1024 : ℕ) : ℝ))
def dy (j : Fin 1024) : ℝ := diff W r j * (1 / 1024)
def dgf (j : Fin 1024) : ℝ := dy W r j * nh (h2 W r) j
def dh2 (j : Fin 1024) : ℝ := nb (h2 W r) (fun k => dy W r k * W.gf k) j
def dact (c : Fin 4096) : ℝ := ∑ k, dh2 W r k * W.wd c k
def dup (c : Fin 4096) : ℝ := dact W r c * (2 * max (up W r c) 0)
def dhn2 (j : Fin 1024) : ℝ := ∑ c, dup W r c * W.wu j c
def dg2 (j : Fin 1024) : ℝ := dhn2 W r j * nh (h1 W r) j
def dh1 (j : Fin 1024) : ℝ := dh2 W r j + nb (h1 W r) (fun k => dhn2 W r k * W.g2 k) j
def dmix (k : Fin 1024) : ℝ := ∑ j, dh1 W r j * W.wo k j
def dyp (j : Fin 512) : ℝ := nb r.yp (fun k => dmix W r (lo k) * W.gp k) j
def dgp (j : Fin 512) : ℝ := dmix W r (lo j) * nh r.yp j
def dya (j : Fin 512) : ℝ := nb r.ya (fun k => dmix W r (hi k) * W.ga k) j
def dga (j : Fin 512) : ℝ := dmix W r (hi j) * nh r.ya j

end

end Cert.MlpSpec

end
-- ==== Proof.MlpOps.lean ====
module

public import proofs.«01_k».proof.Proof.MlpSpec
public import Idealize.ShloMosaic.Lib.ValueIdx
public import Idealize.ShloMosaic.Lib.ValueLayout
public import Idealize.ShloMosaic.Lib.MatmulPlain
public import Idealize.ShloMosaic.Lib.KernelVsHost

@[expose] public section

noncomputable section

/-! # The programs' operations on arrays of finite entries

`R2 v f` says that the matrix `v` has the real entries `f`. Each operation the two programs use takes such matrices to
such matrices. -/

namespace Cert.MlpOps

open Idealize.ShloMosaic Idealize.ShloMosaic.ValueIdx
open Cert.MlpSpec
open scoped BigOperators

def R2 {n m : ℕ} (v : (⟨2, ![n, m]⟩ : Shape).Idx → EReal) (f : Fin n → Fin m → ℝ) : Prop := ∀ i j, v (ix2 i j) = ((f i j : ℝ) : EReal)
def R1 {n : ℕ} (v : (⟨1, ![n]⟩ : Shape).Idx → EReal) (f : Fin n → ℝ) : Prop := ∀ i, v (ix1 i) = ((f i : ℝ) : EReal)

variable {n m k : ℕ} {φ ψ χ : FTy}

theorem R2.congr {v : (⟨2, ![n, m]⟩ : Shape).Idx → EReal} {f g : Fin n → Fin m → ℝ} (h : R2 v f) (e : ∀ i j, f i j = g i j) : R2 v g :=
  fun i j => (h i j).trans (congrArg _ (e i j))

theorem R1.congr {v : (⟨1, ![n]⟩ : Shape).Idx → EReal} {f g : Fin n → ℝ} (h : R1 v f) (e : ∀ i, f i = g i) : R1 v g :=
  fun i => (h i).trans (congrArg _ (e i))

section Pointwise
variable {a b : FVec Ideal ⟨2, ![n, m]⟩ φ} {f g : Fin n → Fin m → ℝ}

theorem R2.mul (ha : R2 a f) (hb : R2 b g) : R2 (mulf a b) (fun i j => f i j * g i j) := fun i j => by
  show a _ * b _ = _; rw [ha, hb, EReal.coe_mul]
theorem R2.add (ha : R2 a f) (hb : R2 b g) : R2 (addf a b) (fun i j => f i j + g i j) := fun i j => by
  show a _ + b _ = _; rw [ha, hb, EReal.coe_add]
theorem R2.sub (ha : R2 a f) (hb : R2 b g) : R2 (subf a b) (fun i j => f i j - g i j) := fun i j => by
  show a _ - b _ = _; rw [ha, hb, EReal.coe_sub]
theorem R2.max (ha : R2 a f) (hb : R2 b g) : R2 (maximumf a b) (fun i j => Max.max (f i j) (g i j)) := fun i j => by
  show Max.max (a _) (b _) = _; rw [ha, hb]; exact (EReal.coe_strictMono.monotone.map_max).symm
theorem R2.div (ha : R2 a f) (hb : R2 b g) (h0 : ∀ i j, g i j ≠ 0) : R2 (divf a b) (fun i j => f i j / g i j) := fun i j => by
  show Ideal.div (a _) (b _) = _; rw [ha, hb, Reals.div_real _ _ (h0 i j)]
theorem R2.hdiv (ha : R2 a f) (hb : R2 b g) (h0 : ∀ i j, g i j ≠ 0) : R2 (Host.divf a b) (fun i j => f i j / g i j) := fun i j => by
  show Ideal.div (a _) (b _) = _; rw [ha, hb, Reals.div_real _ _ (h0 i j)]
theorem R2.rsq (ha : R2 a f) (h0 : ∀ i j, 0 < f i j) : R2 (rsqrt a) (fun i j => (Real.sqrt (f i j))⁻¹) := fun i j => by
  show Ideal.rsqrt (a _) = _; rw [ha, Reals.rsqrt_real (h0 i j)]
theorem R2.hrsq (ha : R2 a f) (h0 : ∀ i j, 0 < f i j) : R2 (Host.rsqrt a) (fun i j => (Real.sqrt (f i j))⁻¹) := fun i j => by
  show Ideal.rsqrt (a _) = _; rw [ha, Reals.rsqrt_real (h0 i j)]
theorem R2.trunc (ha : R2 a f) (h : ψ.bits < φ.bits) : R2 (truncf ψ a h) f := fun i j => ha i j

end Pointwise

theorem R1.add {a b : FVec Ideal ⟨1, ![n]⟩ φ} {f g : Fin n → ℝ} (ha : R1 a f) (hb : R1 b g) : R1 (addf a b) (fun i => f i + g i) := fun i => by
  show a _ + b _ = _; rw [ha, hb, EReal.coe_add]
theorem R1.hdiv {a b : FVec Ideal ⟨1, ![n]⟩ φ} {f g : Fin n → ℝ} (ha : R1 a f) (hb : R1 b g) (h0 : ∀ i, g i ≠ 0) :
    R1 (Host.divf a b) (fun i => f i / g i) := fun i => by
  show Ideal.div (a _) (b _) = _; rw [ha, hb, Reals.div_real _ _ (h0 i)]

/-- A constant everywhere. -/
theorem R2.const {x : EReal} {r : ℝ} (h : x = (r : EReal)) : R2 (broadcast (⟨2, ![n, m]⟩ : Shape) x) (fun _ _ => r) := fun _ _ => h

/-! ## Layout -/

/-- A column along the rows, a row along the columns. -/
theorem R2.col {v : (⟨2, ![n, 1]⟩ : Shape).Idx → EReal} {f : Fin n → Fin 1 → ℝ} (hv : R2 v f) (h : (⟨2, ![n, 1]⟩ : Shape).Broadcasts ⟨2, ![n, m]⟩) :
    R2 (broadcastTo ⟨2, ![n, m]⟩ v h) (fun i _ => f i 0) := fun i j => by
  refine (broadcastTo_apply v h (ix2 i j) (ix2 i (0 : Fin 1)) fun a => ?_).trans (hv i 0)
  match a with
  | ⟨0, _⟩ =>
    show i.val = if n = 1 then 0 else i.val
    split
    · have := i.isLt; omega
    · rfl
  | ⟨1, _⟩ => rfl
theorem R2.row {v : (⟨2, ![1, m]⟩ : Shape).Idx → EReal} {f : Fin 1 → Fin m → ℝ} (hv : R2 v f) (h : (⟨2, ![1, m]⟩ : Shape).Broadcasts ⟨2, ![n, m]⟩) :
    R2 (broadcastTo ⟨2, ![n, m]⟩ v h) (fun _ j => f 0 j) := fun i j => by
  rw [broadcastTo_1b_ab_apply]; exact hv 0 j
theorem R2.hcol {v : (⟨2, ![n, 1]⟩ : Shape).Idx → EReal} {f : Fin n → Fin 1 → ℝ} (hv : R2 v f)
    (h : (⟨2, ![n, 1]⟩ : Shape).BroadcastsInDim ⟨2, ![n, m]⟩ ![0, 1]) :
    R2 (broadcastInDim ⟨2, ![n, m]⟩ ![0, 1] h v) (fun i _ => f i 0) := fun i j => by
  refine (broadcastInDim_apply _ h v (ix2 i j) (ix2 i (0 : Fin 1)) fun a => ?_).trans (hv i 0)
  match a with
  | ⟨0, _⟩ =>
    show i.val = if n = 1 then 0 else i.val
    split
    · have := i.isLt; omega
    · rfl
  | ⟨1, _⟩ => rfl
theorem R2.hrow {v : (⟨2, ![1, m]⟩ : Shape).Idx → EReal} {f : Fin 1 → Fin m → ℝ} (hv : R2 v f)
    (h : (⟨2, ![1, m]⟩ : Shape).BroadcastsInDim ⟨2, ![n, m]⟩ ![0, 1]) :
    R2 (broadcastInDim ⟨2, ![n, m]⟩ ![0, 1] h v) (fun _ j => f 0 j) := fun i j => by
  refine (broadcastInDim_apply _ h v (ix2 i j) (ix2 (0 : Fin 1) j) fun a => ?_).trans (hv 0 j)
  match a with
  | ⟨0, _⟩ => rfl
  | ⟨1, _⟩ =>
    show j.val = if m = 1 then 0 else j.val
    split
    · have := j.isLt; omega
    · rfl
theorem R1.asCol {v : (⟨1, ![n]⟩ : Shape).Idx → EReal} {f : Fin n → ℝ} (hv : R1 v f) (h : (⟨1, ![n]⟩ : Shape).ShapeCasts ⟨2, ![n, 1]⟩) :
    R2 (shapeCast ⟨2, ![n, 1]⟩ v h) (fun i _ => f i) := fun i j =>
  (shapeCast_apply v h _ (ix1 i) (by
    rw [Shape.rowMajor_val_two, Shape.rowMajor_val_one]
    show i.val = i.val * 1 + j.val
    omega)).trans (hv i)
theorem R1.hasCol {v : (⟨1, ![n]⟩ : Shape).Idx → EReal} {f : Fin n → ℝ} (hv : R1 v f) (h : (⟨1, ![n]⟩ : Shape).BroadcastsInDim ⟨2, ![n, 1]⟩ ![0]) :
    R2 (broadcastInDim ⟨2, ![n, 1]⟩ ![0] h v) (fun i _ => f i) := fun i j => by
  refine (broadcastInDim_apply _ h v (ix2 i j) (ix1 i) fun a => ?_).trans (hv i)
  match a with
  | ⟨0, _⟩ =>
    show i.val = if n = 1 then 0 else i.val
    split
    · have := i.isLt; omega
    · rfl
theorem R1.asRow {v : (⟨1, ![m]⟩ : Shape).Idx → EReal} {f : Fin m → ℝ} (hv : R1 v f) (h : (⟨1, ![m]⟩ : Shape).ShapeCasts ⟨2, ![1, m]⟩) :
    R2 (shapeCast ⟨2, ![1, m]⟩ v h) (fun _ j => f j) := fun i j => by
  rw [shapeCast_a_1a_apply]; exact hv j
theorem R1.hasRow {v : (⟨1, ![m]⟩ : Shape).Idx → EReal} {f : Fin m → ℝ} (hv : R1 v f) (h : (⟨1, ![m]⟩ : Shape).BroadcastsInDim ⟨2, ![1, m]⟩ ![1]) :
    R2 (broadcastInDim ⟨2, ![1, m]⟩ ![1] h v) (fun _ j => f j) := fun i j => by
  refine (broadcastInDim_apply _ h v (ix2 i j) (ix1 j) fun a => ?_).trans (hv j)
  match a with
  | ⟨0, _⟩ =>
    show j.val = if m = 1 then 0 else j.val
    split
    · have := j.isLt; omega
    · rfl
theorem R2.same {v : (⟨2, ![n, m]⟩ : Shape).Idx → EReal} {f : Fin n → Fin m → ℝ} (hv : R2 v f) (h : (⟨2, ![n, m]⟩ : Shape).ShapeCasts ⟨2, ![n, m]⟩) :
    R2 (shapeCast ⟨2, ![n, m]⟩ v h) f := by
  rw [shapeCast_self]; exact hv
theorem R2.panel {v : (⟨3, ![1, n, m]⟩ : Shape).Idx → EReal} {f : Fin n → Fin m → ℝ} (hv : ∀ i j, v (ix3 (0 : Fin 1) i j) = ((f i j : ℝ) : EReal))
    (h : (⟨3, ![1, n, m]⟩ : Shape).ShapeCasts ⟨2, ![n, m]⟩) : R2 (shapeCast ⟨2, ![n, m]⟩ v h) f := fun i j => by
  rw [shapeCast_1ab_ab_apply]; exact hv i j

/-- The halves of the rows, and two halves joined. -/
theorem R2.low {v : (⟨2, ![n, 1024]⟩ : Shape).Idx → EReal} {f : Fin n → Fin 1024 → ℝ} (hv : R2 v f)
    (h : (⟨2, ![n, 1024]⟩ : Shape).Slices ![0, 0] ⟨2, ![n, 512]⟩) :
    R2 (extractStridedSlice ⟨2, ![n, 512]⟩ ![0, 0] v h) (fun i j => f i (lo j)) := fun i j =>
  (slice2_axis1_apply 0 v h i j (lo j) (by simp [lo])).trans (hv i _)
theorem R2.high {v : (⟨2, ![n, 1024]⟩ : Shape).Idx → EReal} {f : Fin n → Fin 1024 → ℝ} (hv : R2 v f)
    (h : (⟨2, ![n, 1024]⟩ : Shape).Slices ![0, 512] ⟨2, ![n, 512]⟩) :
    R2 (extractStridedSlice ⟨2, ![n, 512]⟩ ![0, 512] v h) (fun i j => f i (hi j)) := fun i j =>
  (slice2_axis1_apply 512 v h i j (hi j) (by simp [hi])).trans (hv i _)
theorem R2.join {a b : (⟨2, ![n, 512]⟩ : Shape).Idx → EReal} {f g : Fin n → Fin 512 → ℝ} (ha : R2 a f) (hb : R2 b g)
    (h : Shape.Concatenates [⟨2, ![n, 512]⟩, ⟨2, ![n, 512]⟩] ⟨2, ![n, 1024]⟩ 1) :
    R2 (concatenate (⟨2, ![n, 1024]⟩ : Shape) 1 [⟨⟨2, ![n, 512]⟩, a⟩, ⟨⟨2, ![n, 512]⟩, b⟩] h) (fun i j => MlpSpec.join (f i) (g i) j) := fun i j => by
  by_cases hj : j.val < 512
  · refine Eq.trans ?_ (congrArg ((↑) : ℝ → EReal) (dif_pos hj).symm)
    refine (concatenate_apply_piece (t := ⟨2, ![n, 1024]⟩) 1 [⟨⟨2, ![n, 512]⟩, a⟩, ⟨⟨2, ![n, 512]⟩, b⟩] h _ 0 (by simp) ⟨2, ![n, 512]⟩ a rfl rfl 0 rfl (ix2 i (⟨j.val, hj⟩ : Fin 512)) ?_ ?_).trans (ha _ _)
    · intro c hc
      match c with
      | ⟨0, _⟩ => rfl
      | ⟨1, _⟩ => exact absurd rfl hc
    · show 0 + j.val = j.val
      omega
  · refine Eq.trans ?_ (congrArg ((↑) : ℝ → EReal) (dif_neg hj).symm)
    refine (concatenate_apply_piece (t := ⟨2, ![n, 1024]⟩) 1 [⟨⟨2, ![n, 512]⟩, a⟩, ⟨⟨2, ![n, 512]⟩, b⟩] h _ 1 (by simp) ⟨2, ![n, 512]⟩ b rfl rfl 512 rfl (ix2 i (⟨j.val - 512, by omega⟩ : Fin 512)) ?_ ?_).trans (hb _ _)
    · intro c hc
      match c with
      | ⟨0, _⟩ => rfl
      | ⟨1, _⟩ => exact absurd rfl hc
    · show 512 + (j.val - 512) = j.val
      omega

/-! ## Sums -/

theorem R2.rowSum {v : FVec Ideal ⟨2, ![n, m]⟩ .f32} {f : Fin n → Fin m → ℝ} (hv : R2 v f) (h : (⟨2, ![n, m]⟩ : Shape).Reduces [1] ⟨1, ![n]⟩)
    (hφ : FKind.Formats .f32) (hacc : 0x00000000#32 = FKind.add.neutral .f32 hφ) :
    R1 (multiReduction .add [1] ⟨1, ![n]⟩ v 0x00000000#32 h hφ hacc) (fun i => ∑ k, f i k) := fun i => by
  refine (Ideal.multiReduction_add_single v _ h hφ hacc (ix1 i)).trans ?_
  rw [← Reals.coe_sum]
  refine Finset.sum_congr rfl fun k _ => (congrArg v ?_).trans (hv i k)
  funext a
  match a with
  | ⟨0, _⟩ => rfl
  | ⟨1, _⟩ => rfl
theorem R2.colSum {v : FVec Ideal ⟨2, ![n, m]⟩ .f32} {f : Fin n → Fin m → ℝ} (hv : R2 v f) (h : (⟨2, ![n, m]⟩ : Shape).Reduces [0] ⟨1, ![m]⟩)
    (hφ : FKind.Formats .f32) (hacc : 0x00000000#32 = FKind.add.neutral .f32 hφ) :
    R1 (multiReduction .add [0] ⟨1, ![m]⟩ v 0x00000000#32 h hφ hacc) (fun j => ∑ k, f k j) := fun j => by
  refine (Ideal.multiReduction_add_single v _ h hφ hacc (ix1 j)).trans ?_
  rw [← Reals.coe_sum]
  refine Finset.sum_congr rfl fun k _ => (congrArg v ?_).trans (hv k j)
  funext a
  match a with
  | ⟨0, _⟩ => rfl
  | ⟨1, _⟩ => rfl

theorem zero_word : Ideal.ofBits .f32 0x00000000#32 = ((0 : ℝ) : EReal) := by simp [Ideal.ofBits, Ideal.ieee]

theorem coe_sum_mul {f g : Fin n → ℝ} : (∑ k, ((f k : ℝ) : EReal) * ((g k : ℝ) : EReal)) = ((∑ k, f k * g k : ℝ) : EReal) := by
  rw [← Reals.coe_sum]; exact Finset.sum_congr rfl fun k _ => (EReal.coe_mul _ _).symm

/-- The products: `a · b` and `a · bᵀ`. -/
theorem R2.dot {a : FVec Ideal ⟨2, ![n, k]⟩ φ} {b : FVec Ideal ⟨2, ![k, m]⟩ ψ} {f : Fin n → Fin k → ℝ} {g : Fin k → Fin m → ℝ} (ha : R2 a f)
    (hb : R2 b g) : R2 (matmul (DotDims.plain n k m) none a b (constant (F := Ideal) ⟨2, ![n, m]⟩ .f32 0x00000000#32)) (fun i j => ∑ q, f i q * g q j) := fun i j => by
  simp only [matmul]
  refine (Ideal.matmul_plain_apply none a b _ i j).trans ?_
  rw [constant_apply, Ideal.ofBits_zero_f32, zero_add, ← coe_sum_mul]
  exact Finset.sum_congr rfl fun q _ => by rw [ha, hb]
theorem R2.dotT {a : FVec Ideal ⟨2, ![n, k]⟩ φ} {b : FVec Ideal ⟨2, ![m, k]⟩ ψ} {f : Fin n → Fin k → ℝ} {g : Fin m → Fin k → ℝ} (ha : R2 a f)
    (hb : R2 b g) : R2 (matmul (DotDims.transposedRhs n k m) none a b (constant (F := Ideal) ⟨2, ![n, m]⟩ .f32 0x00000000#32)) (fun i j => ∑ q, f i q * g j q) := fun i j => by
  simp only [matmul]
  refine (Ideal.matmul_transposedRhs_apply none a b _ i j).trans ?_
  rw [constant_apply, Ideal.ofBits_zero_f32, zero_add, ← coe_sum_mul]
  exact Finset.sum_congr rfl fun q _ => by rw [ha, hb]

/-! ## The literals -/

theorem width1024 : Ideal.ofBits .f32 0x44800000#32 = ((((1024 : ℕ) : ℝ)) : EReal) := by rw [Reals.width_word]; norm_num
theorem width512 : Ideal.ofBits .f32 0x44000000#32 = ((((512 : ℕ) : ℝ)) : EReal) := by
  simp [Ideal.ofBits, Ideal.ieee]
  norm_num
  rw [← EReal.coe_mul]; congr 1; norm_num
theorem half : Ideal.ofBits .f32 0x3F000000#32 = ((1 / 2 : ℝ) : EReal) := by
  simp [Ideal.ofBits, Ideal.ieee]
  norm_num
  rw [← EReal.coe_mul]; congr 1; norm_num
theorem two : Ideal.ofBits .f32 0x40000000#32 = ((2 : ℝ) : EReal) := by
  simp [Ideal.ofBits, Ideal.ieee]
  norm_num
  rw [← EReal.coe_mul]; congr 1; norm_num
theorem inv1024 : Ideal.ofBits .f32 0x3A800000#32 = ((1 / 1024 : ℝ) : EReal) := by
  simp [Ideal.ofBits, Ideal.ieee]
  norm_num
  rw [← EReal.coe_mul]; congr 1; norm_num
theorem one : Ideal.ofBits .f32 0x3F800000#32 = ((1 : ℝ) : EReal) := by
  simp [Ideal.ofBits, Ideal.ieee]
  norm_num
  rw [← EReal.coe_mul]; congr 1; norm_num

/-! ## The norm and its gradient -/

section Norm
variable {v : FVec Ideal ⟨2, ![n, m]⟩ .f32} {f T : Fin n → Fin m → ℝ} {w : BitVec 32}

theorem ms_ne (hm : 0 < m) : ((m : ℕ) : ℝ) ≠ 0 := Nat.cast_ne_zero.2 hm.ne'

/-- The mean of the rows' products, as a column. -/
theorem R2.mean {a b : FVec Ideal ⟨2, ![n, m]⟩ .f32} {g : Fin n → Fin m → ℝ} (ha : R2 a f) (hb : R2 b g) (hm : 0 < m)
    (hw : Ideal.ofBits .f32 w = (((m : ℕ) : ℝ) : EReal))
    (h : (⟨2, ![n, m]⟩ : Shape).Reduces [1] ⟨1, ![n]⟩) (hφ : FKind.Formats .f32) (hacc : 0x00000000#32 = FKind.add.neutral .f32 hφ)
    (hs : (⟨1, ![n]⟩ : Shape).ShapeCasts ⟨2, ![n, 1]⟩) :
    R2 (divf (shapeCast ⟨2, ![n, 1]⟩ (multiReduction .add [1] ⟨1, ![n]⟩ (mulf a b) 0x00000000#32 h hφ hacc : FVec Ideal _ _) hs)
        (broadcast ⟨2, ![n, 1]⟩ (Scalar.ofBits (F := Ideal) .f32 w) : FVec Ideal _ _)) (fun i _ => (∑ k, f i k * g i k) / ((m : ℕ) : ℝ)) :=
  R2.div (R1.asCol (R2.rowSum (R2.mul ha hb) h hφ hacc) hs) (R2.const hw) fun _ _ => ms_ne hm

theorem R2.rstd (hv : R2 v f) (hm : 0 < m) (hw : Ideal.ofBits .f32 w = (((m : ℕ) : ℝ) : EReal))
    (h : (⟨2, ![n, m]⟩ : Shape).Reduces [1] ⟨1, ![n]⟩) (hφ : FKind.Formats .f32) (hacc : 0x00000000#32 = FKind.add.neutral .f32 hφ)
    (hs : (⟨1, ![n]⟩ : Shape).ShapeCasts ⟨2, ![n, 1]⟩) :
    R2 (rsqrt (addf (divf (shapeCast ⟨2, ![n, 1]⟩ (multiReduction .add [1] ⟨1, ![n]⟩ (mulf v v) 0x00000000#32 h hφ hacc : FVec Ideal _ _) hs)
        (broadcast ⟨2, ![n, 1]⟩ (Scalar.ofBits (F := Ideal) .f32 w) : FVec Ideal _ _))
        (broadcast ⟨2, ![n, 1]⟩ (Scalar.ofBits (F := Ideal) .f32 0x358637BD#32)))) (fun i _ => ri (f i)) :=
  R2.rsq (R2.add (R2.mean hv hv hm hw h hφ hacc hs) (R2.const Reals.eps_word)) fun i _ => ms_pos (f i)

/-- The rows' gradient: `r · (t − x̂ · mean(t · x̂))`. -/
theorem R2.nback {r mn : FVec Ideal ⟨2, ![n, 1]⟩ .f32} {t h : FVec Ideal ⟨2, ![n, m]⟩ .f32} (hr : R2 r (fun i _ => ri (f i))) (ht : R2 t T)
    (hh : R2 h (fun i => nh (f i))) (hmn : R2 mn (fun i _ => (∑ k, T i k * nh (f i) k) / ((m : ℕ) : ℝ)))
    (h1 h2 : (⟨2, ![n, 1]⟩ : Shape).Broadcasts ⟨2, ![n, m]⟩) :
    R2 (mulf (broadcastTo ⟨2, ![n, m]⟩ r h1) (subf t (mulf h (broadcastTo ⟨2, ![n, m]⟩ mn h2)))) (fun i => nb (f i) (T i)) :=
  R2.mul (R2.col hr h1) (R2.sub ht (R2.mul hh (R2.col hmn h2)))

/-- The squared and the doubled positive part. -/
theorem R2.pos (hv : R2 v f) : R2 (maximumf v (broadcast ⟨2, ![n, m]⟩ (Scalar.ofBits (F := Ideal) .f32 0x00000000#32))) (fun i j => Max.max (f i j) 0) :=
  R2.max hv (R2.const zero_word)
theorem R2.dbl (hv : R2 v f) : R2 (mulf (broadcast ⟨2, ![n, m]⟩ (Scalar.ofBits (F := Ideal) .f32 0x40000000#32)) v) (fun i j => 2 * f i j) :=
  R2.mul (R2.const two) hv

end Norm

end Cert.MlpOps

end
-- ==== Proof.MlpPay.lean ====
module

public import proofs.«01_k».proof.Proof.Gen.MlpIdeal.Skeleton
public import proofs.«01_k».proof.Proof.MlpOps

@[expose] public section

noncomputable section

/-! # What a grid point of the fused MLP computes

Each value the body forms, from finite operands, is the row function of `MlpSpec` it stands for, at each of the 256 rows of
the block. `p` is what a row of the small gradients held before. -/

namespace Cert.MlpIdeal.Pay

open Cert.MlpIdeal Cert.MlpIdeal.Gen Cert.MlpSpec Cert.MlpOps Idealize.ShloMosaic Idealize.ShloMosaic.ValueIdx
open scoped BigOperators

section Partial
variable (W : Wts) (r : Row)

/-- One chunk's share of the two products over the 4096 columns, and the partial sums in the order the body forms them. -/
def hp (c : Fin 8) (j : Fin 1024) : ℝ := ∑ q, act W r (ch c q) * W.wd (ch c q) j
def hs2 (j : Fin 1024) : ℝ := h1 W r j + hp W r 0 j + hp W r 1 j
def hs4 (j : Fin 1024) : ℝ := hs2 W r j + hp W r 2 j + hp W r 3 j
def hs7 (j : Fin 1024) : ℝ := hs4 W r j + hp W r 4 j + hp W r 5 j + hp W r 6 j
theorem hs7_h2 (j : Fin 1024) : hs7 W r j + hp W r 7 j = h2 W r j := by
  unfold hs7 hs4 hs2 h2
  rw [sum_ch fun c => act W r c * W.wd c j]
  simp only [hp]
  ring

def dp (c : Fin 8) (j : Fin 1024) : ℝ := ∑ q, dup W r (ch c q) * W.wu j (ch c q)
def ds1 (j : Fin 1024) : ℝ := 0 + dp W r 0 j
def ds3 (j : Fin 1024) : ℝ := ds1 W r j + dp W r 1 j + dp W r 2 j
def ds5 (j : Fin 1024) : ℝ := ds3 W r j + dp W r 3 j + dp W r 4 j
theorem ds5_dhn2 (j : Fin 1024) : ds5 W r j + dp W r 5 j + dp W r 6 j + dp W r 7 j = dhn2 W r j := by
  unfold ds5 ds3 ds1 dhn2
  rw [sum_ch fun c => dup W r c * W.wu j c]
  simp only [dp]
  ring

end Partial

variable (W : Wts) (R : Fin 256 → Row) (p : Fin 1024 → ℝ)

theorem pay1 : R2 (k0_pay1 (F := Ideal)) (fun _ _ => 0) := by
  unfold k0_pay1
  exact R2.const zero_word

include W R

theorem pay2 (v3 : Vec Ideal S1x512 .f32)
    (h3 : R2 v3 (fun _ => W.gp)) :
    R2 (k0_pay2 (F := Ideal) v3) (fun _ => W.gp) := by
  unfold k0_pay2
  exact R2.same h3 _

theorem pay3 (v5 : Vec Ideal S1x512 .f32)
    (h5 : R2 v5 (fun _ => W.ga)) :
    R2 (k0_pay3 (F := Ideal) v5) (fun _ => W.ga) := by
  unfold k0_pay3
  exact R2.same h5 _

theorem pay4 (v7 : Vec Ideal S1x1024 .f32)
    (h7 : R2 v7 (fun _ => W.g2)) :
    R2 (k0_pay4 (F := Ideal) v7) (fun _ => W.g2) := by
  unfold k0_pay4
  exact R2.same h7 _

theorem pay5 (v9 : Vec Ideal S1x1024 .f32)
    (h9 : R2 v9 (fun _ => W.gf)) :
    R2 (k0_pay5 (F := Ideal) v9) (fun _ => W.gf) := by
  unfold k0_pay5
  exact R2.same h9 _

theorem pay6 (v11 : Vec Ideal S256x512 .f32)
    (h11 : R2 v11 (fun s => (R s).yp)) :
    R2 (k0_pay6 (F := Ideal) v11) (fun s _ => ri (R s).yp) := by
  unfold k0_pay6
  exact R2.rstd h11 (by decide) width512 _ (.inl rfl) rfl _

theorem pay7 (v12 : Vec Ideal S256x512 .f32)
    (h12 : R2 v12 (fun s => (R s).ya)) :
    R2 (k0_pay7 (F := Ideal) v12) (fun s _ => ri (R s).ya) := by
  unfold k0_pay7
  exact R2.rstd h12 (by decide) width512 _ (.inl rfl) rfl _

theorem pay8 (v11 : Vec Ideal S256x512 .f32)
    (h11 : R2 v11 (fun s => (R s).yp)) :
    R2 (k0_pay8 (F := Ideal) v11) (fun s => nh (R s).yp) := by
  unfold k0_pay8
  exact R2.mul h11 (R2.col (pay6 W R v11 h11) _)

theorem pay9 (v12 : Vec Ideal S256x512 .f32)
    (h12 : R2 v12 (fun s => (R s).ya)) :
    R2 (k0_pay9 (F := Ideal) v12) (fun s => nh (R s).ya) := by
  unfold k0_pay9
  exact R2.mul h12 (R2.col (pay7 W R v12 h12) _)

theorem pay10 (v3 : Vec Ideal S1x512 .f32) (v11 : Vec Ideal S256x512 .f32)
    (h3 : R2 v3 (fun _ => W.gp)) (h11 : R2 v11 (fun s => (R s).yp)) :
    R2 (k0_pay10 (F := Ideal) v3 v11) (fun s j => nh (R s).yp j * W.gp j) := by
  unfold k0_pay10
  exact R2.trunc (R2.mul (pay8 W R v11 h11) (R2.row (pay2 W R v3 h3) _)) _

theorem pay11 (v5 : Vec Ideal S1x512 .f32) (v12 : Vec Ideal S256x512 .f32)
    (h5 : R2 v5 (fun _ => W.ga)) (h12 : R2 v12 (fun s => (R s).ya)) :
    R2 (k0_pay11 (F := Ideal) v5 v12) (fun s j => nh (R s).ya j * W.ga j) := by
  unfold k0_pay11
  exact R2.mul (pay9 W R v12 h12) (R2.row (pay3 W R v5 h5) _)

theorem pay12 (v35 : FVec Ideal S256x512 .bf16) (v37 : FVec Ideal S256x512 .f32)
    (h35 : R2 v35 (fun s j => nh (R s).yp j * W.gp j)) (h37 : R2 v37 (fun s j => nh (R s).ya j * W.ga j)) :
    R2 (k0_pay12 (F := Ideal) v35 v37) (fun s => mixed W (R s)) := by
  unfold k0_pay12
  exact R2.join h35 (R2.trunc h37 _) _

theorem pay13 (v35 : FVec Ideal S256x512 .bf16) (v37 : FVec Ideal S256x512 .f32) (v41 : Vec Ideal S256x1024 .f32) (v42 : Vec Ideal S1024x1024 .bf16)
    (h35 : R2 v35 (fun s j => nh (R s).yp j * W.gp j)) (h37 : R2 v37 (fun s j => nh (R s).ya j * W.ga j)) (h41 : R2 v41 (fun s => (R s).x)) (h42 : R2 v42 (W.wo)) :
    R2 (k0_pay13 (F := Ideal) v35 v37 v41 v42) (fun s => h1 W (R s)) := by
  unfold k0_pay13
  exact R2.add h41 (R2.dot (pay12 W R v35 v37 h35 h37) h42)

theorem pay14 (v35 : FVec Ideal S256x512 .bf16) (v37 : FVec Ideal S256x512 .f32) (v41 : Vec Ideal S256x1024 .f32) (v42 : Vec Ideal S1024x1024 .bf16)
    (h35 : R2 v35 (fun s j => nh (R s).yp j * W.gp j)) (h37 : R2 v37 (fun s j => nh (R s).ya j * W.ga j)) (h41 : R2 v41 (fun s => (R s).x)) (h42 : R2 v42 (W.wo)) :
    R2 (k0_pay14 (F := Ideal) v35 v37 v41 v42) (fun s _ => ri (h1 W (R s))) := by
  unfold k0_pay14
  exact R2.rstd (pay13 W R v35 v37 v41 v42 h35 h37 h41 h42) (by decide) width1024 _ (.inl rfl) rfl _

theorem pay15 (v35 : FVec Ideal S256x512 .bf16) (v37 : FVec Ideal S256x512 .f32) (v41 : Vec Ideal S256x1024 .f32) (v42 : Vec Ideal S1024x1024 .bf16)
    (h35 : R2 v35 (fun s j => nh (R s).yp j * W.gp j)) (h37 : R2 v37 (fun s j => nh (R s).ya j * W.ga j)) (h41 : R2 v41 (fun s => (R s).x)) (h42 : R2 v42 (W.wo)) :
    R2 (k0_pay15 (F := Ideal) v35 v37 v41 v42) (fun s => nh (h1 W (R s))) := by
  unfold k0_pay15
  exact R2.mul (pay13 W R v35 v37 v41 v42 h35 h37 h41 h42) (R2.col (pay14 W R v35 v37 v41 v42 h35 h37 h41 h42) _)

theorem pay16 (v8 : FVec Ideal S1x1024 .f32) (v35 : FVec Ideal S256x512 .bf16) (v37 : FVec Ideal S256x512 .f32) (v41 : Vec Ideal S256x1024 .f32) (v42 : Vec Ideal S1024x1024 .bf16)
    (h8 : R2 v8 (fun _ => W.g2)) (h35 : R2 v35 (fun s j => nh (R s).yp j * W.gp j)) (h37 : R2 v37 (fun s j => nh (R s).ya j * W.ga j)) (h41 : R2 v41 (fun s => (R s).x)) (h42 : R2 v42 (W.wo)) :
    R2 (k0_pay16 (F := Ideal) v8 v35 v37 v41 v42) (fun s => hn2 W (R s)) := by
  unfold k0_pay16
  exact R2.trunc (R2.mul (pay15 W R v35 v37 v41 v42 h35 h37 h41 h42) (R2.row h8 _)) _

theorem pay17 (v8 : FVec Ideal S1x1024 .f32) (v35 : FVec Ideal S256x512 .bf16) (v37 : FVec Ideal S256x512 .f32) (v41 : Vec Ideal S256x1024 .f32) (v42 : Vec Ideal S1024x1024 .bf16) (v59 : Vec Ideal S1x1024x512 .bf16)
    (h8 : R2 v8 (fun _ => W.g2)) (h35 : R2 v35 (fun s j => nh (R s).yp j * W.gp j)) (h37 : R2 v37 (fun s j => nh (R s).ya j * W.ga j)) (h41 : R2 v41 (fun s => (R s).x)) (h42 : R2 v42 (W.wo)) (h59 : ∀ i j, v59 (ix3 (0 : Fin 1) i j) = ((W.wu i (ch 0 j) : ℝ) : EReal)) :
    R2 (k0_pay17 (F := Ideal) v8 v35 v37 v41 v42 v59) (fun s q => up W (R s) (ch 0 q)) := by
  unfold k0_pay17
  exact R2.dot (pay16 W R v8 v35 v37 v41 v42 h8 h35 h37 h41 h42) (R2.panel h59 _)

theorem pay18 (v8 : FVec Ideal S1x1024 .f32) (v35 : FVec Ideal S256x512 .bf16) (v37 : FVec Ideal S256x512 .f32) (v41 : Vec Ideal S256x1024 .f32) (v42 : Vec Ideal S1024x1024 .bf16) (v62 : Vec Ideal S1x1024x512 .bf16)
    (h8 : R2 v8 (fun _ => W.g2)) (h35 : R2 v35 (fun s j => nh (R s).yp j * W.gp j)) (h37 : R2 v37 (fun s j => nh (R s).ya j * W.ga j)) (h41 : R2 v41 (fun s => (R s).x)) (h42 : R2 v42 (W.wo)) (h62 : ∀ i j, v62 (ix3 (0 : Fin 1) i j) = ((W.wu i (ch 1 j) : ℝ) : EReal)) :
    R2 (k0_pay18 (F := Ideal) v8 v35 v37 v41 v42 v62) (fun s q => up W (R s) (ch 1 q)) := by
  unfold k0_pay18
  exact R2.dot (pay16 W R v8 v35 v37 v41 v42 h8 h35 h37 h41 h42) (R2.panel h62 _)

theorem pay19 (v8 : FVec Ideal S1x1024 .f32) (v35 : FVec Ideal S256x512 .bf16) (v37 : FVec Ideal S256x512 .f32) (v41 : Vec Ideal S256x1024 .f32) (v42 : Vec Ideal S1024x1024 .bf16) (v59 : Vec Ideal S1x1024x512 .bf16)
    (h8 : R2 v8 (fun _ => W.g2)) (h35 : R2 v35 (fun s j => nh (R s).yp j * W.gp j)) (h37 : R2 v37 (fun s j => nh (R s).ya j * W.ga j)) (h41 : R2 v41 (fun s => (R s).x)) (h42 : R2 v42 (W.wo)) (h59 : ∀ i j, v59 (ix3 (0 : Fin 1) i j) = ((W.wu i (ch 0 j) : ℝ) : EReal)) :
    R2 (k0_pay19 (F := Ideal) v8 v35 v37 v41 v42 v59) (fun s q => up W (R s) (ch 0 q)) := by
  unfold k0_pay19
  exact R2.same (pay17 W R v8 v35 v37 v41 v42 v59 h8 h35 h37 h41 h42 h59) _

theorem pay20 (v8 : FVec Ideal S1x1024 .f32) (v35 : FVec Ideal S256x512 .bf16) (v37 : FVec Ideal S256x512 .f32) (v41 : Vec Ideal S256x1024 .f32) (v42 : Vec Ideal S1024x1024 .bf16) (v59 : Vec Ideal S1x1024x512 .bf16)
    (h8 : R2 v8 (fun _ => W.g2)) (h35 : R2 v35 (fun s j => nh (R s).yp j * W.gp j)) (h37 : R2 v37 (fun s j => nh (R s).ya j * W.ga j)) (h41 : R2 v41 (fun s => (R s).x)) (h42 : R2 v42 (W.wo)) (h59 : ∀ i j, v59 (ix3 (0 : Fin 1) i j) = ((W.wu i (ch 0 j) : ℝ) : EReal)) :
    R2 (k0_pay20 (F := Ideal) v8 v35 v37 v41 v42 v59) (fun s q => act W (R s) (ch 0 q)) := by
  unfold k0_pay20
  exact R2.trunc (R2.mul (R2.pos (pay17 W R v8 v35 v37 v41 v42 v59 h8 h35 h37 h41 h42 h59)) (R2.pos (pay17 W R v8 v35 v37 v41 v42 v59 h8 h35 h37 h41 h42 h59))) _

theorem pay21 (v57 : FVec Ideal S256x1024 .bf16) (v76 : Vec Ideal S1x1024x512 .bf16)
    (h57 : R2 v57 (fun s => hn2 W (R s))) (h76 : ∀ i j, v76 (ix3 (0 : Fin 1) i j) = ((W.wu i (ch 2 j) : ℝ) : EReal)) :
    R2 (k0_pay21 (F := Ideal) v57 v76) (fun s q => up W (R s) (ch 2 q)) := by
  unfold k0_pay21
  exact R2.dot h57 (R2.panel h76 _)

theorem pay22 (v64 : FVec Ideal S256x512 .f32)
    (h64 : R2 v64 (fun s q => up W (R s) (ch 1 q))) :
    R2 (k0_pay22 (F := Ideal) v64) (fun s q => up W (R s) (ch 1 q)) := by
  unfold k0_pay22
  exact R2.same h64 _

theorem pay23 (v64 : FVec Ideal S256x512 .f32)
    (h64 : R2 v64 (fun s q => up W (R s) (ch 1 q))) :
    R2 (k0_pay23 (F := Ideal) v64) (fun s q => act W (R s) (ch 1 q)) := by
  unfold k0_pay23
  exact R2.trunc (R2.mul (R2.pos h64) (R2.pos h64)) _

theorem pay24 (v44 : FVec Ideal S256x1024 .f32) (v64 : FVec Ideal S256x512 .f32) (v71 : FVec Ideal S256x512 .bf16) (v73 : Vec Ideal S512x1024 .bf16) (v87 : Vec Ideal S512x1024 .bf16)
    (h44 : R2 v44 (fun s => h1 W (R s))) (h64 : R2 v64 (fun s q => up W (R s) (ch 1 q))) (h71 : R2 v71 (fun s q => act W (R s) (ch 0 q))) (h73 : R2 v73 (fun q k => W.wd (ch 0 q) k)) (h87 : R2 v87 (fun q k => W.wd (ch 1 q) k)) :
    R2 (k0_pay24 (F := Ideal) v44 v64 v71 v73 v87) (fun s => hs2 W (R s)) := by
  unfold k0_pay24
  exact R2.add (R2.add h44 (R2.dot h71 h73)) (R2.dot (pay23 W R v64 h64) h87)

theorem pay25 (v57 : FVec Ideal S256x1024 .bf16) (v90 : Vec Ideal S1x1024x512 .bf16)
    (h57 : R2 v57 (fun s => hn2 W (R s))) (h90 : ∀ i j, v90 (ix3 (0 : Fin 1) i j) = ((W.wu i (ch 3 j) : ℝ) : EReal)) :
    R2 (k0_pay25 (F := Ideal) v57 v90) (fun s q => up W (R s) (ch 3 q)) := by
  unfold k0_pay25
  exact R2.dot h57 (R2.panel h90 _)

theorem pay26 (v57 : FVec Ideal S256x1024 .bf16) (v76 : Vec Ideal S1x1024x512 .bf16)
    (h57 : R2 v57 (fun s => hn2 W (R s))) (h76 : ∀ i j, v76 (ix3 (0 : Fin 1) i j) = ((W.wu i (ch 2 j) : ℝ) : EReal)) :
    R2 (k0_pay26 (F := Ideal) v57 v76) (fun s q => up W (R s) (ch 2 q)) := by
  unfold k0_pay26
  exact R2.same (pay21 W R v57 v76 h57 h76) _

theorem pay27 (v57 : FVec Ideal S256x1024 .bf16) (v76 : Vec Ideal S1x1024x512 .bf16)
    (h57 : R2 v57 (fun s => hn2 W (R s))) (h76 : ∀ i j, v76 (ix3 (0 : Fin 1) i j) = ((W.wu i (ch 2 j) : ℝ) : EReal)) :
    R2 (k0_pay27 (F := Ideal) v57 v76) (fun s q => act W (R s) (ch 2 q)) := by
  unfold k0_pay27
  exact R2.trunc (R2.mul (R2.pos (pay21 W R v57 v76 h57 h76)) (R2.pos (pay21 W R v57 v76 h57 h76))) _

theorem pay28 (v57 : FVec Ideal S256x1024 .bf16) (v104 : Vec Ideal S1x1024x512 .bf16)
    (h57 : R2 v57 (fun s => hn2 W (R s))) (h104 : ∀ i j, v104 (ix3 (0 : Fin 1) i j) = ((W.wu i (ch 4 j) : ℝ) : EReal)) :
    R2 (k0_pay28 (F := Ideal) v57 v104) (fun s q => up W (R s) (ch 4 q)) := by
  unfold k0_pay28
  exact R2.dot h57 (R2.panel h104 _)

theorem pay29 (v92 : FVec Ideal S256x512 .f32)
    (h92 : R2 v92 (fun s q => up W (R s) (ch 3 q))) :
    R2 (k0_pay29 (F := Ideal) v92) (fun s q => up W (R s) (ch 3 q)) := by
  unfold k0_pay29
  exact R2.same h92 _

theorem pay30 (v92 : FVec Ideal S256x512 .f32)
    (h92 : R2 v92 (fun s q => up W (R s) (ch 3 q))) :
    R2 (k0_pay30 (F := Ideal) v92) (fun s q => act W (R s) (ch 3 q)) := by
  unfold k0_pay30
  exact R2.trunc (R2.mul (R2.pos h92) (R2.pos h92)) _

theorem pay31 (v89 : FVec Ideal S256x1024 .f32) (v92 : FVec Ideal S256x512 .f32) (v99 : FVec Ideal S256x512 .bf16) (v101 : Vec Ideal S512x1024 .bf16) (v115 : Vec Ideal S512x1024 .bf16)
    (h89 : R2 v89 (fun s => hs2 W (R s))) (h92 : R2 v92 (fun s q => up W (R s) (ch 3 q))) (h99 : R2 v99 (fun s q => act W (R s) (ch 2 q))) (h101 : R2 v101 (fun q k => W.wd (ch 2 q) k)) (h115 : R2 v115 (fun q k => W.wd (ch 3 q) k)) :
    R2 (k0_pay31 (F := Ideal) v89 v92 v99 v101 v115) (fun s => hs4 W (R s)) := by
  unfold k0_pay31
  exact R2.add (R2.add h89 (R2.dot h99 h101)) (R2.dot (pay30 W R v92 h92) h115)

theorem pay32 (v57 : FVec Ideal S256x1024 .bf16) (v118 : Vec Ideal S1x1024x512 .bf16)
    (h57 : R2 v57 (fun s => hn2 W (R s))) (h118 : ∀ i j, v118 (ix3 (0 : Fin 1) i j) = ((W.wu i (ch 5 j) : ℝ) : EReal)) :
    R2 (k0_pay32 (F := Ideal) v57 v118) (fun s q => up W (R s) (ch 5 q)) := by
  unfold k0_pay32
  exact R2.dot h57 (R2.panel h118 _)

theorem pay33 (v57 : FVec Ideal S256x1024 .bf16) (v104 : Vec Ideal S1x1024x512 .bf16)
    (h57 : R2 v57 (fun s => hn2 W (R s))) (h104 : ∀ i j, v104 (ix3 (0 : Fin 1) i j) = ((W.wu i (ch 4 j) : ℝ) : EReal)) :
    R2 (k0_pay33 (F := Ideal) v57 v104) (fun s q => up W (R s) (ch 4 q)) := by
  unfold k0_pay33
  exact R2.same (pay28 W R v57 v104 h57 h104) _

theorem pay34 (v57 : FVec Ideal S256x1024 .bf16) (v104 : Vec Ideal S1x1024x512 .bf16)
    (h57 : R2 v57 (fun s => hn2 W (R s))) (h104 : ∀ i j, v104 (ix3 (0 : Fin 1) i j) = ((W.wu i (ch 4 j) : ℝ) : EReal)) :
    R2 (k0_pay34 (F := Ideal) v57 v104) (fun s q => act W (R s) (ch 4 q)) := by
  unfold k0_pay34
  exact R2.trunc (R2.mul (R2.pos (pay28 W R v57 v104 h57 h104)) (R2.pos (pay28 W R v57 v104 h57 h104))) _

theorem pay35 (v57 : FVec Ideal S256x1024 .bf16) (v132 : Vec Ideal S1x1024x512 .bf16)
    (h57 : R2 v57 (fun s => hn2 W (R s))) (h132 : ∀ i j, v132 (ix3 (0 : Fin 1) i j) = ((W.wu i (ch 6 j) : ℝ) : EReal)) :
    R2 (k0_pay35 (F := Ideal) v57 v132) (fun s q => up W (R s) (ch 6 q)) := by
  unfold k0_pay35
  exact R2.dot h57 (R2.panel h132 _)

theorem pay36 (v120 : FVec Ideal S256x512 .f32)
    (h120 : R2 v120 (fun s q => up W (R s) (ch 5 q))) :
    R2 (k0_pay36 (F := Ideal) v120) (fun s q => up W (R s) (ch 5 q)) := by
  unfold k0_pay36
  exact R2.same h120 _

theorem pay37 (v120 : FVec Ideal S256x512 .f32)
    (h120 : R2 v120 (fun s q => up W (R s) (ch 5 q))) :
    R2 (k0_pay37 (F := Ideal) v120) (fun s q => act W (R s) (ch 5 q)) := by
  unfold k0_pay37
  exact R2.trunc (R2.mul (R2.pos h120) (R2.pos h120)) _

theorem pay38 (v57 : FVec Ideal S256x1024 .bf16) (v146 : Vec Ideal S1x1024x512 .bf16)
    (h57 : R2 v57 (fun s => hn2 W (R s))) (h146 : ∀ i j, v146 (ix3 (0 : Fin 1) i j) = ((W.wu i (ch 7 j) : ℝ) : EReal)) :
    R2 (k0_pay38 (F := Ideal) v57 v146) (fun s q => up W (R s) (ch 7 q)) := by
  unfold k0_pay38
  exact R2.dot h57 (R2.panel h146 _)

theorem pay39 (v57 : FVec Ideal S256x1024 .bf16) (v132 : Vec Ideal S1x1024x512 .bf16)
    (h57 : R2 v57 (fun s => hn2 W (R s))) (h132 : ∀ i j, v132 (ix3 (0 : Fin 1) i j) = ((W.wu i (ch 6 j) : ℝ) : EReal)) :
    R2 (k0_pay39 (F := Ideal) v57 v132) (fun s q => up W (R s) (ch 6 q)) := by
  unfold k0_pay39
  exact R2.same (pay35 W R v57 v132 h57 h132) _

theorem pay40 (v57 : FVec Ideal S256x1024 .bf16) (v132 : Vec Ideal S1x1024x512 .bf16)
    (h57 : R2 v57 (fun s => hn2 W (R s))) (h132 : ∀ i j, v132 (ix3 (0 : Fin 1) i j) = ((W.wu i (ch 6 j) : ℝ) : EReal)) :
    R2 (k0_pay40 (F := Ideal) v57 v132) (fun s q => act W (R s) (ch 6 q)) := by
  unfold k0_pay40
  exact R2.trunc (R2.mul (R2.pos (pay35 W R v57 v132 h57 h132)) (R2.pos (pay35 W R v57 v132 h57 h132))) _

theorem pay41 (v57 : FVec Ideal S256x1024 .bf16) (v117 : FVec Ideal S256x1024 .f32) (v120 : FVec Ideal S256x512 .f32) (v127 : FVec Ideal S256x512 .bf16) (v129 : Vec Ideal S512x1024 .bf16) (v132 : Vec Ideal S1x1024x512 .bf16) (v143 v157 : Vec Ideal S512x1024 .bf16)
    (h57 : R2 v57 (fun s => hn2 W (R s))) (h117 : R2 v117 (fun s => hs4 W (R s))) (h120 : R2 v120 (fun s q => up W (R s) (ch 5 q))) (h127 : R2 v127 (fun s q => act W (R s) (ch 4 q))) (h129 : R2 v129 (fun q k => W.wd (ch 4 q) k)) (h132 : ∀ i j, v132 (ix3 (0 : Fin 1) i j) = ((W.wu i (ch 6 j) : ℝ) : EReal)) (h143 : R2 v143 (fun q k => W.wd (ch 5 q) k)) (h157 : R2 v157 (fun q k => W.wd (ch 6 q) k)) :
    R2 (k0_pay41 (F := Ideal) v57 v117 v120 v127 v129 (constant S256x1024 .f32 0x00000000#32) v132 v143 v157) (fun s => hs7 W (R s)) := by
  unfold k0_pay41
  exact R2.add (R2.add (R2.add h117 (R2.dot h127 h129)) (R2.dot (pay37 W R v120 h120) h143)) (R2.dot (pay40 W R v57 v132 h57 h132) h157)

theorem pay42 (v148 : FVec Ideal S256x512 .f32)
    (h148 : R2 v148 (fun s q => up W (R s) (ch 7 q))) :
    R2 (k0_pay42 (F := Ideal) v148) (fun s q => up W (R s) (ch 7 q)) := by
  unfold k0_pay42
  exact R2.same h148 _

theorem pay43 (v148 : FVec Ideal S256x512 .f32)
    (h148 : R2 v148 (fun s q => up W (R s) (ch 7 q))) :
    R2 (k0_pay43 (F := Ideal) v148) (fun s q => act W (R s) (ch 7 q)) := by
  unfold k0_pay43
  exact R2.trunc (R2.mul (R2.pos h148) (R2.pos h148)) _

theorem pay44 (v148 : FVec Ideal S256x512 .f32) (v159 : FVec Ideal S256x1024 .f32) (v168 : Vec Ideal S512x1024 .bf16)
    (h148 : R2 v148 (fun s q => up W (R s) (ch 7 q))) (h159 : R2 v159 (fun s => hs7 W (R s))) (h168 : R2 v168 (fun q k => W.wd (ch 7 q) k)) :
    R2 (k0_pay44 (F := Ideal) v148 v159 v168) (fun s => h2 W (R s)) := by
  unfold k0_pay44
  exact (R2.add h159 (R2.dot (pay43 W R v148 h148) h168)).congr fun s j => hs7_h2 W (R s) j

theorem pay45 (v148 : FVec Ideal S256x512 .f32) (v159 : FVec Ideal S256x1024 .f32) (v168 : Vec Ideal S512x1024 .bf16)
    (h148 : R2 v148 (fun s q => up W (R s) (ch 7 q))) (h159 : R2 v159 (fun s => hs7 W (R s))) (h168 : R2 v168 (fun q k => W.wd (ch 7 q) k)) :
    R2 (k0_pay45 (F := Ideal) v148 v159 v168) (fun s _ => ri (h2 W (R s))) := by
  unfold k0_pay45
  exact R2.rstd (pay44 W R v148 v159 v168 h148 h159 h168) (by decide) width1024 _ (.inl rfl) rfl _

theorem pay46 (v148 : FVec Ideal S256x512 .f32) (v159 : FVec Ideal S256x1024 .f32) (v168 : Vec Ideal S512x1024 .bf16)
    (h148 : R2 v148 (fun s q => up W (R s) (ch 7 q))) (h159 : R2 v159 (fun s => hs7 W (R s))) (h168 : R2 v168 (fun q k => W.wd (ch 7 q) k)) :
    R2 (k0_pay46 (F := Ideal) v148 v159 v168) (fun s => nh (h2 W (R s))) := by
  unfold k0_pay46
  exact R2.mul (pay44 W R v148 v159 v168 h148 h159 h168) (R2.col (pay45 W R v148 v159 v168 h148 h159 h168) _)

theorem pay47 (v10 : FVec Ideal S1x1024 .f32) (v148 : FVec Ideal S256x512 .f32) (v159 : FVec Ideal S256x1024 .f32) (v168 : Vec Ideal S512x1024 .bf16) (v183 : Vec Ideal S256x1024 .f32)
    (h10 : R2 v10 (fun _ => W.gf)) (h148 : R2 v148 (fun s q => up W (R s) (ch 7 q))) (h159 : R2 v159 (fun s => hs7 W (R s))) (h168 : R2 v168 (fun q k => W.wd (ch 7 q) k)) (h183 : R2 v183 (fun s => (R s).t)) :
    R2 (k0_pay47 (F := Ideal) v10 v148 v159 v168 v183) (fun s => diff W (R s)) := by
  unfold k0_pay47
  exact R2.sub (R2.mul (pay46 W R v148 v159 v168 h148 h159 h168) (R2.row h10 _)) h183

theorem pay48 (v10 : FVec Ideal S1x1024 .f32) (v148 : FVec Ideal S256x512 .f32) (v159 : FVec Ideal S256x1024 .f32) (v168 : Vec Ideal S512x1024 .bf16) (v183 : Vec Ideal S256x1024 .f32)
    (h10 : R2 v10 (fun _ => W.gf)) (h148 : R2 v148 (fun s q => up W (R s) (ch 7 q))) (h159 : R2 v159 (fun s => hs7 W (R s))) (h168 : R2 v168 (fun q k => W.wd (ch 7 q) k)) (h183 : R2 v183 (fun s => (R s).t)) :
    R2 (k0_pay48 (F := Ideal) v10 v148 v159 v168 v183) (fun s _ => loss W (R s)) := by
  unfold k0_pay48
  exact R2.mul (R2.const half) (R2.mean (pay47 W R v10 v148 v159 v168 v183 h10 h148 h159 h168 h183) (pay47 W R v10 v148 v159 v168 v183 h10 h148 h159 h168 h183) (by decide) width1024 _ (.inl rfl) rfl _)

theorem pay49 (v10 : FVec Ideal S1x1024 .f32) (v148 : FVec Ideal S256x512 .f32) (v159 : FVec Ideal S256x1024 .f32) (v168 : Vec Ideal S512x1024 .bf16) (v183 : Vec Ideal S256x1024 .f32)
    (h10 : R2 v10 (fun _ => W.gf)) (h148 : R2 v148 (fun s q => up W (R s) (ch 7 q))) (h159 : R2 v159 (fun s => hs7 W (R s))) (h168 : R2 v168 (fun q k => W.wd (ch 7 q) k)) (h183 : R2 v183 (fun s => (R s).t)) :
    R2 (k0_pay49 (F := Ideal) v10 v148 v159 v168 v183) (fun s => dy W (R s)) := by
  unfold k0_pay49
  exact R2.mul (pay47 W R v10 v148 v159 v168 v183 h10 h148 h159 h168 h183) (R2.const inv1024)

theorem pay50 (v10 : FVec Ideal S1x1024 .f32) (v148 : FVec Ideal S256x512 .f32) (v159 : FVec Ideal S256x1024 .f32) (v168 : Vec Ideal S512x1024 .bf16) (v183 : Vec Ideal S256x1024 .f32)
    (h10 : R2 v10 (fun _ => W.gf)) (h148 : R2 v148 (fun s q => up W (R s) (ch 7 q))) (h159 : R2 v159 (fun s => hs7 W (R s))) (h168 : R2 v168 (fun q k => W.wd (ch 7 q) k)) (h183 : R2 v183 (fun s => (R s).t)) :
    R2 (k0_pay50 (F := Ideal) v10 v148 v159 v168 v183) (fun _ j => ∑ s, dgf W (R s) j) := by
  unfold k0_pay50
  exact R1.asRow (R2.colSum (R2.mul (pay49 W R v10 v148 v159 v168 v183 h10 h148 h159 h168 h183) (pay46 W R v148 v159 v168 h148 h159 h168)) _ (.inl rfl) rfl) _

theorem pay51 (v10 : FVec Ideal S1x1024 .f32) (v148 : FVec Ideal S256x512 .f32) (v159 : FVec Ideal S256x1024 .f32) (v168 : Vec Ideal S512x1024 .bf16) (v183 : Vec Ideal S256x1024 .f32)
    (h10 : R2 v10 (fun _ => W.gf)) (h148 : R2 v148 (fun s q => up W (R s) (ch 7 q))) (h159 : R2 v159 (fun s => hs7 W (R s))) (h168 : R2 v168 (fun q k => W.wd (ch 7 q) k)) (h183 : R2 v183 (fun s => (R s).t)) :
    R2 (k0_pay51 (F := Ideal) v10 v148 v159 v168 v183) (fun s j => dy W (R s) j * W.gf j) := by
  unfold k0_pay51
  exact R2.mul (pay49 W R v10 v148 v159 v168 v183 h10 h148 h159 h168 h183) (R2.row h10 _)

theorem pay52 (v10 : FVec Ideal S1x1024 .f32) (v148 : FVec Ideal S256x512 .f32) (v159 : FVec Ideal S256x1024 .f32) (v168 : Vec Ideal S512x1024 .bf16) (v183 : Vec Ideal S256x1024 .f32)
    (h10 : R2 v10 (fun _ => W.gf)) (h148 : R2 v148 (fun s q => up W (R s) (ch 7 q))) (h159 : R2 v159 (fun s => hs7 W (R s))) (h168 : R2 v168 (fun q k => W.wd (ch 7 q) k)) (h183 : R2 v183 (fun s => (R s).t)) :
    R1 (k0_pay52 (F := Ideal) v10 v148 v159 v168 v183) (fun s => ∑ k, dy W (R s) k * W.gf k * nh (h2 W (R s)) k) := by
  unfold k0_pay52
  exact R2.rowSum (R2.mul (pay51 W R v10 v148 v159 v168 v183 h10 h148 h159 h168 h183) (pay46 W R v148 v159 v168 h148 h159 h168)) _ (.inl rfl) rfl

theorem pay53 (v178 : FVec Ideal S256x1 .f32) (v180 : FVec Ideal S256x1024 .f32) (v198 : FVec Ideal S256x1024 .f32) (v200 : FVec Ideal S256 .f32)
    (h178 : R2 v178 (fun s _ => ri (h2 W (R s)))) (h180 : R2 v180 (fun s => nh (h2 W (R s)))) (h198 : R2 v198 (fun s j => dy W (R s) j * W.gf j)) (h200 : R1 v200 (fun s => ∑ k, dy W (R s) k * W.gf k * nh (h2 W (R s)) k)) :
    R2 (k0_pay53 (F := Ideal) v178 v180 v198 v200) (fun s => dh2 W (R s)) := by
  unfold k0_pay53
  exact R2.nback h178 h198 h180 (R2.div (R1.asCol h200 _) (R2.const width1024) fun _ _ => ms_ne (by decide)) _ _

theorem pay54 (v178 : FVec Ideal S256x1 .f32) (v180 : FVec Ideal S256x1024 .f32) (v198 : FVec Ideal S256x1024 .f32) (v200 : FVec Ideal S256 .f32)
    (h178 : R2 v178 (fun s _ => ri (h2 W (R s)))) (h180 : R2 v180 (fun s => nh (h2 W (R s)))) (h198 : R2 v198 (fun s j => dy W (R s) j * W.gf j)) (h200 : R1 v200 (fun s => ∑ k, dy W (R s) k * W.gf k * nh (h2 W (R s)) k)) :
    R2 (k0_pay54 (F := Ideal) v178 v180 v198 v200) (fun s => dh2 W (R s)) := by
  unfold k0_pay54
  exact R2.trunc (pay53 W R v178 v180 v198 v200 h178 h180 h198 h200) _

theorem pay55 (v178 : FVec Ideal S256x1 .f32) (v180 : FVec Ideal S256x1024 .f32) (v198 : FVec Ideal S256x1024 .f32) (v200 : FVec Ideal S256 .f32) (v214 : Vec Ideal S512x1024 .bf16)
    (h178 : R2 v178 (fun s _ => ri (h2 W (R s)))) (h180 : R2 v180 (fun s => nh (h2 W (R s)))) (h198 : R2 v198 (fun s j => dy W (R s) j * W.gf j)) (h200 : R1 v200 (fun s => ∑ k, dy W (R s) k * W.gf k * nh (h2 W (R s)) k)) (h214 : R2 v214 (fun q k => W.wd (ch 1 q) k)) :
    R2 (k0_pay55 (F := Ideal) v178 v180 v198 v200 v214) (fun s q => dact W (R s) (ch 1 q)) := by
  unfold k0_pay55
  exact R2.dotT (pay54 W R v178 v180 v198 v200 h178 h180 h198 h200) h214

theorem pay56 (v178 : FVec Ideal S256x1 .f32) (v180 : FVec Ideal S256x1024 .f32) (v198 : FVec Ideal S256x1024 .f32) (v200 : FVec Ideal S256 .f32) (v212 : Vec Ideal S512x1024 .bf16) (v216 : Vec Ideal S256x512 .f32)
    (h178 : R2 v178 (fun s _ => ri (h2 W (R s)))) (h180 : R2 v180 (fun s => nh (h2 W (R s)))) (h198 : R2 v198 (fun s j => dy W (R s) j * W.gf j)) (h200 : R1 v200 (fun s => ∑ k, dy W (R s) k * W.gf k * nh (h2 W (R s)) k)) (h212 : R2 v212 (fun q k => W.wd (ch 0 q) k)) (h216 : R2 v216 (fun s q => up W (R s) (ch 0 q))) :
    R2 (k0_pay56 (F := Ideal) v178 v180 v198 v200 v212 v216) (fun s q => dup W (R s) (ch 0 q)) := by
  unfold k0_pay56
  exact R2.trunc (R2.mul (R2.dotT (pay54 W R v178 v180 v198 v200 h178 h180 h198 h200) h212) (R2.dbl (R2.pos h216))) _

theorem pay57 (v178 : FVec Ideal S256x1 .f32) (v180 : FVec Ideal S256x1024 .f32) (v198 : FVec Ideal S256x1024 .f32) (v200 : FVec Ideal S256 .f32) (v212 : Vec Ideal S512x1024 .bf16) (v216 : Vec Ideal S256x512 .f32) (v224 : Vec Ideal S1x1024x512 .bf16)
    (h178 : R2 v178 (fun s _ => ri (h2 W (R s)))) (h180 : R2 v180 (fun s => nh (h2 W (R s)))) (h198 : R2 v198 (fun s j => dy W (R s) j * W.gf j)) (h200 : R1 v200 (fun s => ∑ k, dy W (R s) k * W.gf k * nh (h2 W (R s)) k)) (h212 : R2 v212 (fun q k => W.wd (ch 0 q) k)) (h216 : R2 v216 (fun s q => up W (R s) (ch 0 q))) (h224 : ∀ i j, v224 (ix3 (0 : Fin 1) i j) = ((W.wu i (ch 0 j) : ℝ) : EReal)) :
    R2 (k0_pay57 (F := Ideal) v178 v180 v198 v200 v212 v216 v224) (fun s => ds1 W (R s)) := by
  unfold k0_pay57
  exact R2.add (R2.const zero_word) (R2.dotT (pay56 W R v178 v180 v198 v200 v212 v216 h178 h180 h198 h200 h212 h216) (R2.panel h224 _))

theorem pay58 (v178 : FVec Ideal S256x1 .f32) (v180 : FVec Ideal S256x1024 .f32) (v198 : FVec Ideal S256x1024 .f32) (v200 : FVec Ideal S256 .f32) (v228 : Vec Ideal S512x1024 .bf16)
    (h178 : R2 v178 (fun s _ => ri (h2 W (R s)))) (h180 : R2 v180 (fun s => nh (h2 W (R s)))) (h198 : R2 v198 (fun s j => dy W (R s) j * W.gf j)) (h200 : R1 v200 (fun s => ∑ k, dy W (R s) k * W.gf k * nh (h2 W (R s)) k)) (h228 : R2 v228 (fun q k => W.wd (ch 2 q) k)) :
    R2 (k0_pay58 (F := Ideal) v178 v180 v198 v200 v228) (fun s q => dact W (R s) (ch 2 q)) := by
  unfold k0_pay58
  exact R2.dotT (pay54 W R v178 v180 v198 v200 h178 h180 h198 h200) h228

theorem pay59 (v230 : Vec Ideal S256x512 .f32)
    (h230 : R2 v230 (fun s q => up W (R s) (ch 1 q))) :
    R2 (k0_pay59 (F := Ideal) v230) (fun s q => max (up W (R s) (ch 1 q)) 0) := by
  unfold k0_pay59
  exact R2.pos h230

theorem pay60 (v215 : FVec Ideal S256x512 .f32) (v232 : FVec Ideal S256x512 .f32)
    (h215 : R2 v215 (fun s q => dact W (R s) (ch 1 q))) (h232 : R2 v232 (fun s q => max (up W (R s) (ch 1 q)) 0)) :
    R2 (k0_pay60 (F := Ideal) v215 v232) (fun s q => dup W (R s) (ch 1 q)) := by
  unfold k0_pay60
  exact R2.trunc (R2.mul h215 (R2.dbl h232)) _

theorem pay61 (v229 : FVec Ideal S256x512 .f32) (v244 : Vec Ideal S256x512 .f32)
    (h229 : R2 v229 (fun s q => dact W (R s) (ch 2 q))) (h244 : R2 v244 (fun s q => up W (R s) (ch 2 q))) :
    R2 (k0_pay61 (F := Ideal) v229 v244) (fun s q => dup W (R s) (ch 2 q)) := by
  unfold k0_pay61
  exact R2.trunc (R2.mul h229 (R2.dbl (R2.pos h244))) _

theorem pay62 (v215 : FVec Ideal S256x512 .f32) (v227 : FVec Ideal S256x1024 .f32) (v229 : FVec Ideal S256x512 .f32) (v232 : FVec Ideal S256x512 .f32) (v238 : Vec Ideal S1x1024x512 .bf16) (v244 : Vec Ideal S256x512 .f32) (v252 : Vec Ideal S1x1024x512 .bf16)
    (h215 : R2 v215 (fun s q => dact W (R s) (ch 1 q))) (h227 : R2 v227 (fun s => ds1 W (R s))) (h229 : R2 v229 (fun s q => dact W (R s) (ch 2 q))) (h232 : R2 v232 (fun s q => max (up W (R s) (ch 1 q)) 0)) (h238 : ∀ i j, v238 (ix3 (0 : Fin 1) i j) = ((W.wu i (ch 1 j) : ℝ) : EReal)) (h244 : R2 v244 (fun s q => up W (R s) (ch 2 q))) (h252 : ∀ i j, v252 (ix3 (0 : Fin 1) i j) = ((W.wu i (ch 2 j) : ℝ) : EReal)) :
    R2 (k0_pay62 (F := Ideal) v215 v227 v229 v232 v238 v244 v252) (fun s => ds3 W (R s)) := by
  unfold k0_pay62
  exact R2.add (R2.add h227 (R2.dotT (pay60 W R v215 v232 h215 h232) (R2.panel h238 _))) (R2.dotT (pay61 W R v229 v244 h229 h244) (R2.panel h252 _))

theorem pay63 (v209 : FVec Ideal S256x1024 .bf16) (v256 : Vec Ideal S512x1024 .bf16)
    (h209 : R2 v209 (fun s => dh2 W (R s))) (h256 : R2 v256 (fun q k => W.wd (ch 4 q) k)) :
    R2 (k0_pay63 (F := Ideal) v209 v256) (fun s q => dact W (R s) (ch 4 q)) := by
  unfold k0_pay63
  exact R2.dotT h209 h256

theorem pay64 (v209 : FVec Ideal S256x1024 .bf16) (v242 : Vec Ideal S512x1024 .bf16) (v258 : Vec Ideal S256x512 .f32)
    (h209 : R2 v209 (fun s => dh2 W (R s))) (h242 : R2 v242 (fun q k => W.wd (ch 3 q) k)) (h258 : R2 v258 (fun s q => up W (R s) (ch 3 q))) :
    R2 (k0_pay64 (F := Ideal) v209 v242 v258) (fun s q => dup W (R s) (ch 3 q)) := by
  unfold k0_pay64
  exact R2.mul (R2.dotT h209 h242) (R2.dbl (R2.pos h258))

theorem pay65 (v263 : FVec Ideal S256x512 .f32)
    (h263 : R2 v263 (fun s q => dup W (R s) (ch 3 q))) :
    R2 (k0_pay65 (F := Ideal) v263) (fun s q => dup W (R s) (ch 3 q)) := by
  unfold k0_pay65
  exact R2.trunc h263 _

theorem pay66 (v257 : FVec Ideal S256x512 .f32) (v272 : Vec Ideal S256x512 .f32)
    (h257 : R2 v257 (fun s q => dact W (R s) (ch 4 q))) (h272 : R2 v272 (fun s q => up W (R s) (ch 4 q))) :
    R2 (k0_pay66 (F := Ideal) v257 v272) (fun s q => dup W (R s) (ch 4 q)) := by
  unfold k0_pay66
  exact R2.trunc (R2.mul h257 (R2.dbl (R2.pos h272))) _

theorem pay67 (v255 : FVec Ideal S256x1024 .f32) (v257 : FVec Ideal S256x512 .f32) (v263 : FVec Ideal S256x512 .f32) (v266 : Vec Ideal S1x1024x512 .bf16) (v272 : Vec Ideal S256x512 .f32) (v280 : Vec Ideal S1x1024x512 .bf16)
    (h255 : R2 v255 (fun s => ds3 W (R s))) (h257 : R2 v257 (fun s q => dact W (R s) (ch 4 q))) (h263 : R2 v263 (fun s q => dup W (R s) (ch 3 q))) (h266 : ∀ i j, v266 (ix3 (0 : Fin 1) i j) = ((W.wu i (ch 3 j) : ℝ) : EReal)) (h272 : R2 v272 (fun s q => up W (R s) (ch 4 q))) (h280 : ∀ i j, v280 (ix3 (0 : Fin 1) i j) = ((W.wu i (ch 4 j) : ℝ) : EReal)) :
    R2 (k0_pay67 (F := Ideal) v255 v257 v263 v266 v272 v280) (fun s => ds5 W (R s)) := by
  unfold k0_pay67
  exact R2.add (R2.add h255 (R2.dotT (pay65 W R v263 h263) (R2.panel h266 _))) (R2.dotT (pay66 W R v257 v272 h257 h272) (R2.panel h280 _))

theorem pay68 (v209 : FVec Ideal S256x1024 .bf16) (v284 : Vec Ideal S512x1024 .bf16)
    (h209 : R2 v209 (fun s => dh2 W (R s))) (h284 : R2 v284 (fun q k => W.wd (ch 6 q) k)) :
    R2 (k0_pay68 (F := Ideal) v209 v284) (fun s q => dact W (R s) (ch 6 q)) := by
  unfold k0_pay68
  exact R2.dotT h209 h284

theorem pay69 (v209 : FVec Ideal S256x1024 .bf16) (v270 : Vec Ideal S512x1024 .bf16) (v286 : Vec Ideal S256x512 .f32)
    (h209 : R2 v209 (fun s => dh2 W (R s))) (h270 : R2 v270 (fun q k => W.wd (ch 5 q) k)) (h286 : R2 v286 (fun s q => up W (R s) (ch 5 q))) :
    R2 (k0_pay69 (F := Ideal) v209 v270 v286) (fun s q => dup W (R s) (ch 5 q)) := by
  unfold k0_pay69
  exact R2.trunc (R2.mul (R2.dotT h209 h270) (R2.dbl (R2.pos h286))) _

theorem pay70 (v285 : FVec Ideal S256x512 .f32) (v300 : Vec Ideal S256x512 .f32)
    (h285 : R2 v285 (fun s q => dact W (R s) (ch 6 q))) (h300 : R2 v300 (fun s q => up W (R s) (ch 6 q))) :
    R2 (k0_pay70 (F := Ideal) v285 v300) (fun s q => dup W (R s) (ch 6 q)) := by
  unfold k0_pay70
  exact R2.trunc (R2.mul h285 (R2.dbl (R2.pos h300))) _

theorem pay71 (v209 : FVec Ideal S256x1024 .bf16) (v298 : Vec Ideal S512x1024 .bf16) (v312 : Vec Ideal S256x512 .f32)
    (h209 : R2 v209 (fun s => dh2 W (R s))) (h298 : R2 v298 (fun q k => W.wd (ch 7 q) k)) (h312 : R2 v312 (fun s q => up W (R s) (ch 7 q))) :
    R2 (k0_pay71 (F := Ideal) v209 v298 v312) (fun s q => dup W (R s) (ch 7 q)) := by
  unfold k0_pay71
  exact R2.trunc (R2.mul (R2.dotT h209 h298) (R2.dbl (R2.pos h312))) _

theorem pay72 (v209 : FVec Ideal S256x1024 .bf16) (v283 : FVec Ideal S256x1024 .f32) (v285 : FVec Ideal S256x512 .f32) (v292 : FVec Ideal S256x512 .bf16) (v294 : Vec Ideal S1x1024x512 .bf16) (v298 : Vec Ideal S512x1024 .bf16) (v300 : Vec Ideal S256x512 .f32) (v308 : Vec Ideal S1x1024x512 .bf16) (v312 : Vec Ideal S256x512 .f32) (v320 : Vec Ideal S1x1024x512 .bf16)
    (h209 : R2 v209 (fun s => dh2 W (R s))) (h283 : R2 v283 (fun s => ds5 W (R s))) (h285 : R2 v285 (fun s q => dact W (R s) (ch 6 q))) (h292 : R2 v292 (fun s q => dup W (R s) (ch 5 q))) (h294 : ∀ i j, v294 (ix3 (0 : Fin 1) i j) = ((W.wu i (ch 5 j) : ℝ) : EReal)) (h298 : R2 v298 (fun q k => W.wd (ch 7 q) k)) (h300 : R2 v300 (fun s q => up W (R s) (ch 6 q))) (h308 : ∀ i j, v308 (ix3 (0 : Fin 1) i j) = ((W.wu i (ch 6 j) : ℝ) : EReal)) (h312 : R2 v312 (fun s q => up W (R s) (ch 7 q))) (h320 : ∀ i j, v320 (ix3 (0 : Fin 1) i j) = ((W.wu i (ch 7 j) : ℝ) : EReal)) :
    R2 (k0_pay72 (F := Ideal) v209 v283 v285 v292 v294 v298 v300 v308 v312 v320) (fun s => dhn2 W (R s)) := by
  unfold k0_pay72
  exact (R2.add (R2.add (R2.add h283 (R2.dotT h292 (R2.panel h294 _))) (R2.dotT (pay70 W R v285 v300 h285 h300) (R2.panel h308 _))) (R2.dotT (pay71 W R v209 v298 v312 h209 h298 h312) (R2.panel h320 _))).congr fun s j => ds5_dhn2 W (R s) j

theorem pay73 (v54 : FVec Ideal S256x1024 .f32) (v323 : FVec Ideal S256x1024 .f32)
    (h54 : R2 v54 (fun s => nh (h1 W (R s)))) (h323 : R2 v323 (fun s => dhn2 W (R s))) :
    R2 (k0_pay73 (F := Ideal) v54 v323) (fun _ j => ∑ s, dg2 W (R s) j) := by
  unfold k0_pay73
  exact R1.asRow (R2.colSum (R2.mul h323 h54) _ (.inl rfl) rfl) _

theorem pay74 (v8 : FVec Ideal S1x1024 .f32) (v52 : FVec Ideal S256x1 .f32) (v54 : FVec Ideal S256x1024 .f32) (v208 : FVec Ideal S256x1024 .f32) (v323 : FVec Ideal S256x1024 .f32)
    (h8 : R2 v8 (fun _ => W.g2)) (h52 : R2 v52 (fun s _ => ri (h1 W (R s)))) (h54 : R2 v54 (fun s => nh (h1 W (R s)))) (h208 : R2 v208 (fun s => dh2 W (R s))) (h323 : R2 v323 (fun s => dhn2 W (R s))) :
    R2 (k0_pay74 (F := Ideal) v8 v52 v54 v208 v323) (fun s => dh1 W (R s)) := by
  unfold k0_pay74
  exact R2.add h208 (R2.nback h52 (R2.mul h323 (R2.row h8 _)) h54 (R2.mean (R2.mul h323 (R2.row h8 _)) h54 (by decide) width1024 _ (.inl rfl) rfl _) _ _)

theorem pay75 (v8 : FVec Ideal S1x1024 .f32) (v52 : FVec Ideal S256x1 .f32) (v54 : FVec Ideal S256x1024 .f32) (v208 : FVec Ideal S256x1024 .f32) (v323 : FVec Ideal S256x1024 .f32)
    (h8 : R2 v8 (fun _ => W.g2)) (h52 : R2 v52 (fun s _ => ri (h1 W (R s)))) (h54 : R2 v54 (fun s => nh (h1 W (R s)))) (h208 : R2 v208 (fun s => dh2 W (R s))) (h323 : R2 v323 (fun s => dhn2 W (R s))) :
    R2 (k0_pay75 (F := Ideal) v8 v52 v54 v208 v323) (fun s => dh1 W (R s)) := by
  unfold k0_pay75
  exact R2.trunc (pay74 W R v8 v52 v54 v208 v323 h8 h52 h54 h208 h323) _

theorem pay76 (v8 : FVec Ideal S1x1024 .f32) (v52 : FVec Ideal S256x1 .f32) (v54 : FVec Ideal S256x1024 .f32) (v208 : FVec Ideal S256x1024 .f32) (v323 : FVec Ideal S256x1024 .f32) (v343 : Vec Ideal S1024x1024 .bf16)
    (h8 : R2 v8 (fun _ => W.g2)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay76 (F := Ideal) v8 v52 v54 v208 v323 v343) (fun s => dmix W (R s)) := by
  unfold k0_pay76
  exact R2.dotT (pay75 W R v8 v52 v54 v208 v323 h8 h52 h54 h208 h323) h343

theorem pay77 (v8 : FVec Ideal S1x1024 .f32) (v52 : FVec Ideal S256x1 .f32) (v54 : FVec Ideal S256x1024 .f32) (v208 : FVec Ideal S256x1024 .f32) (v323 : FVec Ideal S256x1024 .f32) (v343 : Vec Ideal S1024x1024 .bf16)
    (h8 : R2 v8 (fun _ => W.g2)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay77 (F := Ideal) v8 v52 v54 v208 v323 v343) (fun s j => dmix W (R s) (lo j)) := by
  unfold k0_pay77
  exact R2.low (pay76 W R v8 v52 v54 v208 v323 v343 h8 h52 h54 h208 h323 h343) _

theorem pay78 (v8 : FVec Ideal S1x1024 .f32) (v30 : FVec Ideal S256x512 .f32) (v52 : FVec Ideal S256x1 .f32) (v54 : FVec Ideal S256x1024 .f32) (v208 : FVec Ideal S256x1024 .f32) (v323 : FVec Ideal S256x1024 .f32) (v343 : Vec Ideal S1024x1024 .bf16)
    (h8 : R2 v8 (fun _ => W.g2)) (h30 : R2 v30 (fun s => nh (R s).yp)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay78 (F := Ideal) v8 v30 v52 v54 v208 v323 v343) (fun _ j => ∑ s, dgp W (R s) j) := by
  unfold k0_pay78
  exact R1.asRow (R2.colSum (R2.mul (pay77 W R v8 v52 v54 v208 v323 v343 h8 h52 h54 h208 h323 h343) h30) _ (.inl rfl) rfl) _

theorem pay79 (v4 : FVec Ideal S1x512 .f32) (v8 : FVec Ideal S1x1024 .f32) (v20 : FVec Ideal S256x1 .f32) (v30 : FVec Ideal S256x512 .f32) (v52 : FVec Ideal S256x1 .f32) (v54 : FVec Ideal S256x1024 .f32) (v208 : FVec Ideal S256x1024 .f32) (v323 : FVec Ideal S256x1024 .f32) (v343 : Vec Ideal S1024x1024 .bf16)
    (h4 : R2 v4 (fun _ => W.gp)) (h8 : R2 v8 (fun _ => W.g2)) (h20 : R2 v20 (fun s _ => ri (R s).yp)) (h30 : R2 v30 (fun s => nh (R s).yp)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay79 (F := Ideal) v4 v8 v20 v30 v52 v54 v208 v323 v343) (fun s => dyp W (R s)) := by
  unfold k0_pay79
  exact R2.nback h20 (R2.mul (pay77 W R v8 v52 v54 v208 v323 v343 h8 h52 h54 h208 h323 h343) (R2.row h4 _)) h30 (R2.mean (R2.mul (pay77 W R v8 v52 v54 v208 v323 v343 h8 h52 h54 h208 h323 h343) (R2.row h4 _)) h30 (by decide) width512 _ (.inl rfl) rfl _) _ _

theorem pay80 (v8 : FVec Ideal S1x1024 .f32) (v52 : FVec Ideal S256x1 .f32) (v54 : FVec Ideal S256x1024 .f32) (v208 : FVec Ideal S256x1024 .f32) (v323 : FVec Ideal S256x1024 .f32) (v343 : Vec Ideal S1024x1024 .bf16)
    (h8 : R2 v8 (fun _ => W.g2)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay80 (F := Ideal) v8 v52 v54 v208 v323 v343) (fun s j => dmix W (R s) (hi j)) := by
  unfold k0_pay80
  exact R2.high (pay76 W R v8 v52 v54 v208 v323 v343 h8 h52 h54 h208 h323 h343) _

theorem pay81 (v8 : FVec Ideal S1x1024 .f32) (v32 : FVec Ideal S256x512 .f32) (v52 : FVec Ideal S256x1 .f32) (v54 : FVec Ideal S256x1024 .f32) (v208 : FVec Ideal S256x1024 .f32) (v323 : FVec Ideal S256x1024 .f32) (v343 : Vec Ideal S1024x1024 .bf16)
    (h8 : R2 v8 (fun _ => W.g2)) (h32 : R2 v32 (fun s => nh (R s).ya)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay81 (F := Ideal) v8 v32 v52 v54 v208 v323 v343) (fun _ j => ∑ s, dga W (R s) j) := by
  unfold k0_pay81
  exact R1.asRow (R2.colSum (R2.mul (pay80 W R v8 v52 v54 v208 v323 v343 h8 h52 h54 h208 h323 h343) h32) _ (.inl rfl) rfl) _

theorem pay82 (v6 : FVec Ideal S1x512 .f32) (v8 : FVec Ideal S1x1024 .f32) (v52 : FVec Ideal S256x1 .f32) (v54 : FVec Ideal S256x1024 .f32) (v208 : FVec Ideal S256x1024 .f32) (v323 : FVec Ideal S256x1024 .f32) (v343 : Vec Ideal S1024x1024 .bf16)
    (h6 : R2 v6 (fun _ => W.ga)) (h8 : R2 v8 (fun _ => W.g2)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay82 (F := Ideal) v6 v8 v52 v54 v208 v323 v343) (fun s j => dmix W (R s) (hi j) * W.ga j) := by
  unfold k0_pay82
  exact R2.mul (pay80 W R v8 v52 v54 v208 v323 v343 h8 h52 h54 h208 h323 h343) (R2.row h6 _)

theorem pay83 (v6 : FVec Ideal S1x512 .f32) (v8 : FVec Ideal S1x1024 .f32) (v32 : FVec Ideal S256x512 .f32) (v52 : FVec Ideal S256x1 .f32) (v54 : FVec Ideal S256x1024 .f32) (v208 : FVec Ideal S256x1024 .f32) (v323 : FVec Ideal S256x1024 .f32) (v343 : Vec Ideal S1024x1024 .bf16)
    (h6 : R2 v6 (fun _ => W.ga)) (h8 : R2 v8 (fun _ => W.g2)) (h32 : R2 v32 (fun s => nh (R s).ya)) (h52 : R2 v52 (fun s _ => ri (h1 W (R s)))) (h54 : R2 v54 (fun s => nh (h1 W (R s)))) (h208 : R2 v208 (fun s => dh2 W (R s))) (h323 : R2 v323 (fun s => dhn2 W (R s))) (h343 : R2 v343 (W.wo)) :
    R2 (k0_pay83 (F := Ideal) v6 v8 v32 v52 v54 v208 v323 v343) (fun s j => dmix W (R s) (hi j) * W.ga j * nh (R s).ya j) := by
  unfold k0_pay83
  exact R2.mul (pay82 W R v6 v8 v52 v54 v208 v323 v343 h6 h8 h52 h54 h208 h323 h343) h32

theorem pay84 (v28 : FVec Ideal S256x1 .f32) (v32 : FVec Ideal S256x512 .f32) (v366 : FVec Ideal S256x512 .f32) (v367 : FVec Ideal S256x512 .f32)
    (h28 : R2 v28 (fun s _ => ri (R s).ya)) (h32 : R2 v32 (fun s => nh (R s).ya)) (h366 : R2 v366 (fun s j => dmix W (R s) (hi j) * W.ga j)) (h367 : R2 v367 (fun s j => dmix W (R s) (hi j) * W.ga j * nh (R s).ya j)) :
    R2 (k0_pay84 (F := Ideal) v28 v32 v366 v367) (fun s => dya W (R s)) := by
  unfold k0_pay84
  exact R2.nback h28 h366 h32 (R2.div (R1.asCol (R2.rowSum h367 _ (.inl rfl) rfl) _) (R2.const width512) fun _ _ => ms_ne (by decide)) _ _

theorem pay85 (v196 : FVec Ideal S1x1024 .f32) (v379 : Vec Ideal S1x1024 .f32)
    (h196 : R2 v196 (fun _ j => ∑ s, dgf W (R s) j)) (h379 : R2 v379 (fun _ => p)) :
    R2 (k0_pay85 (F := Ideal) v196 v379) (fun _ j => p j + ∑ s, dgf W (R s) j) := by
  unfold k0_pay85
  exact R2.add (R2.same h379 _) h196

theorem pay86 (v326 : FVec Ideal S1x1024 .f32) (v383 : Vec Ideal S1x1024 .f32)
    (h326 : R2 v326 (fun _ j => ∑ s, dg2 W (R s) j)) (h383 : R2 v383 (fun _ => p)) :
    R2 (k0_pay86 (F := Ideal) v326 v383) (fun _ j => p j + ∑ s, dg2 W (R s) j) := by
  unfold k0_pay86
  exact R2.add (R2.same h383 _) h326

theorem pay87 (v348 : FVec Ideal S1x512 .f32) (v364 : FVec Ideal S1x512 .f32) (v387 : Vec Ideal S1x1024 .f32)
    (h348 : R2 v348 (fun _ j => ∑ s, dgp W (R s) j)) (h364 : R2 v364 (fun _ j => ∑ s, dga W (R s) j)) (h387 : R2 v387 (fun _ => p)) :
    R2 (k0_pay87 (F := Ideal) v348 v364 v387) (fun _ j => p j + MlpSpec.join (fun k => ∑ s, dgp W (R s) k) (fun k => ∑ s, dga W (R s) k) j) := by
  unfold k0_pay87
  exact R2.add (R2.same h387 _) (R2.join h348 h364 _)

theorem pay88 (v191 : FVec Ideal S256x1 .f32) (v392 : Vec Ideal S1x1024 .f32)
    (h191 : R2 v191 (fun s _ => loss W (R s))) (h392 : R2 v392 (fun _ => p)) :
    R2 (k0_pay88 (F := Ideal) v191 v392) (fun _ j => p j + ∑ s, loss W (R s)) := by
  unfold k0_pay88
  exact R2.add (R2.same h392 _) (R2.col (R2.same (R1.asCol (R2.colSum h191 _ (.inl rfl) rfl) _) _) _)

end Cert.MlpIdeal.Pay

end
-- ==== Proof.MlpLink.lean ====
module

public import proofs.«01_k».proof.Proof.MlpPay
public import Idealize.ShloMosaic.Lib.Writes
public import Idealize.ShloMosaic.Lib.Tactic
public import Idealize.ShloMosaic.Lib.Ring

@[expose] public section

noncomputable section

/-! # Reading and writing the blocks of the fused MLP

What a load of a block, of a weight panel or of a stored chunk reads, and what a block stored in eight column chunks holds. -/

namespace Cert.MlpIdeal.Link

open Cert.MlpIdeal Cert.MlpIdeal.Gen Cert.MlpSpec Cert.MlpOps Idealize.ShloMosaic Idealize.ShloMosaic.ValueIdx Idealize.ShloMosaic.TcCoe Idealize.SL.Sem
open scoped BigOperators

theorem hz2 : (![0, 0] : Fin 2 → Nat) = fun _ => 0 := funext fun a => by fin_cases a <;> rfl

/-- The row blocks and the small weights a grid point is given. -/
structure Ins (W : Wts) (R : Fin 256 → Row) (x0 : Vec Ideal S256x1024 .f32) (x1 x2 : Vec Ideal S256x512 .f32) (x3 : Vec Ideal S256x1024 .f32)
    (x4 x5 : Vec Ideal S1x512 .f32) (x6 x7 : Vec Ideal S1x1024 .f32) : Prop where
  x : R2 x0 fun s => (R s).x
  yp : R2 x1 fun s => (R s).yp
  ya : R2 x2 fun s => (R s).ya
  t : R2 x3 fun s => (R s).t
  gp : R2 x4 fun _ => W.gp
  ga : R2 x5 fun _ => W.ga
  g2 : R2 x6 fun _ => W.g2
  gf : R2 x7 fun _ => W.gf

/-- The three large weights, as the kernel holds them. -/
structure Held (W : Wts) (a : Vec Ideal S1024x1024 .bf16) (b : Vec Ideal S8x1024x512 .bf16) (d : Vec Ideal S4096x1024 .bf16) : Prop where
  wo : R2 a W.wo
  wu : ∀ (c : Fin 8) (i : Fin 1024) (j : Fin 512), b (ix3 c i j) = ((W.wu i (ch c j) : ℝ) : EReal)
  wd : R2 d W.wd

theorem ld_all {a b : ℕ} {x : Vec Ideal (⟨2, ![a, b]⟩ : Shape) .f32} {f : Fin a → Fin b → ℝ} (h : R2 x f)
    (inb : ∀ k, (![0, 0] : Fin 2 → Nat) k + (⟨2, ![a, b]⟩ : Shape).size k ≤ (⟨2, ![a, b]⟩ : Shape).size k) :
    R2 (View.ld (Val := Elt Ideal) x (Rect.unit ![0, 0] (⟨2, ![a, b]⟩ : Shape).size inb)) f := by
  rw [View.ld_unit_zero hz2]; exact h

theorem ld_all16 {a b : ℕ} {x : Vec Ideal (⟨2, ![a, b]⟩ : Shape) .bf16} {f : Fin a → Fin b → ℝ} (h : R2 x f)
    (inb : ∀ k, (![0, 0] : Fin 2 → Nat) k + (⟨2, ![a, b]⟩ : Shape).size k ≤ (⟨2, ![a, b]⟩ : Shape).size k) :
    R2 (View.ld (Val := Elt Ideal) x (Rect.unit ![0, 0] (⟨2, ![a, b]⟩ : Shape).size inb)) f := by
  rw [View.ld_unit_zero hz2]; exact h

theorem ld_rows {d : Vec Ideal S4096x1024 .bf16} {f : Fin 4096 → Fin 1024 → ℝ} (h : R2 d f) (c : Fin 8) (o : Fin 2 → Nat) (ho : o = ![512 * c.val, 0])
    (inb : ∀ k, o k + S512x1024.size k ≤ S4096x1024.size k) :
    R2 (View.ld (Val := Elt Ideal) d (Rect.unit o S512x1024.size inb)) (fun q => f (ch c q)) := by
  subst ho
  refine fun i j => Eq.trans (congrArg d (funext fun a => Fin.ext ?_)) (h (ch c i) j)
  match a with
  | ⟨0, _⟩ => show 512 * c.val + 1 * i.val = 512 * c.val + i.val; omega
  | ⟨1, _⟩ => show 0 + 1 * j.val = j.val; omega

theorem ld_panel {b : Vec Ideal S8x1024x512 .bf16} {f : Fin 1024 → Fin 4096 → ℝ} (h : ∀ (c : Fin 8) i j, b (ix3 c i j) = ((f i (ch c j) : ℝ) : EReal))
    (c : Fin 8) (o : Fin 3 → Nat) (ho : o = ![c.val, 0, 0]) (inb : ∀ k, o k + S1x1024x512.size k ≤ S8x1024x512.size k) (i : Fin 1024) (j : Fin 512) :
    View.ld (Val := Elt Ideal) b (Rect.unit o S1x1024x512.size inb) (ix3 (0 : Fin 1) i j) = ((f i (ch c j) : ℝ) : EReal) := by
  subst ho
  refine Eq.trans (congrArg b (funext fun a => Fin.ext ?_)) (h c i j)
  match a with
  | ⟨0, _⟩ => show c.val + 1 * 0 = c.val; omega
  | ⟨1, _⟩ => show 0 + 1 * i.val = i.val; omega
  | ⟨2, _⟩ => show 0 + 1 * j.val = j.val; omega

theorem ld_row {x : Vec Ideal S8x1024 .f32} (r : Fin 8) {p : Fin 1024 → ℝ} (h : ∀ j, x (ix2 r j) = ((p j : ℝ) : EReal)) (o : Fin 2 → Nat)
    (ho : o = ![r.val, 0]) (inb : ∀ k, o k + S1x1024.size k ≤ S8x1024.size k) :
    R2 (View.ld (Val := Elt Ideal) x (Rect.unit o S1x1024.size inb)) (fun _ => p) := by
  subst ho
  refine fun i j => Eq.trans (congrArg x (funext fun a => Fin.ext ?_)) (h j)
  match a with
  | ⟨0, _⟩ => show r.val + 1 * i.val = r.val; omega
  | ⟨1, _⟩ => show 0 + 1 * j.val = j.val; omega

theorem readCov_eq_ld {s : Shape} {e : EltTy} (v : View sig .tc .vmem s e) (L : List (View.Piece (Elt Ideal) s e)) (B : Rect s) :
    v.readCov (Val := Elt Ideal) L B.toLoadRect = View.ld (Val := Elt Ideal) (v.read (Elt Ideal) (v.writes (Elt Ideal) v.junk L)) B := rfl

theorem readCov_whole {s : Shape} {e : EltTy} (v : View sig .tc .vmem s e) (w : s.Idx → Elt Ideal e) (B : Rect s) :
    v.readCov (Val := Elt Ideal) [⟨Rect.whole s, w⟩] B.toLoadRect = View.ld (Val := Elt Ideal) w B := by
  rw [readCov_eq_ld]
  congr 1
  refine funext fun y => View.read_writes_cons_hit_of_coords (Val := Elt Ideal) v v.junk (Rect.whole s) w [] y y fun a => ?_
  show (y a).val = 0 + 1 * (y a).val
  omega

/-- A block stored in eight column chunks. -/
theorem tiled {e : EltTy} (v : View sig .tc .vmem S256x4096 e) (f0 : BufTy.Contents (Elt Ideal) v.ty) (g : Fin 256 → Fin 4096 → Elt Ideal e)
    (w0 w1 w2 w3 w4 w5 w6 w7 : Vec Ideal S256x512 e)
    (h0 : ∀ s q, w0 (ix2 s q) = g s (ch 0 q)) (h1 : ∀ s q, w1 (ix2 s q) = g s (ch 1 q)) (h2 : ∀ s q, w2 (ix2 s q) = g s (ch 2 q))
    (h3 : ∀ s q, w3 (ix2 s q) = g s (ch 3 q)) (h4 : ∀ s q, w4 (ix2 s q) = g s (ch 4 q)) (h5 : ∀ s q, w5 (ix2 s q) = g s (ch 5 q))
    (h6 : ∀ s q, w6 (ix2 s q) = g s (ch 6 q)) (h7 : ∀ s q, w7 (ix2 s q) = g s (ch 7 q)) (s : Fin 256) (c : Fin 4096) :
    v.read (Elt Ideal) (v.writes (Elt Ideal) f0
      [⟨Rect.unit (s := S256x4096) ![0, 3584] S256x512.size inb_S256x4096_S256x512_0_3584, w7⟩, ⟨Rect.unit (s := S256x4096) ![0, 3072] S256x512.size inb_S256x4096_S256x512_0_3072, w6⟩,
       ⟨Rect.unit (s := S256x4096) ![0, 2560] S256x512.size inb_S256x4096_S256x512_0_2560, w5⟩, ⟨Rect.unit (s := S256x4096) ![0, 2048] S256x512.size inb_S256x4096_S256x512_0_2048, w4⟩,
       ⟨Rect.unit (s := S256x4096) ![0, 1536] S256x512.size inb_S256x4096_S256x512_0_1536, w3⟩, ⟨Rect.unit (s := S256x4096) ![0, 1024] S256x512.size inb_S256x4096_S256x512_0_1024, w2⟩,
       ⟨Rect.unit (s := S256x4096) ![0, 512] S256x512.size inb_S256x4096_S256x512_0_512, w1⟩, ⟨Rect.unit (s := S256x4096) ![0, 0] S256x512.size inb_S256x4096_S256x512_0_0, w0⟩])
      (ix2 s c) = g s c := by
  have piece : ∀ (n : Fin 8) (w : Vec Ideal S256x512 e) (hw : ∀ s q, w (ix2 s q) = g s (ch n q)) (o : Fin 2 → Nat) (ho : o = ![0, 512 * n.val])
      (inb : ∀ k, o k + S256x512.size k ≤ S256x4096.size k) (x : S256x512.Idx),
      w x = (fun y : S256x4096.Idx => g (y 0) (y 1)) ((Rect.unit (s := S256x4096) o S256x512.size inb).emb x) := by
    intro n w hw o ho inb x
    subst ho
    refine (congrArg w (eq_ix2 x)).trans ((hw _ _).trans ?_)
    show g (x 0) (ch n (x 1)) = g _ _
    congr 1
    · exact Fin.ext (by show (x 0).val = 0 + 1 * (x 0).val; omega)
    · exact Fin.ext (by show 512 * n.val + (x 1).val = 512 * n.val + 1 * (x 1).val; omega)
  refine View.read_writes_apply_of_pieces (Val := Elt Ideal) (f := f0) (v := v) (fun y : S256x4096.Idx => g (y 0) (y 1)) _ ?_ (ix2 s c)
    ?_
  swap
  · refine View.cover_of_tiledL _ ![256, 512] ?_ _
    sl_kernel_rfl
  intro p hp
  simp only [List.mem_cons, List.not_mem_nil, or_false] at hp
  rcases hp with rfl | rfl | rfl | rfl | rfl | rfl | rfl | rfl
  · exact piece 7 w7 h7 ![0, 3584] rfl inb_S256x4096_S256x512_0_3584
  · exact piece 6 w6 h6 ![0, 3072] rfl inb_S256x4096_S256x512_0_3072
  · exact piece 5 w5 h5 ![0, 2560] rfl inb_S256x4096_S256x512_0_2560
  · exact piece 4 w4 h4 ![0, 2048] rfl inb_S256x4096_S256x512_0_2048
  · exact piece 3 w3 h3 ![0, 1536] rfl inb_S256x4096_S256x512_0_1536
  · exact piece 2 w2 h2 ![0, 1024] rfl inb_S256x4096_S256x512_0_1024
  · exact piece 1 w1 h1 ![0, 512] rfl inb_S256x4096_S256x512_0_512
  · exact piece 0 w0 h0 ![0, 0] rfl inb_S256x4096_S256x512_0_0

/-- A chunk of a block of eight column chunks. -/
theorem ld_chunk {x : Vec Ideal S256x4096 .f32} {f : Fin 256 → Fin 4096 → ℝ} (h : R2 x f) (c : Fin 8) (o : Fin 2 → Nat) (ho : o = ![0, 512 * c.val])
    (inb : ∀ k, o k + S256x512.size k ≤ S256x4096.size k) :
    R2 (View.ld (Val := Elt Ideal) x (Rect.unit o S256x512.size inb)) (fun s q => f s (ch c q)) := by
  subst ho
  refine fun i j => Eq.trans (congrArg x (funext fun a => Fin.ext ?_)) (h i (ch c j))
  match a with
  | ⟨0, _⟩ => show 0 + 1 * i.val = i.val; omega
  | ⟨1, _⟩ => show 512 * c.val + 1 * j.val = 512 * c.val + j.val; omega

/-- A row stored on its own, then what it leaves of the other rows. -/
theorem row_hit (v : View sig .tc .vmem S8x1024 .f32) (f0 : BufTy.Contents (Elt Ideal) v.ty) (r : Fin 8) (o : Fin 2 → Nat) (ho : o = ![r.val, 0])
    (inb : ∀ k, o k + S1x1024.size k ≤ S8x1024.size k) (w : Vec Ideal S1x1024 .f32) (L : List (View.Piece (Elt Ideal) S8x1024 .f32)) (j : Fin 1024) :
    v.read (Elt Ideal) (v.writes (Elt Ideal) f0 (⟨Rect.unit (s := S8x1024) o S1x1024.size inb, w⟩ :: L)) (ix2 r j) = w (ix2 (0 : Fin 1) j) := by
  subst ho
  refine View.read_writes_cons_hit_of_coords (Val := Elt Ideal) v f0 (Rect.unit (s := S8x1024) ![r.val, 0] S1x1024.size inb) w L (ix2 (0 : Fin 1) j) (ix2 r j) fun a => ?_
  match a with
  | ⟨0, _⟩ => show r.val = r.val + 1 * 0; omega
  | ⟨1, _⟩ => show j.val = 0 + 1 * j.val; omega

theorem row_miss (v : View sig .tc .vmem S8x1024 .f32) (f0 : BufTy.Contents (Elt Ideal) v.ty) (r r' : Fin 8) (h : r'.val < r.val ∨ r.val < r'.val) (o : Fin 2 → Nat)
    (ho : o = ![r.val, 0]) (inb : ∀ k, o k + S1x1024.size k ≤ S8x1024.size k) (w : Vec Ideal S1x1024 .f32) (L : List (View.Piece (Elt Ideal) S8x1024 .f32)) (j : Fin 1024) :
    v.read (Elt Ideal) (v.writes (Elt Ideal) f0 (⟨Rect.unit (s := S8x1024) o S1x1024.size inb, w⟩ :: L)) (ix2 r' j)
      = v.read (Elt Ideal) (v.writes (Elt Ideal) f0 L) (ix2 r' j) := by
  subst ho
  refine View.read_writes_cons_miss_of_axis (Val := Elt Ideal) v f0 _ L (ix2 r' j) 0 r.val 1 rfl rfl rfl ?_
  show r'.val < r.val ∨ r.val + 1 ≤ r'.val
  omega

end Cert.MlpIdeal.Link
-- ==== Proof.MlpChain.lean ====
module

public import proofs.«01_k».proof.Proof.MlpLink

@[expose] public section

noncomputable section

/-! # The values of one grid point of the fused MLP

From the blocks and the weight panels it loads (`Loads`) and the chunks of the pre-activation it reads back (`u`), each value
the body forms, and the row function it stands for. -/

namespace Cert.MlpIdeal.Chain

open Cert.MlpIdeal Cert.MlpIdeal.Gen Cert.MlpSpec Cert.MlpOps Idealize.ShloMosaic Idealize.ShloMosaic.ValueIdx
open scoped BigOperators

/-- What a grid point loads. -/
structure Loads where
  x : Vec Ideal S256x1024 .f32
  yp : Vec Ideal S256x512 .f32
  ya : Vec Ideal S256x512 .f32
  t : Vec Ideal S256x1024 .f32
  gp : Vec Ideal S1x512 .f32
  ga : Vec Ideal S1x512 .f32
  g2 : Vec Ideal S1x1024 .f32
  gf : Vec Ideal S1x1024 .f32
  wo : Vec Ideal S1024x1024 .bf16
  wu : Fin 8 → Vec Ideal S1x1024x512 .bf16
  wd : Fin 8 → Vec Ideal S512x1024 .bf16

/-- The loads hold the rows `R` and the weights `W`. -/
structure Loads.Ok (W : Wts) (R : Fin 256 → Row) (L : Loads) : Prop where
  x : R2 L.x fun s => (R s).x
  yp : R2 L.yp fun s => (R s).yp
  ya : R2 L.ya fun s => (R s).ya
  t : R2 L.t fun s => (R s).t
  gp : R2 L.gp fun _ => W.gp
  ga : R2 L.ga fun _ => W.ga
  g2 : R2 L.g2 fun _ => W.g2
  gf : R2 L.gf fun _ => W.gf
  wo : R2 L.wo W.wo
  wu : ∀ c i j, L.wu c (ix3 (0 : Fin 1) i j) = ((W.wu i (ch c j) : ℝ) : EReal)
  wd : ∀ c, R2 (L.wd c) fun q k => W.wd (ch c q) k

variable (W : Wts) (R : Fin 256 → Row)

def mp (L : Loads) : FVec Ideal S256x512 .bf16 := k0_pay10 L.gp L.yp
theorem mp_spec {L : Loads} (h : L.Ok W R) :
    R2 (mp L) (fun s j => nh (R s).yp j * W.gp j) :=
  Pay.pay10 W R _ _ h.gp h.yp
def ma (L : Loads) : FVec Ideal S256x512 .f32 := k0_pay11 L.ga L.ya
theorem ma_spec {L : Loads} (h : L.Ok W R) :
    R2 (ma L) (fun s j => nh (R s).ya j * W.ga j) :=
  Pay.pay11 W R _ _ h.ga h.ya
def g2 (L : Loads) : FVec Ideal S1x1024 .f32 := k0_pay4 L.g2
theorem g2_spec {L : Loads} (h : L.Ok W R) :
    R2 (g2 L) (fun _ => W.g2) :=
  Pay.pay4 W R _ h.g2
def hn2 (L : Loads) : FVec Ideal S256x1024 .bf16 := k0_pay16 (g2 L) (mp L) (ma L) L.x L.wo
theorem hn2_spec {L : Loads} (h : L.Ok W R) :
    R2 (hn2 L) (fun s => MlpSpec.hn2 W (R s)) :=
  Pay.pay16 W R _ _ _ _ _ (g2_spec W R h) (mp_spec W R h) (ma_spec W R h) h.x h.wo
def up7 (L : Loads) : FVec Ideal S256x512 .f32 := k0_pay38 (hn2 L) (L.wu 7)
theorem up7_spec {L : Loads} (h : L.Ok W R) :
    R2 (up7 L) (fun s q => MlpSpec.up W (R s) (ch 7 q)) :=
  Pay.pay38 W R _ _ (hn2_spec W R h) (h.wu 7)
def up5 (L : Loads) : FVec Ideal S256x512 .f32 := k0_pay32 (hn2 L) (L.wu 5)
theorem up5_spec {L : Loads} (h : L.Ok W R) :
    R2 (up5 L) (fun s q => MlpSpec.up W (R s) (ch 5 q)) :=
  Pay.pay32 W R _ _ (hn2_spec W R h) (h.wu 5)
def up3 (L : Loads) : FVec Ideal S256x512 .f32 := k0_pay25 (hn2 L) (L.wu 3)
theorem up3_spec {L : Loads} (h : L.Ok W R) :
    R2 (up3 L) (fun s q => MlpSpec.up W (R s) (ch 3 q)) :=
  Pay.pay25 W R _ _ (hn2_spec W R h) (h.wu 3)
def up1 (L : Loads) : FVec Ideal S256x512 .f32 := k0_pay18 (g2 L) (mp L) (ma L) L.x L.wo (L.wu 1)
theorem up1_spec {L : Loads} (h : L.Ok W R) :
    R2 (up1 L) (fun s q => MlpSpec.up W (R s) (ch 1 q)) :=
  Pay.pay18 W R _ _ _ _ _ _ (g2_spec W R h) (mp_spec W R h) (ma_spec W R h) h.x h.wo (h.wu 1)
def act0 (L : Loads) : FVec Ideal S256x512 .bf16 := k0_pay20 (g2 L) (mp L) (ma L) L.x L.wo (L.wu 0)
theorem act0_spec {L : Loads} (h : L.Ok W R) :
    R2 (act0 L) (fun s q => MlpSpec.act W (R s) (ch 0 q)) :=
  Pay.pay20 W R _ _ _ _ _ _ (g2_spec W R h) (mp_spec W R h) (ma_spec W R h) h.x h.wo (h.wu 0)
def h1 (L : Loads) : FVec Ideal S256x1024 .f32 := k0_pay13 (mp L) (ma L) L.x L.wo
theorem h1_spec {L : Loads} (h : L.Ok W R) :
    R2 (h1 L) (fun s => MlpSpec.h1 W (R s)) :=
  Pay.pay13 W R _ _ _ _ (mp_spec W R h) (ma_spec W R h) h.x h.wo
def hs2 (L : Loads) : FVec Ideal S256x1024 .f32 := k0_pay24 (h1 L) (up1 L) (act0 L) (L.wd 0) (L.wd 1)
theorem hs2_spec {L : Loads} (h : L.Ok W R) :
    R2 (hs2 L) (fun s => Pay.hs2 W (R s)) :=
  Pay.pay24 W R _ _ _ _ _ (h1_spec W R h) (up1_spec W R h) (act0_spec W R h) (h.wd 0) (h.wd 1)
def act2 (L : Loads) : FVec Ideal S256x512 .bf16 := k0_pay27 (hn2 L) (L.wu 2)
theorem act2_spec {L : Loads} (h : L.Ok W R) :
    R2 (act2 L) (fun s q => MlpSpec.act W (R s) (ch 2 q)) :=
  Pay.pay27 W R _ _ (hn2_spec W R h) (h.wu 2)
def hs4 (L : Loads) : FVec Ideal S256x1024 .f32 := k0_pay31 (hs2 L) (up3 L) (act2 L) (L.wd 2) (L.wd 3)
theorem hs4_spec {L : Loads} (h : L.Ok W R) :
    R2 (hs4 L) (fun s => Pay.hs4 W (R s)) :=
  Pay.pay31 W R _ _ _ _ _ (hs2_spec W R h) (up3_spec W R h) (act2_spec W R h) (h.wd 2) (h.wd 3)
def act4 (L : Loads) : FVec Ideal S256x512 .bf16 := k0_pay34 (hn2 L) (L.wu 4)
theorem act4_spec {L : Loads} (h : L.Ok W R) :
    R2 (act4 L) (fun s q => MlpSpec.act W (R s) (ch 4 q)) :=
  Pay.pay34 W R _ _ (hn2_spec W R h) (h.wu 4)
def hs7 (L : Loads) : FVec Ideal S256x1024 .f32 := k0_pay41 (hn2 L) (hs4 L) (up5 L) (act4 L) (L.wd 4) (constant S256x1024 .f32 0x00000000#32) (L.wu 6) (L.wd 5) (L.wd 6)
theorem hs7_spec {L : Loads} (h : L.Ok W R) :
    R2 (hs7 L) (fun s => Pay.hs7 W (R s)) :=
  Pay.pay41 W R _ _ _ _ _ _ _ _ (hn2_spec W R h) (hs4_spec W R h) (up5_spec W R h) (act4_spec W R h) (h.wd 4) (h.wu 6) (h.wd 5) (h.wd 6)
def rf (L : Loads) : FVec Ideal S256x1 .f32 := k0_pay45 (up7 L) (hs7 L) (L.wd 7)
theorem rf_spec {L : Loads} (h : L.Ok W R) :
    R2 (rf L) (fun s _ => ri (MlpSpec.h2 W (R s))) :=
  Pay.pay45 W R _ _ _ (up7_spec W R h) (hs7_spec W R h) (h.wd 7)
def nh2 (L : Loads) : FVec Ideal S256x1024 .f32 := k0_pay46 (up7 L) (hs7 L) (L.wd 7)
theorem nh2_spec {L : Loads} (h : L.Ok W R) :
    R2 (nh2 L) (fun s => nh (MlpSpec.h2 W (R s))) :=
  Pay.pay46 W R _ _ _ (up7_spec W R h) (hs7_spec W R h) (h.wd 7)
def gf (L : Loads) : FVec Ideal S1x1024 .f32 := k0_pay5 L.gf
theorem gf_spec {L : Loads} (h : L.Ok W R) :
    R2 (gf L) (fun _ => W.gf) :=
  Pay.pay5 W R _ h.gf
def dyg (L : Loads) : FVec Ideal S256x1024 .f32 := k0_pay51 (gf L) (up7 L) (hs7 L) (L.wd 7) L.t
theorem dyg_spec {L : Loads} (h : L.Ok W R) :
    R2 (dyg L) (fun s j => MlpSpec.dy W (R s) j * W.gf j) :=
  Pay.pay51 W R _ _ _ _ _ (gf_spec W R h) (up7_spec W R h) (hs7_spec W R h) (h.wd 7) h.t
def sdyg (L : Loads) : FVec Ideal S256 .f32 := k0_pay52 (gf L) (up7 L) (hs7 L) (L.wd 7) L.t
theorem sdyg_spec {L : Loads} (h : L.Ok W R) :
    R1 (sdyg L) (fun s => ∑ k, MlpSpec.dy W (R s) k * W.gf k * nh (MlpSpec.h2 W (R s)) k) :=
  Pay.pay52 W R _ _ _ _ _ (gf_spec W R h) (up7_spec W R h) (hs7_spec W R h) (h.wd 7) h.t
def dh2b (L : Loads) : FVec Ideal S256x1024 .bf16 := k0_pay54 (rf L) (nh2 L) (dyg L) (sdyg L)
theorem dh2b_spec {L : Loads} (h : L.Ok W R) :
    R2 (dh2b L) (fun s => MlpSpec.dh2 W (R s)) :=
  Pay.pay54 W R _ _ _ _ (rf_spec W R h) (nh2_spec W R h) (dyg_spec W R h) (sdyg_spec W R h)
def dact6 (L : Loads) : FVec Ideal S256x512 .f32 := k0_pay68 (dh2b L) (L.wd 6)
theorem dact6_spec {L : Loads} (h : L.Ok W R) :
    R2 (dact6 L) (fun s q => MlpSpec.dact W (R s) (ch 6 q)) :=
  Pay.pay68 W R _ _ (dh2b_spec W R h) (h.wd 6)
def dup5 (L : Loads) (u : Fin 8 → Vec Ideal S256x512 .f32) : FVec Ideal S256x512 .bf16 := k0_pay69 (dh2b L) (L.wd 5) (u 5)
theorem dup5_spec {L : Loads} (h : L.Ok W R) {u : Fin 8 → Vec Ideal S256x512 .f32} (hu : ∀ c, R2 (u c) fun s q => MlpSpec.up W (R s) (ch c q)) :
    R2 (dup5 L u) (fun s q => MlpSpec.dup W (R s) (ch 5 q)) :=
  Pay.pay69 W R _ _ _ (dh2b_spec W R h) (h.wd 5) (hu 5)
def dact4 (L : Loads) : FVec Ideal S256x512 .f32 := k0_pay63 (dh2b L) (L.wd 4)
theorem dact4_spec {L : Loads} (h : L.Ok W R) :
    R2 (dact4 L) (fun s q => MlpSpec.dact W (R s) (ch 4 q)) :=
  Pay.pay63 W R _ _ (dh2b_spec W R h) (h.wd 4)
def dup3 (L : Loads) (u : Fin 8 → Vec Ideal S256x512 .f32) : FVec Ideal S256x512 .f32 := k0_pay64 (dh2b L) (L.wd 3) (u 3)
theorem dup3_spec {L : Loads} (h : L.Ok W R) {u : Fin 8 → Vec Ideal S256x512 .f32} (hu : ∀ c, R2 (u c) fun s q => MlpSpec.up W (R s) (ch c q)) :
    R2 (dup3 L u) (fun s q => MlpSpec.dup W (R s) (ch 3 q)) :=
  Pay.pay64 W R _ _ _ (dh2b_spec W R h) (h.wd 3) (hu 3)
def dact2 (L : Loads) : FVec Ideal S256x512 .f32 := k0_pay58 (rf L) (nh2 L) (dyg L) (sdyg L) (L.wd 2)
theorem dact2_spec {L : Loads} (h : L.Ok W R) :
    R2 (dact2 L) (fun s q => MlpSpec.dact W (R s) (ch 2 q)) :=
  Pay.pay58 W R _ _ _ _ _ (rf_spec W R h) (nh2_spec W R h) (dyg_spec W R h) (sdyg_spec W R h) (h.wd 2)
def dact1 (L : Loads) : FVec Ideal S256x512 .f32 := k0_pay55 (rf L) (nh2 L) (dyg L) (sdyg L) (L.wd 1)
theorem dact1_spec {L : Loads} (h : L.Ok W R) :
    R2 (dact1 L) (fun s q => MlpSpec.dact W (R s) (ch 1 q)) :=
  Pay.pay55 W R _ _ _ _ _ (rf_spec W R h) (nh2_spec W R h) (dyg_spec W R h) (sdyg_spec W R h) (h.wd 1)
def mx1 (L : Loads) (u : Fin 8 → Vec Ideal S256x512 .f32) : FVec Ideal S256x512 .f32 := k0_pay59 (u 1)
theorem mx1_spec {L : Loads} (h : L.Ok W R) {u : Fin 8 → Vec Ideal S256x512 .f32} (hu : ∀ c, R2 (u c) fun s q => MlpSpec.up W (R s) (ch c q)) :
    R2 (mx1 L u) (fun s q => max (MlpSpec.up W (R s) (ch 1 q)) 0) :=
  Pay.pay59 W R _ (hu 1)
def r2 (L : Loads) : FVec Ideal S256x1 .f32 := k0_pay14 (mp L) (ma L) L.x L.wo
theorem r2_spec {L : Loads} (h : L.Ok W R) :
    R2 (r2 L) (fun s _ => ri (MlpSpec.h1 W (R s))) :=
  Pay.pay14 W R _ _ _ _ (mp_spec W R h) (ma_spec W R h) h.x h.wo
def nh1 (L : Loads) : FVec Ideal S256x1024 .f32 := k0_pay15 (mp L) (ma L) L.x L.wo
theorem nh1_spec {L : Loads} (h : L.Ok W R) :
    R2 (nh1 L) (fun s => nh (MlpSpec.h1 W (R s))) :=
  Pay.pay15 W R _ _ _ _ (mp_spec W R h) (ma_spec W R h) h.x h.wo
def dh2 (L : Loads) : FVec Ideal S256x1024 .f32 := k0_pay53 (rf L) (nh2 L) (dyg L) (sdyg L)
theorem dh2_spec {L : Loads} (h : L.Ok W R) :
    R2 (dh2 L) (fun s => MlpSpec.dh2 W (R s)) :=
  Pay.pay53 W R _ _ _ _ (rf_spec W R h) (nh2_spec W R h) (dyg_spec W R h) (sdyg_spec W R h)
def ds1 (L : Loads) (u : Fin 8 → Vec Ideal S256x512 .f32) : FVec Ideal S256x1024 .f32 := k0_pay57 (rf L) (nh2 L) (dyg L) (sdyg L) (L.wd 0) (u 0) (L.wu 0)
theorem ds1_spec {L : Loads} (h : L.Ok W R) {u : Fin 8 → Vec Ideal S256x512 .f32} (hu : ∀ c, R2 (u c) fun s q => MlpSpec.up W (R s) (ch c q)) :
    R2 (ds1 L u) (fun s => Pay.ds1 W (R s)) :=
  Pay.pay57 W R _ _ _ _ _ _ _ (rf_spec W R h) (nh2_spec W R h) (dyg_spec W R h) (sdyg_spec W R h) (h.wd 0) (hu 0) (h.wu 0)
def ds3 (L : Loads) (u : Fin 8 → Vec Ideal S256x512 .f32) : FVec Ideal S256x1024 .f32 := k0_pay62 (dact1 L) (ds1 L u) (dact2 L) (mx1 L u) (L.wu 1) (u 2) (L.wu 2)
theorem ds3_spec {L : Loads} (h : L.Ok W R) {u : Fin 8 → Vec Ideal S256x512 .f32} (hu : ∀ c, R2 (u c) fun s q => MlpSpec.up W (R s) (ch c q)) :
    R2 (ds3 L u) (fun s => Pay.ds3 W (R s)) :=
  Pay.pay62 W R _ _ _ _ _ _ _ (dact1_spec W R h) (ds1_spec W R h hu) (dact2_spec W R h) (mx1_spec W R h hu) (h.wu 1) (hu 2) (h.wu 2)
def ds5 (L : Loads) (u : Fin 8 → Vec Ideal S256x512 .f32) : FVec Ideal S256x1024 .f32 := k0_pay67 (ds3 L u) (dact4 L) (dup3 L u) (L.wu 3) (u 4) (L.wu 4)
theorem ds5_spec {L : Loads} (h : L.Ok W R) {u : Fin 8 → Vec Ideal S256x512 .f32} (hu : ∀ c, R2 (u c) fun s q => MlpSpec.up W (R s) (ch c q)) :
    R2 (ds5 L u) (fun s => Pay.ds5 W (R s)) :=
  Pay.pay67 W R _ _ _ _ _ _ (ds3_spec W R h hu) (dact4_spec W R h) (dup3_spec W R h hu) (h.wu 3) (hu 4) (h.wu 4)
def dhn2 (L : Loads) (u : Fin 8 → Vec Ideal S256x512 .f32) : FVec Ideal S256x1024 .f32 := k0_pay72 (dh2b L) (ds5 L u) (dact6 L) (dup5 L u) (L.wu 5) (L.wd 7) (u 6) (L.wu 6) (u 7) (L.wu 7)
theorem dhn2_spec {L : Loads} (h : L.Ok W R) {u : Fin 8 → Vec Ideal S256x512 .f32} (hu : ∀ c, R2 (u c) fun s q => MlpSpec.up W (R s) (ch c q)) :
    R2 (dhn2 L u) (fun s => MlpSpec.dhn2 W (R s)) :=
  Pay.pay72 W R _ _ _ _ _ _ _ _ _ _ (dh2b_spec W R h) (ds5_spec W R h hu) (dact6_spec W R h) (dup5_spec W R h hu) (h.wu 5) (h.wd 7) (hu 6) (h.wu 6) (hu 7) (h.wu 7)
def gp (L : Loads) : FVec Ideal S1x512 .f32 := k0_pay2 L.gp
theorem gp_spec {L : Loads} (h : L.Ok W R) :
    R2 (gp L) (fun _ => W.gp) :=
  Pay.pay2 W R _ h.gp
def rp (L : Loads) : FVec Ideal S256x1 .f32 := k0_pay6 L.yp
theorem rp_spec {L : Loads} (h : L.Ok W R) :
    R2 (rp L) (fun s _ => ri (R s).yp) :=
  Pay.pay6 W R _ h.yp
def np (L : Loads) : FVec Ideal S256x512 .f32 := k0_pay8 L.yp
theorem np_spec {L : Loads} (h : L.Ok W R) :
    R2 (np L) (fun s => nh (R s).yp) :=
  Pay.pay8 W R _ h.yp
def dyp (L : Loads) (u : Fin 8 → Vec Ideal S256x512 .f32) : FVec Ideal S256x512 .f32 := k0_pay79 (gp L) (g2 L) (rp L) (np L) (r2 L) (nh1 L) (dh2 L) (dhn2 L u) L.wo
theorem dyp_spec {L : Loads} (h : L.Ok W R) {u : Fin 8 → Vec Ideal S256x512 .f32} (hu : ∀ c, R2 (u c) fun s q => MlpSpec.up W (R s) (ch c q)) :
    R2 (dyp L u) (fun s => MlpSpec.dyp W (R s)) :=
  Pay.pay79 W R _ _ _ _ _ _ _ _ _ (gp_spec W R h) (g2_spec W R h) (rp_spec W R h) (np_spec W R h) (r2_spec W R h) (nh1_spec W R h) (dh2_spec W R h) (dhn2_spec W R h hu) h.wo
def ra (L : Loads) : FVec Ideal S256x1 .f32 := k0_pay7 L.ya
theorem ra_spec {L : Loads} (h : L.Ok W R) :
    R2 (ra L) (fun s _ => ri (R s).ya) :=
  Pay.pay7 W R _ h.ya
def na (L : Loads) : FVec Ideal S256x512 .f32 := k0_pay9 L.ya
theorem na_spec {L : Loads} (h : L.Ok W R) :
    R2 (na L) (fun s => nh (R s).ya) :=
  Pay.pay9 W R _ h.ya
def ga (L : Loads) : FVec Ideal S1x512 .f32 := k0_pay3 L.ga
theorem ga_spec {L : Loads} (h : L.Ok W R) :
    R2 (ga L) (fun _ => W.ga) :=
  Pay.pay3 W R _ h.ga
def dma (L : Loads) (u : Fin 8 → Vec Ideal S256x512 .f32) : FVec Ideal S256x512 .f32 := k0_pay82 (ga L) (g2 L) (r2 L) (nh1 L) (dh2 L) (dhn2 L u) L.wo
theorem dma_spec {L : Loads} (h : L.Ok W R) {u : Fin 8 → Vec Ideal S256x512 .f32} (hu : ∀ c, R2 (u c) fun s q => MlpSpec.up W (R s) (ch c q)) :
    R2 (dma L u) (fun s j => MlpSpec.dmix W (R s) (hi j) * W.ga j) :=
  Pay.pay82 W R _ _ _ _ _ _ _ (ga_spec W R h) (g2_spec W R h) (r2_spec W R h) (nh1_spec W R h) (dh2_spec W R h) (dhn2_spec W R h hu) h.wo
def dman (L : Loads) (u : Fin 8 → Vec Ideal S256x512 .f32) : FVec Ideal S256x512 .f32 := k0_pay83 (ga L) (g2 L) (na L) (r2 L) (nh1 L) (dh2 L) (dhn2 L u) L.wo
theorem dman_spec {L : Loads} (h : L.Ok W R) {u : Fin 8 → Vec Ideal S256x512 .f32} (hu : ∀ c, R2 (u c) fun s q => MlpSpec.up W (R s) (ch c q)) :
    R2 (dman L u) (fun s j => MlpSpec.dmix W (R s) (hi j) * W.ga j * nh (R s).ya j) :=
  Pay.pay83 W R _ _ _ _ _ _ _ _ (ga_spec W R h) (g2_spec W R h) (na_spec W R h) (r2_spec W R h) (nh1_spec W R h) (dh2_spec W R h) (dhn2_spec W R h hu) h.wo
def loss (L : Loads) : FVec Ideal S256x1 .f32 := k0_pay48 (gf L) (up7 L) (hs7 L) (L.wd 7) L.t
theorem loss_spec {L : Loads} (h : L.Ok W R) :
    R2 (loss L) (fun s _ => MlpSpec.loss W (R s)) :=
  Pay.pay48 W R _ _ _ _ _ (gf_spec W R h) (up7_spec W R h) (hs7_spec W R h) (h.wd 7) h.t
def sdgp (L : Loads) (u : Fin 8 → Vec Ideal S256x512 .f32) : FVec Ideal S1x512 .f32 := k0_pay78 (g2 L) (np L) (r2 L) (nh1 L) (dh2 L) (dhn2 L u) L.wo
theorem sdgp_spec {L : Loads} (h : L.Ok W R) {u : Fin 8 → Vec Ideal S256x512 .f32} (hu : ∀ c, R2 (u c) fun s q => MlpSpec.up W (R s) (ch c q)) :
    R2 (sdgp L u) (fun _ j => ∑ s, MlpSpec.dgp W (R s) j) :=
  Pay.pay78 W R _ _ _ _ _ _ _ (g2_spec W R h) (np_spec W R h) (r2_spec W R h) (nh1_spec W R h) (dh2_spec W R h) (dhn2_spec W R h hu) h.wo
def sdga (L : Loads) (u : Fin 8 → Vec Ideal S256x512 .f32) : FVec Ideal S1x512 .f32 := k0_pay81 (g2 L) (na L) (r2 L) (nh1 L) (dh2 L) (dhn2 L u) L.wo
theorem sdga_spec {L : Loads} (h : L.Ok W R) {u : Fin 8 → Vec Ideal S256x512 .f32} (hu : ∀ c, R2 (u c) fun s q => MlpSpec.up W (R s) (ch c q)) :
    R2 (sdga L u) (fun _ j => ∑ s, MlpSpec.dga W (R s) j) :=
  Pay.pay81 W R _ _ _ _ _ _ _ (g2_spec W R h) (na_spec W R h) (r2_spec W R h) (nh1_spec W R h) (dh2_spec W R h) (dhn2_spec W R h hu) h.wo
def sdg2 (L : Loads) (u : Fin 8 → Vec Ideal S256x512 .f32) : FVec Ideal S1x1024 .f32 := k0_pay73 (nh1 L) (dhn2 L u)
theorem sdg2_spec {L : Loads} (h : L.Ok W R) {u : Fin 8 → Vec Ideal S256x512 .f32} (hu : ∀ c, R2 (u c) fun s q => MlpSpec.up W (R s) (ch c q)) :
    R2 (sdg2 L u) (fun _ j => ∑ s, MlpSpec.dg2 W (R s) j) :=
  Pay.pay73 W R _ _ (nh1_spec W R h) (dhn2_spec W R h hu)
def sdgf (L : Loads) : FVec Ideal S1x1024 .f32 := k0_pay50 (gf L) (up7 L) (hs7 L) (L.wd 7) L.t
theorem sdgf_spec {L : Loads} (h : L.Ok W R) :
    R2 (sdgf L) (fun _ j => ∑ s, MlpSpec.dgf W (R s) j) :=
  Pay.pay50 W R _ _ _ _ _ (gf_spec W R h) (up7_spec W R h) (hs7_spec W R h) (h.wd 7) h.t

end Cert.MlpIdeal.Chain
-- ==== Proof.MlpStep.lean ====
module

public import proofs.«01_k».proof.Proof.MlpChain
public import proofs.«01_k».proof.Proof.MlpRun

@[expose] public section

set_option maxRecDepth 16384

noncomputable section

/-! # What one grid point of the fused MLP leaves

The ten outputs and the held weights after the first point and after a later one, from the blocks, the weights and the small
gradients' running sums before it. -/

namespace Cert.MlpIdeal.Step

open Cert.MlpIdeal Cert.MlpIdeal.Gen Cert.MlpIdeal.Link Cert.MlpIdeal.Chain Cert.MlpRun Cert.MlpSpec Cert.MlpOps
open Idealize.ShloMosaic Idealize.ShloMosaic.ValueIdx Idealize.ShloMosaic.TcCoe Idealize.SL.Sem
open scoped BigOperators

theorem single {a b : ℕ} {e : EltTy} (v : View sig .tc .vmem (⟨2, ![a, b]⟩ : Shape) e) (f0 : BufTy.Contents (Elt Ideal) v.ty)
    (inb : ∀ k, (![0, 0] : Fin 2 → Nat) k + (⟨2, ![a, b]⟩ : Shape).size k ≤ (⟨2, ![a, b]⟩ : Shape).size k) (w : (⟨2, ![a, b]⟩ : Shape).Idx → Elt Ideal e) :
    v.read (Elt Ideal) (v.writes (Elt Ideal) f0 [⟨Rect.unit (s := ⟨2, ![a, b]⟩) ![0, 0] (⟨2, ![a, b]⟩ : Shape).size inb, w⟩]) = w := by
  refine funext fun y => View.read_writes_cons_hit_of_coords (Val := Elt Ideal) v f0 (Rect.unit (s := ⟨2, ![a, b]⟩) ![0, 0] (⟨2, ![a, b]⟩ : Shape).size inb) w [] y y fun k => ?_
  match k with
  | ⟨0, _⟩ => show (y 0).val = 0 + 1 * (y 0).val; omega
  | ⟨1, _⟩ => show (y 1).val = 0 + 1 * (y 1).val; omega

theorem single32 {a b : ℕ} {v : View sig .tc .vmem (⟨2, ![a, b]⟩ : Shape) .f32} {f0 : BufTy.Contents (Elt Ideal) v.ty}
    {inb : ∀ k, (![0, 0] : Fin 2 → Nat) k + (⟨2, ![a, b]⟩ : Shape).size k ≤ (⟨2, ![a, b]⟩ : Shape).size k} {w : (⟨2, ![a, b]⟩ : Shape).Idx → Elt Ideal .f32}
    {f : Fin a → Fin b → ℝ} (h : R2 w f) :
    R2 (v.read (Elt Ideal) (v.writes (Elt Ideal) f0 [⟨Rect.unit (s := ⟨2, ![a, b]⟩) ![0, 0] (⟨2, ![a, b]⟩ : Shape).size inb, w⟩])) f := by
  rw [single]; exact h

theorem single16 {a b : ℕ} {v : View sig .tc .vmem (⟨2, ![a, b]⟩ : Shape) .bf16} {f0 : BufTy.Contents (Elt Ideal) v.ty}
    {inb : ∀ k, (![0, 0] : Fin 2 → Nat) k + (⟨2, ![a, b]⟩ : Shape).size k ≤ (⟨2, ![a, b]⟩ : Shape).size k} {w : (⟨2, ![a, b]⟩ : Shape).Idx → Elt Ideal .bf16}
    {f : Fin a → Fin b → ℝ} (h : R2 w f) :
    R2 (v.read (Elt Ideal) (v.writes (Elt Ideal) f0 [⟨Rect.unit (s := ⟨2, ![a, b]⟩) ![0, 0] (⟨2, ![a, b]⟩ : Shape).size inb, w⟩])) f := by
  rw [single]; exact h

/-- Eight column chunks, last stored first. -/
def chunks {e : EltTy} (w : Fin 8 → Vec Ideal S256x512 e) : List (View.Piece (Elt Ideal) S256x4096 e) :=
  [⟨Rect.unit (s := S256x4096) ![0, 3584] S256x512.size inb_S256x4096_S256x512_0_3584, w 7⟩, ⟨Rect.unit (s := S256x4096) ![0, 3072] S256x512.size inb_S256x4096_S256x512_0_3072, w 6⟩,
   ⟨Rect.unit (s := S256x4096) ![0, 2560] S256x512.size inb_S256x4096_S256x512_0_2560, w 5⟩, ⟨Rect.unit (s := S256x4096) ![0, 2048] S256x512.size inb_S256x4096_S256x512_0_2048, w 4⟩,
   ⟨Rect.unit (s := S256x4096) ![0, 1536] S256x512.size inb_S256x4096_S256x512_0_1536, w 3⟩, ⟨Rect.unit (s := S256x4096) ![0, 1024] S256x512.size inb_S256x4096_S256x512_0_1024, w 2⟩,
   ⟨Rect.unit (s := S256x4096) ![0, 512] S256x512.size inb_S256x4096_S256x512_0_512, w 1⟩, ⟨Rect.unit (s := S256x4096) ![0, 0] S256x512.size inb_S256x4096_S256x512_0_0, w 0⟩]

theorem chunks32 {v : View sig .tc .vmem S256x4096 .f32} {f0 : BufTy.Contents (Elt Ideal) v.ty} {w : Fin 8 → Vec Ideal S256x512 .f32} {f : Fin 256 → Fin 4096 → ℝ}
    (h : ∀ c, R2 (w c) fun s q => f s (ch c q)) : R2 (v.read (Elt Ideal) (v.writes (Elt Ideal) f0 (chunks w))) f := fun s c =>
  tiled v f0 (fun s c => ((f s c : ℝ) : EReal)) _ _ _ _ _ _ _ _ (h 0) (h 1) (h 2) (h 3) (h 4) (h 5) (h 6) (h 7) s c

theorem chunks16 {v : View sig .tc .vmem S256x4096 .bf16} {f0 : BufTy.Contents (Elt Ideal) v.ty} {w : Fin 8 → Vec Ideal S256x512 .bf16} {f : Fin 256 → Fin 4096 → ℝ}
    (h : ∀ c, R2 (w c) fun s q => f s (ch c q)) : R2 (v.read (Elt Ideal) (v.writes (Elt Ideal) f0 (chunks w))) f := fun s c =>
  tiled v f0 (fun s c => ((f s c : ℝ) : EReal)) _ _ _ _ _ _ _ _ (h 0) (h 1) (h 2) (h 3) (h 4) (h 5) (h 6) (h 7) s c

theorem inb_chunk (c : Fin 8) (k : Fin 2) : (![0, 512 * c.val] : Fin 2 → Nat) k + S256x512.size k ≤ S256x4096.size k := by
  have := c.isLt
  match k with
  | ⟨0, _⟩ => show 0 + 256 ≤ 256; omega
  | ⟨1, _⟩ => show 512 * c.val + 512 ≤ 4096; omega
theorem inb_rows (c : Fin 8) (k : Fin 2) : (![512 * c.val, 0] : Fin 2 → Nat) k + S512x1024.size k ≤ S4096x1024.size k := by
  have := c.isLt
  match k with
  | ⟨0, _⟩ => show 512 * c.val + 512 ≤ 4096; omega
  | ⟨1, _⟩ => show 0 + 1024 ≤ 1024; omega
theorem inb_panel (c : Fin 8) (k : Fin 3) : (![c.val, 0, 0] : Fin 3 → Nat) k + S1x1024x512.size k ≤ S8x1024x512.size k := by
  have := c.isLt
  match k with
  | ⟨0, _⟩ => show c.val + 1 ≤ 8; omega
  | ⟨1, _⟩ => show 0 + 1024 ≤ 1024; omega
  | ⟨2, _⟩ => show 0 + 512 ≤ 512; omega

variable (L : Loads) (u : Fin 8 → Vec Ideal S256x512 .f32)

/-- The pre-activation, the activation and the pre-activation's gradient, by chunks. -/
def upC : Fin 8 → Vec Ideal S256x512 .f32 :=
  ![k0_pay19 (g2 L) (mp L) (ma L) L.x L.wo (L.wu 0), k0_pay22 (up1 L), k0_pay26 (hn2 L) (L.wu 2), k0_pay29 (up3 L), k0_pay33 (hn2 L) (L.wu 4), k0_pay36 (up5 L),
    k0_pay39 (hn2 L) (L.wu 6), k0_pay42 (up7 L)]
def actC : Fin 8 → Vec Ideal S256x512 .bf16 :=
  ![act0 L, k0_pay23 (up1 L), k0_pay27 (hn2 L) (L.wu 2), k0_pay30 (up3 L), k0_pay34 (hn2 L) (L.wu 4), k0_pay37 (up5 L),
    k0_pay40 (hn2 L) (L.wu 6), k0_pay43 (up7 L)]
def dupC : Fin 8 → Vec Ideal S256x512 .bf16 :=
  ![k0_pay56 (rf L) (nh2 L) (dyg L) (sdyg L) (L.wd 0) (u 0), k0_pay60 (dact1 L) (mx1 L u), k0_pay61 (dact2 L) (u 2), k0_pay65 (dup3 L u),
    k0_pay66 (dact4 L) (u 4), dup5 L u, k0_pay70 (dact6 L) (u 6), k0_pay71 (dh2b L) (L.wd 7) (u 7)]
/-- The chunks of the pre-activation, read back from where they were stored. -/
def back (v : View sig .tc .vmem S256x4096 .f32) (c : Fin 8) : Vec Ideal S256x512 .f32 :=
  v.readCov (Val := Elt Ideal) (chunks (upC L)) (Rect.unit (s := S256x4096) ![0, 512 * c.val] S256x512.size (inb_chunk c)).toLoadRect

variable {L u} (W : Wts) (R : Fin 256 → Row) (h : L.Ok W R)
include h

theorem upC_spec (c : Fin 8) : R2 (upC L c) fun s q => up W (R s) (ch c q) := by
  match c with
  | ⟨0, _⟩ => exact Pay.pay19 W R _ _ _ _ _ _ (g2_spec W R h) (mp_spec W R h) (ma_spec W R h) h.x h.wo (h.wu 0)
  | ⟨1, _⟩ => exact Pay.pay22 W R _ (up1_spec W R h)
  | ⟨2, _⟩ => exact Pay.pay26 W R _ _ (hn2_spec W R h) (h.wu 2)
  | ⟨3, _⟩ => exact Pay.pay29 W R _ (up3_spec W R h)
  | ⟨4, _⟩ => exact Pay.pay33 W R _ _ (hn2_spec W R h) (h.wu 4)
  | ⟨5, _⟩ => exact Pay.pay36 W R _ (up5_spec W R h)
  | ⟨6, _⟩ => exact Pay.pay39 W R _ _ (hn2_spec W R h) (h.wu 6)
  | ⟨7, _⟩ => exact Pay.pay42 W R _ (up7_spec W R h)

theorem actC_spec (c : Fin 8) : R2 (actC L c) fun s q => act W (R s) (ch c q) := by
  match c with
  | ⟨0, _⟩ => exact act0_spec W R h
  | ⟨1, _⟩ => exact Pay.pay23 W R _ (up1_spec W R h)
  | ⟨2, _⟩ => exact Pay.pay27 W R _ _ (hn2_spec W R h) (h.wu 2)
  | ⟨3, _⟩ => exact Pay.pay30 W R _ (up3_spec W R h)
  | ⟨4, _⟩ => exact Pay.pay34 W R _ _ (hn2_spec W R h) (h.wu 4)
  | ⟨5, _⟩ => exact Pay.pay37 W R _ (up5_spec W R h)
  | ⟨6, _⟩ => exact Pay.pay40 W R _ _ (hn2_spec W R h) (h.wu 6)
  | ⟨7, _⟩ => exact Pay.pay43 W R _ (up7_spec W R h)

theorem dupC_spec (hu : ∀ c, R2 (u c) fun s q => up W (R s) (ch c q)) (c : Fin 8) : R2 (dupC L u c) fun s q => dup W (R s) (ch c q) := by
  match c with
  | ⟨0, _⟩ => exact Pay.pay56 W R _ _ _ _ _ _ (rf_spec W R h) (nh2_spec W R h) (dyg_spec W R h) (sdyg_spec W R h) (h.wd 0) (hu 0)
  | ⟨1, _⟩ => exact Pay.pay60 W R _ _ (dact1_spec W R h) (mx1_spec W R h hu)
  | ⟨2, _⟩ => exact Pay.pay61 W R _ _ (dact2_spec W R h) (hu 2)
  | ⟨3, _⟩ => exact Pay.pay65 W R _ (dup3_spec W R h hu)
  | ⟨4, _⟩ => exact Pay.pay66 W R _ _ (dact4_spec W R h) (hu 4)
  | ⟨5, _⟩ => exact dup5_spec W R h hu
  | ⟨6, _⟩ => exact Pay.pay70 W R _ _ (dact6_spec W R h) (hu 6)
  | ⟨7, _⟩ => exact Pay.pay71 W R _ _ _ (dh2b_spec W R h) (h.wd 7) (hu 7)

theorem back_spec (v : View sig .tc .vmem S256x4096 .f32) (c : Fin 8) : R2 (back L v c) fun s q => up W (R s) (ch c q) :=
  ld_chunk (chunks32 (v := v) (f0 := v.junk) (upC_spec W R h)) c _ rfl (inb_chunk c)

omit h

/-- A row's contributions to the small gradients: those of the two 1024-wide weights, of the two 512-wide ones side by side,
and the loss. -/
def small (r : Row) (k : Fin 8) (j : Fin 1024) : ℝ :=
  ![dgf W r j, dg2 W r j, MlpSpec.join (dgp W r) (dga W r) j, loss W r, 0, 0, 0, 0] k

theorem small_sum {n : ℕ} (R : Fin n → Row) (k : Fin 8) (j : Fin 1024) : ∑ s, small W (R s) k j
    = ![∑ s, dgf W (R s) j, ∑ s, dg2 W (R s) j, MlpSpec.join (fun i => ∑ s, dgp W (R s) i) (fun i => ∑ s, dga W (R s) i) j, ∑ s, loss W (R s), 0, 0, 0, 0] k := by
  match k with
  | ⟨0, _⟩ => rfl
  | ⟨1, _⟩ => rfl
  | ⟨2, _⟩ =>
    show ∑ s, MlpSpec.join (dgp W (R s)) (dga W (R s)) j = MlpSpec.join (fun i => ∑ s, dgp W (R s) i) (fun i => ∑ s, dga W (R s) i) j
    unfold MlpSpec.join
    split <;> rfl
  | ⟨3, _⟩ => rfl
  | ⟨4, _⟩ => exact Finset.sum_const_zero
  | ⟨5, _⟩ => exact Finset.sum_const_zero
  | ⟨6, _⟩ => exact Finset.sum_const_zero
  | ⟨7, _⟩ => exact Finset.sum_const_zero

/-- The four rows added to one after the other. -/
theorem rows {v : View sig .tc .vmem S8x1024 .f32} {f0 : BufTy.Contents (Elt Ideal) v.ty} {L0 : List (View.Piece (Elt Ideal) S8x1024 .f32)}
    {w0 w1 w2 w3 : Vec Ideal S1x1024 .f32} {p : Fin 8 → Fin 1024 → ℝ} {a0 a1 a2 : Fin 1024 → ℝ} {a3 : ℝ}
    (hp : R2 (v.read (Elt Ideal) (v.writes (Elt Ideal) f0 L0)) p)
    (h0 : R2 w0 fun _ j => p 0 j + a0 j) (h1 : R2 w1 fun _ j => p 1 j + a1 j) (h2 : R2 w2 fun _ j => p 2 j + a2 j) (h3 : R2 w3 fun _ j => p 3 j + a3) :
    R2 (v.read (Elt Ideal) (v.writes (Elt Ideal) f0
      (⟨Rect.unit (s := S8x1024) ![3, 0] S1x1024.size inb_S8x1024_S1x1024_3_0, w3⟩ :: ⟨Rect.unit (s := S8x1024) ![2, 0] S1x1024.size inb_S8x1024_S1x1024_2_0, w2⟩
        :: ⟨Rect.unit (s := S8x1024) ![1, 0] S1x1024.size inb_S8x1024_S1x1024_1_0, w1⟩ :: ⟨Rect.unit (s := S8x1024) ![0, 0] S1x1024.size inb_S8x1024_S1x1024_0_0, w0⟩ :: L0)))
      fun k j => p k j + (![a0 j, a1 j, a2 j, a3, 0, 0, 0, 0] : Fin 8 → ℝ) k := by
  have past : ∀ (k : Fin 8) (hk : 4 ≤ k.val) (j : Fin 1024), v.read (Elt Ideal) (v.writes (Elt Ideal) f0
      (⟨Rect.unit (s := S8x1024) ![3, 0] S1x1024.size inb_S8x1024_S1x1024_3_0, w3⟩ :: ⟨Rect.unit (s := S8x1024) ![2, 0] S1x1024.size inb_S8x1024_S1x1024_2_0, w2⟩
        :: ⟨Rect.unit (s := S8x1024) ![1, 0] S1x1024.size inb_S8x1024_S1x1024_1_0, w1⟩ :: ⟨Rect.unit (s := S8x1024) ![0, 0] S1x1024.size inb_S8x1024_S1x1024_0_0, w0⟩ :: L0)) (ix2 k j)
        = ((p k j + 0 : ℝ) : EReal) := by
    intro k hk j
    rw [row_miss v f0 3 k (.inr (by show 3 < _; omega)) ![3, 0] rfl, row_miss v f0 2 k (.inr (by show 2 < _; omega)) ![2, 0] rfl,
      row_miss v f0 1 k (.inr (by show 1 < _; omega)) ![1, 0] rfl, row_miss v f0 0 k (.inr (by show 0 < _; omega)) ![0, 0] rfl, hp, add_zero]
  intro k j
  match k with
  | ⟨0, _⟩ =>
    exact (row_miss v f0 3 0 (.inl (by decide)) ![3, 0] rfl _ _ _ j).trans ((row_miss v f0 2 0 (.inl (by decide)) ![2, 0] rfl _ _ _ j).trans
      ((row_miss v f0 1 0 (.inl (by decide)) ![1, 0] rfl _ _ _ j).trans ((row_hit v f0 0 ![0, 0] rfl _ _ _ j).trans (h0 0 j))))
  | ⟨1, _⟩ =>
    exact (row_miss v f0 3 1 (.inl (by decide)) ![3, 0] rfl _ _ _ j).trans ((row_miss v f0 2 1 (.inl (by decide)) ![2, 0] rfl _ _ _ j).trans
      ((row_hit v f0 1 ![1, 0] rfl _ _ _ j).trans (h1 0 j)))
  | ⟨2, _⟩ =>
    exact (row_miss v f0 3 2 (.inl (by decide)) ![3, 0] rfl _ _ _ j).trans ((row_hit v f0 2 ![2, 0] rfl _ _ _ j).trans (h2 0 j))
  | ⟨3, _⟩ => exact (row_hit v f0 3 ![3, 0] rfl _ _ _ j).trans (h3 0 j)
  | ⟨4, _⟩ => exact past 4 (by decide) j
  | ⟨5, _⟩ => exact past 5 (by decide) j
  | ⟨6, _⟩ => exact past 6 (by decide) j
  | ⟨7, _⟩ => exact past 7 (by decide) j

end Cert.MlpIdeal.Step
-- ==== Proof.MlpBlocks.lean ====
module

public import proofs.«01_k».proof.Proof.MlpStep

@[expose] public section

set_option maxRecDepth 16384

noncomputable section

/-! # The blocks after a grid point, as row functions -/

namespace Cert.MlpIdeal.Step

open Cert.MlpIdeal Cert.MlpIdeal.Gen Cert.MlpIdeal.Link Cert.MlpIdeal.Chain Cert.MlpSpec Cert.MlpOps
open Idealize.ShloMosaic Idealize.ShloMosaic.ValueIdx Idealize.ShloMosaic.TcCoe Idealize.SL.Sem
open scoped BigOperators

/-- The outputs after a point whose row block is `R`, the small gradients having been `p` before it; and the held weights. -/
structure Left (W : Wts) (R : Fin 256 → Row) (p : Fin 8 → Fin 1024 → ℝ)
    (o : Vec Ideal S256x1024 .bf16 × Vec Ideal S256x1024 .bf16 × Vec Ideal S256x4096 .bf16 × Vec Ideal S256x4096 .bf16 × Vec Ideal S256x1024 .bf16 × Vec Ideal S256x1024 .f32 × Vec Ideal S256x1024 .bf16 × Vec Ideal S256x512 .f32 × Vec Ideal S256x512 .f32 × Vec Ideal S8x1024 .f32 × Vec Ideal S1024x1024 .bf16 × Vec Ideal S8x1024x512 .bf16 × Vec Ideal S4096x1024 .bf16) : Prop where
  mixed : R2 o.1 fun s => MlpSpec.mixed W (R s)
  hn2 : R2 o.2.1 fun s => MlpSpec.hn2 W (R s)
  act : R2 o.2.2.1 fun s => MlpSpec.act W (R s)
  dup : R2 o.2.2.2.1 fun s => MlpSpec.dup W (R s)
  dh2 : R2 o.2.2.2.2.1 fun s => MlpSpec.dh2 W (R s)
  dh1 : R2 o.2.2.2.2.2.1 fun s => MlpSpec.dh1 W (R s)
  dh1b : R2 o.2.2.2.2.2.2.1 fun s => MlpSpec.dh1 W (R s)
  dyp : R2 o.2.2.2.2.2.2.2.1 fun s => MlpSpec.dyp W (R s)
  dya : R2 o.2.2.2.2.2.2.2.2.1 fun s => MlpSpec.dya W (R s)
  sg : R2 o.2.2.2.2.2.2.2.2.2.1 fun k j => p k j + ∑ s, small W (R s) k j
  held : Held W o.2.2.2.2.2.2.2.2.2.2.1 o.2.2.2.2.2.2.2.2.2.2.2.1 o.2.2.2.2.2.2.2.2.2.2.2.2

theorem rd_all {a b : ℕ} {g : Memref sig .tc .vmem (⟨2, ![a, b]⟩ : Shape) .f32} (hg : g.IsWhole) {x : Vec Ideal (⟨2, ![a, b]⟩ : Shape) .f32} {f : Fin a → Fin b → ℝ} (h : R2 x f)
    {inb : ∀ k, (![0, 0] : Fin 2 → Nat) k + (⟨2, ![a, b]⟩ : Shape).size k ≤ (⟨2, ![a, b]⟩ : Shape).size k} :
    R2 (View.readAt (Elt Ideal) g.view (Rect.unit (s := ⟨2, ![a, b]⟩) ![0, 0] (⟨2, ![a, b]⟩ : Shape).size inb).toLoadRect (hg.unread x)) f := by
  rw [View.readAt_eq_ld, hg.read_unread]; exact ld_all h inb

theorem rd_all16 {a b : ℕ} {g : Memref sig .tc .vmem (⟨2, ![a, b]⟩ : Shape) .bf16} (hg : g.IsWhole) {x : Vec Ideal (⟨2, ![a, b]⟩ : Shape) .bf16} {f : Fin a → Fin b → ℝ} (h : R2 x f)
    {inb : ∀ k, (![0, 0] : Fin 2 → Nat) k + (⟨2, ![a, b]⟩ : Shape).size k ≤ (⟨2, ![a, b]⟩ : Shape).size k} :
    R2 (View.readAt (Elt Ideal) g.view (Rect.unit (s := ⟨2, ![a, b]⟩) ![0, 0] (⟨2, ![a, b]⟩ : Shape).size inb).toLoadRect (hg.unread x)) f := by
  rw [View.readAt_eq_ld, hg.read_unread]; exact ld_all16 h inb

theorem rd_panel {g : Memref sig .tc .vmem S8x1024x512 .bf16} (hg : g.IsWhole) {b : Vec Ideal S8x1024x512 .bf16} {f : Fin 1024 → Fin 4096 → ℝ}
    (h : ∀ (c : Fin 8) i j, b (ix3 c i j) = ((f i (ch c j) : ℝ) : EReal)) (k : Fin 8) (i : Fin 1024) (j : Fin 512) :
    View.readAt (Elt Ideal) g.view (Rect.unit (s := S8x1024x512) ![k.val, 0, 0] S1x1024x512.size (inb_panel k)).toLoadRect (hg.unread b) (ix3 (0 : Fin 1) i j)
      = ((f i (ch k j) : ℝ) : EReal) := by
  rw [View.readAt_eq_ld, hg.read_unread]; exact ld_panel h k _ rfl (inb_panel k) i j

theorem rd_rows {g : Memref sig .tc .vmem S4096x1024 .bf16} (hg : g.IsWhole) {d : Vec Ideal S4096x1024 .bf16} {f : Fin 4096 → Fin 1024 → ℝ} (h : R2 d f) (k : Fin 8) :
    R2 (View.readAt (Elt Ideal) g.view (Rect.unit (s := S4096x1024) ![512 * k.val, 0] S512x1024.size (inb_rows k)).toLoadRect (hg.unread d)) fun q => f (ch k q) := by
  rw [View.readAt_eq_ld, hg.read_unread]; exact ld_rows h k _ rfl (inb_rows k)

theorem rc_all16 {a b : ℕ} {v : View sig .tc .vmem (⟨2, ![a, b]⟩ : Shape) .bf16} {x : Vec Ideal (⟨2, ![a, b]⟩ : Shape) .bf16} {f : Fin a → Fin b → ℝ} (h : R2 x f)
    {inb : ∀ k, (![0, 0] : Fin 2 → Nat) k + (⟨2, ![a, b]⟩ : Shape).size k ≤ (⟨2, ![a, b]⟩ : Shape).size k} :
    R2 (v.readCov (Val := Elt Ideal) [⟨Rect.whole (⟨2, ![a, b]⟩ : Shape), x⟩] (Rect.unit (s := ⟨2, ![a, b]⟩) ![0, 0] (⟨2, ![a, b]⟩ : Shape).size inb).toLoadRect) f := by
  rw [readCov_whole]; exact ld_all16 h inb

theorem rc_panel {v : View sig .tc .vmem S8x1024x512 .bf16} {b : Vec Ideal S8x1024x512 .bf16} {f : Fin 1024 → Fin 4096 → ℝ}
    (h : ∀ (c : Fin 8) i j, b (ix3 c i j) = ((f i (ch c j) : ℝ) : EReal)) (k : Fin 8) (i : Fin 1024) (j : Fin 512) :
    v.readCov (Val := Elt Ideal) [⟨Rect.whole S8x1024x512, b⟩] (Rect.unit (s := S8x1024x512) ![k.val, 0, 0] S1x1024x512.size (inb_panel k)).toLoadRect (ix3 (0 : Fin 1) i j)
      = ((f i (ch k j) : ℝ) : EReal) := by
  rw [readCov_whole]; exact ld_panel h k _ rfl (inb_panel k) i j

theorem rc_rows {v : View sig .tc .vmem S4096x1024 .bf16} {d : Vec Ideal S4096x1024 .bf16} {f : Fin 4096 → Fin 1024 → ℝ} (h : R2 d f) (k : Fin 8) :
    R2 (v.readCov (Val := Elt Ideal) [⟨Rect.whole S4096x1024, d⟩] (Rect.unit (s := S4096x1024) ![512 * k.val, 0] S512x1024.size (inb_rows k)).toLoadRect) fun q => f (ch k q) := by
  rw [readCov_whole]; exact ld_rows h k _ rfl (inb_rows k)

/-- The staging buffers of the inputs and outputs, and the scratch, at one grid point. -/
structure Refs where
  a1 : Memref sig .tc .vmem S256x1024 .f32
  h1 : a1.IsWhole
  a2 : Memref sig .tc .vmem S256x512 .f32
  h2 : a2.IsWhole
  a3 : Memref sig .tc .vmem S256x512 .f32
  h3 : a3.IsWhole
  a4 : Memref sig .tc .vmem S256x1024 .f32
  h4 : a4.IsWhole
  a5 : Memref sig .tc .vmem S1x512 .f32
  h5 : a5.IsWhole
  a6 : Memref sig .tc .vmem S1x512 .f32
  h6 : a6.IsWhole
  a7 : Memref sig .tc .vmem S1x1024 .f32
  h7 : a7.IsWhole
  a8 : Memref sig .tc .vmem S1x1024 .f32
  h8 : a8.IsWhole
  a12 : Memref sig .tc .vmem S256x1024 .bf16
  h12 : a12.IsWhole
  a13 : Memref sig .tc .vmem S256x1024 .bf16
  h13 : a13.IsWhole
  a14 : Memref sig .tc .vmem S256x4096 .bf16
  h14 : a14.IsWhole
  a15 : Memref sig .tc .vmem S256x4096 .bf16
  h15 : a15.IsWhole
  a16 : Memref sig .tc .vmem S256x1024 .bf16
  h16 : a16.IsWhole
  a17 : Memref sig .tc .vmem S256x1024 .f32
  h17 : a17.IsWhole
  a18 : Memref sig .tc .vmem S256x1024 .bf16
  h18 : a18.IsWhole
  a19 : Memref sig .tc .vmem S256x512 .f32
  h19 : a19.IsWhole
  a20 : Memref sig .tc .vmem S256x512 .f32
  h20 : a20.IsWhole
  a21 : Memref sig .tc .vmem S8x1024 .f32
  h21 : a21.IsWhole
  a22 : Memref sig .tc .vmem S1024x1024 .bf16
  h22 : a22.IsWhole
  a23 : Memref sig .tc .vmem S8x1024x512 .bf16
  h23 : a23.IsWhole
  a24 : Memref sig .tc .vmem S4096x1024 .bf16
  h24 : a24.IsWhole
  a25 : Memref sig .tc .vmem S256x4096 .f32
  h25 : a25.IsWhole

variable (G : Refs) (c : Dev nD) (i : grid0.Coords) (x0 : Vec Ideal S256x1024 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1x1024 .f32) (x7 : Vec Ideal S1x1024 .f32) (xo : Vec Ideal S8x1024 .f32) (xs0 : Vec Ideal S1024x1024 .bf16) (xs1 : Vec Ideal S8x1024x512 .bf16) (xs2 : Vec Ideal S4096x1024 .bf16)
  (f0 : HbBuf0 (F := Ideal) c hbM0_0) (f1 : HbBuf0 (F := Ideal) c hbM0_1) (f2 : HbBuf0 (F := Ideal) c hbM0_2)

/-- The two runs of the body, over the buffers `G`. -/
def runA (hc : cond0_0 i) := kernelRun0_A (F := Ideal) c i G.a1 G.h1 G.a2 G.h2 G.a3 G.h3 G.a4 G.h4 G.a5 G.h5 G.a6 G.h6 G.a7 G.h7 G.a8 G.h8 G.a12 G.h12 G.a13 G.h13 G.a14 G.h14 G.a15 G.h15 G.a16 G.h16 G.a17 G.h17 G.a18 G.h18 G.a19 G.h19 G.a20 G.h20 G.a21 G.h21 G.a22 G.h22 G.a23 G.h23 G.a24 G.h24 G.a25 G.h25 hc x0 x1 x2 x3 x4 x5 x6 x7 f0 f1 f2
def runB (hc : ¬cond0_0 i) := kernelRun0_B (F := Ideal) c i G.a1 G.h1 G.a2 G.h2 G.a3 G.h3 G.a4 G.h4 G.a5 G.h5 G.a6 G.h6 G.a7 G.h7 G.a8 G.h8 G.a12 G.h12 G.a13 G.h13 G.a14 G.h14 G.a15 G.h15 G.a16 G.h16 G.a17 G.h17 G.a18 G.h18 G.a19 G.h19 G.a20 G.h20 G.a21 G.h21 G.a22 G.h22 G.a23 G.h23 G.a24 G.h24 G.a25 G.h25 hc x0 x1 x2 x3 x4 x5 x6 x7 xo xs0 xs1 xs2 f0 f1 f2

/-- What a later point loads. -/
def loadsB : Loads where
  x := View.readAt (Elt Ideal) G.a1.view (Rect.unit ![0, 0] S256x1024.size inb_S256x1024_S256x1024_0_0).toLoadRect (G.h1.unread x0)
  yp := View.readAt (Elt Ideal) G.a2.view (Rect.unit ![0, 0] S256x512.size inb_S256x512_S256x512_0_0).toLoadRect (G.h2.unread x1)
  ya := View.readAt (Elt Ideal) G.a3.view (Rect.unit ![0, 0] S256x512.size inb_S256x512_S256x512_0_0).toLoadRect (G.h3.unread x2)
  t := View.readAt (Elt Ideal) G.a4.view (Rect.unit ![0, 0] S256x1024.size inb_S256x1024_S256x1024_0_0).toLoadRect (G.h4.unread x3)
  gp := View.readAt (Elt Ideal) G.a5.view (Rect.unit ![0, 0] S1x512.size inb_S1x512_S1x512_0_0).toLoadRect (G.h5.unread x4)
  ga := View.readAt (Elt Ideal) G.a6.view (Rect.unit ![0, 0] S1x512.size inb_S1x512_S1x512_0_0).toLoadRect (G.h6.unread x5)
  g2 := View.readAt (Elt Ideal) G.a7.view (Rect.unit ![0, 0] S1x1024.size inb_S1x1024_S1x1024_0_0).toLoadRect (G.h7.unread x6)
  gf := View.readAt (Elt Ideal) G.a8.view (Rect.unit ![0, 0] S1x1024.size inb_S1x1024_S1x1024_0_0).toLoadRect (G.h8.unread x7)
  wo := View.readAt (Elt Ideal) G.a22.view (Rect.unit ![0, 0] S1024x1024.size inb_S1024x1024_S1024x1024_0_0).toLoadRect (G.h22.unread xs0)
  wu k := View.readAt (Elt Ideal) G.a23.view (Rect.unit (s := S8x1024x512) ![k.val, 0, 0] S1x1024x512.size (inb_panel k)).toLoadRect (G.h23.unread xs1)
  wd k := View.readAt (Elt Ideal) G.a24.view (Rect.unit (s := S4096x1024) ![512 * k.val, 0] S512x1024.size (inb_rows k)).toLoadRect (G.h24.unread xs2)

/-- What the first point loads: the weights from where they were just copied. -/
def loadsA : Loads :=
  { loadsB G x0 x1 x2 x3 x4 x5 x6 x7 xs0 xs1 xs2 with
    wo := G.a22.view.readCov (Val := Elt Ideal) [⟨Rect.whole S1024x1024, xs0⟩] (Rect.unit ![0, 0] S1024x1024.size inb_S1024x1024_S1024x1024_0_0).toLoadRect
    wu := fun k => G.a23.view.readCov (Val := Elt Ideal) [⟨Rect.whole S8x1024x512, xs1⟩] (Rect.unit (s := S8x1024x512) ![k.val, 0, 0] S1x1024x512.size (inb_panel k)).toLoadRect
    wd := fun k => G.a24.view.readCov (Val := Elt Ideal) [⟨Rect.whole S4096x1024, xs2⟩] (Rect.unit (s := S4096x1024) ![512 * k.val, 0] S512x1024.size (inb_rows k)).toLoadRect }

variable {G c i x0 x1 x2 x3 x4 x5 x6 x7 xo xs0 xs1 xs2 f0 f1 f2} {W : Wts} {R : Fin 256 → Row} (hI : Ins W R x0 x1 x2 x3 x4 x5 x6 x7) (hH : Held W xs0 xs1 xs2)
include hI hH

theorem okB : (loadsB G x0 x1 x2 x3 x4 x5 x6 x7 xs0 xs1 xs2).Ok W R where
  x := rd_all G.h1 hI.x
  yp := rd_all G.h2 hI.yp
  ya := rd_all G.h3 hI.ya
  t := rd_all G.h4 hI.t
  gp := rd_all G.h5 hI.gp
  ga := rd_all G.h6 hI.ga
  g2 := rd_all G.h7 hI.g2
  gf := rd_all G.h8 hI.gf
  wo := rd_all16 G.h22 hH.wo
  wu k i j := rd_panel G.h23 hH.wu k i j
  wd k := rd_rows G.h24 hH.wd k

theorem okA : (loadsA G x0 x1 x2 x3 x4 x5 x6 x7 xs0 xs1 xs2).Ok W R where
  x := rd_all G.h1 hI.x
  yp := rd_all G.h2 hI.yp
  ya := rd_all G.h3 hI.ya
  t := rd_all G.h4 hI.t
  gp := rd_all G.h5 hI.gp
  ga := rd_all G.h6 hI.ga
  g2 := rd_all G.h7 hI.g2
  gf := rd_all G.h8 hI.gf
  wo := rc_all16 (v := G.a22.view) hH.wo
  wu k i j := rc_panel (v := G.a23.view) hH.wu k i j
  wd k := rc_rows (v := G.a24.view) hH.wd k

omit hI hH

section Lists
variable (v : View sig .tc .vmem S8x1024 .f32) (L : Loads) (u : Fin 8 → Vec Ideal S256x512 .f32) (y0 y1 y2 y3 : Vec Ideal S1x1024 .f32) (Z : List (View.Piece (Elt Ideal) S8x1024 .f32))

/-- The small gradients' block after one, two, three and four of its rows were added to, the rows having read `y0`, … -/
def s1 : List (View.Piece (Elt Ideal) S8x1024 .f32) := ⟨Rect.unit (s := S8x1024) ![0, 0] S1x1024.size inb_S8x1024_S1x1024_0_0, k0_pay85 (sdgf L) y0⟩ :: Z
def s2 : List (View.Piece (Elt Ideal) S8x1024 .f32) := ⟨Rect.unit (s := S8x1024) ![1, 0] S1x1024.size inb_S8x1024_S1x1024_1_0, k0_pay86 (sdg2 L u) y1⟩ :: s1 L y0 Z
def s3 : List (View.Piece (Elt Ideal) S8x1024 .f32) := ⟨Rect.unit (s := S8x1024) ![2, 0] S1x1024.size inb_S8x1024_S1x1024_2_0, k0_pay87 (sdgp L u) (sdga L u) y2⟩ :: s2 L u y0 y1 Z
def s4 : List (View.Piece (Elt Ideal) S8x1024 .f32) := ⟨Rect.unit (s := S8x1024) ![3, 0] S1x1024.size inb_S8x1024_S1x1024_3_0, k0_pay88 (loss L) y3⟩ :: s3 L u y0 y1 y2 Z

/-- The block just zeroed, and the rows as read while it is added to. -/
def z : List (View.Piece (Elt Ideal) S8x1024 .f32) := [⟨Rect.unit (s := S8x1024) ![0, 0] S8x1024.size inb_S8x1024_S8x1024_0_0, k0_pay1 (F := Ideal)⟩]
def q0 : Vec Ideal S1x1024 .f32 := v.readCov (Val := Elt Ideal) z (Rect.unit (s := S8x1024) ![0, 0] S1x1024.size inb_S8x1024_S1x1024_0_0).toLoadRect
def q1 : Vec Ideal S1x1024 .f32 := v.readCov (Val := Elt Ideal) (s1 L (q0 v) z) (Rect.unit (s := S8x1024) ![1, 0] S1x1024.size inb_S8x1024_S1x1024_1_0).toLoadRect
def q2 : Vec Ideal S1x1024 .f32 := v.readCov (Val := Elt Ideal) (s2 L u (q0 v) (q1 v L) z) (Rect.unit (s := S8x1024) ![2, 0] S1x1024.size inb_S8x1024_S1x1024_2_0).toLoadRect
def q3 : Vec Ideal S1x1024 .f32 := v.readCov (Val := Elt Ideal) (s3 L u (q0 v) (q1 v L) (q2 v L u) z) (Rect.unit (s := S8x1024) ![3, 0] S1x1024.size inb_S8x1024_S1x1024_3_0).toLoadRect

theorem z_read (k : Fin 8) (j : Fin 1024) : v.read (Elt Ideal) (v.writes (Elt Ideal) v.junk z) (ix2 k j) = ((0 : ℝ) : EReal) := by
  exact (congrFun (single (e := .f32) v v.junk inb_S8x1024_S8x1024_0_0 (k0_pay1 (F := Ideal))) (ix2 k j)).trans (Pay.pay1 k j)

theorem q0_zero : R2 (q0 v) fun _ _ => 0 := ld_row 0 (fun j => z_read v 0 j) ![0, 0] rfl inb_S8x1024_S1x1024_0_0
theorem q1_zero : R2 (q1 v L) fun _ _ => 0 :=
  ld_row 1 (fun j => (row_miss v v.junk 0 1 (.inr (by decide)) ![0, 0] rfl _ _ _ j).trans (z_read v 1 j)) ![1, 0] rfl inb_S8x1024_S1x1024_1_0
theorem q2_zero : R2 (q2 v L u) fun _ _ => 0 :=
  ld_row 2 (fun j => (row_miss v v.junk 1 2 (.inr (by decide)) ![1, 0] rfl _ _ _ j).trans ((row_miss v v.junk 0 2 (.inr (by decide)) ![0, 0] rfl _ _ _ j).trans
    (z_read v 2 j))) ![2, 0] rfl inb_S8x1024_S1x1024_2_0
theorem q3_zero : R2 (q3 v L u) fun _ _ => 0 :=
  ld_row 3 (fun j => (row_miss v v.junk 2 3 (.inr (by decide)) ![2, 0] rfl _ _ _ j).trans ((row_miss v v.junk 1 3 (.inr (by decide)) ![1, 0] rfl _ _ _ j).trans
    ((row_miss v v.junk 0 3 (.inr (by decide)) ![0, 0] rfl _ _ _ j).trans (z_read v 3 j)))) ![3, 0] rfl inb_S8x1024_S1x1024_3_0

/-- The ten lists of pieces a point stores, by the values it loaded; `Z` is the small gradients' block before its rows are added to. -/
structure Pieces where
  p8 : List (View.Piece (Elt Ideal) S256x1024 .bf16)
  p9 : List (View.Piece (Elt Ideal) S256x1024 .bf16)
  p10 : List (View.Piece (Elt Ideal) S256x4096 .bf16)
  p11 : List (View.Piece (Elt Ideal) S256x4096 .bf16)
  p12 : List (View.Piece (Elt Ideal) S256x1024 .bf16)
  p13 : List (View.Piece (Elt Ideal) S256x1024 .f32)
  p14 : List (View.Piece (Elt Ideal) S256x1024 .bf16)
  p15 : List (View.Piece (Elt Ideal) S256x512 .f32)
  p16 : List (View.Piece (Elt Ideal) S256x512 .f32)
def pieces : Pieces where
  p8 := [⟨Rect.unit ![0, 0] S256x1024.size inb_S256x1024_S256x1024_0_0, k0_pay12 (mp L) (ma L)⟩]
  p9 := [⟨Rect.unit ![0, 0] S256x1024.size inb_S256x1024_S256x1024_0_0, k0_pay16 (g2 L) (mp L) (ma L) L.x L.wo⟩]
  p10 := chunks (actC L)
  p11 := chunks (dupC L u)
  p12 := [⟨Rect.unit ![0, 0] S256x1024.size inb_S256x1024_S256x1024_0_0, k0_pay54 (rf L) (nh2 L) (dyg L) (sdyg L)⟩]
  p13 := [⟨Rect.unit ![0, 0] S256x1024.size inb_S256x1024_S256x1024_0_0, k0_pay74 (g2 L) (r2 L) (nh1 L) (dh2 L) (dhn2 L u)⟩]
  p14 := [⟨Rect.unit ![0, 0] S256x1024.size inb_S256x1024_S256x1024_0_0, k0_pay75 (g2 L) (r2 L) (nh1 L) (dh2 L) (dhn2 L u)⟩]
  p15 := [⟨Rect.unit ![0, 0] S256x512.size inb_S256x512_S256x512_0_0, dyp L u⟩]
  p16 := [⟨Rect.unit ![0, 0] S256x512.size inb_S256x512_S256x512_0_0, k0_pay84 (ra L) (na L) (dma L u) (dman L u)⟩]
end Lists

theorem A8 (hc : cond0_0 i) : (runA G c i x0 x1 x2 x3 x4 x5 x6 x7 f0 f1 f2 hc).1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p8 := by sl_kernel_rfl
theorem A9 (hc : cond0_0 i) : (runA G c i x0 x1 x2 x3 x4 x5 x6 x7 f0 f1 f2 hc).2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p9 := by sl_kernel_rfl
theorem A10 (hc : cond0_0 i) : (runA G c i x0 x1 x2 x3 x4 x5 x6 x7 f0 f1 f2 hc).2.2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p10 := by sl_kernel_rfl
theorem A11 (hc : cond0_0 i) : (runA G c i x0 x1 x2 x3 x4 x5 x6 x7 f0 f1 f2 hc).2.2.2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p11 := by sl_kernel_rfl
theorem A12 (hc : cond0_0 i) : (runA G c i x0 x1 x2 x3 x4 x5 x6 x7 f0 f1 f2 hc).2.2.2.2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p12 := by sl_kernel_rfl
theorem A13 (hc : cond0_0 i) : (runA G c i x0 x1 x2 x3 x4 x5 x6 x7 f0 f1 f2 hc).2.2.2.2.2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p13 := by sl_kernel_rfl
theorem A14 (hc : cond0_0 i) : (runA G c i x0 x1 x2 x3 x4 x5 x6 x7 f0 f1 f2 hc).2.2.2.2.2.2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p14 := by sl_kernel_rfl
theorem A15 (hc : cond0_0 i) : (runA G c i x0 x1 x2 x3 x4 x5 x6 x7 f0 f1 f2 hc).2.2.2.2.2.2.2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p15 := by sl_kernel_rfl
theorem A16 (hc : cond0_0 i) : (runA G c i x0 x1 x2 x3 x4 x5 x6 x7 f0 f1 f2 hc).2.2.2.2.2.2.2.2.1 = (pieces (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)).p16 := by sl_kernel_rfl
theorem A17 (hc : cond0_0 i) : (runA G c i x0 x1 x2 x3 x4 x5 x6 x7 f0 f1 f2 hc).2.2.2.2.2.2.2.2.2.1 = s4 (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view) (q0 G.a21.view) (q1 G.a21.view (loadsA G x0 x1 x2 x3 x4 x5 x6 x7 (kernelRun0_A.sl.dma0 c f0) (kernelRun0_A.sl.dma0_1 c f1) (kernelRun0_A.sl.dma0_2 c f2))) (q2 G.a21.view (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)) (q3 G.a21.view (loadsA G x0 x1 x2 x3 x4 x5 x6 x7 (kernelRun0_A.sl.dma0 c f0) (kernelRun0_A.sl.dma0_1 c f1) (kernelRun0_A.sl.dma0_2 c f2)) (back (loadsA G x0 x1 x2 x3 x4 x5 x6 x7 (kernelRun0_A.sl.dma0 c f0) (kernelRun0_A.sl.dma0_1 c f1) (kernelRun0_A.sl.dma0_2 c f2)) G.a25.view)) z := by sl_kernel_rfl
theorem A18 (hc : cond0_0 i) : (runA G c i x0 x1 x2 x3 x4 x5 x6 x7 f0 f1 f2 hc).2.2.2.2.2.2.2.2.2.2.1 = [⟨Rect.whole S1024x1024, kernelRun0_A.sl.dma0 c f0⟩] := by sl_kernel_rfl
theorem A19 (hc : cond0_0 i) : (runA G c i x0 x1 x2 x3 x4 x5 x6 x7 f0 f1 f2 hc).2.2.2.2.2.2.2.2.2.2.2.1 = [⟨Rect.whole S8x1024x512, kernelRun0_A.sl.dma0_1 c f1⟩] := by sl_kernel_rfl
theorem A20 (hc : cond0_0 i) : (runA G c i x0 x1 x2 x3 x4 x5 x6 x7 f0 f1 f2 hc).2.2.2.2.2.2.2.2.2.2.2.2.1 = [⟨Rect.whole S4096x1024, kernelRun0_A.sl.dma0_2 c f2⟩] := by sl_kernel_rfl
theorem B8 (hc : ¬cond0_0 i) : (runB G c i x0 x1 x2 x3 x4 x5 x6 x7 xo xs0 xs1 xs2 f0 f1 f2 hc).1 = (pieces (loadsB G x0 x1 x2 x3 x4 x5 x6 x7 xs0 xs1 xs2) (back (loadsB G x0 x1 x2 x3 x4 x5 x6 x7 xs0 xs1 xs2) G.a25.view)).p8 := by sl_kernel_rfl
theorem B9 (hc : ¬cond0_0 i) : (runB G c i x0 x1 x2 x3 x4 x5 x6 x7 xo xs0 xs1 xs2 f0 f1 f2 hc).2.1 = (pieces (loadsB G x0 x1 x2 x3 x4 x5 x6 x7 xs0 xs1 xs2) (back (loadsB G x0 x1 x2 x3 x4 x5 x6 x7 xs0 xs1 xs2) G.a25.view)).p9 := by sl_kernel_rfl
theorem B10 (hc : ¬cond0_0 i) : (runB G c i x0 x1 x2 x3 x4 x5 x6 x7 xo xs0 xs1 xs2 f0 f1 f2 hc).2.2.1 = (pieces (loadsB G x0 x1 x2 x3 x4 x5 x6 x7 xs0 xs1 xs2) (back (loadsB G x0 x1 x2 x3 x4 x5 x6 x7 xs0 xs1 xs2) G.a25.view)).p10 := by sl_kernel_rfl
theorem B11 (hc : ¬cond0_0 i) : (runB G c i x0 x1 x2 x3 x4 x5 x6 x7 xo xs0 xs1 xs2 f0 f1 f2 hc).2.2.2.1 = (pieces (loadsB G x0 x1 x2 x3 x4 x5 x6 x7 xs0 xs1 xs2) (back (loadsB G x0 x1 x2 x3 x4 x5 x6 x7 xs0 xs1 xs2) G.a25.view)).p11 := by sl_kernel_rfl
theorem B12 (hc : ¬cond0_0 i) : (runB G c i x0 x1 x2 x3 x4 x5 x6 x7 xo xs0 xs1 xs2 f0 f1 f2 hc).2.2.2.2.1 = (pieces (loadsB G x0 x1 x2 x3 x4 x5 x6 x7 xs0 xs1 xs2) (back (loadsB G x0 x1 x2 x3 x4 x5 x6 x7 xs0 xs1 xs2) G.a25.view)).p12 := by sl_kernel_rfl
theorem B13 (hc : ¬cond0_0 i) : (runB G c i x0 x1 x2 x3 x4 x5 x6 x7 xo xs0 xs1 xs2 f0 f1 f2 hc).2.2.2.2.2.1 = (pieces (loadsB G x0 x1 x2 x3 x4 x5 x6 x7 xs0 xs1 xs2) (back (loadsB G x0 x1 x2 x3 x4 x5 x6 x7 xs0 xs1 xs2) G.a25.view)).p13 := by sl_kernel_rfl
theorem B14 (hc : ¬cond0_0 i) : (runB G c i x0 x1 x2 x3 x4 x5 x6 x7 xo xs0 xs1 xs2 f0 f1 f2 hc).2.2.2.2.2.2.1 = (pieces (loadsB G x0 x1 x2 x3 x4 x5 x6 x7 xs0 xs1 xs2) (back (loadsB G x0 x1 x2 x3 x4 x5 x6 x7 xs0 xs1 xs2) G.a25.view)).p14 := by sl_kernel_rfl
theorem B15 (hc : ¬cond0_0 i) : (runB G c i x0 x1 x2 x3 x4 x5 x6 x7 xo xs0 xs1 xs2 f0 f1 f2 hc).2.2.2.2.2.2.2.1 = (pieces (loadsB G x0 x1 x2 x3 x4 x5 x6 x7 xs0 xs1 xs2) (back (loadsB G x0 x1 x2 x3 x4 x5 x6 x7 xs0 xs1 xs2) G.a25.view)).p15 := by sl_kernel_rfl
theorem B16 (hc : ¬cond0_0 i) : (runB G c i x0 x1 x2 x3 x4 x5 x6 x7 xo xs0 xs1 xs2 f0 f1 f2 hc).2.2.2.2.2.2.2.2.1 = (pieces (loadsB G x0 x1 x2 x3 x4 x5 x6 x7 xs0 xs1 xs2) (back (loadsB G x0 x1 x2 x3 x4 x5 x6 x7 xs0 xs1 xs2) G.a25.view)).p16 := by sl_kernel_rfl
theorem B17 (hc : ¬cond0_0 i) : (runB G c i x0 x1 x2 x3 x4 x5 x6 x7 xo xs0 xs1 xs2 f0 f1 f2 hc).2.2.2.2.2.2.2.2.2.1 = s4 (loadsB G x0 x1 x2 x3 x4 x5 x6 x7 xs0 xs1 xs2) (back (loadsB G x0 x1 x2 x3 x4 x5 x6 x7 xs0 xs1 xs2) G.a25.view) (View.readAt (Elt Ideal) G.a21.view (Rect.unit (s := S8x1024) ![0, 0] S1x1024.size inb_S8x1024_S1x1024_0_0).toLoadRect (G.h21.unread xo)) (View.readAt (Elt Ideal) G.a21.view (Rect.unit (s := S8x1024) ![1, 0] S1x1024.size inb_S8x1024_S1x1024_1_0).toLoadRect (G.h21.unread xo)) (View.readAt (Elt Ideal) G.a21.view (Rect.unit (s := S8x1024) ![2, 0] S1x1024.size inb_S8x1024_S1x1024_2_0).toLoadRect (G.h21.unread xo)) (View.readAt (Elt Ideal) G.a21.view (Rect.unit (s := S8x1024) ![3, 0] S1x1024.size inb_S8x1024_S1x1024_3_0).toLoadRect (G.h21.unread xo)) [] := by sl_kernel_rfl

end Cert.MlpIdeal.Step
-- ==== Proof.MlpLeft.lean ====
module

public import proofs.«01_k».proof.Proof.MlpBlocks

@[expose] public section

set_option maxRecDepth 16384

noncomputable section

/-! # The outputs after a grid point, as row functions -/

namespace Cert.MlpIdeal.Step

open Cert.MlpIdeal Cert.MlpIdeal.Gen Cert.MlpIdeal.Link Cert.MlpIdeal.Chain Cert.MlpRun Cert.MlpSpec Cert.MlpOps
open Idealize.ShloMosaic Idealize.ShloMosaic.ValueIdx Idealize.ShloMosaic.TcCoe Idealize.SL.Sem
open scoped BigOperators

section Pieces
variable {L : Loads} {u : Fin 8 → Vec Ideal S256x512 .f32} (W : Wts) (R : Fin 256 → Row) (h : L.Ok W R) (hu : ∀ c, R2 (u c) fun s q => up W (R s) (ch c q))
include h hu

theorem mixed_left (v : View sig .tc .vmem S256x1024 .bf16) (g : BufTy.Contents (Elt Ideal) v.ty) : R2 (v.read (Elt Ideal) (v.writes (Elt Ideal) g (pieces L u).p8)) fun s => MlpSpec.mixed W (R s) :=
  single16 (Pay.pay12 W R _ _ (mp_spec W R h) (ma_spec W R h))
theorem hn2_left (v : View sig .tc .vmem S256x1024 .bf16) (g : BufTy.Contents (Elt Ideal) v.ty) : R2 (v.read (Elt Ideal) (v.writes (Elt Ideal) g (pieces L u).p9)) fun s => MlpSpec.hn2 W (R s) :=
  single16 (Pay.pay16 W R _ _ _ _ _ (g2_spec W R h) (mp_spec W R h) (ma_spec W R h) h.x h.wo)
theorem act_left (v : View sig .tc .vmem S256x4096 .bf16) (g : BufTy.Contents (Elt Ideal) v.ty) : R2 (v.read (Elt Ideal) (v.writes (Elt Ideal) g (pieces L u).p10)) fun s => MlpSpec.act W (R s) :=
  chunks16 (actC_spec W R h)
theorem dup_left (v : View sig .tc .vmem S256x4096 .bf16) (g : BufTy.Contents (Elt Ideal) v.ty) : R2 (v.read (Elt Ideal) (v.writes (Elt Ideal) g (pieces L u).p11)) fun s => MlpSpec.dup W (R s) :=
  chunks16 (dupC_spec W R h hu)
theorem dh2_left (v : View sig .tc .vmem S256x1024 .bf16) (g : BufTy.Contents (Elt Ideal) v.ty) : R2 (v.read (Elt Ideal) (v.writes (Elt Ideal) g (pieces L u).p12)) fun s => MlpSpec.dh2 W (R s) :=
  single16 (Pay.pay54 W R _ _ _ _ (rf_spec W R h) (nh2_spec W R h) (dyg_spec W R h) (sdyg_spec W R h))
theorem dh1_left (v : View sig .tc .vmem S256x1024 .f32) (g : BufTy.Contents (Elt Ideal) v.ty) : R2 (v.read (Elt Ideal) (v.writes (Elt Ideal) g (pieces L u).p13)) fun s => MlpSpec.dh1 W (R s) :=
  single32 (Pay.pay74 W R _ _ _ _ _ (g2_spec W R h) (r2_spec W R h) (nh1_spec W R h) (dh2_spec W R h) (dhn2_spec W R h hu))
theorem dh1b_left (v : View sig .tc .vmem S256x1024 .bf16) (g : BufTy.Contents (Elt Ideal) v.ty) : R2 (v.read (Elt Ideal) (v.writes (Elt Ideal) g (pieces L u).p14)) fun s => MlpSpec.dh1 W (R s) :=
  single16 (Pay.pay75 W R _ _ _ _ _ (g2_spec W R h) (r2_spec W R h) (nh1_spec W R h) (dh2_spec W R h) (dhn2_spec W R h hu))
theorem dyp_left (v : View sig .tc .vmem S256x512 .f32) (g : BufTy.Contents (Elt Ideal) v.ty) : R2 (v.read (Elt Ideal) (v.writes (Elt Ideal) g (pieces L u).p15)) fun s => MlpSpec.dyp W (R s) :=
  single32 (dyp_spec W R h hu)
theorem dya_left (v : View sig .tc .vmem S256x512 .f32) (g : BufTy.Contents (Elt Ideal) v.ty) : R2 (v.read (Elt Ideal) (v.writes (Elt Ideal) g (pieces L u).p16)) fun s => MlpSpec.dya W (R s) :=
  single32 (Pay.pay84 W R _ _ _ _ (ra_spec W R h) (na_spec W R h) (dma_spec W R h hu) (dman_spec W R h hu))
theorem sg_left (v : View sig .tc .vmem S8x1024 .f32) (g : BufTy.Contents (Elt Ideal) v.ty) (Z : List (View.Piece (Elt Ideal) S8x1024 .f32)) {p : Fin 8 → Fin 1024 → ℝ}
    (hp : R2 (v.read (Elt Ideal) (v.writes (Elt Ideal) g Z)) p) {y0 y1 y2 y3 : Vec Ideal S1x1024 .f32}
    (h0 : R2 y0 fun _ => p 0) (h1 : R2 y1 fun _ => p 1) (h2 : R2 y2 fun _ => p 2) (h3 : R2 y3 fun _ => p 3) :
    R2 (v.read (Elt Ideal) (v.writes (Elt Ideal) g (s4 L u y0 y1 y2 y3 Z))) fun k j => p k j + ∑ s, small W (R s) k j := fun k j => by
  show _ = ((p k j + ∑ s, small W (R s) k j : ℝ) : EReal)
  rw [small_sum]
  exact rows hp (Pay.pay85 W R (p 0) _ _ (sdgf_spec W R h) h0) (Pay.pay86 W R (p 1) _ _ (sdg2_spec W R h hu) h1)
    (Pay.pay87 W R (p 2) _ _ _ (sdgp_spec W R h hu) (sdga_spec W R h hu) h2) (Pay.pay88 W R (p 3) _ _ (loss_spec W R h) h3) k j

/-- What the lists of stores leave, over any views. -/
theorem left_of {r8 : List (View.Piece (Elt Ideal) S256x1024 .bf16)} {v8 : View sig .tc .vmem S256x1024 .bf16} {g8 : BufTy.Contents (Elt Ideal) v8.ty} (e8 : r8 = (pieces L u).p8)
    {r9 : List (View.Piece (Elt Ideal) S256x1024 .bf16)} {v9 : View sig .tc .vmem S256x1024 .bf16} {g9 : BufTy.Contents (Elt Ideal) v9.ty} (e9 : r9 = (pieces L u).p9)
    {r10 : List (View.Piece (Elt Ideal) S256x4096 .bf16)} {v10 : View sig .tc .vmem S256x4096 .bf16} {g10 : BufTy.Contents (Elt Ideal) v10.ty} (e10 : r10 = (pieces L u).p10)
    {r11 : List (View.Piece (Elt Ideal) S256x4096 .bf16)} {v11 : View sig .tc .vmem S256x4096 .bf16} {g11 : BufTy.Contents (Elt Ideal) v11.ty} (e11 : r11 = (pieces L u).p11)
    {r12 : List (View.Piece (Elt Ideal) S256x1024 .bf16)} {v12 : View sig .tc .vmem S256x1024 .bf16} {g12 : BufTy.Contents (Elt Ideal) v12.ty} (e12 : r12 = (pieces L u).p12)
    {r13 : List (View.Piece (Elt Ideal) S256x1024 .f32)} {v13 : View sig .tc .vmem S256x1024 .f32} {g13 : BufTy.Contents (Elt Ideal) v13.ty} (e13 : r13 = (pieces L u).p13)
    {r14 : List (View.Piece (Elt Ideal) S256x1024 .bf16)} {v14 : View sig .tc .vmem S256x1024 .bf16} {g14 : BufTy.Contents (Elt Ideal) v14.ty} (e14 : r14 = (pieces L u).p14)
    {r15 : List (View.Piece (Elt Ideal) S256x512 .f32)} {v15 : View sig .tc .vmem S256x512 .f32} {g15 : BufTy.Contents (Elt Ideal) v15.ty} (e15 : r15 = (pieces L u).p15)
    {r16 : List (View.Piece (Elt Ideal) S256x512 .f32)} {v16 : View sig .tc .vmem S256x512 .f32} {g16 : BufTy.Contents (Elt Ideal) v16.ty} (e16 : r16 = (pieces L u).p16) {r17 Z : List (View.Piece (Elt Ideal) S8x1024 .f32)} {v17 : View sig .tc .vmem S8x1024 .f32} {g17 : BufTy.Contents (Elt Ideal) v17.ty}
    {a : Vec Ideal S1024x1024 .bf16} {b : Vec Ideal S8x1024x512 .bf16} {d : Vec Ideal S4096x1024 .bf16} {p : Fin 8 → Fin 1024 → ℝ}
    (hp : R2 (v17.read (Elt Ideal) (v17.writes (Elt Ideal) g17 Z)) p) {y0 y1 y2 y3 : Vec Ideal S1x1024 .f32} (e17 : r17 = s4 L u y0 y1 y2 y3 Z)
    (h0 : R2 y0 fun _ => p 0) (h1 : R2 y1 fun _ => p 1) (h2 : R2 y2 fun _ => p 2) (h3 : R2 y3 fun _ => p 3) (hH : Held W a b d) :
    Left W R p (v8.read (Elt Ideal) (v8.writes (Elt Ideal) g8 r8), v9.read (Elt Ideal) (v9.writes (Elt Ideal) g9 r9), v10.read (Elt Ideal) (v10.writes (Elt Ideal) g10 r10), v11.read (Elt Ideal) (v11.writes (Elt Ideal) g11 r11), v12.read (Elt Ideal) (v12.writes (Elt Ideal) g12 r12), v13.read (Elt Ideal) (v13.writes (Elt Ideal) g13 r13), v14.read (Elt Ideal) (v14.writes (Elt Ideal) g14 r14), v15.read (Elt Ideal) (v15.writes (Elt Ideal) g15 r15), v16.read (Elt Ideal) (v16.writes (Elt Ideal) g16 r16), v17.read (Elt Ideal) (v17.writes (Elt Ideal) g17 r17), a, b, d) where
  mixed := by
    rw [e8]
    exact mixed_left W R h hu v8 g8
  hn2 := by
    rw [e9]
    exact hn2_left W R h hu v9 g9
  act := by
    rw [e10]
    exact act_left W R h hu v10 g10
  dup := by
    rw [e11]
    exact dup_left W R h hu v11 g11
  dh2 := by
    rw [e12]
    exact dh2_left W R h hu v12 g12
  dh1 := by
    rw [e13]
    exact dh1_left W R h hu v13 g13
  dh1b := by
    rw [e14]
    exact dh1b_left W R h hu v14 g14
  dyp := by
    rw [e15]
    exact dyp_left W R h hu v15 g15
  dya := by
    rw [e16]
    exact dya_left W R h hu v16 g16
  sg := by
    rw [e17]
    exact sg_left W R h hu v17 g17 Z hp h0 h1 h2 h3
  held := hH

end Pieces

/-- The buffers of the windows and the scratch at point `t`. -/
def refs (t : Fin cfg0.N) : Refs where
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a12 := ms0_8 t
  h12 := hs0_8 t
  a13 := ms0_9 t
  h13 := hs0_9 t
  a14 := ms0_10 t
  h14 := hs0_10 t
  a15 := ms0_11 t
  h15 := hs0_11 t
  a16 := ms0_12 t
  h16 := hs0_12 t
  a17 := ms0_13 t
  h17 := hs0_13 t
  a18 := ms0_14 t
  h18 := hs0_14 t
  a19 := ms0_15 t
  h19 := hs0_15 t
  a20 := ms0_16 t
  h20 := hs0_16 t
  a21 := ms0_17 t
  h21 := hs0_17 t
  a22 := scM0_0
  h22 := Memref.isWhole_whole _
  a23 := scM0_1
  h23 := Memref.isWhole_whole _
  a24 := scM0_2
  h24 := Memref.isWhole_whole _
  a25 := scM0_3
  h25 := Memref.isWhole_whole _

theorem read_whole {s : Shape} {e : EltTy} (v : View sig .tc .vmem s e) (g : BufTy.Contents (Elt Ideal) v.ty) (w : s.Idx → Elt Ideal e) :
    v.read (Elt Ideal) (v.writes (Elt Ideal) g [⟨Rect.whole s, w⟩]) = w :=
  funext fun y => View.read_writes_cons_hit_of_coords (Val := Elt Ideal) v g (Rect.whole s) w [] y y fun a => by
    show (y a).val = 0 + 1 * (y a).val
    omega

theorem held_of {W : Wts} {a a' : Vec Ideal S1024x1024 .bf16} {b b' : Vec Ideal S8x1024x512 .bf16} {d d' : Vec Ideal S4096x1024 .bf16} (ea : a' = a) (eb : b' = b) (ed : d' = d) (h : Held W a b d) : Held W a' b' d' := by
  subst ea eb ed; exact h

section Runs
variable {G : Refs} {c : Dev nD} {i : grid0.Coords} {x0 : Vec Ideal S256x1024 .f32} {x1 : Vec Ideal S256x512 .f32} {x2 : Vec Ideal S256x512 .f32} {x3 : Vec Ideal S256x1024 .f32} {x4 : Vec Ideal S1x512 .f32} {x5 : Vec Ideal S1x512 .f32} {x6 : Vec Ideal S1x1024 .f32} {x7 : Vec Ideal S1x1024 .f32}
  {xo : Vec Ideal S8x1024 .f32} {xs0 : Vec Ideal S1024x1024 .bf16} {xs1 : Vec Ideal S8x1024x512 .bf16} {xs2 : Vec Ideal S4096x1024 .bf16}
  {f0 : HbBuf0 (F := Ideal) c hbM0_0} {f1 : HbBuf0 (F := Ideal) c hbM0_1} {f2 : HbBuf0 (F := Ideal) c hbM0_2}
  {v8 : View sig .tc .vmem S256x1024 .bf16} {g8 : BufTy.Contents (Elt Ideal) v8.ty} {v9 : View sig .tc .vmem S256x1024 .bf16} {g9 : BufTy.Contents (Elt Ideal) v9.ty} {v10 : View sig .tc .vmem S256x4096 .bf16} {g10 : BufTy.Contents (Elt Ideal) v10.ty} {v11 : View sig .tc .vmem S256x4096 .bf16} {g11 : BufTy.Contents (Elt Ideal) v11.ty} {v12 : View sig .tc .vmem S256x1024 .bf16} {g12 : BufTy.Contents (Elt Ideal) v12.ty} {v13 : View sig .tc .vmem S256x1024 .f32} {g13 : BufTy.Contents (Elt Ideal) v13.ty} {v14 : View sig .tc .vmem S256x1024 .bf16} {g14 : BufTy.Contents (Elt Ideal) v14.ty} {v15 : View sig .tc .vmem S256x512 .f32} {g15 : BufTy.Contents (Elt Ideal) v15.ty} {v16 : View sig .tc .vmem S256x512 .f32} {g16 : BufTy.Contents (Elt Ideal) v16.ty} {W : Wts} {R : Fin 256 → Row} (hI : Ins W R x0 x1 x2 x3 x4 x5 x6 x7)
include hI

theorem run_B (hH : Held W xs0 xs1 xs2) {hc : ¬cond0_0 i} {r} (er : r = runB G c i x0 x1 x2 x3 x4 x5 x6 x7 xo xs0 xs1 xs2 f0 f1 f2 hc) {p : Fin 8 → Fin 1024 → ℝ} (hp : R2 xo p) :
    Left W R p (v8.read (Elt Ideal) (v8.writes (Elt Ideal) g8 r.1), v9.read (Elt Ideal) (v9.writes (Elt Ideal) g9 r.2.1), v10.read (Elt Ideal) (v10.writes (Elt Ideal) g10 r.2.2.1), v11.read (Elt Ideal) (v11.writes (Elt Ideal) g11 r.2.2.2.1), v12.read (Elt Ideal) (v12.writes (Elt Ideal) g12 r.2.2.2.2.1), v13.read (Elt Ideal) (v13.writes (Elt Ideal) g13 r.2.2.2.2.2.1), v14.read (Elt Ideal) (v14.writes (Elt Ideal) g14 r.2.2.2.2.2.2.1), v15.read (Elt Ideal) (v15.writes (Elt Ideal) g15 r.2.2.2.2.2.2.2.1), v16.read (Elt Ideal) (v16.writes (Elt Ideal) g16 r.2.2.2.2.2.2.2.2.1), G.a21.view.read (Elt Ideal) (G.a21.view.writes (Elt Ideal) (G.h21.unread xo) r.2.2.2.2.2.2.2.2.2.1), xs0, xs1, xs2) := by
  subst er
  have h := okB (G := G) hI hH
  have hu := back_spec W R h G.a25.view
  have row : ∀ (k : Fin 8) (o : Fin 2 → Nat) (ho : o = ![k.val, 0]) (inb : ∀ a, o a + S1x1024.size a ≤ S8x1024.size a),
      R2 (View.readAt (Elt Ideal) G.a21.view (Rect.unit (s := S8x1024) o S1x1024.size inb).toLoadRect (G.h21.unread xo)) fun _ => p k := by
    intro k o ho inb
    rw [View.readAt_eq_ld, G.h21.read_unread]
    exact ld_row k (hp k) o ho inb
  have hz : R2 (G.a21.view.read (Elt Ideal) (G.a21.view.writes (Elt Ideal) (G.h21.unread xo) [])) p := by
    show R2 (G.a21.view.read (Elt Ideal) (G.h21.unread xo)) p
    rw [G.h21.read_unread]; exact hp
  exact left_of W R h hu (B8 _) (B9 _) (B10 _) (B11 _) (B12 _) (B13 _) (B14 _) (B15 _) (B16 _) hz (B17 _) (row 0 ![0, 0] rfl inb_S8x1024_S1x1024_0_0) (row 1 ![1, 0] rfl inb_S8x1024_S1x1024_1_0) (row 2 ![2, 0] rfl inb_S8x1024_S1x1024_2_0) (row 3 ![3, 0] rfl inb_S8x1024_S1x1024_3_0) hH

theorem run_A {v17 : View sig .tc .vmem S8x1024 .f32} {g17 : BufTy.Contents (Elt Ideal) v17.ty} {u0 : View sig .tc .vmem S1024x1024 .bf16} {e0 : BufTy.Contents (Elt Ideal) u0.ty}
    {u1 : View sig .tc .vmem S8x1024x512 .bf16} {e1 : BufTy.Contents (Elt Ideal) u1.ty} {u2 : View sig .tc .vmem S4096x1024 .bf16} {e2 : BufTy.Contents (Elt Ideal) u2.ty}
    (hH : Held W (kernelRun0_A.sl.dma0 c f0) (kernelRun0_A.sl.dma0_1 c f1) (kernelRun0_A.sl.dma0_2 c f2)) {hc : cond0_0 i} {r} (er : r = runA G c i x0 x1 x2 x3 x4 x5 x6 x7 f0 f1 f2 hc) :
    Left W R (fun _ _ => 0) (v8.read (Elt Ideal) (v8.writes (Elt Ideal) g8 r.1), v9.read (Elt Ideal) (v9.writes (Elt Ideal) g9 r.2.1), v10.read (Elt Ideal) (v10.writes (Elt Ideal) g10 r.2.2.1), v11.read (Elt Ideal) (v11.writes (Elt Ideal) g11 r.2.2.2.1), v12.read (Elt Ideal) (v12.writes (Elt Ideal) g12 r.2.2.2.2.1), v13.read (Elt Ideal) (v13.writes (Elt Ideal) g13 r.2.2.2.2.2.1), v14.read (Elt Ideal) (v14.writes (Elt Ideal) g14 r.2.2.2.2.2.2.1), v15.read (Elt Ideal) (v15.writes (Elt Ideal) g15 r.2.2.2.2.2.2.2.1), v16.read (Elt Ideal) (v16.writes (Elt Ideal) g16 r.2.2.2.2.2.2.2.2.1), v17.read (Elt Ideal) (v17.writes (Elt Ideal) g17 r.2.2.2.2.2.2.2.2.2.1), u0.read (Elt Ideal) (u0.writes (Elt Ideal) e0 r.2.2.2.2.2.2.2.2.2.2.1), u1.read (Elt Ideal) (u1.writes (Elt Ideal) e1 r.2.2.2.2.2.2.2.2.2.2.2.1), u2.read (Elt Ideal) (u2.writes (Elt Ideal) e2 r.2.2.2.2.2.2.2.2.2.2.2.2.1)) := by
  subst er
  have h := okA (G := G) hI hH
  have hu := back_spec W R h G.a25.view
  exact left_of W R h hu (A8 _) (A9 _) (A10 _) (A11 _) (A12 _) (A13 _) (A14 _) (A15 _) (A16 _) (fun k j => (congrFun (single (e := .f32) v17 g17 inb_S8x1024_S8x1024_0_0 (k0_pay1 (F := Ideal))) (ix2 k j)).trans (Pay.pay1 k j)) (A17 _) (q0_zero _) (q1_zero _ _) (q2_zero _ _ _) (q3_zero _ _ _)
    (held_of ((congrArg (fun l => u0.read (Elt Ideal) (u0.writes (Elt Ideal) e0 l)) (A18 _)).trans (read_whole _ _ _)) ((congrArg (fun l => u1.read (Elt Ideal) (u1.writes (Elt Ideal) e1 l)) (A19 _)).trans (read_whole _ _ _)) ((congrArg (fun l => u2.read (Elt Ideal) (u2.writes (Elt Ideal) e2 l)) (A20 _)).trans (read_whole _ _ _)) hH)

end Runs

variable (m : (ℓ : Loc nD τ sig) → Buf (Elt Ideal) ℓ) (c : Dev nD) (t : Fin cfg0.N)

theorem RA_eq (h0 : t.val % 16 = 0) : RA m c t h0 = runA (refs t) c (grid0.coords t) (iblk m c 0 t) (iblk m c 1 t) (iblk m c 2 t) (iblk m c 3 t) (iblk m c 4 t) (iblk m c 5 t) (iblk m c 6 t) (iblk m c 7 t) (V m c main_v7) (V m c main_v2) (V m c main_v8) ((hcond0_0 t).mpr h0) := by sl_kernel_rfl
theorem RB_eq (h0 : ¬t.val % 16 = 0) (xo : Vec Ideal S8x1024 .f32) (xs0 : Vec Ideal S1024x1024 .bf16) (xs1 : Vec Ideal S8x1024x512 .bf16) (xs2 : Vec Ideal S4096x1024 .bf16) :
    RB m c t h0 xo xs0 xs1 xs2 = runB (refs t) c (grid0.coords t) (iblk m c 0 t) (iblk m c 1 t) (iblk m c 2 t) (iblk m c 3 t) (iblk m c 4 t) (iblk m c 5 t) (iblk m c 6 t) (iblk m c 7 t) xo xs0 xs1 xs2 (V m c main_v7) (V m c main_v2) (V m c main_v8) (fun h => h0 ((hcond0_0 t).mp h)) := by sl_kernel_rfl

variable {m c t} {W : Wts} {R : Fin 256 → Row} (hI : Ins W R (iblk m c 0 t) (iblk m c 1 t) (iblk m c 2 t) (iblk m c 3 t) (iblk m c 4 t) (iblk m c 5 t) (iblk m c 6 t) (iblk m c 7 t))
include hI

theorem left_B {xs0 : Vec Ideal S1024x1024 .bf16} {xs1 : Vec Ideal S8x1024x512 .bf16} {xs2 : Vec Ideal S4096x1024 .bf16} (hH : Held W xs0 xs1 xs2)
    (h0 : ¬t.val % 16 = 0) {p : Fin 8 → Fin 1024 → ℝ} {xo : Vec Ideal S8x1024 .f32} (hp : R2 xo p) : Left W R p (stB m c t h0 xo xs0 xs1 xs2) := by
  unfold stB
  exact run_B (G := refs t) (c := c) (i := grid0.coords t) (f0 := V m c main_v7) (f1 := V m c main_v2) (f2 := V m c main_v8) hI hH (hc := fun h => h0 ((hcond0_0 t).mp h)) (RB_eq m c t h0 xo xs0 xs1 xs2) hp

theorem left_A (hH : Held W (kernelRun0_A.sl.dma0 c (V m c main_v7)) (kernelRun0_A.sl.dma0_1 c (V m c main_v2)) (kernelRun0_A.sl.dma0_2 c (V m c main_v8)))
    (h0 : t.val % 16 = 0) : Left W R (fun _ _ => 0) (stA m c t h0) := by
  unfold stA
  exact run_A (G := refs t) (c := c) (i := grid0.coords t) (f0 := V m c main_v7) (f1 := V m c main_v2) (f2 := V m c main_v8) hI hH (hc := (hcond0_0 t).mpr h0) (RA_eq m c t h0)

end Cert.MlpIdeal.Step
-- ==== Proof.MlpWhole.lean ====
module

public import proofs.«01_k».proof.Proof.MlpLeft
public import Idealize.ShloMosaic.Lib.Pipeline.Value
public import Idealize.ShloMosaic.Lib.StableHlo

@[expose] public section

noncomputable section

/-! # The fused MLP, whole arrays

The ten result arrays by the argument arrays: a row of a result is that row's function, and the small gradients are sums over
all the rows. -/

namespace Cert.MlpIdeal.Whole

open Cert.MlpIdeal Cert.MlpIdeal.Gen Cert.MlpIdeal.Link Cert.MlpIdeal.Step Cert.MlpRun Cert.MlpSpec Cert.MlpOps
open Idealize.ShloMosaic Idealize.ShloMosaic.ValueIdx Idealize.ShloMosaic.TcCoe Idealize.SL.Sem
open scoped BigOperators

/-- Row `i` of row block `t`. -/
def row (t : ℕ) (i : Fin 256) : Fin 4096 := ⟨256 * (t % 16) + i.val, by omega⟩

theorem lt16 (t : Fin cfg0.N) : t.val < 16 := lt_of_lt_of_eq t.isLt (show cfg0.N = 16 from N_0)

theorem row_val (t : Fin cfg0.N) (i : Fin 256) : (row t.val i).val = t.val * 256 + 1 * i.val := by
  show 256 * (t.val % 16) + i.val = _
  rw [Nat.mod_eq_of_lt (lt16 t)]; omega

variable (m : (ℓ : Loc nD τ sig) → Buf (Elt Ideal) ℓ) (ρ : Dev nD → PrngReg) (c : Dev nD)

/-- The argument arrays as tables of reals. -/
structure Args (W : Wts) (R : Fin 4096 → Row) : Prop where
  x : R2 (m ((c : Thread nD τ).loc main_arg0) : S4096x1024.Idx → EReal) fun s => (R s).x
  yp : R2 (m ((c : Thread nD τ).loc main_arg1) : S4096x512.Idx → EReal) fun s => (R s).yp
  ya : R2 (m ((c : Thread nD τ).loc main_arg2) : S4096x512.Idx → EReal) fun s => (R s).ya
  t : R2 (m ((c : Thread nD τ).loc main_arg3) : S4096x1024.Idx → EReal) fun s => (R s).t
  gp : R1 (m ((c : Thread nD τ).loc main_arg4) : S512.Idx → EReal) W.gp
  ga : R1 (m ((c : Thread nD τ).loc main_arg5) : S512.Idx → EReal) W.ga
  g2 : R1 (m ((c : Thread nD τ).loc main_arg6) : S1024.Idx → EReal) W.g2
  gf : R1 (m ((c : Thread nD τ).loc main_arg7) : S1024.Idx → EReal) W.gf
  wo : R2 (m ((c : Thread nD τ).loc main_arg8) : S1024x1024.Idx → EReal) W.wo
  wu : R2 (m ((c : Thread nD τ).loc main_arg9) : S1024x4096.Idx → EReal) W.wu
  wd : R2 (m ((c : Thread nD τ).loc main_arg10) : S4096x1024.Idx → EReal) W.wd

/-! ## The blocks the windows stage -/

theorem at_rows {n : ℕ} (k : (⟨2, ![4096, n]⟩ : Shape).Idx) (t : Fin cfg0.N) (i : Fin 256) (j : Fin n) (h0 : (k 0).val = t.val * 256 + 1 * i.val) (h1 : (k 1).val = j.val) :
    k = ix2 (row t.val i) j := by
  rw [eq_ix2 k]
  exact congrArg₂ ix2 (Fin.ext (h0.trans (row_val t i).symm)) (Fin.ext h1)

theorem index0 : ∀ t : Fin grid0.N, win0_0.index t 0 = t.val ∧ win0_0.index t 1 = 0 := by decide +kernel
theorem emb0 (t : Fin cfg0.N) (i : Fin 256) (j : Fin 1024) : (((cfg0.win 0).blk t).view.emb (ix2 i j) : S4096x1024.Idx) = ix2 (row t.val i) j :=
  at_rows _ t i j (by show win0_0.index t 0 * 256 + 1 * i.val = _; rw [(index0 t).1]) (by show win0_0.index t 1 * 1024 + 1 * j.val = _; rw [(index0 t).2]; omega)
theorem iblk0 {f : Fin 4096 → Fin 1024 → ℝ} (h : R2 (m ((c : Thread nD τ).loc main_arg0) : S4096x1024.Idx → EReal) f) (t : Fin cfg0.N) :
    R2 (iblk m c 0 t : Vec Ideal S256x1024 .f32) fun s => f (row t.val s) := fun i j => by
  unfold iblk
  rw [View.read_apply]
  refine (congrFun (V_main_arg0 m c) _).trans ((congrArg (m ((c : Thread nD τ).loc main_arg0)) (emb0 t i j)).trans (h _ _))

theorem index1 : ∀ t : Fin grid0.N, win0_1.index t 0 = t.val ∧ win0_1.index t 1 = 0 := by decide +kernel
theorem emb1 (t : Fin cfg0.N) (i : Fin 256) (j : Fin 512) : (((cfg0.win 1).blk t).view.emb (ix2 i j) : S4096x512.Idx) = ix2 (row t.val i) j :=
  at_rows _ t i j (by show win0_1.index t 0 * 256 + 1 * i.val = _; rw [(index1 t).1]) (by show win0_1.index t 1 * 512 + 1 * j.val = _; rw [(index1 t).2]; omega)
theorem iblk1 {f : Fin 4096 → Fin 512 → ℝ} (h : R2 (m ((c : Thread nD τ).loc main_arg1) : S4096x512.Idx → EReal) f) (t : Fin cfg0.N) :
    R2 (iblk m c 1 t : Vec Ideal S256x512 .f32) fun s => f (row t.val s) := fun i j => by
  unfold iblk
  rw [View.read_apply]
  refine (congrFun (V_main_arg1 m c) _).trans ((congrArg (m ((c : Thread nD τ).loc main_arg1)) (emb1 t i j)).trans (h _ _))

theorem index2 : ∀ t : Fin grid0.N, win0_2.index t 0 = t.val ∧ win0_2.index t 1 = 0 := by decide +kernel
theorem emb2 (t : Fin cfg0.N) (i : Fin 256) (j : Fin 512) : (((cfg0.win 2).blk t).view.emb (ix2 i j) : S4096x512.Idx) = ix2 (row t.val i) j :=
  at_rows _ t i j (by show win0_2.index t 0 * 256 + 1 * i.val = _; rw [(index2 t).1]) (by show win0_2.index t 1 * 512 + 1 * j.val = _; rw [(index2 t).2]; omega)
theorem iblk2 {f : Fin 4096 → Fin 512 → ℝ} (h : R2 (m ((c : Thread nD τ).loc main_arg2) : S4096x512.Idx → EReal) f) (t : Fin cfg0.N) :
    R2 (iblk m c 2 t : Vec Ideal S256x512 .f32) fun s => f (row t.val s) := fun i j => by
  unfold iblk
  rw [View.read_apply]
  refine (congrFun (V_main_arg2 m c) _).trans ((congrArg (m ((c : Thread nD τ).loc main_arg2)) (emb2 t i j)).trans (h _ _))

theorem index3 : ∀ t : Fin grid0.N, win0_3.index t 0 = t.val ∧ win0_3.index t 1 = 0 := by decide +kernel
theorem emb3 (t : Fin cfg0.N) (i : Fin 256) (j : Fin 1024) : (((cfg0.win 3).blk t).view.emb (ix2 i j) : S4096x1024.Idx) = ix2 (row t.val i) j :=
  at_rows _ t i j (by show win0_3.index t 0 * 256 + 1 * i.val = _; rw [(index3 t).1]) (by show win0_3.index t 1 * 1024 + 1 * j.val = _; rw [(index3 t).2]; omega)
theorem iblk3 {f : Fin 4096 → Fin 1024 → ℝ} (h : R2 (m ((c : Thread nD τ).loc main_arg3) : S4096x1024.Idx → EReal) f) (t : Fin cfg0.N) :
    R2 (iblk m c 3 t : Vec Ideal S256x1024 .f32) fun s => f (row t.val s) := fun i j => by
  unfold iblk
  rw [View.read_apply]
  refine (congrFun (V_main_arg3 m c) _).trans ((congrArg (m ((c : Thread nD τ).loc main_arg3)) (emb3 t i j)).trans (h _ _))

theorem gain {n : ℕ} {v : (⟨1, ![n]⟩ : Shape).Idx → EReal} {f : Fin n → ℝ} (hv : R1 v f) {u : (⟨2, ![1, n]⟩ : Shape).Idx → EReal}
    (h : (⟨1, ![n]⟩ : Shape).ShapeCasts ⟨2, ![1, n]⟩) (e : u = shapeCast ⟨2, ![1, n]⟩ v h) : R2 u fun _ => f := by
  subst e; exact hv.asRow h

theorem index4 : ∀ t : Fin grid0.N, win0_4.index t 0 = 0 ∧ win0_4.index t 1 = 0 := by decide +kernel
theorem iblk4 {f : Fin 512 → ℝ} (h : R1 (m ((c : Thread nD τ).loc main_arg4) : S512.Idx → EReal) f) (t : Fin cfg0.N) :
    R2 (iblk m c 4 t : Vec Ideal S1x512 .f32) fun _ => f := fun i j => by
  have hV : R2 (V m c main_v3 : S1x512.Idx → EReal) fun _ => f := gain h shapeCasts_S512_S1x512 (by
    show StableHlo.after hostOps0 _ (Proc.devRef .tc main_v3) = _
    after_results
    rfl)
  unfold iblk
  rw [View.read_apply]
  refine (congrArg (V m c main_v3) (funext fun a => Fin.ext ?_)).trans (hV i j)
  match a with
  | ⟨0, _⟩ => show win0_4.index t 0 * 1 + 1 * i.val = i.val; rw [(index4 t).1]; omega
  | ⟨1, _⟩ => show win0_4.index t 1 * 512 + 1 * j.val = j.val; rw [(index4 t).2]; omega

theorem index5 : ∀ t : Fin grid0.N, win0_5.index t 0 = 0 ∧ win0_5.index t 1 = 0 := by decide +kernel
theorem iblk5 {f : Fin 512 → ℝ} (h : R1 (m ((c : Thread nD τ).loc main_arg5) : S512.Idx → EReal) f) (t : Fin cfg0.N) :
    R2 (iblk m c 5 t : Vec Ideal S1x512 .f32) fun _ => f := fun i j => by
  have hV : R2 (V m c main_v4 : S1x512.Idx → EReal) fun _ => f := gain h shapeCasts_S512_S1x512 (by
    show StableHlo.after hostOps0 _ (Proc.devRef .tc main_v4) = _
    after_results
    rfl)
  unfold iblk
  rw [View.read_apply]
  refine (congrArg (V m c main_v4) (funext fun a => Fin.ext ?_)).trans (hV i j)
  match a with
  | ⟨0, _⟩ => show win0_5.index t 0 * 1 + 1 * i.val = i.val; rw [(index5 t).1]; omega
  | ⟨1, _⟩ => show win0_5.index t 1 * 512 + 1 * j.val = j.val; rw [(index5 t).2]; omega

theorem index6 : ∀ t : Fin grid0.N, win0_6.index t 0 = 0 ∧ win0_6.index t 1 = 0 := by decide +kernel
theorem iblk6 {f : Fin 1024 → ℝ} (h : R1 (m ((c : Thread nD τ).loc main_arg6) : S1024.Idx → EReal) f) (t : Fin cfg0.N) :
    R2 (iblk m c 6 t : Vec Ideal S1x1024 .f32) fun _ => f := fun i j => by
  have hV : R2 (V m c main_v5 : S1x1024.Idx → EReal) fun _ => f := gain h shapeCasts_S1024_S1x1024 (by
    show StableHlo.after hostOps0 _ (Proc.devRef .tc main_v5) = _
    after_results
    rfl)
  unfold iblk
  rw [View.read_apply]
  refine (congrArg (V m c main_v5) (funext fun a => Fin.ext ?_)).trans (hV i j)
  match a with
  | ⟨0, _⟩ => show win0_6.index t 0 * 1 + 1 * i.val = i.val; rw [(index6 t).1]; omega
  | ⟨1, _⟩ => show win0_6.index t 1 * 1024 + 1 * j.val = j.val; rw [(index6 t).2]; omega

theorem index7 : ∀ t : Fin grid0.N, win0_7.index t 0 = 0 ∧ win0_7.index t 1 = 0 := by decide +kernel
theorem iblk7 {f : Fin 1024 → ℝ} (h : R1 (m ((c : Thread nD τ).loc main_arg7) : S1024.Idx → EReal) f) (t : Fin cfg0.N) :
    R2 (iblk m c 7 t : Vec Ideal S1x1024 .f32) fun _ => f := fun i j => by
  have hV : R2 (V m c main_v6 : S1x1024.Idx → EReal) fun _ => f := gain h shapeCasts_S1024_S1x1024 (by
    show StableHlo.after hostOps0 _ (Proc.devRef .tc main_v6) = _
    after_results
    rfl)
  unfold iblk
  rw [View.read_apply]
  refine (congrArg (V m c main_v6) (funext fun a => Fin.ext ?_)).trans (hV i j)
  match a with
  | ⟨0, _⟩ => show win0_7.index t 0 * 1 + 1 * i.val = i.val; rw [(index7 t).1]; omega
  | ⟨1, _⟩ => show win0_7.index t 1 * 1024 + 1 * j.val = j.val; rw [(index7 t).2]; omega

/-! ## The large weights as the kernel copies them -/

theorem copied_wo {W : Wts} (h : R2 (m ((c : Thread nD τ).loc main_arg8) : S1024x1024.Idx → EReal) W.wo) : R2 (V m c main_v7 : Vec Ideal S1024x1024 .bf16) W.wo := by
  have hV : V m c main_v7 = (truncf (F := Ideal) .bf16 (m ((c : Thread nD τ).loc main_arg8) : Vec Ideal S1024x1024 .f32) bitsLt_bf16_f32 : Vec Ideal S1024x1024 .bf16) := by
    show StableHlo.after hostOps0 _ (Proc.devRef .tc main_v7) = _
    after_results
  rw [hV]; exact R2.trunc (a := (m ((c : Thread nD τ).loc main_arg8) : Vec Ideal S1024x1024 .f32)) h _

theorem copied_wd {W : Wts} (h : R2 (m ((c : Thread nD τ).loc main_arg10) : S4096x1024.Idx → EReal) W.wd) : R2 (V m c main_v8 : Vec Ideal S4096x1024 .bf16) W.wd := by
  have hV : V m c main_v8 = (truncf (F := Ideal) .bf16 (m ((c : Thread nD τ).loc main_arg10) : Vec Ideal S4096x1024 .f32) bitsLt_bf16_f32 : Vec Ideal S4096x1024 .bf16) := by
    show StableHlo.after hostOps0 _ (Proc.devRef .tc main_v8) = _
    after_results
  rw [hV]; exact R2.trunc (a := (m ((c : Thread nD τ).loc main_arg10) : Vec Ideal S4096x1024 .f32)) h _

theorem copied_wu {W : Wts} (h : R2 (m ((c : Thread nD τ).loc main_arg9) : S1024x4096.Idx → EReal) W.wu) (p : Fin 8) (i : Fin 1024) (j : Fin 512) :
    (V m c main_v2 : Vec Ideal S8x1024x512 .bf16) (ix3 p i j) = ((W.wu i (ch p j) : ℝ) : EReal) := by
  have hV : V m c main_v2 = (truncf (F := Ideal) .bf16 (transpose S8x1024x512 [1, 0, 2]
      (shapeCast S1024x8x512 (m ((c : Thread nD τ).loc main_arg9) : Vec Ideal S1024x4096 .f32) shapeCasts_S1024x4096_S1024x8x512)
      transposes_S1024x8x512_S8x1024x512_1_0_2) bitsLt_bf16_f32 : Vec Ideal S8x1024x512 .bf16) := by
    show StableHlo.after hostOps0 _ (Proc.devRef .tc main_v2) = _
    after_results
    rfl
  rw [hV, truncf_apply]
  refine (transpose_apply [1, 0, 2] _ _ (ix3 p i j) (ix3 i p j) (fun a => by
    match a with
    | ⟨0, _⟩ => rfl
    | ⟨1, _⟩ => rfl
    | ⟨2, _⟩ => rfl)).trans ?_
  refine (shapeCast_apply _ _ _ (ix2 i (ch p j)) ?_).trans (h i (ch p j))
  rw [Shape.rowMajor_val_three, Shape.rowMajor_val_two]
  show i.val * 4096 + (512 * p.val + j.val) = (i.val * 8 + p.val) * 512 + j.val
  omega

theorem dma_wo (f : Vec Ideal S1024x1024 .bf16) : kernelRun0_A.sl.dma0 c f = f := rfl
theorem dma_wu (f : Vec Ideal S8x1024x512 .bf16) : kernelRun0_A.sl.dma0_1 c f = f := rfl
theorem dma_wd (f : Vec Ideal S4096x1024 .bf16) : kernelRun0_A.sl.dma0_2 c f = f := rfl

/-! ## After each grid point -/

variable {m c} {W : Wts} {R : Fin 4096 → Row} (A : Args m c W R)
include A

theorem ins (t : Fin cfg0.N) : Ins W (fun s => R (row t.val s)) (iblk m c 0 t) (iblk m c 1 t) (iblk m c 2 t) (iblk m c 3 t) (iblk m c 4 t) (iblk m c 5 t) (iblk m c 6 t) (iblk m c 7 t) where
  x := iblk0 m c A.x t
  yp := iblk1 m c A.yp t
  ya := iblk2 m c A.ya t
  t := iblk3 m c A.t t
  gp := iblk4 m c A.gp t
  ga := iblk5 m c A.ga t
  g2 := iblk6 m c A.g2 t
  gf := iblk7 m c A.gf t

theorem held : Held W (kernelRun0_A.sl.dma0 c (V m c main_v7)) (kernelRun0_A.sl.dma0_1 c (V m c main_v2)) (kernelRun0_A.sl.dma0_2 c (V m c main_v8)) := by
  rw [dma_wo, dma_wu, dma_wd]
  exact ⟨copied_wo m c A.wo, copied_wu m c A.wu, copied_wd m c A.wd⟩

/-- What the points before `n` have added to the small gradients. -/
def before (W : Wts) (R : Fin 4096 → Row) (n : ℕ) (k : Fin 8) (j : Fin 1024) : ℝ := ∑ t ∈ Finset.range n, ∑ s, small W (R (row t s)) k j

theorem after_point (n : ℕ) (hn : n < cfg0.N) : Left W (fun s => R (row n s)) (before W R n) (outsAt0 m c n hn) := by
  induction n with
  | zero =>
    have e : before W R 0 = fun _ _ => 0 := by funext k j; exact Finset.sum_range_zero _
    rw [e]
    exact (outsAt0_A m c ⟨0, hn⟩ (Nat.zero_mod 16)) ▸ left_A (ins A ⟨0, hn⟩) (held A) (Nat.zero_mod 16)
  | succ n ih =>
    have h := ih (Nat.lt_of_succ_lt hn)
    have h16 := lt16 ⟨n + 1, hn⟩
    have h0 : ¬(⟨n + 1, hn⟩ : Fin cfg0.N).val % 16 = 0 := by show ¬(n + 1) % 16 = 0; simp only at h16; omega
    have e : before W R (n + 1) = fun k j => before W R n k j + ∑ s, small W (R (row n s)) k j := by
      funext k j; exact Finset.sum_range_succ _ _
    rw [e]
    exact (outsAt0_B m c ⟨n + 1, hn⟩ h0) ▸ left_B (ins A ⟨n + 1, hn⟩) h.held h0 h.sg

/-! ## The results -/

omit A in
/-- An array written block by block. -/
theorem by_blocks {n : ℕ} {arr : (⟨2, ![4096, n]⟩ : Shape).Idx → EReal} {f : Fin 4096 → Fin n → ℝ} (fl : Fin cfg0.N → (⟨2, ![256, n]⟩ : Shape).Idx → EReal)
    (h : ∀ t i j, arr (ix2 (row t.val i) j) = fl t (ix2 i j)) (hf : ∀ t, R2 (fl t) fun s => f (row t.val s)) : R2 arr f := fun i j => by
  have hi : row (i.val / 256) ⟨i.val % 256, Nat.mod_lt _ (by norm_num)⟩ = i := Fin.ext (by
    show 256 * (i.val / 256 % 16) + i.val % 256 = i.val
    have := i.isLt
    omega)
  have hN : i.val / 256 < cfg0.N := by rw [show cfg0.N = 16 from N_0]; have := i.isLt; omega
  have e : arr (ix2 (row (i.val / 256) ⟨i.val % 256, Nat.mod_lt _ (by norm_num)⟩) j) = ((f (row (i.val / 256) ⟨i.val % 256, Nat.mod_lt _ (by norm_num)⟩) j : ℝ) : EReal) :=
    (h ⟨i.val / 256, hN⟩ _ j).trans (hf ⟨i.val / 256, hN⟩ _ _)
  rw [hi] at e
  exact e

omit A in
theorem index8 : ∀ t : Fin grid0.N, win0_8.index t 0 = t.val ∧ win0_8.index t 1 = 0 := by decide +kernel
omit A in
theorem emb8 (t : Fin cfg0.N) (i : Fin 256) (j : Fin 1024) : (((cfg0.win 8).blk t).view.emb (ix2 i j) : S4096x1024.Idx) = ix2 (row t.val i) j :=
  at_rows _ t i j (by show win0_8.index t 0 * 256 + 1 * i.val = _; rw [(index8 t).1]) (by show win0_8.index t 1 * 1024 + 1 * j.val = _; rw [(index8 t).2]; omega)
omit A in
theorem apart8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (Fin.ext (((index8 t).1.symm.trans (congrFun h 0)).trans (index8 t').1))
theorem final8 : R2 ((dats m 0 c).arrAt 8 cfg0.N : S4096x1024.Idx → EReal) fun s => MlpSpec.mixed W (R s) :=
  by_blocks (fun t => (outsAt0 m c t.val t.isLt).1) (fun t i j => by
    rw [← emb8 t i j]
    refine ((dats m 0 c).arrAt_emb_eq_flushed 8 apart8 t (flush0_8 t) (ix2 i j)).trans ?_
    exact congrFun (after0_8 m c t) (ix2 i j)) fun t => (after_point A t.val t.isLt).mixed

omit A in
theorem index9 : ∀ t : Fin grid0.N, win0_9.index t 0 = t.val ∧ win0_9.index t 1 = 0 := by decide +kernel
omit A in
theorem emb9 (t : Fin cfg0.N) (i : Fin 256) (j : Fin 1024) : (((cfg0.win 9).blk t).view.emb (ix2 i j) : S4096x1024.Idx) = ix2 (row t.val i) j :=
  at_rows _ t i j (by show win0_9.index t 0 * 256 + 1 * i.val = _; rw [(index9 t).1]) (by show win0_9.index t 1 * 1024 + 1 * j.val = _; rw [(index9 t).2]; omega)
omit A in
theorem apart9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (Fin.ext (((index9 t).1.symm.trans (congrFun h 0)).trans (index9 t').1))
theorem final9 : R2 ((dats m 0 c).arrAt 9 cfg0.N : S4096x1024.Idx → EReal) fun s => MlpSpec.hn2 W (R s) :=
  by_blocks (fun t => (outsAt0 m c t.val t.isLt).2.1) (fun t i j => by
    rw [← emb9 t i j]
    refine ((dats m 0 c).arrAt_emb_eq_flushed 9 apart9 t (flush0_9 t) (ix2 i j)).trans ?_
    exact congrFun (after0_9 m c t) (ix2 i j)) fun t => (after_point A t.val t.isLt).hn2

omit A in
theorem index10 : ∀ t : Fin grid0.N, win0_10.index t 0 = t.val ∧ win0_10.index t 1 = 0 := by decide +kernel
omit A in
theorem emb10 (t : Fin cfg0.N) (i : Fin 256) (j : Fin 4096) : (((cfg0.win 10).blk t).view.emb (ix2 i j) : S4096x4096.Idx) = ix2 (row t.val i) j :=
  at_rows _ t i j (by show win0_10.index t 0 * 256 + 1 * i.val = _; rw [(index10 t).1]) (by show win0_10.index t 1 * 4096 + 1 * j.val = _; rw [(index10 t).2]; omega)
omit A in
theorem apart10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (Fin.ext (((index10 t).1.symm.trans (congrFun h 0)).trans (index10 t').1))
theorem final10 : R2 ((dats m 0 c).arrAt 10 cfg0.N : S4096x4096.Idx → EReal) fun s => MlpSpec.act W (R s) :=
  by_blocks (fun t => (outsAt0 m c t.val t.isLt).2.2.1) (fun t i j => by
    rw [← emb10 t i j]
    refine ((dats m 0 c).arrAt_emb_eq_flushed 10 apart10 t (flush0_10 t) (ix2 i j)).trans ?_
    exact congrFun (after0_10 m c t) (ix2 i j)) fun t => (after_point A t.val t.isLt).act

omit A in
theorem index11 : ∀ t : Fin grid0.N, win0_11.index t 0 = t.val ∧ win0_11.index t 1 = 0 := by decide +kernel
omit A in
theorem emb11 (t : Fin cfg0.N) (i : Fin 256) (j : Fin 4096) : (((cfg0.win 11).blk t).view.emb (ix2 i j) : S4096x4096.Idx) = ix2 (row t.val i) j :=
  at_rows _ t i j (by show win0_11.index t 0 * 256 + 1 * i.val = _; rw [(index11 t).1]) (by show win0_11.index t 1 * 4096 + 1 * j.val = _; rw [(index11 t).2]; omega)
omit A in
theorem apart11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (Fin.ext (((index11 t).1.symm.trans (congrFun h 0)).trans (index11 t').1))
theorem final11 : R2 ((dats m 0 c).arrAt 11 cfg0.N : S4096x4096.Idx → EReal) fun s => MlpSpec.dup W (R s) :=
  by_blocks (fun t => (outsAt0 m c t.val t.isLt).2.2.2.1) (fun t i j => by
    rw [← emb11 t i j]
    refine ((dats m 0 c).arrAt_emb_eq_flushed 11 apart11 t (flush0_11 t) (ix2 i j)).trans ?_
    exact congrFun (after0_11 m c t) (ix2 i j)) fun t => (after_point A t.val t.isLt).dup

omit A in
theorem index12 : ∀ t : Fin grid0.N, win0_12.index t 0 = t.val ∧ win0_12.index t 1 = 0 := by decide +kernel
omit A in
theorem emb12 (t : Fin cfg0.N) (i : Fin 256) (j : Fin 1024) : (((cfg0.win 12).blk t).view.emb (ix2 i j) : S4096x1024.Idx) = ix2 (row t.val i) j :=
  at_rows _ t i j (by show win0_12.index t 0 * 256 + 1 * i.val = _; rw [(index12 t).1]) (by show win0_12.index t 1 * 1024 + 1 * j.val = _; rw [(index12 t).2]; omega)
omit A in
theorem apart12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (Fin.ext (((index12 t).1.symm.trans (congrFun h 0)).trans (index12 t').1))
theorem final12 : R2 ((dats m 0 c).arrAt 12 cfg0.N : S4096x1024.Idx → EReal) fun s => MlpSpec.dh2 W (R s) :=
  by_blocks (fun t => (outsAt0 m c t.val t.isLt).2.2.2.2.1) (fun t i j => by
    rw [← emb12 t i j]
    refine ((dats m 0 c).arrAt_emb_eq_flushed 12 apart12 t (flush0_12 t) (ix2 i j)).trans ?_
    exact congrFun (after0_12 m c t) (ix2 i j)) fun t => (after_point A t.val t.isLt).dh2

omit A in
theorem index13 : ∀ t : Fin grid0.N, win0_13.index t 0 = t.val ∧ win0_13.index t 1 = 0 := by decide +kernel
omit A in
theorem emb13 (t : Fin cfg0.N) (i : Fin 256) (j : Fin 1024) : (((cfg0.win 13).blk t).view.emb (ix2 i j) : S4096x1024.Idx) = ix2 (row t.val i) j :=
  at_rows _ t i j (by show win0_13.index t 0 * 256 + 1 * i.val = _; rw [(index13 t).1]) (by show win0_13.index t 1 * 1024 + 1 * j.val = _; rw [(index13 t).2]; omega)
omit A in
theorem apart13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (Fin.ext (((index13 t).1.symm.trans (congrFun h 0)).trans (index13 t').1))
theorem final13 : R2 ((dats m 0 c).arrAt 13 cfg0.N : S4096x1024.Idx → EReal) fun s => MlpSpec.dh1 W (R s) :=
  by_blocks (fun t => (outsAt0 m c t.val t.isLt).2.2.2.2.2.1) (fun t i j => by
    rw [← emb13 t i j]
    refine ((dats m 0 c).arrAt_emb_eq_flushed 13 apart13 t (flush0_13 t) (ix2 i j)).trans ?_
    exact congrFun (after0_13 m c t) (ix2 i j)) fun t => (after_point A t.val t.isLt).dh1

omit A in
theorem index14 : ∀ t : Fin grid0.N, win0_14.index t 0 = t.val ∧ win0_14.index t 1 = 0 := by decide +kernel
omit A in
theorem emb14 (t : Fin cfg0.N) (i : Fin 256) (j : Fin 1024) : (((cfg0.win 14).blk t).view.emb (ix2 i j) : S4096x1024.Idx) = ix2 (row t.val i) j :=
  at_rows _ t i j (by show win0_14.index t 0 * 256 + 1 * i.val = _; rw [(index14 t).1]) (by show win0_14.index t 1 * 1024 + 1 * j.val = _; rw [(index14 t).2]; omega)
omit A in
theorem apart14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (Fin.ext (((index14 t).1.symm.trans (congrFun h 0)).trans (index14 t').1))
theorem final14 : R2 ((dats m 0 c).arrAt 14 cfg0.N : S4096x1024.Idx → EReal) fun s => MlpSpec.dh1 W (R s) :=
  by_blocks (fun t => (outsAt0 m c t.val t.isLt).2.2.2.2.2.2.1) (fun t i j => by
    rw [← emb14 t i j]
    refine ((dats m 0 c).arrAt_emb_eq_flushed 14 apart14 t (flush0_14 t) (ix2 i j)).trans ?_
    exact congrFun (after0_14 m c t) (ix2 i j)) fun t => (after_point A t.val t.isLt).dh1b

omit A in
theorem index15 : ∀ t : Fin grid0.N, win0_15.index t 0 = t.val ∧ win0_15.index t 1 = 0 := by decide +kernel
omit A in
theorem emb15 (t : Fin cfg0.N) (i : Fin 256) (j : Fin 512) : (((cfg0.win 15).blk t).view.emb (ix2 i j) : S4096x512.Idx) = ix2 (row t.val i) j :=
  at_rows _ t i j (by show win0_15.index t 0 * 256 + 1 * i.val = _; rw [(index15 t).1]) (by show win0_15.index t 1 * 512 + 1 * j.val = _; rw [(index15 t).2]; omega)
omit A in
theorem apart15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (Fin.ext (((index15 t).1.symm.trans (congrFun h 0)).trans (index15 t').1))
theorem final15 : R2 ((dats m 0 c).arrAt 15 cfg0.N : S4096x512.Idx → EReal) fun s => MlpSpec.dyp W (R s) :=
  by_blocks (fun t => (outsAt0 m c t.val t.isLt).2.2.2.2.2.2.2.1) (fun t i j => by
    rw [← emb15 t i j]
    refine ((dats m 0 c).arrAt_emb_eq_flushed 15 apart15 t (flush0_15 t) (ix2 i j)).trans ?_
    exact congrFun (after0_15 m c t) (ix2 i j)) fun t => (after_point A t.val t.isLt).dyp

omit A in
theorem index16 : ∀ t : Fin grid0.N, win0_16.index t 0 = t.val ∧ win0_16.index t 1 = 0 := by decide +kernel
omit A in
theorem emb16 (t : Fin cfg0.N) (i : Fin 256) (j : Fin 512) : (((cfg0.win 16).blk t).view.emb (ix2 i j) : S4096x512.Idx) = ix2 (row t.val i) j :=
  at_rows _ t i j (by show win0_16.index t 0 * 256 + 1 * i.val = _; rw [(index16 t).1]) (by show win0_16.index t 1 * 512 + 1 * j.val = _; rw [(index16 t).2]; omega)
omit A in
theorem apart16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (Fin.ext (((index16 t).1.symm.trans (congrFun h 0)).trans (index16 t').1))
theorem final16 : R2 ((dats m 0 c).arrAt 16 cfg0.N : S4096x512.Idx → EReal) fun s => MlpSpec.dya W (R s) :=
  by_blocks (fun t => (outsAt0 m c t.val t.isLt).2.2.2.2.2.2.2.2.1) (fun t i j => by
    rw [← emb16 t i j]
    refine ((dats m 0 c).arrAt_emb_eq_flushed 16 apart16 t (flush0_16 t) (ix2 i j)).trans ?_
    exact congrFun (after0_16 m c t) (ix2 i j)) fun t => (after_point A t.val t.isLt).dya

omit A in
theorem index17 : ∀ t : Fin grid0.N, win0_17.index t 0 = 0 ∧ win0_17.index t 1 = 0 := by decide +kernel

omit A in
theorem emb17 (t : Fin cfg0.N) (i : Fin 8) (j : Fin 1024) : (((cfg0.win 17).blk t).view.emb (ix2 i j) : S8x1024.Idx) = ix2 i j := by
  refine (eq_ix2 _).trans (congrArg₂ ix2 (Fin.ext ?_) (Fin.ext ?_))
  · show win0_17.index t 0 * 8 + 1 * i.val = i.val; rw [(index17 t).1]; omega
  · show win0_17.index t 1 * 1024 + 1 * j.val = j.val; rw [(index17 t).2]; omega

omit A in
theorem apart17 : ∀ t t' : Fin cfg0.N, (cfg0.win 17).flush t = true → (cfg0.win 17).flush t' = true → t ≠ t' →
    Disjoint ((cfg0.win 17).blk t).view.set ((cfg0.win 17).blk t').view.set := fun t t' h h' hne => absurd (Fin.ext (by
  have := (flush0_17 t).mp h; have := (flush0_17 t').mp h'; have := lt16 t; have := lt16 t'; omega)) hne

omit A in
theorem all_rows (f : Fin 4096 → ℝ) : ∑ t ∈ Finset.range 16, ∑ s, f (row t s) = ∑ s, f s := by
  rw [← Fin.sum_univ_eq_sum_range (fun t => ∑ s, f (row t s)) 16, ← Fintype.sum_prod_type' (fun (t : Fin 16) s => f (row t.val s))]
  refine Fintype.sum_equiv (finProdFinEquiv (m := 16) (n := 256)) _ f fun p => congrArg f (Fin.ext ?_)
  show 256 * (p.1.val % 16) + p.2.val = p.2.val + 256 * p.1.val
  rw [Nat.mod_eq_of_lt p.1.isLt]; omega

theorem last17 (t : Fin cfg0.N) (ht : t.val = 15) :
    R2 ((dats m 0 c).arrAt 17 cfg0.N : S8x1024.Idx → EReal) fun k j => ∑ s, small W (R s) k j := fun k j => by
  rw [← emb17 t k j]
  refine ((dats m 0 c).arrAt_emb_eq_flushed 17 apart17 t ((flush0_17 t).mpr (by rw [ht])) (ix2 k j)).trans ?_
  refine (congrFun (after0_17 m c t) (ix2 k j)).trans (((after_point A t.val t.isLt).sg k j).trans (congrArg _ ?_))
  show before W R t.val k j + ∑ s, small W (R (row t.val s)) k j = ∑ s, small W (R s) k j
  unfold before
  rw [← all_rows fun s => small W (R s) k j, Finset.sum_range_succ, ht]

theorem final17 : R2 ((dats m 0 c).arrAt 17 cfg0.N : S8x1024.Idx → EReal) fun k j => ∑ s, small W (R s) k j :=
  last17 A ⟨15, by rw [show cfg0.N = 16 from N_0]; norm_num⟩ rfl

end Cert.MlpIdeal.Whole
-- ==== Proof.MlpHostOps.lean ====
module

public import proofs.«01_k».proof.Proof.MlpOps
public import Idealize.ShloMosaic.Lib.ValueIdxRank1

@[expose] public section

noncomputable section

/-! # The reference's operations on arrays of finite entries

The sums over a dimension, the products and the norm's derivative as the reference writes them. -/

namespace Cert.MlpOps

open Idealize.ShloMosaic Idealize.ShloMosaic.ValueIdx
open Cert.MlpSpec
open scoped BigOperators

variable {n m k : ℕ} {φ ψ : FTy}

/-- A single number everywhere. -/
theorem R2.lit {w : BitVec 32} {r : ℝ} (hw : Ideal.ofBits .f32 w = (r : EReal)) (h : (⟨0, ![]⟩ : Shape).BroadcastsInDim ⟨2, ![n, m]⟩ ![]) :
    R2 (broadcastInDim ⟨2, ![n, m]⟩ ![] h (constant (F := Ideal) ⟨0, ![]⟩ .f32 w)) (fun _ _ => r) := fun _ _ => hw

theorem R1.lit {w : BitVec 32} {r : ℝ} (hw : Ideal.ofBits .f32 w = (r : EReal)) (h : (⟨0, ![]⟩ : Shape).BroadcastsInDim ⟨1, ![n]⟩ ![]) :
    R1 (broadcastInDim ⟨1, ![n]⟩ ![] h (constant (F := Ideal) ⟨0, ![]⟩ .f32 w)) (fun _ => r) := fun _ => hw

theorem R1.fill {v : (⟨0, ![]⟩ : Shape).Idx → EReal} {r : ℝ} (hv : ∀ i, v i = (r : EReal)) (h : (⟨0, ![]⟩ : Shape).BroadcastsInDim ⟨1, ![n]⟩ ![]) :
    R1 (broadcastInDim ⟨1, ![n]⟩ ![] h v) (fun _ => r) := fun _ => hv _

/-- A vector along the rows. -/
theorem R1.along {v : (⟨1, ![n]⟩ : Shape).Idx → EReal} {f : Fin n → ℝ} (hv : R1 v f) (h : (⟨1, ![n]⟩ : Shape).BroadcastsInDim ⟨2, ![n, m]⟩ ![0]) :
    R2 (broadcastInDim ⟨2, ![n, m]⟩ ![0] h v) (fun i _ => f i) := fun i j => by
  refine (broadcastInDim_apply _ h v (ix2 i j) (ix1 i) fun a => ?_).trans (hv i)
  match a with
  | ⟨0, _⟩ =>
    show i.val = if n = 1 then 0 else i.val
    split
    · have := i.isLt; omega
    · rfl

/-- The sums of the rows and of the columns. -/
theorem R2.hrowSum {v : FVec Ideal ⟨2, ![n, m]⟩ .f32} {f : Fin n → Fin m → ℝ} (hv : R2 v f)
    (h' : (⟨2, ![n, m]⟩ : Shape).ReducesTo [1] ⟨1, ![n]⟩) (hu : 0 < (⟨0, ![]⟩ : Shape).numel) (h : (⟨2, ![n, m]⟩ : Shape).Reduces [1] ⟨1, ![n]⟩) :
    R1 (Host.reduceAdd v (constant (F := Ideal) ⟨0, ![]⟩ .f32 0x00000000#32) h' hu) (fun i => ∑ k, f i k) := fun i => by
  simp only [Host.reduceAdd, Ideal.hostReduceAdd_def]
  rw [Ideal.hostReduceAdd_single h' h]
  show Ideal.ofBits .f32 0x00000000#32 + _ = _
  rw [zero_word, EReal.coe_zero, zero_add, ← Reals.coe_sum]
  refine Finset.sum_congr rfl fun k _ => (congrArg v ?_).trans (hv i k)
  funext a
  match a with
  | ⟨0, _⟩ => rfl
  | ⟨1, _⟩ => rfl
theorem R2.hcolSum {v : FVec Ideal ⟨2, ![n, m]⟩ .f32} {f : Fin n → Fin m → ℝ} (hv : R2 v f)
    (h' : (⟨2, ![n, m]⟩ : Shape).ReducesTo [0] ⟨1, ![m]⟩) (hu : 0 < (⟨0, ![]⟩ : Shape).numel) (h : (⟨2, ![n, m]⟩ : Shape).Reduces [0] ⟨1, ![m]⟩) :
    R1 (Host.reduceAdd v (constant (F := Ideal) ⟨0, ![]⟩ .f32 0x00000000#32) h' hu) (fun j => ∑ k, f k j) := fun j => by
  simp only [Host.reduceAdd, Ideal.hostReduceAdd_def]
  rw [Ideal.hostReduceAdd_single h' h]
  show Ideal.ofBits .f32 0x00000000#32 + _ = _
  rw [zero_word, EReal.coe_zero, zero_add, ← Reals.coe_sum]
  refine Finset.sum_congr rfl fun k _ => (congrArg v ?_).trans (hv k j)
  funext a
  match a with
  | ⟨0, _⟩ => rfl
  | ⟨1, _⟩ => rfl

theorem R1.total {v : FVec Ideal ⟨1, ![n]⟩ .f32} {f : Fin n → ℝ} (hv : R1 v f)
    (h' : (⟨1, ![n]⟩ : Shape).ReducesTo [0] ⟨0, ![]⟩) (hu : 0 < (⟨0, ![]⟩ : Shape).numel) (i : (⟨0, ![]⟩ : Shape).Idx) :
    Host.reduceAdd v (constant (F := Ideal) ⟨0, ![]⟩ .f32 0x00000000#32) h' hu i = ((∑ k, f k : ℝ) : EReal) := by
  simp only [Host.reduceAdd, Ideal.hostReduceAdd_def]
  refine (Ideal.hostReduceAdd_total h' (fun b => b.elim0) v _ i).trans ?_
  show Ideal.ofBits .f32 0x00000000#32 + _ = _
  rw [zero_word, EReal.coe_zero, zero_add, ← Reals.coe_sum]
  exact (idxEquiv1.symm.sum_comp v).symm.trans (Finset.sum_congr rfl fun k _ => hv k)

/-- The products. -/
theorem R2.hdot {a : FVec Ideal ⟨2, ![n, k]⟩ φ} {b : FVec Ideal ⟨2, ![k, m]⟩ ψ} {f : Fin n → Fin k → ℝ} {g : Fin k → Fin m → ℝ} (ha : R2 a f)
    (hb : R2 b g) : R2 (Host.dotGeneral (DotDims.plain n k m) none a b) (fun i j => ∑ q, f i q * g q j) :=
  matmul_zero_eq_dotGeneral (DotDims.plain n k m) none a b ▸ R2.dot ha hb
theorem R2.hdotT {a : FVec Ideal ⟨2, ![n, k]⟩ φ} {b : FVec Ideal ⟨2, ![m, k]⟩ ψ} {f : Fin n → Fin k → ℝ} {g : Fin m → Fin k → ℝ} (ha : R2 a f)
    (hb : R2 b g) : R2 (Host.dotGeneral (DotDims.transposedRhs n k m) none a b) (fun i j => ∑ q, f i q * g j q) :=
  matmul_zero_eq_dotGeneral (DotDims.transposedRhs n k m) none a b ▸ R2.dotT ha hb

/-- A value kept where another is positive. -/
theorem R2.gate {u z a z' : FVec Ideal ⟨2, ![n, m]⟩ .f32} {f g : Fin n → Fin m → ℝ} (hu : R2 u f) (hz : R2 z fun _ _ => 0)
    (ha : R2 a g) (hz' : R2 z' fun _ _ => 0) (h : ∀ i j, f i j ≤ 0 → g i j = 0) : R2 (select (cmpf .ogt u z) a z') g := fun i j => by
  show (if BitVec.ofBool (decide (z (ix2 i j) < u (ix2 i j))) = 1 then a _ else z' _) = _
  rw [hu, hz, ha, hz']
  by_cases hp : ((0 : ℝ) : EReal) < ((f i j : ℝ) : EReal)
  · rw [decide_eq_true hp]; rfl
  · rw [decide_eq_false hp, h i j (not_lt.1 fun h0 => hp (EReal.coe_lt_coe_iff.2 h0))]; rfl

/-! ## The norm and its derivative -/

theorem neg_half : Ideal.ofBits .f32 0xBF000000#32 = ((-(1 / 2) : ℝ) : EReal) := by
  simp [Ideal.ofBits, Ideal.ieee]
  norm_num
  rw [← EReal.coe_mul]; congr 1; norm_num

section Norm
variable {x T : FVec Ideal ⟨2, ![n, m]⟩ .f32} {f t : Fin n → Fin m → ℝ} {w : BitVec 32}

theorem R2.hms (hx : R2 x f) (hm : 0 < m) (hw : Ideal.ofBits .f32 w = (((m : ℕ) : ℝ) : EReal))
    (h' : (⟨2, ![n, m]⟩ : Shape).ReducesTo [1] ⟨1, ![n]⟩) (hu : 0 < (⟨0, ![]⟩ : Shape).numel) (h : (⟨2, ![n, m]⟩ : Shape).Reduces [1] ⟨1, ![n]⟩)
    (hb : (⟨1, ![n]⟩ : Shape).BroadcastsInDim ⟨2, ![n, 1]⟩ ![0]) (hl : (⟨0, ![]⟩ : Shape).BroadcastsInDim ⟨2, ![n, 1]⟩ ![]) :
    R2 (addf (Host.divf (broadcastInDim ⟨2, ![n, 1]⟩ ![0] hb (Host.reduceAdd (mulf x x) (constant (F := Ideal) ⟨0, ![]⟩ .f32 0x00000000#32) h' hu))
        (broadcastInDim ⟨2, ![n, 1]⟩ ![] hl (constant (F := Ideal) ⟨0, ![]⟩ .f32 w) : FVec Ideal _ .f32))
      (broadcastInDim ⟨2, ![n, 1]⟩ ![] hl (constant (F := Ideal) ⟨0, ![]⟩ .f32 0x358637BD#32))) (fun i _ => ms (f i)) :=
  R2.add (R2.hdiv (R1.hasCol (R2.hrowSum (R2.mul hx hx) h' hu h) hb) (R2.lit hw hl) fun _ _ => ms_ne hm) (R2.lit Reals.eps_word hl)

/-- The reciprocal root and its derivative's factor. -/
theorem R2.hri {a : FVec Ideal ⟨2, ![n, 1]⟩ .f32} (ha : R2 a fun i _ => ms (f i)) : R2 (Host.rsqrt a) (fun i _ => ri (f i)) :=
  R2.hrsq ha fun i _ => ms_pos (f i)
theorem R2.hfac {a : FVec Ideal ⟨2, ![n, 1]⟩ .f32} (ha : R2 a fun i _ => ms (f i)) (hl : (⟨0, ![]⟩ : Shape).BroadcastsInDim ⟨2, ![n, 1]⟩ ![]) :
    R2 (mulf (broadcastInDim ⟨2, ![n, 1]⟩ ![] hl (constant (F := Ideal) ⟨0, ![]⟩ .f32 0xBF000000#32)) (Host.divf (Host.rsqrt a) a))
      (fun i _ => -(1 / 2) * (ri (f i) / ms (f i))) :=
  R2.mul (R2.lit neg_half hl) (R2.hdiv (R2.hri ha) ha fun i _ => (ms_pos (f i)).ne')

/-- The share of the mean square in the rows' gradient. -/
theorem R2.hshare {q : FVec Ideal ⟨2, ![n, 1]⟩ .f32} (hx : R2 x f) (hT : R2 T t) (hq : R2 q fun i _ => -(1 / 2) * (ri (f i) / ms (f i)))
    (hm : 0 < m) (hw : Ideal.ofBits .f32 w = (((m : ℕ) : ℝ) : EReal))
    (h' : (⟨2, ![n, m]⟩ : Shape).ReducesTo [1] ⟨1, ![n]⟩) (hu : 0 < (⟨0, ![]⟩ : Shape).numel) (h : (⟨2, ![n, m]⟩ : Shape).Reduces [1] ⟨1, ![n]⟩)
    (hs : (⟨1, ![n]⟩ : Shape).ShapeCasts ⟨2, ![n, 1]⟩) (hl : (⟨0, ![]⟩ : Shape).BroadcastsInDim ⟨2, ![n, 1]⟩ ![])
    (h1' : (⟨2, ![n, 1]⟩ : Shape).ReducesTo [1] ⟨1, ![n]⟩) (h1 : (⟨2, ![n, 1]⟩ : Shape).Reduces [1] ⟨1, ![n]⟩)
    (hb : (⟨1, ![n]⟩ : Shape).BroadcastsInDim ⟨2, ![n, m]⟩ ![0]) :
    R2 (broadcastInDim ⟨2, ![n, m]⟩ ![0] hb (Host.reduceAdd (Host.divf
        (mulf (shapeCast ⟨2, ![n, 1]⟩ (Host.reduceAdd (mulf x T) (constant (F := Ideal) ⟨0, ![]⟩ .f32 0x00000000#32) h' hu : FVec Ideal _ .f32) hs) q)
        (broadcastInDim ⟨2, ![n, 1]⟩ ![] hl (constant (F := Ideal) ⟨0, ![]⟩ .f32 w) : FVec Ideal _ .f32))
        (constant (F := Ideal) ⟨0, ![]⟩ .f32 0x00000000#32) h1' hu))
      (fun i _ => (∑ k, f i k * t i k) * (-(1 / 2) * (ri (f i) / ms (f i))) / ((m : ℕ) : ℝ)) :=
  R1.along (R1.congr (R2.hrowSum (R2.hdiv (R2.mul (R1.asCol (R2.hrowSum (R2.mul hx hT) h' hu h) hs) hq) (R2.lit hw hl) fun _ _ => ms_ne hm) h1' hu h1)
    fun i => Fin.sum_univ_one _) hb

/-- The rows' gradient as the chain rule adds it up. -/
theorem R2.hback {r : FVec Ideal ⟨2, ![n, 1]⟩ .f32} {B : FVec Ideal ⟨2, ![n, m]⟩ .f32} (hx : R2 x f) (hT : R2 T t) (hr : R2 r fun i _ => ri (f i))
    (hB : R2 B fun i _ => (∑ k, f i k * t i k) * (-(1 / 2) * (ri (f i) / ms (f i))) / ((m : ℕ) : ℝ))
    (hc : (⟨2, ![n, 1]⟩ : Shape).BroadcastsInDim ⟨2, ![n, m]⟩ ![0, 1]) :
    R2 (addf (addf (mulf T (broadcastInDim ⟨2, ![n, m]⟩ ![0, 1] hc r)) (mulf x B)) (mulf B x)) (fun i => nb (f i) (t i)) :=
  R2.congr (R2.add (R2.add (R2.mul hT (R2.hcol hr hc)) (R2.mul hx hB)) (R2.mul hB hx)) fun i j => nb_chain (f i) (t i) j

/-- The gain's gradient: the columns' sums. -/
theorem R2.hgain (hx : R2 x f) (hT : R2 T t)
    (h' : (⟨2, ![n, m]⟩ : Shape).ReducesTo [0] ⟨1, ![m]⟩) (hu : 0 < (⟨0, ![]⟩ : Shape).numel) (h : (⟨2, ![n, m]⟩ : Shape).Reduces [0] ⟨1, ![m]⟩)
    (hs : (⟨1, ![m]⟩ : Shape).ShapeCasts ⟨2, ![1, m]⟩) (h1' : (⟨2, ![1, m]⟩ : Shape).ReducesTo [0] ⟨1, ![m]⟩) (h1 : (⟨2, ![1, m]⟩ : Shape).Reduces [0] ⟨1, ![m]⟩) :
    R1 (Host.reduceAdd (shapeCast ⟨2, ![1, m]⟩ (Host.reduceAdd (mulf x T) (constant (F := Ideal) ⟨0, ![]⟩ .f32 0x00000000#32) h' hu : FVec Ideal _ .f32) hs)
        (constant (F := Ideal) ⟨0, ![]⟩ .f32 0x00000000#32) h1' hu) (fun j => ∑ i, t i j * f i j) :=
  R1.congr (R2.hcolSum (R1.asRow (R2.hcolSum (R2.mul hx hT) h' hu h) hs) h1' hu h1) fun j =>
    (Fin.sum_univ_one _).trans (Finset.sum_congr rfl fun i _ => mul_comm _ _)

end Norm

/-! ## The rows of sums -/

theorem R1.join {a b : (⟨1, ![512]⟩ : Shape).Idx → EReal} {f g : Fin 512 → ℝ} (ha : R1 a f) (hb : R1 b g)
    (h : Shape.Concatenates [⟨1, ![512]⟩, ⟨1, ![512]⟩] ⟨1, ![1024]⟩ 0) :
    R1 (concatenate (⟨1, ![1024]⟩ : Shape) 0 [⟨⟨1, ![512]⟩, a⟩, ⟨⟨1, ![512]⟩, b⟩] h) (fun j => MlpSpec.join f g j) := fun j => by
  by_cases hj : j.val < 512
  · refine Eq.trans ?_ (congrArg ((↑) : ℝ → EReal) (dif_pos hj).symm)
    refine (concatenate_apply_piece (t := ⟨1, ![1024]⟩) 0 [⟨⟨1, ![512]⟩, a⟩, ⟨⟨1, ![512]⟩, b⟩] h _ 0 (by simp) ⟨1, ![512]⟩ a rfl rfl 0 rfl (ix1 (⟨j.val, hj⟩ : Fin 512)) ?_ ?_).trans (ha _)
    · intro c hc
      match c with
      | ⟨0, _⟩ => exact absurd rfl hc
    · show 0 + j.val = j.val
      omega
  · refine Eq.trans ?_ (congrArg ((↑) : ℝ → EReal) (dif_neg hj).symm)
    refine (concatenate_apply_piece (t := ⟨1, ![1024]⟩) 0 [⟨⟨1, ![512]⟩, a⟩, ⟨⟨1, ![512]⟩, b⟩] h _ 1 (by simp) ⟨1, ![512]⟩ b rfl rfl 512 rfl (ix1 (⟨j.val - 512, by omega⟩ : Fin 512)) ?_ ?_).trans (hb _)
    · intro c hc
      match c with
      | ⟨0, _⟩ => exact absurd rfl hc
    · show 512 + (j.val - 512) = j.val
      omega

/-- Four rows, one below the other, and four rows of zeros below them. -/
theorem R2.rows4 {a : Fin 4 → (⟨2, ![1, m]⟩ : Shape).Idx → EReal} {f : Fin 4 → Fin m → ℝ} (ha : ∀ p, R2 (a p) fun _ => f p)
    (h : Shape.Concatenates [⟨2, ![1, m]⟩, ⟨2, ![1, m]⟩, ⟨2, ![1, m]⟩, ⟨2, ![1, m]⟩] ⟨2, ![4, m]⟩ 0) :
    R2 (concatenate (⟨2, ![4, m]⟩ : Shape) 0 [⟨⟨2, ![1, m]⟩, a 0⟩, ⟨⟨2, ![1, m]⟩, a 1⟩, ⟨⟨2, ![1, m]⟩, a 2⟩, ⟨⟨2, ![1, m]⟩, a 3⟩] h) f := fun p j => by
  refine (concatenate_apply_piece (t := ⟨2, ![4, m]⟩) 0 [⟨⟨2, ![1, m]⟩, a 0⟩, ⟨⟨2, ![1, m]⟩, a 1⟩, ⟨⟨2, ![1, m]⟩, a 2⟩, ⟨⟨2, ![1, m]⟩, a 3⟩] h _ p.val (by simp) ⟨2, ![1, m]⟩ (a p) (by fin_cases p <;> rfl) rfl p.val
    (by fin_cases p <;> rfl) (ix2 (0 : Fin 1) j) ?_ ?_).trans (ha p 0 j)
  · intro c hc
    match c with
    | ⟨0, _⟩ => exact absurd rfl hc
    | ⟨1, _⟩ => rfl
  · show p.val + 0 = p.val
    omega

theorem R2.pad4 {v : (⟨2, ![4, m]⟩ : Shape).Idx → EReal} {f : Fin 4 → Fin m → ℝ} (hv : R2 v f) {u : Shape} {z : u.Idx → EReal} (hz : ∀ i, z i = 0)
    (h : (⟨2, ![4, m]⟩ : Shape).Pads ![0, 0] ![4, 0] ![0, 0] ⟨2, ![8, m]⟩) (hu : 0 < u.numel) :
    R2 (pad ⟨2, ![8, m]⟩ ![0, 0] ![4, 0] ![0, 0] v z h hu) (fun p j => if hp : p.val < 4 then f ⟨p.val, hp⟩ j else 0) := fun p j => by
  show pad _ _ _ _ v z h hu (ix2 p j) = (((if hp : p.val < 4 then f ⟨p.val, hp⟩ j else 0 : ℝ)) : EReal)
  by_cases hp : p.val < 4
  · rw [show (((if hp : p.val < 4 then f ⟨p.val, hp⟩ j else 0 : ℝ)) : EReal) = ((f ⟨p.val, hp⟩ j : ℝ) : EReal) from congrArg _ (dif_pos hp), pad_apply_of_inside _ _ _ _ _ _ _ (ix2 p j) (ix2 (⟨p.val, hp⟩ : Fin 4) j) (by
      intro a
      match a with
      | ⟨0, _⟩ => show p.val = 0 + p.val * (0 + 1); omega
      | ⟨1, _⟩ => show j.val = 0 + j.val * (0 + 1); omega)]
    exact hv _ j
  · rw [show (((if hp : p.val < 4 then f ⟨p.val, hp⟩ j else 0 : ℝ)) : EReal) = 0 from congrArg ((↑) : ℝ → EReal) (dif_neg hp), pad_apply_of_not_inside _ _ _ _ _ _ _ (ix2 p j) (0 : Fin 2) (by
      intro h
      have h2 : (p.val - 0) / (0 + 1) < 4 := h.2.2
      omega)]
    exact hz _

end Cert.MlpOps

end
-- ==== Proof.MlpRef.lean ====
module

public import proofs.«01_k».proof.Proof.MlpHostOps
public import proofs.«01_k».proof.Proof.Gen.MlpRefIdeal.Read

@[expose] public section

noncomputable section

/-! # The reference's results, row by row

With all arguments finite each array the reference computes has the rows' functions as its entries. -/

namespace Cert.MlpRefIdeal.Rows

open Cert.MlpRefIdeal Cert.MlpRefIdeal.Gen Cert.MlpRefIdeal.Read Cert.MlpSpec Cert.MlpOps
open Idealize.ShloMosaic Idealize.ShloMosaic.ValueIdx
open scoped BigOperators

variable {x0 x3 : FVec Ideal S4096x1024 .f32} {x1 x2 : FVec Ideal S4096x512 .f32} {x4 x5 : FVec Ideal S512 .f32} {x6 x7 : FVec Ideal S1024 .f32}
  {x8 : FVec Ideal S1024x1024 .f32} {x9 : FVec Ideal S1024x4096 .f32} {x10 : FVec Ideal S4096x1024 .f32} {W : Wts} {R : Fin 4096 → Row}

/-- The arguments: the rows of the batch and the weights. -/
structure Given (x0 : FVec Ideal S4096x1024 .f32) (x1 x2 : FVec Ideal S4096x512 .f32) (x3 : FVec Ideal S4096x1024 .f32) (x4 x5 : FVec Ideal S512 .f32)
    (x6 x7 : FVec Ideal S1024 .f32) (x8 : FVec Ideal S1024x1024 .f32) (x9 : FVec Ideal S1024x4096 .f32) (x10 : FVec Ideal S4096x1024 .f32)
    (W : Wts) (R : Fin 4096 → Row) : Prop where
  x : R2 x0 fun s => (R s).x
  yp : R2 x1 fun s => (R s).yp
  ya : R2 x2 fun s => (R s).ya
  t : R2 x3 fun s => (R s).t
  gp : R1 x4 W.gp
  ga : R1 x5 W.ga
  g2 : R1 x6 W.g2
  gf : R1 x7 W.gf
  wo : R2 x8 W.wo
  wu : R2 x9 W.wu
  wd : R2 x10 W.wd

variable (A : Given x0 x1 x2 x3 x4 x5 x6 x7 x8 x9 x10 W R)
include A

/-! ## Forwards -/

theorem ms_p : R2 (val_main_v6 (F := Ideal) x1) fun s _ => ms (R s).yp := R2.hms A.yp (by norm_num) width512 _ _ (by decide) _ _
theorem ms_a : R2 (val_main_v22 (F := Ideal) x2) fun s _ => ms (R s).ya := R2.hms A.ya (by norm_num) width512 _ _ (by decide) _ _
theorem nh_p : R2 (val_main_v12 (F := Ideal) x1) fun s => nh (R s).yp := R2.mul A.yp (R2.hcol (R2.hri (ms_p A)) _)
theorem nh_a : R2 (val_main_v28 (F := Ideal) x2) fun s => nh (R s).ya := R2.mul A.ya (R2.hcol (R2.hri (ms_a A)) _)
theorem gain_p : R2 (val_main_v14 (F := Ideal) x4) fun _ => W.gp := R2.hrow (R1.hasRow A.gp _) _
theorem gain_a : R2 (val_main_v30 (F := Ideal) x5) fun _ => W.ga := R2.hrow (R1.hasRow A.ga _) _
theorem mixed : R2 (val_main_v32 (F := Ideal) x1 x2 x4 x5) fun s => MlpSpec.mixed W (R s) := R2.join (R2.mul (nh_p A) (gain_p A)) (R2.mul (nh_a A) (gain_a A)) _
theorem h1 : R2 (val_main_v34 (F := Ideal) x0 x1 x2 x4 x5 x8) fun s => MlpSpec.h1 W (R s) := R2.add A.x (R2.hdot (mixed A) A.wo)
theorem ms_1 : R2 (val_main_v41 (F := Ideal) x0 x1 x2 x4 x5 x8) fun s _ => ms (MlpSpec.h1 W (R s)) := R2.hms (h1 A) (by norm_num) width1024 _ _ (by decide) _ _
theorem nh_1 : R2 (val_main_v47 (F := Ideal) x0 x1 x2 x4 x5 x8) fun s => nh (MlpSpec.h1 W (R s)) := R2.mul (h1 A) (R2.hcol (R2.hri (ms_1 A)) _)
theorem gain_2 : R2 (val_main_v49 (F := Ideal) x6) fun _ => W.g2 := R2.hrow (R1.hasRow A.g2 _) _
theorem hn2 : R2 (val_main_v50 (F := Ideal) x0 x1 x2 x4 x5 x6 x8) fun s => MlpSpec.hn2 W (R s) := R2.mul (nh_1 A) (gain_2 A)
theorem up : R2 (val_main_v51 (F := Ideal) x0 x1 x2 x4 x5 x6 x8 x9) fun s => MlpSpec.up W (R s) := R2.hdot (hn2 A) A.wu
theorem pos : R2 (val_main_v52 (F := Ideal) x0 x1 x2 x4 x5 x6 x8 x9) fun s c => max (MlpSpec.up W (R s) c) 0 := R2.max (up A) (R2.lit zero_word _)
theorem act : R2 (val_main_v56 (F := Ideal) x0 x1 x2 x4 x5 x6 x8 x9) fun s => MlpSpec.act W (R s) := R2.mul (pos A) (pos A)
theorem h2 : R2 (val_main_v60 (F := Ideal) x0 x1 x2 x4 x5 x6 x8 x9 x10) fun s => MlpSpec.h2 W (R s) := R2.add (h1 A) (R2.hdot (act A) A.wd)
theorem ms_2 : R2 (val_main_v67 (F := Ideal) x0 x1 x2 x4 x5 x6 x8 x9 x10) fun s _ => ms (MlpSpec.h2 W (R s)) := R2.hms (h2 A) (by norm_num) width1024 _ _ (by decide) _ _
theorem nh_2 : R2 (val_main_v73 (F := Ideal) x0 x1 x2 x4 x5 x6 x8 x9 x10) fun s => nh (MlpSpec.h2 W (R s)) := R2.mul (h2 A) (R2.hcol (R2.hri (ms_2 A)) _)
theorem gain_f : R2 (val_main_v75 (F := Ideal) x7) fun _ => W.gf := R2.hrow (R1.hasRow A.gf _) _
theorem diff : R2 (val_main_v77 (F := Ideal) x0 x1 x2 x3 x4 x5 x6 x7 x8 x9 x10) fun s => MlpSpec.diff W (R s) := R2.sub (R2.mul (nh_2 A) (gain_f A)) A.t

/-- The loss. -/
theorem loss (i : S_.Idx) : (val_main_v85 (F := Ideal) x0 x1 x2 x3 x4 x5 x6 x7 x8 x9 x10) i = ((∑ s, MlpSpec.loss W (R s) : ℝ) : EReal) := by
  have e : (val_main_v84 (F := Ideal) x0 x1 x2 x3 x4 x5 x6 x7 x8 x9 x10) i = ((∑ s, (∑ k, MlpSpec.diff W (R s) k * MlpSpec.diff W (R s) k) / ((1024 : ℕ) : ℝ) : ℝ) : EReal) :=
    R1.total (R1.hdiv (R2.hrowSum (R2.mul (diff A) (diff A)) _ _ (by decide)) (R1.lit width1024 _) fun _ => ms_ne (by norm_num)) _ _ i
  show Ideal.ofBits .f32 0x3F000000#32 * (val_main_v84 (F := Ideal) x0 x1 x2 x3 x4 x5 x6 x7 x8 x9 x10) i = _
  rw [e, half, ← EReal.coe_mul, Finset.mul_sum]
  rfl

/-! ## Backwards -/

theorem dy : R2 (val_main_v91 (F := Ideal) x0 x1 x2 x3 x4 x5 x6 x7 x8 x9 x10) fun s => MlpSpec.dy W (R s) := by
  have e : R2 (val_main_v90 (F := Ideal)) fun _ _ => 1 / 2 * 1 / ((1024 : ℕ) : ℝ) :=
    R1.along (R1.hdiv (R1.fill (fun i => by
      show Ideal.ofBits .f32 0x3F000000#32 * Ideal.ofBits .f32 0x3F800000#32 = _
      rw [half, one, ← EReal.coe_mul]) _) (R1.lit width1024 _) fun _ => ms_ne (by norm_num)) _
  exact R2.congr (R2.mul e (R2.mul (R2.lit two _) (diff A))) fun s j => by
    show _ = MlpSpec.diff W (R s) j * (1 / 1024)
    push_cast
    ring
theorem dgf : R1 (val_main_v97 (F := Ideal) x0 x1 x2 x3 x4 x5 x6 x7 x8 x9 x10) fun j => ∑ s, MlpSpec.dgf W (R s) j := R2.hgain (nh_2 A) (dy A) _ _ (by decide) _ _ (by decide)
theorem by_gf : R2 (val_main_v96 (F := Ideal) x0 x1 x2 x3 x4 x5 x6 x7 x8 x9 x10) fun s k => MlpSpec.dy W (R s) k * W.gf k := R2.mul (dy A) (gain_f A)
theorem share_2 : R2 (val_main_v107 (F := Ideal) x0 x1 x2 x3 x4 x5 x6 x7 x8 x9 x10) fun s _ => (∑ k, MlpSpec.h2 W (R s) k * (MlpSpec.dy W (R s) k * W.gf k))
    * (-(1 / 2) * (ri (MlpSpec.h2 W (R s)) / ms (MlpSpec.h2 W (R s)))) / ((1024 : ℕ) : ℝ) :=
  R2.hshare (h2 A) (by_gf A) (R2.hfac (ms_2 A) _) (by norm_num) width1024 _ _ (by decide) _ _ _ (by decide) _
theorem dh2 : R2 (val_main_v111 (F := Ideal) x0 x1 x2 x3 x4 x5 x6 x7 x8 x9 x10) fun s => MlpSpec.dh2 W (R s) := R2.hback (h2 A) (by_gf A) (R2.hri (ms_2 A)) (share_2 A) _
theorem dact : R2 (val_main_v112 (F := Ideal) x0 x1 x2 x3 x4 x5 x6 x7 x8 x9 x10) fun s => MlpSpec.dact W (R s) := R2.hdotT (dh2 A) A.wd
theorem dup : R2 (val_main_v115 (F := Ideal) x0 x1 x2 x3 x4 x5 x6 x7 x8 x9 x10) fun s => MlpSpec.dup W (R s) :=
  R2.gate (up A) (R2.lit zero_word _) (R2.mul (dact A) (R2.mul (R2.lit two _) (pos A))) (R2.lit zero_word _) fun s c h => by
    show MlpSpec.dact W (R s) c * (2 * max (MlpSpec.up W (R s) c) 0) = 0
    rw [max_eq_right h, mul_zero, mul_zero]
theorem dhn2 : R2 (val_main_v116 (F := Ideal) x0 x1 x2 x3 x4 x5 x6 x7 x8 x9 x10) fun s => MlpSpec.dhn2 W (R s) := R2.hdotT (dup A) A.wu
theorem dg2 : R1 (val_main_v122 (F := Ideal) x0 x1 x2 x3 x4 x5 x6 x7 x8 x9 x10) fun j => ∑ s, MlpSpec.dg2 W (R s) j := R2.hgain (nh_1 A) (dhn2 A) _ _ (by decide) _ _ (by decide)
theorem by_g2 : R2 (val_main_v121 (F := Ideal) x0 x1 x2 x3 x4 x5 x6 x7 x8 x9 x10) fun s k => MlpSpec.dhn2 W (R s) k * W.g2 k := R2.mul (dhn2 A) (gain_2 A)
theorem share_1 : R2 (val_main_v132 (F := Ideal) x0 x1 x2 x3 x4 x5 x6 x7 x8 x9 x10) fun s _ => (∑ k, MlpSpec.h1 W (R s) k * (MlpSpec.dhn2 W (R s) k * W.g2 k))
    * (-(1 / 2) * (ri (MlpSpec.h1 W (R s)) / ms (MlpSpec.h1 W (R s)))) / ((1024 : ℕ) : ℝ) :=
  R2.hshare (h1 A) (by_g2 A) (R2.hfac (ms_1 A) _) (by norm_num) width1024 _ _ (by decide) _ _ _ (by decide) _
theorem dh1 : R2 (val_main_v137 (F := Ideal) x0 x1 x2 x3 x4 x5 x6 x7 x8 x9 x10) fun s => MlpSpec.dh1 W (R s) :=
  R2.add (dh2 A) (R2.hback (h1 A) (by_g2 A) (R2.hri (ms_1 A)) (share_1 A) _)
theorem dmix : R2 (val_main_v138 (F := Ideal) x0 x1 x2 x3 x4 x5 x6 x7 x8 x9 x10) fun s => MlpSpec.dmix W (R s) := R2.hdotT (dh1 A) A.wo

theorem half_a : R2 (val_main_v140 (F := Ideal) x0 x1 x2 x3 x4 x5 x6 x7 x8 x9 x10) fun s k => MlpSpec.dmix W (R s) (hi k) := R2.high (dmix A) _
theorem dga : R1 (val_main_v146 (F := Ideal) x0 x1 x2 x3 x4 x5 x6 x7 x8 x9 x10) fun j => ∑ s, MlpSpec.dga W (R s) j := R2.hgain (nh_a A) (half_a A) _ _ (by decide) _ _ (by decide)
theorem by_ga : R2 (val_main_v145 (F := Ideal) x0 x1 x2 x3 x4 x5 x6 x7 x8 x9 x10) fun s k => MlpSpec.dmix W (R s) (hi k) * W.ga k := R2.mul (half_a A) (gain_a A)
theorem share_a : R2 (val_main_v156 (F := Ideal) x0 x1 x2 x3 x4 x5 x6 x7 x8 x9 x10) fun s _ => (∑ k, (R s).ya k * (MlpSpec.dmix W (R s) (hi k) * W.ga k))
    * (-(1 / 2) * (ri (R s).ya / ms (R s).ya)) / ((512 : ℕ) : ℝ) :=
  R2.hshare A.ya (by_ga A) (R2.hfac (ms_a A) _) (by norm_num) width512 _ _ (by decide) _ _ _ (by decide) _
theorem dya : R2 (val_main_v160 (F := Ideal) x0 x1 x2 x3 x4 x5 x6 x7 x8 x9 x10) fun s => MlpSpec.dya W (R s) := R2.hback A.ya (by_ga A) (R2.hri (ms_a A)) (share_a A) _

theorem half_p : R2 (val_main_v139 (F := Ideal) x0 x1 x2 x3 x4 x5 x6 x7 x8 x9 x10) fun s k => MlpSpec.dmix W (R s) (lo k) := R2.low (dmix A) _
theorem dgp : R1 (val_main_v166 (F := Ideal) x0 x1 x2 x3 x4 x5 x6 x7 x8 x9 x10) fun j => ∑ s, MlpSpec.dgp W (R s) j := R2.hgain (nh_p A) (half_p A) _ _ (by decide) _ _ (by decide)
theorem by_gp : R2 (val_main_v165 (F := Ideal) x0 x1 x2 x3 x4 x5 x6 x7 x8 x9 x10) fun s k => MlpSpec.dmix W (R s) (lo k) * W.gp k := R2.mul (half_p A) (gain_p A)
theorem share_p : R2 (val_main_v176 (F := Ideal) x0 x1 x2 x3 x4 x5 x6 x7 x8 x9 x10) fun s _ => (∑ k, (R s).yp k * (MlpSpec.dmix W (R s) (lo k) * W.gp k))
    * (-(1 / 2) * (ri (R s).yp / ms (R s).yp)) / ((512 : ℕ) : ℝ) :=
  R2.hshare A.yp (by_gp A) (R2.hfac (ms_p A) _) (by norm_num) width512 _ _ (by decide) _ _ _ (by decide) _
theorem dyp : R2 (val_main_v180 (F := Ideal) x0 x1 x2 x3 x4 x5 x6 x7 x8 x9 x10) fun s => MlpSpec.dyp W (R s) := R2.hback A.yp (by_gp A) (R2.hri (ms_p A)) (share_p A) _

/-- The gains' gradients and the loss, one below the other. -/
theorem sums : R2 (val_main_v194 (F := Ideal) x0 x1 x2 x3 x4 x5 x6 x7 x8 x9 x10) fun p j => ![∑ s, MlpSpec.dgf W (R s) j, ∑ s, MlpSpec.dg2 W (R s) j,
    MlpSpec.join (fun i => ∑ s, MlpSpec.dgp W (R s) i) (fun i => ∑ s, MlpSpec.dga W (R s) i) j, ∑ s, MlpSpec.loss W (R s), 0, 0, 0, 0] p := by
  refine R2.congr (R2.pad4 (f := fun p j => ![∑ s, MlpSpec.dgf W (R s) j, ∑ s, MlpSpec.dg2 W (R s) j,
    MlpSpec.join (fun i => ∑ s, MlpSpec.dgp W (R s) i) (fun i => ∑ s, MlpSpec.dga W (R s) i) j, ∑ s, MlpSpec.loss W (R s)] p)
    (R2.rows4 (a := ![(val_main_v183 (F := Ideal) x0 x1 x2 x3 x4 x5 x6 x7 x8 x9 x10), (val_main_v184 (F := Ideal) x0 x1 x2 x3 x4 x5 x6 x7 x8 x9 x10), (val_main_v185 (F := Ideal) x0 x1 x2 x3 x4 x5 x6 x7 x8 x9 x10), (val_main_v186 (F := Ideal) x0 x1 x2 x3 x4 x5 x6 x7 x8 x9 x10)]) (fun p => ?_) _) (fun i => ?_) _ _) fun p j => ?_
  · match p with
    | ⟨0, _⟩ => show R2 (val_main_v183 (F := Ideal) x0 x1 x2 x3 x4 x5 x6 x7 x8 x9 x10) _; exact R1.hasRow (dgf A) _
    | ⟨1, _⟩ => show R2 (val_main_v184 (F := Ideal) x0 x1 x2 x3 x4 x5 x6 x7 x8 x9 x10) _; exact R1.hasRow (dg2 A) _
    | ⟨2, _⟩ => show R2 (val_main_v185 (F := Ideal) x0 x1 x2 x3 x4 x5 x6 x7 x8 x9 x10) _; exact R1.hasRow (R1.join (dgp A) (dga A) _) _
    | ⟨3, _⟩ => show R2 (val_main_v186 (F := Ideal) x0 x1 x2 x3 x4 x5 x6 x7 x8 x9 x10) _; exact R1.hasRow (R1.fill (loss A) _) _
  · show (((((0#32 : BitVec 32).toInt : ℤ) : ℝ)) : EReal) = 0
    simp
  · fin_cases p <;> rfl

end Cert.MlpRefIdeal.Rows

end
-- ==== Proof.MlpValue.lean ====
module

public import proofs.«01_k».proof.Defs
public import proofs.«01_k».proof.Proof.BwdInValue
public import proofs.«01_k».proof.Proof.MlpWhole
public import proofs.«01_k».proof.Proof.MlpRef
public import proofs.«01_k».proof.Proof.Gen.MlpRefIdeal.Run

@[expose] public section

noncomputable section

/-! # The claims about the last layer, the loss and their gradients -/

namespace Cert.MlpValue

open Idealize.ShloMosaic Idealize.ShloMosaic.ValueIdx Idealize.ShloMosaic.TcCoe Idealize.SL.Sem
open Cert.MlpSpec Cert.MlpOps Cert.MlpIdeal.Whole
open Cert.BwdInValue (real_of_test)

theorem preFacts : Cert.Pre_mlp_finite.Facts := by
  constructor <;> decide

instance : Subsingleton Cert.Pre_mlp_finite.S_.Idx := ⟨fun a b => funext fun x => x.elim0⟩

/-- Two matrices with the same real entries are the same. -/
theorem same {n k : ℕ} {v w : (⟨2, ![n, k]⟩ : Shape).Idx → EReal} {f : Fin n → Fin k → ℝ} (hv : R2 v f) (hw : R2 w f) : v = w :=
  funext fun i => by rw [eq_ix2 i]; exact (hv _ _).trans (hw _ _).symm

/-- Finite arguments have real entries. -/
theorem args_of_pre [Cert.Pre_mlp_finite.Facts] (m : (ℓ : Loc Cert.MlpIdeal.nD Cert.MlpIdeal.τ Cert.MlpIdeal.sig) → Buf (Elt Ideal) ℓ)
    (hpre : Pre_MlpIdeal_mlp_finite m) (c : Dev Cert.MlpIdeal.nD) : ∃ W R, Args m c W R := by
  have e := congrFun (hpre c) (fun x => x.elim0)
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  choose X hX using real_of_test _ _ (fun _ => rfl) _ _ _ _ h0
  choose YP hYP using real_of_test _ _ (fun _ => rfl) _ _ _ _ h1
  choose YA hYA using real_of_test _ _ (fun _ => rfl) _ _ _ _ h2
  choose T hT using real_of_test _ _ (fun _ => rfl) _ _ _ _ h3
  choose GP hGP using real_of_test _ _ (fun _ => rfl) _ _ _ _ h4
  choose GA hGA using real_of_test _ _ (fun _ => rfl) _ _ _ _ h5
  choose G2 hG2 using real_of_test _ _ (fun _ => rfl) _ _ _ _ h6
  choose GF hGF using real_of_test _ _ (fun _ => rfl) _ _ _ _ h7
  choose WO hWO using real_of_test _ _ (fun _ => rfl) _ _ _ _ h8
  choose WU hWU using real_of_test _ _ (fun _ => rfl) _ _ _ _ h9
  choose WD hWD using real_of_test _ _ (fun _ => rfl) _ _ _ _ h10
  exact ⟨⟨fun j => GP (ix1 j), fun j => GA (ix1 j), fun j => G2 (ix1 j), fun j => GF (ix1 j), fun i j => WO (ix2 i j), fun i j => WU (ix2 i j),
      fun i j => WD (ix2 i j)⟩, fun s => ⟨fun k => X (ix2 s k), fun k => YP (ix2 s k), fun k => YA (ix2 s k), fun k => T (ix2 s k)⟩,
    fun _ _ => hX _, fun _ _ => hYP _, fun _ _ => hYA _, fun _ _ => hT _, fun _ => hGP _, fun _ => hGA _, fun _ => hG2 _, fun _ => hGF _,
    fun _ _ => hWO _, fun _ _ => hWU _, fun _ _ => hWD _⟩

theorem frame_ref : Cert.quiescent_MlpRefIdeal := fun m ρ _ =>
  (θ_run Cert.MlpRefIdeal.defs _ _).mono (fun r h => ⟨fun c => (h c).2.2.2.2.2.2.2.2.2.2,
      Idealize.ShloMosaic.sem_eq_zero_of_no_sems (by decide) r.2⟩)
    (Cert.MlpRefIdeal.Value.run (F := Ideal) m ρ)

theorem algebraic : Cert.algebraic_MlpIdeal_MlpRefIdeal_pre_mlp_finite (hPre_mlp_finite := preFacts) := by
  letI := preFacts
  intro m ρ m' ρ' hpre hag
  have G : ∀ c, ∃ W R, Args m c W R ∧ Cert.MlpRefIdeal.Rows.Given (m' ((c.tc : Thread _ Cert.MlpRefIdeal.τ).loc Cert.MlpRefIdeal.main_arg0))
      (m' ((c.tc : Thread _ Cert.MlpRefIdeal.τ).loc Cert.MlpRefIdeal.main_arg1)) (m' ((c.tc : Thread _ Cert.MlpRefIdeal.τ).loc Cert.MlpRefIdeal.main_arg2))
      (m' ((c.tc : Thread _ Cert.MlpRefIdeal.τ).loc Cert.MlpRefIdeal.main_arg3)) (m' ((c.tc : Thread _ Cert.MlpRefIdeal.τ).loc Cert.MlpRefIdeal.main_arg4))
      (m' ((c.tc : Thread _ Cert.MlpRefIdeal.τ).loc Cert.MlpRefIdeal.main_arg5)) (m' ((c.tc : Thread _ Cert.MlpRefIdeal.τ).loc Cert.MlpRefIdeal.main_arg6))
      (m' ((c.tc : Thread _ Cert.MlpRefIdeal.τ).loc Cert.MlpRefIdeal.main_arg7)) (m' ((c.tc : Thread _ Cert.MlpRefIdeal.τ).loc Cert.MlpRefIdeal.main_arg8))
      (m' ((c.tc : Thread _ Cert.MlpRefIdeal.τ).loc Cert.MlpRefIdeal.main_arg9)) (m' ((c.tc : Thread _ Cert.MlpRefIdeal.τ).loc Cert.MlpRefIdeal.main_arg10)) W R := fun c => by
    obtain ⟨W, R, A⟩ := args_of_pre m hpre c
    obtain ⟨a0, a1, a2, a3, a4, a5, a6, a7, a8, a9, a10⟩ := hag c
    refine ⟨W, R, A, ?_⟩
    rw [a0, a1, a2, a3, a4, a5, a6, a7, a8, a9, a10]
    exact ⟨A.x, A.yp, A.ya, A.t, A.gp, A.ga, A.g2, A.gf, A.wo, A.wu, A.wd⟩
  refine ⟨fun c => (Cert.MlpRun.dats m 0 c).arrAt 8 Cert.MlpIdeal.cfg0.N, fun c => (Cert.MlpRun.dats m 0 c).arrAt 9 Cert.MlpIdeal.cfg0.N,
    fun c => (Cert.MlpRun.dats m 0 c).arrAt 10 Cert.MlpIdeal.cfg0.N, fun c => (Cert.MlpRun.dats m 0 c).arrAt 11 Cert.MlpIdeal.cfg0.N,
    fun c => (Cert.MlpRun.dats m 0 c).arrAt 12 Cert.MlpIdeal.cfg0.N, fun c => (Cert.MlpRun.dats m 0 c).arrAt 13 Cert.MlpIdeal.cfg0.N,
    fun c => (Cert.MlpRun.dats m 0 c).arrAt 14 Cert.MlpIdeal.cfg0.N, fun c => (Cert.MlpRun.dats m 0 c).arrAt 15 Cert.MlpIdeal.cfg0.N,
    fun c => (Cert.MlpRun.dats m 0 c).arrAt 16 Cert.MlpIdeal.cfg0.N, fun c => (Cert.MlpRun.dats m 0 c).arrAt 17 Cert.MlpIdeal.cfg0.N,
    (θ_run Cert.MlpIdeal.defs _ _).mono (fun r h c => ⟨(h.1 c).1 8, (h.1 c).1 9, (h.1 c).1 10, (h.1 c).1 11, (h.1 c).1 12, (h.1 c).1 13, (h.1 c).1 14,
      (h.1 c).1 15, (h.1 c).1 16, (h.1 c).1 17, h.2 c⟩) (θ_run_and (Cert.MlpRun.run_main m ρ) (Cert.MlpRun.unchanged m ρ)),
    (θ_run Cert.MlpRefIdeal.defs _ _).mono (fun r h c => ?_) (Cert.MlpRefIdeal.Value.run (F := Ideal) m' ρ')⟩
  obtain ⟨W, R, A, B⟩ := G c
  obtain ⟨h0, h1, h2, h3, h4, h5, h6, h7, h8, h9, hk⟩ := h c
  refine ⟨h0.trans ((Cert.MlpRefIdeal.Read.val_main_v188_eq _).trans (same (R2.trunc (Cert.MlpRefIdeal.Rows.mixed B) _) (final8 A))),
    h1.trans ((Cert.MlpRefIdeal.Read.val_main_v189_eq _).trans (same (R2.trunc (Cert.MlpRefIdeal.Rows.hn2 B) _) (final9 A))),
    h2.trans ((Cert.MlpRefIdeal.Read.val_main_v190_eq _).trans (same (R2.trunc (Cert.MlpRefIdeal.Rows.act B) _) (final10 A))),
    h3.trans ((Cert.MlpRefIdeal.Read.val_main_v191_eq _).trans (same (R2.trunc (Cert.MlpRefIdeal.Rows.dup B) _) (final11 A))),
    h4.trans ((Cert.MlpRefIdeal.Read.val_main_v192_eq _).trans (same (R2.trunc (Cert.MlpRefIdeal.Rows.dh2 B) _) (final12 A))),
    h5.trans ((Cert.MlpRefIdeal.Read.val_main_v137_eq _).trans (same (Cert.MlpRefIdeal.Rows.dh1 B) (final13 A))),
    h6.trans ((Cert.MlpRefIdeal.Read.val_main_v193_eq _).trans (same (R2.trunc (Cert.MlpRefIdeal.Rows.dh1 B) _) (final14 A))),
    h7.trans ((Cert.MlpRefIdeal.Read.val_main_v180_eq _).trans (same (Cert.MlpRefIdeal.Rows.dyp B) (final15 A))),
    h8.trans ((Cert.MlpRefIdeal.Read.val_main_v160_eq _).trans (same (Cert.MlpRefIdeal.Rows.dya B) (final16 A))),
    h9.trans ((Cert.MlpRefIdeal.Read.val_main_v194_eq _).trans (same (Cert.MlpRefIdeal.Rows.sums B) (R2.congr (final17 A) fun k j => Cert.MlpIdeal.Step.small_sum W R k j))), hk⟩

end Cert.MlpValue

end
-- ==== Proof.FwdInBlock.lean ====
module

public import proofs.«01_k».proof.Proof.Gen.FwdInIdeal.Value
public import proofs.«01_k».proof.Proof.BwdInRows
public import Idealize.ShloMosaic.Lib.ValueIdx
public import Idealize.ShloMosaic.Lib.ValueLayout
public import Idealize.ShloMosaic.Lib.MatmulPlain
public import Idealize.ShloMosaic.Lib.Pipeline.Value

@[expose] public section

noncomputable section

/-! # One grid point of the input projection

What each value the body stores is at an index, over the extended reals, and what the five result blocks hold. -/

namespace Cert.FwdInIdeal.Block

open Cert.FwdInIdeal Cert.FwdInIdeal.Gen Cert.BwdInIdeal.Pay Cert.BwdInIdeal.Rows Idealize.ShloMosaic Idealize.ShloMosaic.ValueIdx
open scoped BigOperators

/-- Panel `b` of the pair that makes up the columns of projection `n`. -/
def pan (n : Fin 4) (b : Fin 2) : Fin 8 := ⟨2 * n.val + b.val, by omega⟩

/-- The product of the normalised rows with a weight panel, at an index. -/
theorem dot_apply (l : FVec Ideal S512x1024 .bf16) (w : Vec Ideal S1x1024x256 .bf16) (i : Fin 512) (q : Fin 256) :
    matmul dot_S512x1024_S1024x256_S512x256_1_0_0_1_n_n none l
        (shapeCast S1024x256 w shapeCasts_S1x1024x256_S1024x256 : FVec Ideal S1024x256 .bf16) (constant S512x256 .f32 0x00000000#32) (ix2 i q)
      = ∑ k : Fin 1024, l (ix2 i k) * w (ix3 (0 : Fin 1) k q) := by
  simp only [matmul]
  refine (Ideal.matmul_plain_apply (M := 512) (K := 1024) (N := 256) none l _ _ i q).trans ?_
  rw [constant_apply, Ideal.ofBits_zero_f32, zero_add]
  exact Finset.sum_congr rfl fun k _ => by rw [shapeCast_1ab_ab_apply]

/-- The normalised row. -/
def hn (x : Vec Ideal S512x1024 .f32) (g : Vec Ideal S1x1024 .f32) (i : Fin 512) (j : Fin 1024) : EReal :=
  x (ix2 i j) * rowR x i * g (ix2 (0 : Fin 1) j)

theorem pay2_apply (x : Vec Ideal S512x1024 .f32) (g : Vec Ideal S1x1024 .f32) (i : Fin 512) (j : Fin 1024) :
    k0_pay2 x g (ix2 i j) = hn x g i j := by
  unfold k0_pay2 hn
  dsimp only
  rw [truncf_apply, mulf_apply, mulf_apply, col_apply, shapeCast_self, broadcastTo_1b_ab_apply]
  refine congrArg (fun z => x (ix2 i j) * z * g (ix2 (0 : Fin 1) j)) ?_
  show Ideal.rsqrt (Ideal.div (shapeCast S512x1 _ _ (ix2 i (0 : Fin 1))) (Ideal.ofBits .f32 0x44800000#32)
    + Ideal.ofBits .f32 0x358637BD#32) = _
  rw [asCol_apply, rowSum_apply, Reals.width_word, Reals.eps_word]
  rfl

/-- Projection `n` of the normalised rows: column `r` lies in the panel of its half. -/
def projB (x : Vec Ideal S512x1024 .f32) (g : Vec Ideal S1x1024 .f32) (x2 : Vec Ideal S8x1024x256 .bf16) (n : Fin 4) (i r : Fin 512) : EReal :=
  ∑ k : Fin 1024, hn x g i k * x2 (ix3 (pan n ⟨r.val / 256, by omega⟩) k ⟨r.val % 256, Nat.mod_lt _ (by norm_num)⟩)

/-- The scale the first attention operand is stored with. -/
def qs : EReal := Ideal.ofBits .f32 0x3E000000#32

variable (x : Vec Ideal S512x1024 .f32) (g : Vec Ideal S1x1024 .f32) (x2 : Vec Ideal S8x1024x256 .bf16)

theorem proj_lo (n : Fin 4) (i : Fin 512) (q : Fin 256) :
    (∑ k : Fin 1024, k0_pay2 x g (ix2 i k) * panel x2 (pan n 0) (ix3 (0 : Fin 1) k q)) = projB x g x2 n i (lo q) := by
  have e0 : (⟨(lo q).val / 256, by omega⟩ : Fin 2) = 0 := Fin.ext (by show q.val / 256 = 0; omega)
  have e1 : (⟨(lo q).val % 256, Nat.mod_lt _ (by norm_num)⟩ : Fin 256) = q := Fin.ext (by show q.val % 256 = q.val; omega)
  unfold projB
  rw [e0, e1]
  exact Finset.sum_congr rfl fun k _ => by rw [pay2_apply]; rfl

theorem proj_hi (n : Fin 4) (i : Fin 512) (q : Fin 256) :
    (∑ k : Fin 1024, k0_pay2 x g (ix2 i k) * panel x2 (pan n 1) (ix3 (0 : Fin 1) k q)) = projB x g x2 n i (hi q) := by
  have e0 : (⟨(hi q).val / 256, by omega⟩ : Fin 2) = 1 := Fin.ext (by show (256 + q.val) / 256 = 1; omega)
  have e1 : (⟨(hi q).val % 256, Nat.mod_lt _ (by norm_num)⟩ : Fin 256) = q := Fin.ext (by show (256 + q.val) % 256 = q.val; omega)
  unfold projB
  rw [e0, e1]
  exact Finset.sum_congr rfl fun k _ => by rw [pay2_apply]; rfl

/-- A block stored as two column halves. -/
theorem halves {e : EltTy} (f : S512x512.Idx → Elt Ideal e) (a b : Vec Ideal S512x256 e)
    (hc : ∀ y : S512x512.Idx, ∃ pc ∈ ([⟨r0_5, b⟩, ⟨r0_3, a⟩] : List (View.Piece (Elt Ideal) S512x512 e)), y ∈ pc.1.set)
    (ha : ∀ i q, a (ix2 i q) = f (ix2 i (lo q))) (hb : ∀ i q, b (ix2 i q) = f (ix2 i (hi q))) :
    View.canon ([⟨r0_5, b⟩, ⟨r0_3, a⟩] : List (View.Piece (Elt Ideal) S512x512 e)) = f := by
  funext y
  refine View.canon_apply_of_pieces f _ ?_ y (hc y)
  intro pc hpc z
  simp only [List.mem_cons, List.not_mem_nil, or_false] at hpc
  rcases hpc with rfl | rfl
  · obtain ⟨i, q, rfl⟩ : ∃ (i : Fin 512) (q : Fin 256), z = ix2 i q := ⟨z 0, z 1, eq_ix2 z⟩
    refine (hb i q).trans (congrArg f (funext fun a => Fin.ext ?_))
    match a with
    | ⟨0, _⟩ => show i.val = 0 + 1 * i.val; omega
    | ⟨1, _⟩ => show 256 + q.val = 256 + 1 * q.val; omega
  · obtain ⟨i, q, rfl⟩ : ∃ (i : Fin 512) (q : Fin 256), z = ix2 i q := ⟨z 0, z 1, eq_ix2 z⟩
    refine (ha i q).trans (congrArg f (funext fun a => Fin.ext ?_))
    match a with
    | ⟨0, _⟩ => show i.val = 0 + 1 * i.val; omega
    | ⟨1, _⟩ => show q.val = 0 + 1 * q.val; omega

/-! ## The five result blocks -/

theorem out3 (i : Fin 512) (j : Fin 1024) : out0_3 x g x2 (ix2 i j) = hn x g i j := by
  unfold out0_3
  rw [View.canon_unit_zero hz2, View.ld_unit_zero (S := S512x1024) hz2, View.ld_unit_zero (S := S1x1024) hz2]
  exact pay2_apply x g i j

theorem pay11_eq : k0_pay11 x g x2 = k0_pay2 x g := by
  unfold k0_pay11
  rw [View.ld_unit_zero (S := S512x1024) hz2, View.ld_unit_zero (S := S1x1024) hz2]

theorem out4 : out0_4 x g x2 = fun y => projB x g x2 0 (y 0) (y 1) := by
  unfold out0_4
  rw [View.ld_unit_zero (S := S512x1024) hz2, View.ld_unit_zero (S := S1x1024) hz2, (ld_panel x2 (pan 0 0) ![0, 0, 0] rfl _ : View.ld x2 r0_2 = panel x2 (pan 0 0)), (ld_panel x2 (pan 0 1) ![1, 0, 0] rfl _ : View.ld x2 r0_4 = panel x2 (pan 0 1))]
  exact halves _ _ _ (cover0_4 _ _) (fun i q => (dot_apply _ _ i q).trans (proj_lo x g x2 0 i q))
    fun i q => (dot_apply _ _ i q).trans (proj_hi x g x2 0 i q)

theorem out5 : out0_5 x g x2 = fun y => projB x g x2 1 (y 0) (y 1) * qs := by
  unfold out0_5
  rw [pay11_eq, View.ld_unit_zero (S := S512x1024) hz2, View.ld_unit_zero (S := S1x1024) hz2, (ld_panel x2 (pan 1 0) ![2, 0, 0] rfl _ : View.ld x2 r0_6 = panel x2 (pan 1 0)), (ld_panel x2 (pan 1 1) ![3, 0, 0] rfl _ : View.ld x2 r0_7 = panel x2 (pan 1 1))]
  exact halves _ _ _ (cover0_5 _ _) (fun i q => congrArg (· * qs) ((dot_apply _ _ i q).trans (proj_lo x g x2 1 i q)))
    fun i q => congrArg (· * qs) ((dot_apply _ _ i q).trans (proj_hi x g x2 1 i q))

theorem out6 : out0_6 x g x2 = fun y => projB x g x2 2 (y 0) (y 1) := by
  unfold out0_6
  rw [pay11_eq, (ld_panel x2 (pan 2 0) ![4, 0, 0] rfl _ : View.ld x2 r0_8 = panel x2 (pan 2 0)), (ld_panel x2 (pan 2 1) ![5, 0, 0] rfl _ : View.ld x2 r0_9 = panel x2 (pan 2 1))]
  exact halves _ _ _ (cover0_6 _ _) (fun i q => (dot_apply _ _ i q).trans (proj_lo x g x2 2 i q))
    fun i q => (dot_apply _ _ i q).trans (proj_hi x g x2 2 i q)

theorem out7 : out0_7 x g x2 = fun y => projB x g x2 3 (y 0) (y 1) := by
  unfold out0_7
  rw [pay11_eq, (ld_panel x2 (pan 3 0) ![6, 0, 0] rfl _ : View.ld x2 r0_10 = panel x2 (pan 3 0)), (ld_panel x2 (pan 3 1) ![7, 0, 0] rfl _ : View.ld x2 r0_11 = panel x2 (pan 3 1))]
  exact halves _ _ _ (cover0_7 _ _) (fun i q => (dot_apply _ _ i q).trans (proj_lo x g x2 3 i q))
    fun i q => (dot_apply _ _ i q).trans (proj_hi x g x2 3 i q)

end Cert.FwdInIdeal.Block

end
-- ==== Proof.FwdInValue.lean ====
module

public import proofs.«01_k».proof.Defs
public import proofs.«01_k».proof.Proof.FwdInBlock
public import proofs.«01_k».proof.Proof.BwdInWhole
public import proofs.«01_k».proof.Proof.Gen.FwdInRefIdeal.Read
public import Idealize.ShloMosaic.Lib.StableHlo
public import Idealize.ShloMosaic.Lib.KernelVsHost

@[expose] public section

noncomputable section

/-! # The input projection, whole arrays

The five result arrays of the call as functions of the argument arrays, over the extended reals, and the reference's results read
as the same functions. -/

namespace Cert.FwdInIdeal.Whole

open Cert.FwdInIdeal Cert.FwdInIdeal.Gen Cert.FwdInIdeal.Value Cert.FwdInIdeal.Block Cert.BwdInIdeal.Pay
open Cert.BwdInIdeal.Whole (row colOf rW place)
open Idealize.ShloMosaic Idealize.ShloMosaic.ValueIdx Idealize.ShloMosaic.TcCoe Idealize.SL.Sem
open scoped BigOperators

variable (m : (ℓ : Loc nD τ sig) → Buf (Elt Ideal) ℓ) (ρ : Dev nD → PrngReg)

/-- Column `r` of projection `n`. -/
def colN (n : Fin 4) (r : Fin 512) : Fin 2048 := ⟨512 * n.val + r.val, by omega⟩
/-- A grid point as a row block's number. -/
def pt (t : Fin cfg0.N) : Fin 8 := ⟨t.val, t.isLt⟩

/-! ## The functions of the whole arrays -/

/-- The normalised rows. -/
def hnW (x : S4096x1024.Idx → EReal) (g : S1024.Idx → EReal) (s : Fin 4096) (j : Fin 1024) : EReal := x (ix2 s j) * rW x s * g (ix1 j)

/-- Projection `n` of the normalised rows. -/
def projW (x : S4096x1024.Idx → EReal) (g : S1024.Idx → EReal) (w : S1024x2048.Idx → EReal) (n : Fin 4) (s : Fin 4096) (r : Fin 512) : EReal :=
  ∑ k : Fin 1024, hnW x g s k * w (ix2 k (colN n r))

/-! ## The blocks the windows stage -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- The argument arrays, named. -/
abbrev aX (c : Dev nD) : S4096x1024.Idx → EReal := m ((c : Thread nD τ).loc main_arg0)
abbrev aG (c : Dev nD) : S1024.Idx → EReal := m ((c : Thread nD τ).loc main_arg1)
abbrev aW (c : Dev nD) : S1024x2048.Idx → EReal := m ((c : Thread nD τ).loc main_arg2)

theorem iblk0_apply (c : Dev nD) (t : Fin cfg0.N) (i : Fin 512) (j : Fin 1024) :
    (iblk m c 0 t : Vec Ideal S512x1024 _) (ix2 i j) = aX m c (ix2 (row (pt t) i) j) := by
  unfold iblk
  rw [View.read_apply]
  exact (congrFun (V_main_arg0 m c) _).trans (congrArg (aX m c) (place (pt t) i j _ _ _ (index0 t).1 (index0 t).2 rfl rfl))

/-- The prepared weight. -/
theorem V_panels (c : Dev nD) (p : Fin 8) (j : Fin 1024) (q : Fin 256) :
    (V m c main_v2 : S8x1024x256.Idx → EReal) (ix3 p j q) = aW m c (ix2 j (colOf p q)) := by
  refine Eq.trans (congrFun ?_ _) (Cert.BwdInIdeal.Whole.panels_apply _ shapeCasts_S1024x2048_S1024x8x256
    transposes_S1024x8x256_S8x1024x256_1_0_2 bitsLt_bf16_f32 p j q)
  show StableHlo.after hostOps0 _ (Proc.devRef .tc main_v2) = _
  after_results
  rfl

theorem V_gain (c : Dev nD) (j : Fin 1024) : (V m c main_v3 : S1x1024.Idx → EReal) (ix2 (0 : Fin 1) j) = aG m c (ix1 j) := by
  have hV : V m c main_v3 = (shapeCast S1x1024 (m ((c : Thread nD τ).loc main_arg1) : Vec Ideal S1024 .f32) shapeCasts_S1024_S1x1024
      : Vec Ideal S1x1024 .f32) := by
    show StableHlo.after hostOps0 _ (Proc.devRef .tc main_v3) = _
    after_results
    rfl
  rw [hV]
  exact shapeCast_a_1a_apply _ _ _ _

theorem iblk1_apply (c : Dev nD) (t : Fin cfg0.N) (j : Fin 1024) :
    (iblk m c 1 t : Vec Ideal S1x1024 _) (ix2 (0 : Fin 1) j) = aG m c (ix1 j) := by
  rw [← V_gain m c j]
  unfold iblk
  rw [View.read_apply]
  refine congrArg (V m c main_v3) (funext fun a => Fin.ext ?_)
  match a with
  | ⟨0, _⟩ => show win0_1.index t 0 * 1 + 1 * 0 = 0; rw [(index1 t).1]
  | ⟨1, _⟩ => show win0_1.index t 1 * 1024 + 1 * j.val = j.val; rw [(index1 t).2]; omega

theorem iblk2_apply (c : Dev nD) (t : Fin cfg0.N) (p : Fin 8) (j : Fin 1024) (q : Fin 256) :
    (iblk m c 2 t : Vec Ideal S8x1024x256 _) (ix3 p j q) = aW m c (ix2 j (colOf p q)) := by
  rw [← V_panels m c p j q]
  unfold iblk
  rw [View.read_apply]
  refine congrArg (V m c main_v2) (funext fun a => Fin.ext ?_)
  match a with
  | ⟨0, _⟩ => show win0_2.index t 0 * 8 + 1 * p.val = p.val; rw [(index2 t).1]; omega
  | ⟨1, _⟩ => show win0_2.index t 1 * 1024 + 1 * j.val = j.val; rw [(index2 t).2.1]; omega
  | ⟨2, _⟩ => show win0_2.index t 2 * 256 + 1 * q.val = q.val; rw [(index2 t).2.2]; omega

/-! ## The blocks of the results -/

theorem hn_eq (c : Dev nD) (t : Fin cfg0.N) (i : Fin 512) (j : Fin 1024) :
    hn (iblk m c 0 t) (iblk m c 1 t) i j = hnW (aX m c) (aG m c) (row (pt t) i) j := by
  unfold hn hnW rowR rW
  simp only [iblk0_apply, iblk1_apply]

theorem proj_eq (c : Dev nD) (t : Fin cfg0.N) (n : Fin 4) (i r : Fin 512) :
    projB (iblk m c 0 t) (iblk m c 1 t) (iblk m c 2 t) n i r = projW (aX m c) (aG m c) (aW m c) n (row (pt t) i) r := by
  unfold projB projW
  refine Finset.sum_congr rfl fun k _ => ?_
  rw [hn_eq, iblk2_apply]
  refine congrArg (fun z => _ * aW m c (ix2 k z)) (Fin.ext ?_)
  show 256 * (2 * n.val + r.val / 256) + r.val % 256 = 512 * n.val + r.val
  omega

/-- The results as whole arrays. -/
def res3 (c : Dev nD) : Buf (Elt Ideal) ((c : Thread nD τ).loc main_v4_0) := fun (y : S4096x1024.Idx) => hnW (aX m c) (aG m c) (y 0) (y 1)
def res4 (c : Dev nD) : Buf (Elt Ideal) ((c : Thread nD τ).loc main_v4_1) := fun (y : S4096x512.Idx) => projW (aX m c) (aG m c) (aW m c) 0 (y 0) (y 1)
def res5 (c : Dev nD) : Buf (Elt Ideal) ((c : Thread nD τ).loc main_v4_2) := fun (y : S4096x512.Idx) => projW (aX m c) (aG m c) (aW m c) 1 (y 0) (y 1) * qs
def res6 (c : Dev nD) : Buf (Elt Ideal) ((c : Thread nD τ).loc main_v4_3) := fun (y : S4096x512.Idx) => projW (aX m c) (aG m c) (aW m c) 2 (y 0) (y 1)
def res7 (c : Dev nD) : Buf (Elt Ideal) ((c : Thread nD τ).loc main_v4_4) := fun (y : S4096x512.Idx) => projW (aX m c) (aG m c) (aW m c) 3 (y 0) (y 1)

theorem emb3 (t : Fin cfg0.N) (i : Fin 512) (j : Fin 1024) : ((cfg0.win 3).blk t).view.emb (ix2 i j) = ix2 (row (pt t) i) j :=
  place (pt t) i j _ _ _ (index3 t).1 (index3 t).2 rfl rfl
theorem emb4 (t : Fin cfg0.N) (i j : Fin 512) : ((cfg0.win 4).blk t).view.emb (ix2 i j) = ix2 (row (pt t) i) j :=
  place (pt t) i j _ _ _ (index4 t).1 (index4 t).2 rfl rfl
theorem emb5 (t : Fin cfg0.N) (i j : Fin 512) : ((cfg0.win 5).blk t).view.emb (ix2 i j) = ix2 (row (pt t) i) j :=
  place (pt t) i j _ _ _ (index5 t).1 (index5 t).2 rfl rfl
theorem emb6 (t : Fin cfg0.N) (i j : Fin 512) : ((cfg0.win 6).blk t).view.emb (ix2 i j) = ix2 (row (pt t) i) j :=
  place (pt t) i j _ _ _ (index6 t).1 (index6 t).2 rfl rfl
theorem emb7 (t : Fin cfg0.N) (i j : Fin 512) : ((cfg0.win 7).blk t).view.emb (ix2 i j) = ix2 (row (pt t) i) j :=
  place (pt t) i j _ _ _ (index7 t).1 (index7 t).2 rfl rfl

/-- The row block an array row lies in, and its place there. -/
def tOf (s : Fin 4096) : Fin cfg0.N := ⟨s.val / 512, by show s.val / 512 < 8; omega⟩
def rOf (s : Fin 4096) : Fin 512 := ⟨s.val % 512, Nat.mod_lt _ (by norm_num)⟩
theorem row_of (s : Fin 4096) : row (pt (tOf s)) (rOf s) = s := Fin.ext (by show 512 * (s.val / 512) + s.val % 512 = s.val; omega)

/-- An array index as one of its row block. -/
theorem split {n : Nat} (s : Fin 4096) (j : Fin n) : (ix2 (row (pt (tOf s)) (rOf s)) j : (⟨2, ![4096, n]⟩ : Shape).Idx) = ix2 s j := by
  rw [row_of]

theorem final3 (c : Dev nD) : (dats m 0 c).arrAt 3 cfg0.N = res3 m c :=
  (dats m 0 c).arrAt_eq_of_cover 3 (res3 m c) (fun t _ => by
      funext y
      obtain ⟨i, j, rfl⟩ : ∃ (i : Fin 512) (j : Fin 1024), y = ix2 i j := ⟨y 0, y 1, eq_ix2 y⟩
      rw [flushed3, View.read_apply]
      exact (out3 _ _ _ i j).trans ((hn_eq m c t i j).trans (congrArg (res3 m c) (emb3 t i j)).symm))
    fun (y : S4096x1024.Idx) => ⟨tOf (y 0), flush0_3 _, ((emb3 _ (rOf (y 0)) (y 1)).trans ((split (y 0) (y 1)).trans (eq_ix2 y).symm)).subst
      (motive := fun w => w ∈ ((cfg0.win 3).blk (tOf (y 0))).view.set) (View.emb_mem_set _ _)⟩

theorem final4 (c : Dev nD) : (dats m 0 c).arrAt 4 cfg0.N = res4 m c :=
  (dats m 0 c).arrAt_eq_of_cover 4 (res4 m c) (fun t _ => by
      funext y
      obtain ⟨i, j, rfl⟩ : ∃ (i : Fin 512) (j : Fin 512), y = ix2 i j := ⟨y 0, y 1, eq_ix2 y⟩
      rw [flushed4, View.read_apply]
      exact (congrFun (out4 _ _ _) (ix2 i j)).trans ((proj_eq m c t 0 i j).trans (congrArg (res4 m c) (emb4 t i j)).symm))
    fun (y : S4096x512.Idx) => ⟨tOf (y 0), flush0_4 _, ((emb4 _ (rOf (y 0)) (y 1)).trans ((split (y 0) (y 1)).trans (eq_ix2 y).symm)).subst
      (motive := fun w => w ∈ ((cfg0.win 4).blk (tOf (y 0))).view.set) (View.emb_mem_set _ _)⟩

theorem final5 (c : Dev nD) : (dats m 0 c).arrAt 5 cfg0.N = res5 m c :=
  (dats m 0 c).arrAt_eq_of_cover 5 (res5 m c) (fun t _ => by
      funext y
      obtain ⟨i, j, rfl⟩ : ∃ (i : Fin 512) (j : Fin 512), y = ix2 i j := ⟨y 0, y 1, eq_ix2 y⟩
      rw [flushed5, View.read_apply]
      exact (congrFun (out5 _ _ _) (ix2 i j)).trans ((congrArg (· * qs) (proj_eq m c t 1 i j)).trans (congrArg (res5 m c) (emb5 t i j)).symm))
    fun (y : S4096x512.Idx) => ⟨tOf (y 0), flush0_5 _, ((emb5 _ (rOf (y 0)) (y 1)).trans ((split (y 0) (y 1)).trans (eq_ix2 y).symm)).subst
      (motive := fun w => w ∈ ((cfg0.win 5).blk (tOf (y 0))).view.set) (View.emb_mem_set _ _)⟩

theorem final6 (c : Dev nD) : (dats m 0 c).arrAt 6 cfg0.N = res6 m c :=
  (dats m 0 c).arrAt_eq_of_cover 6 (res6 m c) (fun t _ => by
      funext y
      obtain ⟨i, j, rfl⟩ : ∃ (i : Fin 512) (j : Fin 512), y = ix2 i j := ⟨y 0, y 1, eq_ix2 y⟩
      rw [flushed6, View.read_apply]
      exact (congrFun (out6 _ _ _) (ix2 i j)).trans ((proj_eq m c t 2 i j).trans (congrArg (res6 m c) (emb6 t i j)).symm))
    fun (y : S4096x512.Idx) => ⟨tOf (y 0), flush0_6 _, ((emb6 _ (rOf (y 0)) (y 1)).trans ((split (y 0) (y 1)).trans (eq_ix2 y).symm)).subst
      (motive := fun w => w ∈ ((cfg0.win 6).blk (tOf (y 0))).view.set) (View.emb_mem_set _ _)⟩

theorem final7 (c : Dev nD) : (dats m 0 c).arrAt 7 cfg0.N = res7 m c :=
  (dats m 0 c).arrAt_eq_of_cover 7 (res7 m c) (fun t _ => by
      funext y
      obtain ⟨i, j, rfl⟩ : ∃ (i : Fin 512) (j : Fin 512), y = ix2 i j := ⟨y 0, y 1, eq_ix2 y⟩
      rw [flushed7, View.read_apply]
      exact (congrFun (out7 _ _ _) (ix2 i j)).trans ((proj_eq m c t 3 i j).trans (congrArg (res7 m c) (emb7 t i j)).symm))
    fun (y : S4096x512.Idx) => ⟨tOf (y 0), flush0_7 _, ((emb7 _ (rOf (y 0)) (y 1)).trans ((split (y 0) (y 1)).trans (eq_ix2 y).symm)).subst
      (motive := fun w => w ∈ ((cfg0.win 7).blk (tOf (y 0))).view.set) (View.emb_mem_set _ _)⟩

/-- The run, read: the five result arrays. -/
theorem run : θ_run defs (onTc (τ := τ) (main (F := Ideal))) ⟨m, fun _ => 0, ρ⟩ fun r => ∀ c : Dev nD,
      r.2.mem ((c : Thread nD τ).loc main_v4_0) = res3 m c
      ∧ r.2.mem ((c : Thread nD τ).loc main_v4_1) = res4 m c
      ∧ r.2.mem ((c : Thread nD τ).loc main_v4_2) = res5 m c
      ∧ r.2.mem ((c : Thread nD τ).loc main_v4_3) = res6 m c
      ∧ r.2.mem ((c : Thread nD τ).loc main_v4_4) = res7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c),
    (h c).2.2.2.1.trans (final6 m c), (h c).2.2.2.2.1.trans (final7 m c), (h c).2.2.2.2.2⟩) (run_blocks m ρ)

end Cert.FwdInIdeal.Whole

namespace Cert.FwdInValue

open Cert.FwdInRefIdeal Cert.FwdInRefIdeal.Gen Cert.FwdInRefIdeal.Read Cert.FwdInIdeal.Whole Cert.FwdInIdeal.Block
open Cert.BwdInIdeal.Whole (row rW)
open Idealize.ShloMosaic Idealize.ShloMosaic.ValueIdx Idealize.SL.Sem
open scoped BigOperators

variable (x0 : S4096x1024.Idx → EReal) (x1 : S1024.Idx → EReal) (x2 : S1024x2048.Idx → EReal)

theorem rsqrt_at (s : Fin 4096) (i : S4096x1.Idx) (hi : (i 0).val = s.val) : val_main_v7 (F := Ideal) x0 i = rW x0 s := by
  have e2 : idx_main_v2 i = ix1 s := funext fun a => Fin.ext (by fin_cases a; exact hi)
  have er : ∀ k, idx_main_v1 (ix1 s) k = ix2 s k := fun k => funext fun a => by fin_cases a <;> rfl
  rw [val_main_v7_apply, val_main_v6_apply, val_main_v4_apply, val_main_v2_apply, val_main_v1_apply, val_main_v3_apply, val_main_v5_apply, e2]
  show Ideal.rsqrt (Ideal.div (Ideal.ofBits .f32 0x00000000#32 + _) (Ideal.ofBits .f32 0x44800000#32) + Ideal.ofBits .f32 0x358637BD#32) = _
  rw [Ideal.ofBits_zero_f32, zero_add, Reals.width_word, Reals.eps_word]
  refine congrArg (fun z => Ideal.rsqrt (Ideal.div z _ + _)) (Finset.sum_congr rfl fun k _ => ?_)
  rw [er, val_main_v0_apply]; rfl

/-- The normalised rows. -/
theorem hn_at (s : Fin 4096) (j : Fin 1024) : val_main_v12 (F := Ideal) x0 x1 (ix2 s j) = hnW x0 x1 s j := by
  have e : idx_main_v10 (idx_main_v11 (ix2 s j)) = ix1 j := funext fun a => by fin_cases a; rfl
  rw [val_main_v12_apply, val_main_v9_apply, val_main_v8_apply, rsqrt_at x0 s _ rfl, val_main_v11_apply, val_main_v10_apply, e]
  rfl

/-- The product, at a column of projection `n`. -/
theorem proj_at (n : Fin 4) (s : Fin 4096) (r : Fin 512) (z : S4096x2048.Idx) (h0 : (z 0).val = s.val) (h1 : (z 1).val = 512 * n.val + r.val) :
    val_main_v13 (F := Ideal) x0 x1 x2 z = projW x0 x1 x2 n s r := by
  rw [val_main_v13_apply]
  unfold projW
  refine Finset.sum_congr rfl fun k _ => ?_
  have el : lidx_main_v13 z k = ix2 s k := funext fun a => Fin.ext (by
    fin_cases a
    · exact h0
    · rfl)
  have er : ridx_main_v13 z k = ix2 k (colN n r) := funext fun a => Fin.ext (by
    fin_cases a
    · rfl
    · exact h1)
  rw [el, er, hn_at]

theorem frame_ref : Cert.quiescent_FwdInRefIdeal := fun m ρ _ =>
  (θ_run Cert.FwdInRefIdeal.defs _ _).mono (fun r h => ⟨fun c => (h c).2.2.2.2.2,
      Idealize.ShloMosaic.sem_eq_zero_of_no_sems (by decide) r.2⟩)
    (Cert.FwdInRefIdeal.Value.run (F := Ideal) m ρ)

theorem algebraic : Cert.algebraic_FwdInIdeal_FwdInRefIdeal := by
  intro m ρ m' ρ' _ hag
  refine ⟨res3 m, res4 m, res5 m, res6 m, res7 m, Cert.FwdInIdeal.Whole.run m ρ,
    (θ_run Cert.FwdInRefIdeal.defs _ _).mono (fun r h c => ⟨(h c).1.trans ?_, (h c).2.1.trans ?_, (h c).2.2.1.trans ?_,
      (h c).2.2.2.1.trans ?_, (h c).2.2.2.2.1.trans ?_, (h c).2.2.2.2.2⟩)
      (Cert.FwdInRefIdeal.Value.run (F := Ideal) m' ρ')⟩
  all_goals
    obtain ⟨a0, a1, a2⟩ := hag c
  · refine (val_main_v18_eq _ _).trans ?_
    rw [a0, a1]
    funext i
    exact (congrArg _ (eq_ix2 i)).trans (hn_at _ _ (i 0) (i 1))
  · refine (val_main_v14_eq _ _ _).trans ?_
    rw [a0, a1, a2]
    funext i
    rw [val_main_v14_apply]
    exact proj_at _ _ _ 0 (i 0) (i 1) _ rfl (Nat.zero_add _).symm
  · refine (val_main_v21_eq _ _ _).trans ?_
    rw [a0, a1, a2]
    funext i
    refine congrArg (· * qs) ?_
    rw [val_main_v15_apply]
    exact proj_at _ _ _ 1 (i 0) (i 1) _ rfl rfl
  · refine (val_main_v22_eq _ _ _).trans ?_
    rw [a0, a1, a2]
    funext i
    show val_main_v16 (F := Ideal) _ _ _ i = _
    rw [val_main_v16_apply]
    exact proj_at _ _ _ 2 (i 0) (i 1) _ rfl rfl
  · refine (val_main_v23_eq _ _ _).trans ?_
    rw [a0, a1, a2]
    funext i
    show val_main_v17 (F := Ideal) _ _ _ i = _
    rw [val_main_v17_apply]
    exact proj_at _ _ _ 3 (i 0) (i 1) _ rfl rfl

end Cert.FwdInValue

end
-- ==== Proof.WgradValue.lean ====
module

public import proofs.«01_k».proof.Defs
public import proofs.«01_k».proof.Proof.Gen.WgradIdeal.Value
public import proofs.«01_k».proof.Proof.Gen.WgradRefIdeal.Run
public import proofs.«01_k».proof.Proof.Gen.WgradRefIdeal.Read
public import Idealize.ShloMosaic.Lib.ValueIdx
public import Idealize.ShloMosaic.Lib.ValueLayout
public import Idealize.ShloMosaic.Lib.Pipeline.ValueKit.Acc

@[expose] public section

noncomputable section

/-! # A weight's gradient: the accumulated products of the row tiles are one product over all rows -/

namespace Cert.WgradValue

open Cert.WgradIdeal Cert.WgradIdeal.Gen Cert.WgradIdeal.Value
open Idealize.ShloMosaic Idealize.ShloMosaic.ValueIdx Idealize.ShloMosaic.TcCoe Idealize.SL.Sem
open scoped BigOperators

variable (m : (ℓ : Loc nD τ sig) → Buf (Elt Ideal) ℓ) (ρ : Dev nD → PrngReg)

/-- One row tile's product. -/
def part (l : Vec Ideal S1024x2048 .bf16) (r : Vec Ideal S1024x1024 .bf16) : S2048x1024.Idx → EReal :=
  fun y => ∑ k : Fin 1024, l (ix2 k (y 0 : Fin 2048)) * r (ix2 k (y 1 : Fin 1024))

theorem step (acc : Vec Ideal S2048x1024 .f32) (l : Vec Ideal S1024x2048 .bf16) (r : Vec Ideal S1024x1024 .bf16) (y : S2048x1024.Idx) :
    k0_pay2 acc l r y = acc y + part l r y := by
  obtain ⟨i, j, rfl⟩ : ∃ (i : Fin 2048) (j : Fin 1024), y = ix2 i j := ⟨y 0, y 1, eq_ix2 y⟩
  unfold k0_pay2
  rw [shapeCast_self, addf_apply]
  refine congrArg (acc (ix2 i j) + ·) ?_
  simp only [matmul]
  rw [Ideal.matmul_apply, constant_apply, Ideal.ofBits_zero_f32, zero_add,
    ← Equiv.sum_comp (contrEquiv1 dot_S1024x2048_S1024x1024_S2048x1024_0_0_1_1_n_n 1024 rfl rfl).symm]
  refine Finset.sum_congr rfl fun k _ => ?_
  have hk := contrEquiv1_symm_val dot_S1024x2048_S1024x1024_S2048x1024_0_0_1_1_n_n 1024 rfl rfl k
  refine congrArg₂ (· * ·) (congrArg l ?_) (congrArg r ?_)
  all_goals
    funext a; apply Fin.ext
    match a with
    | ⟨0, _⟩ => exact hk
    | ⟨1, _⟩ => rfl

theorem first (y : S2048x1024.Idx) : k0_pay1 (F := Ideal) y = 0 := by
  unfold k0_pay1
  rw [shapeCast_self]
  exact Ideal.ofBits_zero_f32

/-- What the accumulator holds at a point that writes back. -/
theorem acc_eq (c : Dev nD) (t : Fin cfg0.N) (h : t.val % 4 = 3) (y : S2048x1024.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => part (iblk m c 0 t) (iblk m c 1 t))
    (fun t h y => by rw [outsAt0_A m c t h (by omega)]; frame_out; rw [step, first])
    (fun t h y => by
      by_cases h1 : t.val % 4 = 3
      · rw [outsAt0_C m c t h h1]; frame_out; rw [step]; exact congrArg (· + _) (congrFun ((Memref.isWhole_whole cc0_scratch0).read_unread _) y)
      · rw [outsAt0_B m c t h h1]; frame_out; rw [step]; exact congrArg (· + _) (congrFun ((Memref.isWhole_whole cc0_scratch0).read_unread _) y)) t h y, zero_add]

/-- The accumulator, cut in row blocks. -/
def blocks (S : S2048x1024.Idx → EReal) (y : S4x512x1024.Idx) : EReal :=
  S (ix2 (⟨512 * (y 0).val + (y 1).val, by
    have h0 : (y 0).val < 4 := (y 0).isLt
    have h1 : (y 1).val < 512 := (y 1).isLt
    omega⟩ : Fin 2048) (y 2 : Fin 1024))

theorem tile (S : S2048x1024.Idx → EReal) (o : ℕ) (inb) (i : Fin 512) (j : Fin 1024) (h : o + i.val < 2048) :
    (View.whole cc0_scratch0).readCov (Val := Elt Ideal) [(⟨Rect.unit ![0, 0] S2048x1024.size inb_S2048x1024_S2048x1024_0_0, S⟩ : View.Piece (Elt Ideal) S2048x1024 .f32)]
      (Rect.unit (s := S2048x1024) ![o, 0] S512x1024.size inb).toLoadRect (ix2 i j) = S (ix2 (⟨o + i.val, h⟩ : Fin 2048) j) := by
  have e := View.canon_unit_zero (S := S2048x1024) (e := .f32) (Val := Elt Ideal) (off := ![0, 0]) (funext fun a => by fin_cases a <;> rfl)
    inb_S2048x1024_S2048x1024_0_0 S
  rw [View.readCov_eq_canon', e]
  refine congrArg S (funext fun a => Fin.ext ?_)
  match a with
  | ⟨0, _⟩ => show o + 1 * i.val = o + i.val; omega
  | ⟨1, _⟩ => show 0 + 1 * j.val = j.val; omega

theorem inBlock (n : ℕ) (inb : ∀ a, (![n, 0, 0] : Fin 3 → ℕ) a + (![1, 512, 1024] : Fin 3 → ℕ) a ≤ S4x512x1024.size a) (y : S4x512x1024.Idx) (h : (y 0).val = n) :
    y ∈ (Rect.unit (s := S4x512x1024) ![n, 0, 0] ![1, 512, 1024] inb).set := by
  rw [Rect.mem_set_unit]
  intro a
  have h1 : (y 1).val < 512 := (y 1).isLt
  have h2 : (y 2).val < 1024 := (y 2).isLt
  match a with
  | ⟨0, _⟩ => show n ≤ (y 0).val ∧ (y 0).val < n + 1; omega
  | ⟨1, _⟩ => show 0 ≤ (y 1).val ∧ (y 1).val < 0 + 512; omega
  | ⟨2, _⟩ => show 0 ≤ (y 2).val ∧ (y 2).val < 0 + 1024; omega

theorem atBlock (S : S2048x1024.Idx → EReal) (n : Fin 4) (o : ℕ) (ho : o = 512 * n.val) (inb : ∀ a, (![n.val, 0, 0] : Fin 3 → ℕ) a + (![1, 512, 1024] : Fin 3 → ℕ) a ≤ S4x512x1024.size a)
    (v : FVec Ideal S512x1024 .bf16) (hv : ∀ (i : Fin 512) (j : Fin 1024), v (ix2 i j) = S (ix2 (⟨o + i.val, by omega⟩ : Fin 2048) j)) (x : S1x512x1024.Idx) :
    (shapeCast S1x512x1024 v shapeCasts_S512x1024_S1x512x1024 x : EReal)
      = blocks S ((Rect.unit (s := S4x512x1024) ![n.val, 0, 0] ![1, 512, 1024] inb).emb x) := by
  obtain ⟨u, i, j, rfl⟩ : ∃ (u : Fin 1) (i : Fin 512) (j : Fin 1024), x = ix3 u i j := ⟨x 0, x 1, x 2, eq_ix3 x⟩
  refine (shapeCast_ab_1ab_apply v _ _ _ _).trans ((hv i j).trans ?_)
  unfold blocks
  refine congrArg S (funext fun a => Fin.ext ?_)
  match a with
  | ⟨0, _⟩ => show o + i.val = 512 * (n.val + 1 * u.val) + (0 + 1 * i.val); omega
  | ⟨1, _⟩ => show j.val = 0 + 1 * j.val; omega

theorem out_eq (c : Dev nD) (t : Fin cfg0.N) (h : t.val % 4 = 3) (y : S4x512x1024.Idx) :
    (outsAt0 m c t.val t.isLt).1 y = blocks (outsAt0 m c t.val t.isLt).2 y := by
  rw [outsAt0_C m c t (by omega) h]
  frame_out
  generalize k0_pay2 (F := Ideal) _ _ _ = S
  refine View.canon_apply_of_pieces (Val := Elt Ideal) (e := .bf16) (blocks S) _ ?_ y ?_
  · intro p hp x
    simp only [List.mem_cons, List.not_mem_nil, or_false] at hp
    rcases hp with rfl | rfl | rfl | rfl
    · show k0_pay6 (F := Ideal) _ x = _
      unfold k0_pay6
      exact atBlock S 3 1536 rfl inb_S4x512x1024_S1x512x1024_3_0_0 _ (fun i j => by rw [truncf_apply]; exact tile S 1536 _ i j _) x
    · show k0_pay5 (F := Ideal) _ x = _
      unfold k0_pay5
      exact atBlock S 2 1024 rfl inb_S4x512x1024_S1x512x1024_2_0_0 _ (fun i j => by rw [truncf_apply]; exact tile S 1024 _ i j _) x
    · show k0_pay4 (F := Ideal) _ x = _
      unfold k0_pay4
      exact atBlock S 1 512 rfl inb_S4x512x1024_S1x512x1024_1_0_0 _ (fun i j => by rw [truncf_apply]; exact tile S 512 _ i j _) x
    · show k0_pay3 (F := Ideal) _ x = _
      unfold k0_pay3
      exact atBlock S 0 0 rfl inb_S4x512x1024_S1x512x1024_0_0_0 _ (fun i j => by rw [truncf_apply]; exact tile S 0 _ i j _) x
  · have h0 : (y 0).val < 4 := (y 0).isLt
    obtain e | e | e | e : (y 0).val = 0 ∨ (y 0).val = 1 ∨ (y 0).val = 2 ∨ (y 0).val = 3 := by omega
    · exact ⟨_, .tail _ (.tail _ (.tail _ (.head _))), inBlock 0 inb_S4x512x1024_S1x512x1024_0_0_0 y e⟩
    · exact ⟨_, .tail _ (.tail _ (.head _)), inBlock 1 inb_S4x512x1024_S1x512x1024_1_0_0 y e⟩
    · exact ⟨_, .tail _ (.head _), inBlock 2 inb_S4x512x1024_S1x512x1024_2_0_0 y e⟩
    · exact ⟨_, .head _, inBlock 3 inb_S4x512x1024_S1x512x1024_3_0_0 y e⟩

abbrev aA (c : Dev nD) : S4096x4096.Idx → EReal := m ((c : Thread nD τ).loc main_arg0)
abbrev aB (c : Dev nD) : S4096x1024.Idx → EReal := m ((c : Thread nD τ).loc main_arg1)

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = 0 ∧ win0_2.index t 2 = 0 := by decide +kernel

/-- The product over all rows, cut in row blocks. -/
def dW (A : S4096x4096.Idx → EReal) (B : S4096x1024.Idx → EReal) : S8x512x1024.Idx → EReal := fun y =>
  ∑ k : Fin 4096, A (ix2 k (⟨512 * (y 0).val + (y 1).val, by
    have h0 : (y 0).val < 8 := (y 0).isLt
    have h1 : (y 1).val < 512 := (y 1).isLt
    omega⟩ : Fin 4096)) * B (ix2 k (y 2 : Fin 1024))

def res (c : Dev nD) : Buf (Elt Ideal) ((c : Thread nD τ).loc main_v0) := dW (aA m c) (aB m c)

theorem final (c : Dev nD) : (dats m 0 c).arrAt 2 cfg0.N = res m c :=
  (dats m 0 c).arrAt_eq_of_cover 2 (res m c) (fun t hf => by
      have h := (flush0_2 t).mp hf
      have ht : t.val < 8 := t.isLt
      funext y
      rw [flushed2, View.read_apply]
      refine (out_eq m c t h y).trans ((acc_eq m c t h _).trans ?_)
      have h0 : (y 0).val < 4 := (y 0).isLt
      have h1 : (y 1).val < 512 := (y 1).isLt
      unfold part res dW
      refine Fin.sum_mul_add_congr (fun s k hl => congrArg₂ (· * ·) ?_ ?_) rfl
      · unfold iblk
        rw [View.read_apply]
        refine congrArg (aA m c) (funext fun a => Fin.ext ?_)
        match a with
        | ⟨0, _⟩ =>
          show win0_0.index ⟨4 * (t.val / 4) + s.val, _⟩ 0 * 1024 + 1 * k.val = s.val * 1024 + k.val
          rw [(index0 _).1]; show (4 * (t.val / 4) + s.val) % 4 * 1024 + 1 * k.val = _; omega
        | ⟨1, _⟩ =>
          show win0_0.index ⟨4 * (t.val / 4) + s.val, _⟩ 1 * 2048 + 1 * (512 * (y 0).val + (y 1).val)
            = 512 * (win0_2.index t 0 * 4 + 1 * (y 0).val) + (win0_2.index t 1 * 512 + 1 * (y 1).val)
          rw [(index0 _).2, (index2 t).1, (index2 t).2.1]
          show (4 * (t.val / 4) + s.val) / 4 * 2048 + 1 * (512 * (y 0).val + (y 1).val) = _
          omega
      · unfold iblk
        rw [View.read_apply]
        refine congrArg (aB m c) (funext fun a => Fin.ext ?_)
        match a with
        | ⟨0, _⟩ =>
          show win0_1.index ⟨4 * (t.val / 4) + s.val, _⟩ 0 * 1024 + 1 * k.val = s.val * 1024 + k.val
          rw [(index1 _).1]; show (4 * (t.val / 4) + s.val) % 4 * 1024 + 1 * k.val = _; omega
        | ⟨1, _⟩ =>
          show win0_1.index ⟨4 * (t.val / 4) + s.val, _⟩ 1 * 1024 + 1 * (y 2).val = win0_2.index t 2 * 1024 + 1 * (y 2).val
          rw [(index1 _).2, (index2 t).2.2])
    fun i => (covered_iff2 i).2 (by
      have h0 : (i 0).val < 8 := (i 0).isLt
      have h1 : (i 1).val < 512 := (i 1).isLt
      have h2 : (i 2).val < 1024 := (i 2).isLt
      omega)

open Cert.WgradRefIdeal.Read in
theorem ref_eq (x0 : S4096x4096.Idx → EReal) (x1 : S4096x1024.Idx → EReal) : val_main_v7 (F := Ideal) x0 x1 = dW x0 x1 := by
  funext y
  have h0 : (y 0).val < 8 := (y 0).isLt
  have h1 : (y 1).val < 512 := (y 1).isLt
  have h2 : (y 2).val < 1024 := (y 2).isLt
  show val_main_v6 (F := Ideal) x0 x1 y = _
  rw [val_main_v6_apply, val_main_v5_apply, val_main_v4_apply]
  unfold dW
  refine Finset.sum_congr rfl fun k _ => (mul_comm _ _).trans (congrArg₂ (· * ·) (congrArg x0 ?_) (congrArg x1 ?_))
  all_goals funext a; apply Fin.ext
  · match a with
    | ⟨0, _⟩ => rfl
    | ⟨1, _⟩ => show (((y 0).val * 512 + (y 1).val) * 1024 + (y 2).val) / 1024 = 512 * (y 0).val + (y 1).val; omega
  · match a with
    | ⟨0, _⟩ => rfl
    | ⟨1, _⟩ => show (((y 0).val * 512 + (y 1).val) * 1024 + (y 2).val) % 1024 = (y 2).val; omega

theorem frame_ref : Cert.quiescent_WgradRefIdeal := fun m ρ _ =>
  (θ_run Cert.WgradRefIdeal.defs _ _).mono (fun r h => ⟨fun c => (h c).2,
      Idealize.ShloMosaic.sem_eq_zero_of_no_sems (by decide) r.2⟩)
    (Cert.WgradRefIdeal.Value.run (F := Ideal) m ρ)

theorem algebraic : Cert.algebraic_WgradIdeal_WgradRefIdeal := by
  intro m ρ m' ρ' _ hag
  refine ⟨res m, (θ_run Cert.WgradIdeal.defs _ _).mono (fun r h c => ⟨(h c).1.trans (final m c), (h c).2⟩) (run_blocks m ρ),
    (θ_run Cert.WgradRefIdeal.defs _ _).mono (fun r h c => ⟨(h c).1.trans ?_, (h c).2⟩) (Cert.WgradRefIdeal.Value.run (F := Ideal) m' ρ')⟩
  obtain ⟨a0, a1⟩ := hag c
  refine (Cert.WgradRefIdeal.Read.val_main_v7_eq _ _).trans ?_
  rw [a0, a1]
  exact ref_eq _ _

end Cert.WgradValue

end
-- ==== Proof.lean ====
module

public import proofs.«01_k».proof.Proof.Gen.FwdIn.Frame
public import proofs.«01_k».proof.Defs
public import proofs.«01_k».proof.Proof.BwdInValue
public import proofs.«01_k».proof.Proof.MixClaim
public import proofs.«01_k».proof.Proof.MixValue
public import proofs.«01_k».proof.Proof.MlpRun
public import proofs.«01_k».proof.Proof.MlpKernelRun
public import proofs.«01_k».proof.Proof.MlpValue
public import proofs.«01_k».proof.Proof.FwdInValue
public import proofs.«01_k».proof.Proof.WgradValue
public import proofs.«01_k».proof.Proof.Gen.MixBwd.Loops
public import proofs.«01_k».proof.Proof.Gen.MixBwdIdeal.Loops
public import proofs.«01_k».proof.Proof.Gen.Mlp.Points
public import proofs.«01_k».proof.Proof.Gen.Wgrad.Frame
public import Idealize.ShloMosaic.Adequacy
public import Idealize.ShloMosaic.Init

@[expose] public section

noncomputable section

namespace Cert.Proof

open Idealize.ShloMosaic Idealize.SL.Sem Cert.BwdIn

theorem claim : Cert.Claim :=
  ⟨Cert.BwdIn.Gen.facts, Cert.BwdInIdeal.Gen.facts, Cert.BwdInRefIdeal.Gen.facts, Cert.MixBwd.Gen.facts, Cert.MixBwdIdeal.Gen.facts,
    Cert.MixRefIdeal.Gen.facts, Cert.Mlp.Gen.facts, Cert.MlpIdeal.Gen.facts, Cert.MlpRefIdeal.Gen.facts, Cert.FwdIn.Gen.facts, Cert.FwdInIdeal.Gen.facts,
    Cert.FwdInRefIdeal.Gen.facts, Cert.Wgrad.Gen.facts, Cert.WgradIdeal.Gen.facts, Cert.WgradRefIdeal.Gen.facts,
    Cert.BwdInValue.preFacts, Cert.MlpValue.preFacts,
    fun m ρ _ => Cert.BwdIn.Gen.frame m ρ, fun m ρ _ => Cert.BwdInIdeal.Gen.frame m ρ, fun m ρ _ => Cert.BwdInIdeal.Gen.frame m ρ,
    Cert.BwdInValue.frame_ref, fun m ρ _ => Cert.BwdInValue.frame_ref m ρ trivial,
    Cert.MixClaim.frame_kernel, Cert.MixClaim.frame_ideal, Cert.MixValue.frame_ref,
    fun m ρ _ => Cert.MlpKernelRun.frame m ρ, fun m ρ _ => Cert.MlpRun.frame m ρ, fun m ρ _ => Cert.MlpRun.frame m ρ,
    Cert.MlpValue.frame_ref, fun m ρ _ => Cert.MlpValue.frame_ref m ρ trivial,
    fun m ρ _ => Cert.FwdIn.Gen.frame m ρ, fun m ρ _ => Cert.FwdInIdeal.Gen.frame m ρ, Cert.FwdInValue.frame_ref, fun m ρ _ => Cert.Wgrad.Gen.frame m ρ,
    fun m ρ _ => Cert.WgradIdeal.Gen.frame m ρ, Cert.WgradValue.frame_ref,
    trivial, Cert.BwdInValue.algebraic, trivial, Cert.MixValue.algebraic, trivial, Cert.MlpValue.algebraic, trivial, Cert.FwdInValue.algebraic, trivial, Cert.WgradValue.algebraic⟩

end Cert.Proof

end
